-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x2x12x64 : Shape := ⟨5, ![2, 2048, 2, 12, 64]⟩
abbrev S1 : Shape := ⟨1, ![1]⟩
abbrev S_ : Shape := ⟨0, ![]⟩

class Facts : Prop where
  bcast_S_S2x2048x2x12x64 : S_.BroadcastsInDim S2x2048x2x12x64 (![] : Fin 0 → Fin S2x2048x2x12x64.rank)
  reducesTo_S2x2048x2x12x64_S_d0_1_2_3_4 : S2x2048x2x12x64.ReducesTo [0, 1, 2, 3, 4] S_
  h_S_ : 0 < S_.numel

variable [Facts]

def fn {F : FTy → Type} [FloatOps F] (main_arg0 : FVec F S2x2048x2x12x64 .f32) (main_arg1 : FVec F S2x2048x2x12x64 .f32) (main_arg2 : FVec F S2x2048x2x12x64 .f32) (main_arg3 : IVec S1 1) : IVec S_ 1 :=
  let main_v0 : FVec F S2x2048x2x12x64 .f32 := Host.absf main_arg0
  let main_cst : FVec F S_ .f32 := constant S_ .f32 0x7F800000#32
  let main_v1 : FVec F S2x2048x2x12x64 .f32 := broadcastInDim S2x2048x2x12x64 ![] bcast_S_S2x2048x2x12x64 main_cst
  let main_v2 : IVec S2x2048x2x12x64 1 := cmpf .olt main_v0 main_v1
  let main_c : IVec S_ 1 := constantI S_ 1 1#1
  let main_v3 : IVec S_ 1 := (fun x v => Host.reduce IntOp.andi x v reducesTo_S2x2048x2x12x64_S_d0_1_2_3_4 h_S_) main_v2 main_c
  let main_v4 : FVec F S2x2048x2x12x64 .f32 := Host.absf main_arg1
  let main_cst_0 : FVec F S_ .f32 := constant S_ .f32 0x7F800000#32
  let main_v5 : FVec F S2x2048x2x12x64 .f32 := broadcastInDim S2x2048x2x12x64 ![] bcast_S_S2x2048x2x12x64 main_cst_0
  let main_v6 : IVec S2x2048x2x12x64 1 := cmpf .olt main_v4 main_v5
  let main_c_1 : IVec S_ 1 := constantI S_ 1 1#1
  let main_v7 : IVec S_ 1 := (fun x v => Host.reduce IntOp.andi x v reducesTo_S2x2048x2x12x64_S_d0_1_2_3_4 h_S_) main_v6 main_c_1
  let main_v8 : IVec S_ 1 := andi main_v3 main_v7
  main_v8
-- ==== Kernel.lean ====
abbrev S2x2048x2x12x64 : Shape := ⟨5, ![2, 2048, 2, 12, 64]⟩
abbrev S1 : Shape := ⟨1, ![1]⟩
abbrev S_ : Shape := ⟨0, ![]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S2048x24 : Shape := ⟨2, ![2048, 24]⟩
abbrev S2048x104 : Shape := ⟨2, ![2048, 104]⟩
abbrev S2048x128 : Shape := ⟨2, ![2048, 128]⟩
abbrev S4096x1536 : Shape := ⟨2, ![4096, 1536]⟩
abbrev S48x2048x64 : Shape := ⟨3, ![48, 2048, 64]⟩
abbrev S2x2x12x2048x64 : Shape := ⟨5, ![2, 2, 12, 2048, 64]⟩
abbrev S2x2048x64 : Shape := ⟨3, ![2, 2048, 64]⟩
abbrev S2x8x128x2048 : Shape := ⟨4, ![2, 8, 128, 2048]⟩
abbrev S2x16x128 : Shape := ⟨3, ![2, 16, 128]⟩
abbrev S2x24 : Shape := ⟨2, ![2, 24]⟩
abbrev S128x128 : Shape := ⟨2, ![128, 128]⟩
abbrev S128x64 : Shape := ⟨2, ![128, 64]⟩
abbrev S2048x64 : Shape := ⟨2, ![2048, 64]⟩
abbrev S128x2048 : Shape := ⟨2, ![128, 2048]⟩
abbrev S1x1x128x2048 : Shape := ⟨4, ![1, 1, 128, 2048]⟩
abbrev S1x1x128x128 : Shape := ⟨4, ![1, 1, 128, 128]⟩
abbrev S128x128x1 : Shape := ⟨3, ![128, 128, 1]⟩
abbrev S128 : Shape := ⟨1, ![128]⟩
abbrev S1x1x128 : Shape := ⟨3, ![1, 1, 128]⟩
abbrev S16x128 : Shape := ⟨2, ![16, 128]⟩
abbrev S1x16x128 : Shape := ⟨3, ![1, 16, 128]⟩
abbrev S1x1x1 : Shape := ⟨3, ![1, 1, 1]⟩
abbrev S1x64 : Shape := ⟨2, ![1, 64]⟩
abbrev S24x64 : Shape := ⟨2, ![24, 64]⟩
abbrev S24x2048 : Shape := ⟨2, ![24, 2048]⟩
abbrev S24 : Shape := ⟨1, ![24]⟩
abbrev S24x1 : Shape := ⟨2, ![24, 1]⟩
abbrev S64 : Shape := ⟨1, ![64]⟩
abbrev S1x2048x64 : Shape := ⟨3, ![1, 2048, 64]⟩
abbrev S1x1x64 : Shape := ⟨3, ![1, 1, 64]⟩

abbrev nBuf : Space → Nat
  | .hbm => 839
  | .vmem => 12
  | .smem => 1
  | _ => 0

abbrev hbmTy0_0 (i : Nat) : BufTy := match i % 128 with
  | 0 => ⟨S2x2048x2x12x64, .f32⟩
  | 1 => ⟨S2x2048x2x12x64, .f32⟩
  | 2 => ⟨S2x2048x2x12x64, .f32⟩
  | 3 => ⟨S1, .i1⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S1x1, .i32⟩
  | 33 => ⟨S1x1, .i32⟩
  | 34 => ⟨S1, .i32⟩
  | 35 => ⟨S_, .i32⟩
  | 36 => ⟨S1, .i32⟩
  | 37 => ⟨S_, .i32⟩
  | 38 => ⟨S2, .i64⟩
  | 39 => ⟨S_, .i64⟩
  | 40 => ⟨S2, .i64⟩
  | 41 => ⟨S2, .i64⟩
  | 42 => ⟨S_, .i64⟩
  | 43 => ⟨S2, .i64⟩
  | 44 => ⟨S2, .i64⟩
  | 45 => ⟨S2, .i32⟩
  | 46 => ⟨S2, .i32⟩
  | 47 => ⟨S_, .i32⟩
  | 48 => ⟨S_, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S2x2048x2x12x64, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S2x2048x2x12x64, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2x1, .i32⟩
  | 14 => ⟨S2x1, .i32⟩
  | 15 => ⟨S2x2, .i32⟩
  | 16 => ⟨S1x2, .i32⟩
  | 17 => ⟨S2, .i32⟩
  | 18 => ⟨S1x2, .i32⟩
  | 19 => ⟨S2, .i32⟩
  | 20 => ⟨S1, .i32⟩
  | 21 => ⟨S_, .i32⟩
  | 22 => ⟨S1, .i32⟩
  | 23 => ⟨S_, .i32⟩
  | 24 => ⟨S2048x24, .i64⟩
  | 25 => ⟨S2048x24, .i64⟩
  | 26 => ⟨S_, .i64⟩
  | 27 => ⟨S2048x24, .i64⟩
  | 28 => ⟨S2048x24, .i64⟩
  | 29 => ⟨S_, .i64⟩
  | 30 => ⟨S2048x24, .i64⟩
  | 31 => ⟨S2048x24, .i64⟩
  | 32 => ⟨S2048x24, .i64⟩
  | 33 => ⟨S_, .i64⟩
  | 34 => ⟨S2048x24, .i64⟩
  | 35 => ⟨S2048x24, .i64⟩
  | 36 => ⟨S2048x24, .i32⟩
  | 37 => ⟨S2048x24, .i32⟩
  | 38 => ⟨S_, .i32⟩
  | 39 => ⟨S_, .i32⟩
  | 40 => ⟨S_, .i32⟩
  | 41 => ⟨S2048x24, .i32⟩
  | 42 => ⟨S2048x24, .i32⟩
  | 43 => ⟨S2048x24, .i32⟩
  | 44 => ⟨S2048x24, .i32⟩
  | 45 => ⟨S2048x24, .i32⟩
  | 46 => ⟨S_, .i32⟩
  | 47 => ⟨S2048x24, .i32⟩
  | 48 => ⟨S2048x24, .i32⟩
  | 49 => ⟨S_, .i32⟩
  | 50 => ⟨S2048x24, .i32⟩
  | 51 => ⟨S2048x24, .i32⟩
  | 52 => ⟨S2048x24, .i32⟩
  | 53 => ⟨S2048x24, .i32⟩
  | 54 => ⟨S2048x24, .i32⟩
  | 55 => ⟨S_, .i32⟩
  | 56 => ⟨S2048x24, .i32⟩
  | 57 => ⟨S2048x24, .i32⟩
  | 58 => ⟨S_, .i32⟩
  | 59 => ⟨S2048x24, .i32⟩
  | 60 => ⟨S2048x24, .i32⟩
  | 61 => ⟨S2048x24, .i32⟩
  | 62 => ⟨S2048x24, .i32⟩
  | 63 => ⟨S2048x24, .i32⟩
  | 64 => ⟨S_, .i32⟩
  | 65 => ⟨S2048x24, .i32⟩
  | 66 => ⟨S2048x24, .i32⟩
  | 67 => ⟨S_, .i32⟩
  | 68 => ⟨S2048x24, .i32⟩
  | 69 => ⟨S2048x24, .i32⟩
  | 70 => ⟨S2048x24, .i32⟩
  | 71 => ⟨S2048x24, .i32⟩
  | 72 => ⟨S2048x24, .i32⟩
  | 73 => ⟨S_, .i32⟩
  | 74 => ⟨S2048x24, .i32⟩
  | 75 => ⟨S2048x24, .i32⟩
  | 76 => ⟨S_, .i32⟩
  | 77 => ⟨S2048x24, .i32⟩
  | 78 => ⟨S2048x24, .i32⟩
  | 79 => ⟨S2048x24, .i32⟩
  | 80 => ⟨S2048x24, .i32⟩
  | 81 => ⟨S2048x24, .i32⟩
  | 82 => ⟨S2048x24, .i32⟩
  | 83 => ⟨S2048x24, .i32⟩
  | 84 => ⟨S2048x24, .i32⟩
  | 85 => ⟨S_, .i32⟩
  | 86 => ⟨S2048x24, .i32⟩
  | 87 => ⟨S2048x24, .i32⟩
  | 88 => ⟨S2048x24, .i32⟩
  | 89 => ⟨S_, .i32⟩
  | 90 => ⟨S2048x24, .i32⟩
  | 91 => ⟨S2048x24, .i32⟩
  | 92 => ⟨S_, .i32⟩
  | 93 => ⟨S2048x24, .i32⟩
  | 94 => ⟨S2048x24, .i32⟩
  | 95 => ⟨S2048x24, .i32⟩
  | 96 => ⟨S2048x24, .i32⟩
  | 97 => ⟨S2048x24, .i32⟩
  | 98 => ⟨S_, .i32⟩
  | 99 => ⟨S2048x24, .i32⟩
  | 100 => ⟨S2048x24, .i32⟩
  | 101 => ⟨S_, .i32⟩
  | 102 => ⟨S2048x24, .i32⟩
  | 103 => ⟨S2048x24, .i32⟩
  | 104 => ⟨S2048x24, .i32⟩
  | 105 => ⟨S2048x24, .i32⟩
  | 106 => ⟨S2048x24, .i32⟩
  | 107 => ⟨S_, .i32⟩
  | 108 => ⟨S2048x24, .i32⟩
  | 109 => ⟨S2048x24, .i32⟩
  | 110 => ⟨S_, .i32⟩
  | 111 => ⟨S2048x24, .i32⟩
  | 112 => ⟨S2048x24, .i32⟩
  | 113 => ⟨S2048x24, .i32⟩
  | 114 => ⟨S2048x24, .i32⟩
  | 115 => ⟨S2048x24, .i32⟩
  | 116 => ⟨S_, .i32⟩
  | 117 => ⟨S2048x24, .i32⟩
  | 118 => ⟨S2048x24, .i32⟩
  | 119 => ⟨S_, .i32⟩
  | 120 => ⟨S2048x24, .i32⟩
  | 121 => ⟨S2048x24, .i32⟩
  | 122 => ⟨S2048x24, .i32⟩
  | 123 => ⟨S2048x24, .i32⟩
  | 124 => ⟨S2048x24, .i32⟩
  | 125 => ⟨S2048x24, .i32⟩
  | 126 => ⟨S2048x24, .i32⟩
  | 127 => ⟨S2048x24, .i32⟩
  | _ => ⟨S2x2048x2x12x64, .f32⟩

abbrev hbmTy0_3 (i : Nat) : BufTy := match i % 128 with
  | 0 => ⟨S_, .i32⟩
  | 1 => ⟨S2048x24, .i32⟩
  | 2 => ⟨S2048x24, .i32⟩
  | 3 => ⟨S2048x24, .i32⟩
  | 4 => ⟨S_, .i32⟩
  | 5 => ⟨S2048x24, .i32⟩
  | 6 => ⟨S2048x24, .i32⟩
  | 7 => ⟨S_, .i32⟩
  | 8 => ⟨S2048x24, .i32⟩
  | 9 => ⟨S2048x24, .i32⟩
  | 10 => ⟨S2048x24, .i32⟩
  | 11 => ⟨S2048x24, .i32⟩
  | 12 => ⟨S2048x24, .i32⟩
  | 13 => ⟨S_, .i32⟩
  | 14 => ⟨S2048x24, .i32⟩
  | 15 => ⟨S2048x24, .i32⟩
  | 16 => ⟨S_, .i32⟩
  | 17 => ⟨S2048x24, .i32⟩
  | 18 => ⟨S2048x24, .i32⟩
  | 19 => ⟨S2048x24, .i32⟩
  | 20 => ⟨S2048x24, .i32⟩
  | 21 => ⟨S2048x24, .i32⟩
  | 22 => ⟨S_, .i32⟩
  | 23 => ⟨S2048x24, .i32⟩
  | 24 => ⟨S2048x24, .i32⟩
  | 25 => ⟨S_, .i32⟩
  | 26 => ⟨S2048x24, .i32⟩
  | 27 => ⟨S2048x24, .i32⟩
  | 28 => ⟨S2048x24, .i32⟩
  | 29 => ⟨S2048x24, .i32⟩
  | 30 => ⟨S2048x24, .i32⟩
  | 31 => ⟨S_, .i32⟩
  | 32 => ⟨S2048x24, .i32⟩
  | 33 => ⟨S2048x24, .i32⟩
  | 34 => ⟨S_, .i32⟩
  | 35 => ⟨S2048x24, .i32⟩
  | 36 => ⟨S2048x24, .i32⟩
  | 37 => ⟨S2048x24, .i32⟩
  | 38 => ⟨S2048x24, .i32⟩
  | 39 => ⟨S2048x24, .i32⟩
  | 40 => ⟨S2048x24, .i32⟩
  | 41 => ⟨S2048x24, .i32⟩
  | 42 => ⟨S2048x24, .i32⟩
  | 43 => ⟨S_, .i32⟩
  | 44 => ⟨S2048x24, .i32⟩
  | 45 => ⟨S2048x24, .i32⟩
  | 46 => ⟨S2048x24, .i32⟩
  | 47 => ⟨S_, .i32⟩
  | 48 => ⟨S2048x24, .i32⟩
  | 49 => ⟨S2048x24, .i32⟩
  | 50 => ⟨S_, .i32⟩
  | 51 => ⟨S2048x24, .i32⟩
  | 52 => ⟨S2048x24, .i32⟩
  | 53 => ⟨S2048x24, .i32⟩
  | 54 => ⟨S2048x24, .i32⟩
  | 55 => ⟨S2048x24, .i32⟩
  | 56 => ⟨S_, .i32⟩
  | 57 => ⟨S2048x24, .i32⟩
  | 58 => ⟨S2048x24, .i32⟩
  | 59 => ⟨S_, .i32⟩
  | 60 => ⟨S2048x24, .i32⟩
  | 61 => ⟨S2048x24, .i32⟩
  | 62 => ⟨S2048x24, .i32⟩
  | 63 => ⟨S2048x24, .i32⟩
  | 64 => ⟨S2048x24, .i32⟩
  | 65 => ⟨S_, .i32⟩
  | 66 => ⟨S2048x24, .i32⟩
  | 67 => ⟨S2048x24, .i32⟩
  | 68 => ⟨S_, .i32⟩
  | 69 => ⟨S2048x24, .i32⟩
  | 70 => ⟨S2048x24, .i32⟩
  | 71 => ⟨S2048x24, .i32⟩
  | 72 => ⟨S2048x24, .i32⟩
  | 73 => ⟨S2048x24, .i32⟩
  | 74 => ⟨S_, .i32⟩
  | 75 => ⟨S2048x24, .i32⟩
  | 76 => ⟨S2048x24, .i32⟩
  | 77 => ⟨S_, .i32⟩
  | 78 => ⟨S2048x24, .i32⟩
  | 79 => ⟨S2048x24, .i32⟩
  | 80 => ⟨S2048x24, .i32⟩
  | 81 => ⟨S2048x24, .i32⟩
  | 82 => ⟨S2048x24, .i32⟩
  | 83 => ⟨S2048x24, .i32⟩
  | 84 => ⟨S2048x24, .i32⟩
  | 85 => ⟨S2048x24, .i32⟩
  | 86 => ⟨S_, .i32⟩
  | 87 => ⟨S2048x24, .i32⟩
  | 88 => ⟨S2048x24, .i32⟩
  | 89 => ⟨S2048x24, .i32⟩
  | 90 => ⟨S_, .i32⟩
  | 91 => ⟨S2048x24, .i32⟩
  | 92 => ⟨S2048x24, .i32⟩
  | 93 => ⟨S_, .i32⟩
  | 94 => ⟨S2048x24, .i32⟩
  | 95 => ⟨S2048x24, .i32⟩
  | 96 => ⟨S2048x24, .i32⟩
  | 97 => ⟨S2048x24, .i32⟩
  | 98 => ⟨S2048x24, .i32⟩
  | 99 => ⟨S_, .i32⟩
  | 100 => ⟨S2048x24, .i32⟩
  | 101 => ⟨S2048x24, .i32⟩
  | 102 => ⟨S_, .i32⟩
  | 103 => ⟨S2048x24, .i32⟩
  | 104 => ⟨S2048x24, .i32⟩
  | 105 => ⟨S2048x24, .i32⟩
  | 106 => ⟨S2048x24, .i32⟩
  | 107 => ⟨S2048x24, .i32⟩
  | 108 => ⟨S_, .i32⟩
  | 109 => ⟨S2048x24, .i32⟩
  | 110 => ⟨S2048x24, .i32⟩
  | 111 => ⟨S_, .i32⟩
  | 112 => ⟨S2048x24, .i32⟩
  | 113 => ⟨S2048x24, .i32⟩
  | 114 => ⟨S2048x24, .i32⟩
  | 115 => ⟨S2048x24, .i32⟩
  | 116 => ⟨S2048x24, .i32⟩
  | 117 => ⟨S_, .i32⟩
  | 118 => ⟨S2048x24, .i32⟩
  | 119 => ⟨S2048x24, .i32⟩
  | 120 => ⟨S_, .i32⟩
  | 121 => ⟨S2048x24, .i32⟩
  | 122 => ⟨S2048x24, .i32⟩
  | 123 => ⟨S2048x24, .i32⟩
  | 124 => ⟨S2048x24, .i32⟩
  | 125 => ⟨S2048x24, .i32⟩
  | 126 => ⟨S2048x24, .i32⟩
  | 127 => ⟨S2048x24, .i32⟩
  | _ => ⟨S2x2048x2x12x64, .f32⟩

abbrev hbmTy0_4 (i : Nat) : BufTy := match i % 128 with
  | 0 => ⟨S2048x24, .i32⟩
  | 1 => ⟨S_, .i32⟩
  | 2 => ⟨S2048x24, .i32⟩
  | 3 => ⟨S2048x24, .i32⟩
  | 4 => ⟨S2048x24, .i32⟩
  | 5 => ⟨S1, .i32⟩
  | 6 => ⟨S_, .i32⟩
  | 7 => ⟨S1, .i32⟩
  | 8 => ⟨S_, .i32⟩
  | 9 => ⟨S2048x24, .i64⟩
  | 10 => ⟨S2048x24, .i64⟩
  | 11 => ⟨S_, .i64⟩
  | 12 => ⟨S2048x24, .i64⟩
  | 13 => ⟨S2048x24, .i64⟩
  | 14 => ⟨S_, .i64⟩
  | 15 => ⟨S2048x24, .i64⟩
  | 16 => ⟨S2048x24, .i64⟩
  | 17 => ⟨S2048x24, .i64⟩
  | 18 => ⟨S_, .i64⟩
  | 19 => ⟨S2048x24, .i64⟩
  | 20 => ⟨S2048x24, .i64⟩
  | 21 => ⟨S2048x24, .i32⟩
  | 22 => ⟨S2048x24, .i32⟩
  | 23 => ⟨S_, .i32⟩
  | 24 => ⟨S_, .i32⟩
  | 25 => ⟨S_, .i32⟩
  | 26 => ⟨S2048x24, .i32⟩
  | 27 => ⟨S2048x24, .i32⟩
  | 28 => ⟨S2048x24, .i32⟩
  | 29 => ⟨S2048x24, .i32⟩
  | 30 => ⟨S2048x24, .i32⟩
  | 31 => ⟨S_, .i32⟩
  | 32 => ⟨S2048x24, .i32⟩
  | 33 => ⟨S2048x24, .i32⟩
  | 34 => ⟨S_, .i32⟩
  | 35 => ⟨S2048x24, .i32⟩
  | 36 => ⟨S2048x24, .i32⟩
  | 37 => ⟨S2048x24, .i32⟩
  | 38 => ⟨S2048x24, .i32⟩
  | 39 => ⟨S2048x24, .i32⟩
  | 40 => ⟨S_, .i32⟩
  | 41 => ⟨S2048x24, .i32⟩
  | 42 => ⟨S2048x24, .i32⟩
  | 43 => ⟨S_, .i32⟩
  | 44 => ⟨S2048x24, .i32⟩
  | 45 => ⟨S2048x24, .i32⟩
  | 46 => ⟨S2048x24, .i32⟩
  | 47 => ⟨S2048x24, .i32⟩
  | 48 => ⟨S2048x24, .i32⟩
  | 49 => ⟨S_, .i32⟩
  | 50 => ⟨S2048x24, .i32⟩
  | 51 => ⟨S2048x24, .i32⟩
  | 52 => ⟨S_, .i32⟩
  | 53 => ⟨S2048x24, .i32⟩
  | 54 => ⟨S2048x24, .i32⟩
  | 55 => ⟨S2048x24, .i32⟩
  | 56 => ⟨S2048x24, .i32⟩
  | 57 => ⟨S2048x24, .i32⟩
  | 58 => ⟨S_, .i32⟩
  | 59 => ⟨S2048x24, .i32⟩
  | 60 => ⟨S2048x24, .i32⟩
  | 61 => ⟨S_, .i32⟩
  | 62 => ⟨S2048x24, .i32⟩
  | 63 => ⟨S2048x24, .i32⟩
  | 64 => ⟨S2048x24, .i32⟩
  | 65 => ⟨S2048x24, .i32⟩
  | 66 => ⟨S2048x24, .i32⟩
  | 67 => ⟨S2048x24, .i32⟩
  | 68 => ⟨S2048x24, .i32⟩
  | 69 => ⟨S2048x24, .i32⟩
  | 70 => ⟨S_, .i32⟩
  | 71 => ⟨S2048x24, .i32⟩
  | 72 => ⟨S2048x24, .i32⟩
  | 73 => ⟨S2048x24, .i32⟩
  | 74 => ⟨S_, .i32⟩
  | 75 => ⟨S2048x24, .i32⟩
  | 76 => ⟨S2048x24, .i32⟩
  | 77 => ⟨S_, .i32⟩
  | 78 => ⟨S2048x24, .i32⟩
  | 79 => ⟨S2048x24, .i32⟩
  | 80 => ⟨S2048x24, .i32⟩
  | 81 => ⟨S2048x24, .i32⟩
  | 82 => ⟨S2048x24, .i32⟩
  | 83 => ⟨S_, .i32⟩
  | 84 => ⟨S2048x24, .i32⟩
  | 85 => ⟨S2048x24, .i32⟩
  | 86 => ⟨S_, .i32⟩
  | 87 => ⟨S2048x24, .i32⟩
  | 88 => ⟨S2048x24, .i32⟩
  | 89 => ⟨S2048x24, .i32⟩
  | 90 => ⟨S2048x24, .i32⟩
  | 91 => ⟨S2048x24, .i32⟩
  | 92 => ⟨S_, .i32⟩
  | 93 => ⟨S2048x24, .i32⟩
  | 94 => ⟨S2048x24, .i32⟩
  | 95 => ⟨S_, .i32⟩
  | 96 => ⟨S2048x24, .i32⟩
  | 97 => ⟨S2048x24, .i32⟩
  | 98 => ⟨S2048x24, .i32⟩
  | 99 => ⟨S2048x24, .i32⟩
  | 100 => ⟨S2048x24, .i32⟩
  | 101 => ⟨S_, .i32⟩
  | 102 => ⟨S2048x24, .i32⟩
  | 103 => ⟨S2048x24, .i32⟩
  | 104 => ⟨S_, .i32⟩
  | 105 => ⟨S2048x24, .i32⟩
  | 106 => ⟨S2048x24, .i32⟩
  | 107 => ⟨S2048x24, .i32⟩
  | 108 => ⟨S2048x24, .i32⟩
  | 109 => ⟨S2048x24, .i32⟩
  | 110 => ⟨S2048x24, .i32⟩
  | 111 => ⟨S2048x24, .i32⟩
  | 112 => ⟨S2048x24, .i32⟩
  | 113 => ⟨S_, .i32⟩
  | 114 => ⟨S2048x24, .i32⟩
  | 115 => ⟨S2048x24, .i32⟩
  | 116 => ⟨S2048x24, .i32⟩
  | 117 => ⟨S_, .i32⟩
  | 118 => ⟨S2048x24, .i32⟩
  | 119 => ⟨S2048x24, .i32⟩
  | 120 => ⟨S_, .i32⟩
  | 121 => ⟨S2048x24, .i32⟩
  | 122 => ⟨S2048x24, .i32⟩
  | 123 => ⟨S2048x24, .i32⟩
  | 124 => ⟨S2048x24, .i32⟩
  | 125 => ⟨S2048x24, .i32⟩
  | 126 => ⟨S_, .i32⟩
  | 127 => ⟨S2048x24, .i32⟩
  | _ => ⟨S2x2048x2x12x64, .f32⟩

abbrev hbmTy0_5 (i : Nat) : BufTy := match i % 128 with
  | 0 => ⟨S2048x24, .i32⟩
  | 1 => ⟨S_, .i32⟩
  | 2 => ⟨S2048x24, .i32⟩
  | 3 => ⟨S2048x24, .i32⟩
  | 4 => ⟨S2048x24, .i32⟩
  | 5 => ⟨S2048x24, .i32⟩
  | 6 => ⟨S2048x24, .i32⟩
  | 7 => ⟨S_, .i32⟩
  | 8 => ⟨S2048x24, .i32⟩
  | 9 => ⟨S2048x24, .i32⟩
  | 10 => ⟨S_, .i32⟩
  | 11 => ⟨S2048x24, .i32⟩
  | 12 => ⟨S2048x24, .i32⟩
  | 13 => ⟨S2048x24, .i32⟩
  | 14 => ⟨S2048x24, .i32⟩
  | 15 => ⟨S2048x24, .i32⟩
  | 16 => ⟨S_, .i32⟩
  | 17 => ⟨S2048x24, .i32⟩
  | 18 => ⟨S2048x24, .i32⟩
  | 19 => ⟨S_, .i32⟩
  | 20 => ⟨S2048x24, .i32⟩
  | 21 => ⟨S2048x24, .i32⟩
  | 22 => ⟨S2048x24, .i32⟩
  | 23 => ⟨S2048x24, .i32⟩
  | 24 => ⟨S2048x24, .i32⟩
  | 25 => ⟨S2048x24, .i32⟩
  | 26 => ⟨S2048x24, .i32⟩
  | 27 => ⟨S2048x24, .i32⟩
  | 28 => ⟨S_, .i32⟩
  | 29 => ⟨S2048x24, .i32⟩
  | 30 => ⟨S2048x24, .i32⟩
  | 31 => ⟨S2048x24, .i32⟩
  | 32 => ⟨S_, .i32⟩
  | 33 => ⟨S2048x24, .i32⟩
  | 34 => ⟨S2048x24, .i32⟩
  | 35 => ⟨S_, .i32⟩
  | 36 => ⟨S2048x24, .i32⟩
  | 37 => ⟨S2048x24, .i32⟩
  | 38 => ⟨S2048x24, .i32⟩
  | 39 => ⟨S2048x24, .i32⟩
  | 40 => ⟨S2048x24, .i32⟩
  | 41 => ⟨S_, .i32⟩
  | 42 => ⟨S2048x24, .i32⟩
  | 43 => ⟨S2048x24, .i32⟩
  | 44 => ⟨S_, .i32⟩
  | 45 => ⟨S2048x24, .i32⟩
  | 46 => ⟨S2048x24, .i32⟩
  | 47 => ⟨S2048x24, .i32⟩
  | 48 => ⟨S2048x24, .i32⟩
  | 49 => ⟨S2048x24, .i32⟩
  | 50 => ⟨S_, .i32⟩
  | 51 => ⟨S2048x24, .i32⟩
  | 52 => ⟨S2048x24, .i32⟩
  | 53 => ⟨S_, .i32⟩
  | 54 => ⟨S2048x24, .i32⟩
  | 55 => ⟨S2048x24, .i32⟩
  | 56 => ⟨S2048x24, .i32⟩
  | 57 => ⟨S2048x24, .i32⟩
  | 58 => ⟨S2048x24, .i32⟩
  | 59 => ⟨S_, .i32⟩
  | 60 => ⟨S2048x24, .i32⟩
  | 61 => ⟨S2048x24, .i32⟩
  | 62 => ⟨S_, .i32⟩
  | 63 => ⟨S2048x24, .i32⟩
  | 64 => ⟨S2048x24, .i32⟩
  | 65 => ⟨S2048x24, .i32⟩
  | 66 => ⟨S2048x24, .i32⟩
  | 67 => ⟨S2048x24, .i32⟩
  | 68 => ⟨S2048x24, .i32⟩
  | 69 => ⟨S2048x24, .i32⟩
  | 70 => ⟨S2048x24, .i32⟩
  | 71 => ⟨S_, .i32⟩
  | 72 => ⟨S2048x24, .i32⟩
  | 73 => ⟨S2048x24, .i32⟩
  | 74 => ⟨S2048x24, .i32⟩
  | 75 => ⟨S_, .i32⟩
  | 76 => ⟨S2048x24, .i32⟩
  | 77 => ⟨S2048x24, .i32⟩
  | 78 => ⟨S_, .i32⟩
  | 79 => ⟨S2048x24, .i32⟩
  | 80 => ⟨S2048x24, .i32⟩
  | 81 => ⟨S2048x24, .i32⟩
  | 82 => ⟨S2048x24, .i32⟩
  | 83 => ⟨S2048x24, .i32⟩
  | 84 => ⟨S_, .i32⟩
  | 85 => ⟨S2048x24, .i32⟩
  | 86 => ⟨S2048x24, .i32⟩
  | 87 => ⟨S_, .i32⟩
  | 88 => ⟨S2048x24, .i32⟩
  | 89 => ⟨S2048x24, .i32⟩
  | 90 => ⟨S2048x24, .i32⟩
  | 91 => ⟨S2048x24, .i32⟩
  | 92 => ⟨S2048x24, .i32⟩
  | 93 => ⟨S_, .i32⟩
  | 94 => ⟨S2048x24, .i32⟩
  | 95 => ⟨S2048x24, .i32⟩
  | 96 => ⟨S_, .i32⟩
  | 97 => ⟨S2048x24, .i32⟩
  | 98 => ⟨S2048x24, .i32⟩
  | 99 => ⟨S2048x24, .i32⟩
  | 100 => ⟨S2048x24, .i32⟩
  | 101 => ⟨S2048x24, .i32⟩
  | 102 => ⟨S_, .i32⟩
  | 103 => ⟨S2048x24, .i32⟩
  | 104 => ⟨S2048x24, .i32⟩
  | 105 => ⟨S_, .i32⟩
  | 106 => ⟨S2048x24, .i32⟩
  | 107 => ⟨S2048x24, .i32⟩
  | 108 => ⟨S2048x24, .i32⟩
  | 109 => ⟨S2048x24, .i32⟩
  | 110 => ⟨S2048x24, .i32⟩
  | 111 => ⟨S2048x24, .i32⟩
  | 112 => ⟨S2048x24, .i32⟩
  | 113 => ⟨S2048x24, .i32⟩
  | 114 => ⟨S_, .i32⟩
  | 115 => ⟨S2048x24, .i32⟩
  | 116 => ⟨S2048x24, .i32⟩
  | 117 => ⟨S2048x24, .i32⟩
  | 118 => ⟨S1x1, .i32⟩
  | 119 => ⟨S1x1, .i32⟩
  | 120 => ⟨S1x1, .i1⟩
  | 121 => ⟨S_, .i32⟩
  | 122 => ⟨S1x1, .i32⟩
  | 123 => ⟨S1x1, .i32⟩
  | 124 => ⟨S1x1, .i1⟩
  | 125 => ⟨S1x1, .i1⟩
  | 126 => ⟨S1x1, .i1⟩
  | 127 => ⟨S_, .i32⟩
  | _ => ⟨S2x2048x2x12x64, .f32⟩

abbrev hbmTy0_6 (i : Nat) : BufTy := match i % 128 with
  | 0 => ⟨S1x1, .i32⟩
  | 1 => ⟨S1x1, .i32⟩
  | 2 => ⟨S1x1, .i32⟩
  | 3 => ⟨S_, .i32⟩
  | 4 => ⟨S1x1, .i32⟩
  | 5 => ⟨S1x1, .i32⟩
  | 6 => ⟨S1x1, .i32⟩
  | 7 => ⟨S1x1, .i32⟩
  | 8 => ⟨S2048x24, .i32⟩
  | 9 => ⟨S2048x24, .i32⟩
  | 10 => ⟨S2048x24, .i32⟩
  | 11 => ⟨S2048x24, .i32⟩
  | 12 => ⟨S2048x24, .i32⟩
  | 13 => ⟨S2048x24, .i32⟩
  | 14 => ⟨S2048x24, .i32⟩
  | 15 => ⟨S2048x24, .i32⟩
  | 16 => ⟨S2048x24, .i32⟩
  | 17 => ⟨S2048x24, .i32⟩
  | 18 => ⟨S2048x24, .i32⟩
  | 19 => ⟨S2048x24, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S2048x24, .i32⟩
  | 27 => ⟨S2048x24, .i32⟩
  | 28 => ⟨S_, .i32⟩
  | 29 => ⟨S2048x24, .i32⟩
  | 30 => ⟨S2048x24, .i1⟩
  | 31 => ⟨S_, .i32⟩
  | 32 => ⟨S2048x24, .i32⟩
  | 33 => ⟨S2048x24, .i1⟩
  | 34 => ⟨S_, .i32⟩
  | 35 => ⟨S_, .i1⟩
  | 36 => ⟨S2048x24, .i1⟩
  | 37 => ⟨S2048x24, .i1⟩
  | 38 => ⟨S2048x24, .i1⟩
  | 39 => ⟨S2048x24, .i32⟩
  | 40 => ⟨S2048x24, .i32⟩
  | 41 => ⟨S2048x24, .i32⟩
  | 42 => ⟨S_, .i32⟩
  | 43 => ⟨S2048x104, .i32⟩
  | 44 => ⟨S2048x128, .i32⟩
  | 45 => ⟨S_, .i32⟩
  | 46 => ⟨S_, .i32⟩
  | 47 => ⟨S2048x24, .i32⟩
  | 48 => ⟨S2048x24, .i32⟩
  | 49 => ⟨S2048x24, .i32⟩
  | 50 => ⟨S_, .i32⟩
  | 51 => ⟨S2048x24, .i32⟩
  | 52 => ⟨S2048x24, .i1⟩
  | 53 => ⟨S2048x24, .i32⟩
  | 54 => ⟨S2048x24, .i32⟩
  | 55 => ⟨S_, .i32⟩
  | 56 => ⟨S2048x24, .i32⟩
  | 57 => ⟨S2048x24, .i1⟩
  | 58 => ⟨S2048x24, .i1⟩
  | 59 => ⟨S_, .i32⟩
  | 60 => ⟨S2048x24, .i32⟩
  | 61 => ⟨S2048x24, .i32⟩
  | 62 => ⟨S2048x24, .i32⟩
  | 63 => ⟨S_, .i32⟩
  | 64 => ⟨S2048x104, .i32⟩
  | 65 => ⟨S2048x128, .i32⟩
  | 66 => ⟨S4096x1536, .f32⟩
  | 67 => ⟨S4096x1536, .f32⟩
  | 68 => ⟨S4096x1536, .f32⟩
  | 69 => ⟨S48x2048x64, .f32⟩
  | 70 => ⟨S2x2x12x2048x64, .f32⟩
  | _ => ⟨S2x2048x2x12x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x2048x2x12x64, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .i32⟩
  | .local _ .vmem, ⟨7, _⟩ => ⟨S2048x128, .i32⟩
  | .local _ .vmem, ⟨8, _⟩ => ⟨S2x2048x64, .f32⟩
  | .local _ .vmem, ⟨9, _⟩ => ⟨S2x2048x64, .f32⟩
  | .local _ .vmem, ⟨10, _⟩ => ⟨S2x8x128x2048, .f32⟩
  | .local _ .vmem, ⟨11, _⟩ => ⟨S2x16x128, .f32⟩
  | .local _ .smem, ⟨0, _⟩ => ⟨S2x24, .i32⟩
  | _, _ => ⟨S2x2048x2x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_1 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_c_3 : Ref sig .tc := ⟨.hbm, 15, rfl⟩
abbrev main_call0_call0_c : Ref sig .tc := ⟨.hbm, 16, rfl⟩
abbrev main_call0_call0_c_0 : Ref sig .tc := ⟨.hbm, 17, rfl⟩
abbrev main_call0_call0_c_1 : Ref sig .tc := ⟨.hbm, 18, rfl⟩
abbrev main_call0_call0_call0_v0 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_c_2 : Ref sig .tc := ⟨.hbm, 22, rfl⟩
abbrev main_call0_call0_c_3 : Ref sig .tc := ⟨.hbm, 23, rfl⟩
abbrev main_call0_call0_call1_v0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_c_4 : Ref sig .tc := ⟨.hbm, 27, rfl⟩
abbrev main_call0_call0_c_5 : Ref sig .tc := ⟨.hbm, 28, rfl⟩
abbrev main_call0_call0_call2_v0 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_call3_v0 : Ref sig .tc := ⟨.hbm, 34, rfl⟩
abbrev main_call0_call0_call3_v1 : Ref sig .tc := ⟨.hbm, 35, rfl⟩
abbrev main_call0_call0_call3_v2 : Ref sig .tc := ⟨.hbm, 36, rfl⟩
abbrev main_call0_call0_call3_v3 : Ref sig .tc := ⟨.hbm, 37, rfl⟩
abbrev main_call0_call0_call3_v4 : Ref sig .tc := ⟨.hbm, 38, rfl⟩
abbrev main_call0_call0_call3_c : Ref sig .tc := ⟨.hbm, 39, rfl⟩
abbrev main_call0_call0_call3_v5 : Ref sig .tc := ⟨.hbm, 40, rfl⟩
abbrev main_call0_call0_call3_v6 : Ref sig .tc := ⟨.hbm, 41, rfl⟩
abbrev main_call0_call0_call3_c_0 : Ref sig .tc := ⟨.hbm, 42, rfl⟩
abbrev main_call0_call0_call3_v7 : Ref sig .tc := ⟨.hbm, 43, rfl⟩
abbrev main_call0_call0_call3_v8 : Ref sig .tc := ⟨.hbm, 44, rfl⟩
abbrev main_call0_call0_call3_v9 : Ref sig .tc := ⟨.hbm, 45, rfl⟩
abbrev main_call0_call0_call3_v10 : Ref sig .tc := ⟨.hbm, 46, rfl⟩
abbrev main_call0_call0_call3_call0_v0 : Ref sig .tc := ⟨.hbm, 47, rfl⟩
abbrev main_call0_call0_call3_call0_c : Ref sig .tc := ⟨.hbm, 48, rfl⟩
abbrev main_call0_call0_call3_call0_v1 : Ref sig .tc := ⟨.hbm, 49, rfl⟩
abbrev main_call0_call0_call3_call0_v2 : Ref sig .tc := ⟨.hbm, 50, rfl⟩
abbrev main_call0_call0_call3_call0_v3 : Ref sig .tc := ⟨.hbm, 51, rfl⟩
abbrev main_call0_call0_call3_call0_v4 : Ref sig .tc := ⟨.hbm, 52, rfl⟩
abbrev main_call0_call0_call3_call0_v5 : Ref sig .tc := ⟨.hbm, 53, rfl⟩
abbrev main_call0_call0_call3_call0_v6 : Ref sig .tc := ⟨.hbm, 54, rfl⟩
abbrev main_call0_call0_call3_call0_c_0 : Ref sig .tc := ⟨.hbm, 55, rfl⟩
abbrev main_call0_call0_call3_call0_v7 : Ref sig .tc := ⟨.hbm, 56, rfl⟩
abbrev main_call0_call0_call3_call0_v8 : Ref sig .tc := ⟨.hbm, 57, rfl⟩
abbrev main_call0_call0_call3_call0_c_1 : Ref sig .tc := ⟨.hbm, 58, rfl⟩
abbrev main_call0_call0_call3_call0_v9 : Ref sig .tc := ⟨.hbm, 59, rfl⟩
abbrev main_call0_call0_call3_call0_v10 : Ref sig .tc := ⟨.hbm, 60, rfl⟩
abbrev main_call0_call0_call3_call0_v11 : Ref sig .tc := ⟨.hbm, 61, rfl⟩
abbrev main_call0_call0_call3_call0_v12 : Ref sig .tc := ⟨.hbm, 62, rfl⟩
abbrev main_call0_call0_call3_call0_v13 : Ref sig .tc := ⟨.hbm, 63, rfl⟩
abbrev main_call0_call0_call3_call0_c_2 : Ref sig .tc := ⟨.hbm, 64, rfl⟩
abbrev main_call0_call0_call3_call0_v14 : Ref sig .tc := ⟨.hbm, 65, rfl⟩
abbrev main_call0_call0_call3_call0_v15 : Ref sig .tc := ⟨.hbm, 66, rfl⟩
abbrev main_call0_call0_call3_call0_c_3 : Ref sig .tc := ⟨.hbm, 67, rfl⟩
abbrev main_call0_call0_call3_call0_v16 : Ref sig .tc := ⟨.hbm, 68, rfl⟩
abbrev main_call0_call0_call3_call0_v17 : Ref sig .tc := ⟨.hbm, 69, rfl⟩
abbrev main_call0_call0_call3_call0_v18 : Ref sig .tc := ⟨.hbm, 70, rfl⟩
abbrev main_call0_call0_call3_call0_v19 : Ref sig .tc := ⟨.hbm, 71, rfl⟩
abbrev main_call0_call0_call3_call0_v20 : Ref sig .tc := ⟨.hbm, 72, rfl⟩
abbrev main_call0_call0_call3_call0_c_4 : Ref sig .tc := ⟨.hbm, 73, rfl⟩
abbrev main_call0_call0_call3_call0_v21 : Ref sig .tc := ⟨.hbm, 74, rfl⟩
abbrev main_call0_call0_call3_call0_v22 : Ref sig .tc := ⟨.hbm, 75, rfl⟩
abbrev main_call0_call0_call3_call0_c_5 : Ref sig .tc := ⟨.hbm, 76, rfl⟩
abbrev main_call0_call0_call3_call0_v23 : Ref sig .tc := ⟨.hbm, 77, rfl⟩
abbrev main_call0_call0_call3_call0_v24 : Ref sig .tc := ⟨.hbm, 78, rfl⟩
abbrev main_call0_call0_call3_call0_v25 : Ref sig .tc := ⟨.hbm, 79, rfl⟩
abbrev main_call0_call0_call3_call0_v26 : Ref sig .tc := ⟨.hbm, 80, rfl⟩
abbrev main_call0_call0_call3_call0_v27 : Ref sig .tc := ⟨.hbm, 81, rfl⟩
abbrev main_call0_call0_call3_call0_c_6 : Ref sig .tc := ⟨.hbm, 82, rfl⟩
abbrev main_call0_call0_call3_call0_v28 : Ref sig .tc := ⟨.hbm, 83, rfl⟩
abbrev main_call0_call0_call3_call0_v29 : Ref sig .tc := ⟨.hbm, 84, rfl⟩
abbrev main_call0_call0_call3_call0_c_7 : Ref sig .tc := ⟨.hbm, 85, rfl⟩
abbrev main_call0_call0_call3_call0_v30 : Ref sig .tc := ⟨.hbm, 86, rfl⟩
abbrev main_call0_call0_call3_call0_v31 : Ref sig .tc := ⟨.hbm, 87, rfl⟩
abbrev main_call0_call0_call3_call0_v32 : Ref sig .tc := ⟨.hbm, 88, rfl⟩
abbrev main_call0_call0_call3_call0_v33 : Ref sig .tc := ⟨.hbm, 89, rfl⟩
abbrev main_call0_call0_call3_call0_v34 : Ref sig .tc := ⟨.hbm, 90, rfl⟩
abbrev main_call0_call0_call3_call0_v35 : Ref sig .tc := ⟨.hbm, 91, rfl⟩
abbrev main_call0_call0_call3_call0_v36 : Ref sig .tc := ⟨.hbm, 92, rfl⟩
abbrev main_call0_call0_call3_call0_v37 : Ref sig .tc := ⟨.hbm, 93, rfl⟩
abbrev main_call0_call0_call3_call0_c_8 : Ref sig .tc := ⟨.hbm, 94, rfl⟩
abbrev main_call0_call0_call3_call0_v38 : Ref sig .tc := ⟨.hbm, 95, rfl⟩
abbrev main_call0_call0_call3_call0_v39 : Ref sig .tc := ⟨.hbm, 96, rfl⟩
abbrev main_call0_call0_call3_call0_v40 : Ref sig .tc := ⟨.hbm, 97, rfl⟩
abbrev main_call0_call0_call3_call0_c_9 : Ref sig .tc := ⟨.hbm, 98, rfl⟩
abbrev main_call0_call0_call3_call0_v41 : Ref sig .tc := ⟨.hbm, 99, rfl⟩
abbrev main_call0_call0_call3_call0_v42 : Ref sig .tc := ⟨.hbm, 100, rfl⟩
abbrev main_call0_call0_call3_call0_c_10 : Ref sig .tc := ⟨.hbm, 101, rfl⟩
abbrev main_call0_call0_call3_call0_v43 : Ref sig .tc := ⟨.hbm, 102, rfl⟩
abbrev main_call0_call0_call3_call0_v44 : Ref sig .tc := ⟨.hbm, 103, rfl⟩
abbrev main_call0_call0_call3_call0_v45 : Ref sig .tc := ⟨.hbm, 104, rfl⟩
abbrev main_call0_call0_call3_call0_v46 : Ref sig .tc := ⟨.hbm, 105, rfl⟩
abbrev main_call0_call0_call3_call0_v47 : Ref sig .tc := ⟨.hbm, 106, rfl⟩
abbrev main_call0_call0_call3_call0_c_11 : Ref sig .tc := ⟨.hbm, 107, rfl⟩
abbrev main_call0_call0_call3_call0_v48 : Ref sig .tc := ⟨.hbm, 108, rfl⟩
abbrev main_call0_call0_call3_call0_v49 : Ref sig .tc := ⟨.hbm, 109, rfl⟩
abbrev main_call0_call0_call3_call0_c_12 : Ref sig .tc := ⟨.hbm, 110, rfl⟩
abbrev main_call0_call0_call3_call0_v50 : Ref sig .tc := ⟨.hbm, 111, rfl⟩
abbrev main_call0_call0_call3_call0_v51 : Ref sig .tc := ⟨.hbm, 112, rfl⟩
abbrev main_call0_call0_call3_call0_v52 : Ref sig .tc := ⟨.hbm, 113, rfl⟩
abbrev main_call0_call0_call3_call0_v53 : Ref sig .tc := ⟨.hbm, 114, rfl⟩
abbrev main_call0_call0_call3_call0_v54 : Ref sig .tc := ⟨.hbm, 115, rfl⟩
abbrev main_call0_call0_call3_call0_c_13 : Ref sig .tc := ⟨.hbm, 116, rfl⟩
abbrev main_call0_call0_call3_call0_v55 : Ref sig .tc := ⟨.hbm, 117, rfl⟩
abbrev main_call0_call0_call3_call0_v56 : Ref sig .tc := ⟨.hbm, 118, rfl⟩
abbrev main_call0_call0_call3_call0_c_14 : Ref sig .tc := ⟨.hbm, 119, rfl⟩
abbrev main_call0_call0_call3_call0_v57 : Ref sig .tc := ⟨.hbm, 120, rfl⟩
abbrev main_call0_call0_call3_call0_v58 : Ref sig .tc := ⟨.hbm, 121, rfl⟩
abbrev main_call0_call0_call3_call0_v59 : Ref sig .tc := ⟨.hbm, 122, rfl⟩
abbrev main_call0_call0_call3_call0_v60 : Ref sig .tc := ⟨.hbm, 123, rfl⟩
abbrev main_call0_call0_call3_call0_v61 : Ref sig .tc := ⟨.hbm, 124, rfl⟩
abbrev main_call0_call0_call3_call0_c_15 : Ref sig .tc := ⟨.hbm, 125, rfl⟩
abbrev main_call0_call0_call3_call0_v62 : Ref sig .tc := ⟨.hbm, 126, rfl⟩
abbrev main_call0_call0_call3_call0_v63 : Ref sig .tc := ⟨.hbm, 127, rfl⟩
abbrev main_call0_call0_call3_call0_c_16 : Ref sig .tc := ⟨.hbm, 128, rfl⟩
abbrev main_call0_call0_call3_call0_v64 : Ref sig .tc := ⟨.hbm, 129, rfl⟩
abbrev main_call0_call0_call3_call0_v65 : Ref sig .tc := ⟨.hbm, 130, rfl⟩
abbrev main_call0_call0_call3_call0_v66 : Ref sig .tc := ⟨.hbm, 131, rfl⟩
abbrev main_call0_call0_call3_call0_v67 : Ref sig .tc := ⟨.hbm, 132, rfl⟩
abbrev main_call0_call0_call3_call0_v68 : Ref sig .tc := ⟨.hbm, 133, rfl⟩
abbrev main_call0_call0_call3_call0_v69 : Ref sig .tc := ⟨.hbm, 134, rfl⟩
abbrev main_call0_call0_call3_call0_v70 : Ref sig .tc := ⟨.hbm, 135, rfl⟩
abbrev main_call0_call0_call3_call0_v71 : Ref sig .tc := ⟨.hbm, 136, rfl⟩
abbrev main_call0_call0_call3_call0_c_17 : Ref sig .tc := ⟨.hbm, 137, rfl⟩
abbrev main_call0_call0_call3_call0_v72 : Ref sig .tc := ⟨.hbm, 138, rfl⟩
abbrev main_call0_call0_call3_call0_v73 : Ref sig .tc := ⟨.hbm, 139, rfl⟩
abbrev main_call0_call0_call3_call0_v74 : Ref sig .tc := ⟨.hbm, 140, rfl⟩
abbrev main_call0_call0_call3_call0_c_18 : Ref sig .tc := ⟨.hbm, 141, rfl⟩
abbrev main_call0_call0_call3_call0_v75 : Ref sig .tc := ⟨.hbm, 142, rfl⟩
abbrev main_call0_call0_call3_call0_v76 : Ref sig .tc := ⟨.hbm, 143, rfl⟩
abbrev main_call0_call0_call3_call0_c_19 : Ref sig .tc := ⟨.hbm, 144, rfl⟩
abbrev main_call0_call0_call3_call0_v77 : Ref sig .tc := ⟨.hbm, 145, rfl⟩
abbrev main_call0_call0_call3_call0_v78 : Ref sig .tc := ⟨.hbm, 146, rfl⟩
abbrev main_call0_call0_call3_call0_v79 : Ref sig .tc := ⟨.hbm, 147, rfl⟩
abbrev main_call0_call0_call3_call0_v80 : Ref sig .tc := ⟨.hbm, 148, rfl⟩
abbrev main_call0_call0_call3_call0_v81 : Ref sig .tc := ⟨.hbm, 149, rfl⟩
abbrev main_call0_call0_call3_call0_c_20 : Ref sig .tc := ⟨.hbm, 150, rfl⟩
abbrev main_call0_call0_call3_call0_v82 : Ref sig .tc := ⟨.hbm, 151, rfl⟩
abbrev main_call0_call0_call3_call0_v83 : Ref sig .tc := ⟨.hbm, 152, rfl⟩
abbrev main_call0_call0_call3_call0_c_21 : Ref sig .tc := ⟨.hbm, 153, rfl⟩
abbrev main_call0_call0_call3_call0_v84 : Ref sig .tc := ⟨.hbm, 154, rfl⟩
abbrev main_call0_call0_call3_call0_v85 : Ref sig .tc := ⟨.hbm, 155, rfl⟩
abbrev main_call0_call0_call3_call0_v86 : Ref sig .tc := ⟨.hbm, 156, rfl⟩
abbrev main_call0_call0_call3_call0_v87 : Ref sig .tc := ⟨.hbm, 157, rfl⟩
abbrev main_call0_call0_call3_call0_v88 : Ref sig .tc := ⟨.hbm, 158, rfl⟩
abbrev main_call0_call0_call3_call0_c_22 : Ref sig .tc := ⟨.hbm, 159, rfl⟩
abbrev main_call0_call0_call3_call0_v89 : Ref sig .tc := ⟨.hbm, 160, rfl⟩
abbrev main_call0_call0_call3_call0_v90 : Ref sig .tc := ⟨.hbm, 161, rfl⟩
abbrev main_call0_call0_call3_call0_c_23 : Ref sig .tc := ⟨.hbm, 162, rfl⟩
abbrev main_call0_call0_call3_call0_v91 : Ref sig .tc := ⟨.hbm, 163, rfl⟩
abbrev main_call0_call0_call3_call0_v92 : Ref sig .tc := ⟨.hbm, 164, rfl⟩
abbrev main_call0_call0_call3_call0_v93 : Ref sig .tc := ⟨.hbm, 165, rfl⟩
abbrev main_call0_call0_call3_call0_v94 : Ref sig .tc := ⟨.hbm, 166, rfl⟩
abbrev main_call0_call0_call3_call0_v95 : Ref sig .tc := ⟨.hbm, 167, rfl⟩
abbrev main_call0_call0_call3_call0_c_24 : Ref sig .tc := ⟨.hbm, 168, rfl⟩
abbrev main_call0_call0_call3_call0_v96 : Ref sig .tc := ⟨.hbm, 169, rfl⟩
abbrev main_call0_call0_call3_call0_v97 : Ref sig .tc := ⟨.hbm, 170, rfl⟩
abbrev main_call0_call0_call3_call0_c_25 : Ref sig .tc := ⟨.hbm, 171, rfl⟩
abbrev main_call0_call0_call3_call0_v98 : Ref sig .tc := ⟨.hbm, 172, rfl⟩
abbrev main_call0_call0_call3_call0_v99 : Ref sig .tc := ⟨.hbm, 173, rfl⟩
abbrev main_call0_call0_call3_call0_v100 : Ref sig .tc := ⟨.hbm, 174, rfl⟩
abbrev main_call0_call0_call3_call0_v101 : Ref sig .tc := ⟨.hbm, 175, rfl⟩
abbrev main_call0_call0_call3_call0_v102 : Ref sig .tc := ⟨.hbm, 176, rfl⟩
abbrev main_call0_call0_call3_call0_v103 : Ref sig .tc := ⟨.hbm, 177, rfl⟩
abbrev main_call0_call0_call3_call0_v104 : Ref sig .tc := ⟨.hbm, 178, rfl⟩
abbrev main_call0_call0_call3_call0_v105 : Ref sig .tc := ⟨.hbm, 179, rfl⟩
abbrev main_call0_call0_call3_call0_c_26 : Ref sig .tc := ⟨.hbm, 180, rfl⟩
abbrev main_call0_call0_call3_call0_v106 : Ref sig .tc := ⟨.hbm, 181, rfl⟩
abbrev main_call0_call0_call3_call0_v107 : Ref sig .tc := ⟨.hbm, 182, rfl⟩
abbrev main_call0_call0_call3_call0_v108 : Ref sig .tc := ⟨.hbm, 183, rfl⟩
abbrev main_call0_call0_call3_call0_c_27 : Ref sig .tc := ⟨.hbm, 184, rfl⟩
abbrev main_call0_call0_call3_call0_v109 : Ref sig .tc := ⟨.hbm, 185, rfl⟩
abbrev main_call0_call0_call3_call0_v110 : Ref sig .tc := ⟨.hbm, 186, rfl⟩
abbrev main_call0_call0_call3_call0_c_28 : Ref sig .tc := ⟨.hbm, 187, rfl⟩
abbrev main_call0_call0_call3_call0_v111 : Ref sig .tc := ⟨.hbm, 188, rfl⟩
abbrev main_call0_call0_call3_call0_v112 : Ref sig .tc := ⟨.hbm, 189, rfl⟩
abbrev main_call0_call0_call3_call0_v113 : Ref sig .tc := ⟨.hbm, 190, rfl⟩
abbrev main_call0_call0_call3_call0_v114 : Ref sig .tc := ⟨.hbm, 191, rfl⟩
abbrev main_call0_call0_call3_call0_v115 : Ref sig .tc := ⟨.hbm, 192, rfl⟩
abbrev main_call0_call0_call3_call0_c_29 : Ref sig .tc := ⟨.hbm, 193, rfl⟩
abbrev main_call0_call0_call3_call0_v116 : Ref sig .tc := ⟨.hbm, 194, rfl⟩
abbrev main_call0_call0_call3_call0_v117 : Ref sig .tc := ⟨.hbm, 195, rfl⟩
abbrev main_call0_call0_call3_call0_c_30 : Ref sig .tc := ⟨.hbm, 196, rfl⟩
abbrev main_call0_call0_call3_call0_v118 : Ref sig .tc := ⟨.hbm, 197, rfl⟩
abbrev main_call0_call0_call3_call0_v119 : Ref sig .tc := ⟨.hbm, 198, rfl⟩
abbrev main_call0_call0_call3_call0_v120 : Ref sig .tc := ⟨.hbm, 199, rfl⟩
abbrev main_call0_call0_call3_call0_v121 : Ref sig .tc := ⟨.hbm, 200, rfl⟩
abbrev main_call0_call0_call3_call0_v122 : Ref sig .tc := ⟨.hbm, 201, rfl⟩
abbrev main_call0_call0_call3_call0_c_31 : Ref sig .tc := ⟨.hbm, 202, rfl⟩
abbrev main_call0_call0_call3_call0_v123 : Ref sig .tc := ⟨.hbm, 203, rfl⟩
abbrev main_call0_call0_call3_call0_v124 : Ref sig .tc := ⟨.hbm, 204, rfl⟩
abbrev main_call0_call0_call3_call0_c_32 : Ref sig .tc := ⟨.hbm, 205, rfl⟩
abbrev main_call0_call0_call3_call0_v125 : Ref sig .tc := ⟨.hbm, 206, rfl⟩
abbrev main_call0_call0_call3_call0_v126 : Ref sig .tc := ⟨.hbm, 207, rfl⟩
abbrev main_call0_call0_call3_call0_v127 : Ref sig .tc := ⟨.hbm, 208, rfl⟩
abbrev main_call0_call0_call3_call0_v128 : Ref sig .tc := ⟨.hbm, 209, rfl⟩
abbrev main_call0_call0_call3_call0_v129 : Ref sig .tc := ⟨.hbm, 210, rfl⟩
abbrev main_call0_call0_call3_call0_c_33 : Ref sig .tc := ⟨.hbm, 211, rfl⟩
abbrev main_call0_call0_call3_call0_v130 : Ref sig .tc := ⟨.hbm, 212, rfl⟩
abbrev main_call0_call0_call3_call0_v131 : Ref sig .tc := ⟨.hbm, 213, rfl⟩
abbrev main_call0_call0_call3_call0_c_34 : Ref sig .tc := ⟨.hbm, 214, rfl⟩
abbrev main_call0_call0_call3_call0_v132 : Ref sig .tc := ⟨.hbm, 215, rfl⟩
abbrev main_call0_call0_call3_call0_v133 : Ref sig .tc := ⟨.hbm, 216, rfl⟩
abbrev main_call0_call0_call3_call0_v134 : Ref sig .tc := ⟨.hbm, 217, rfl⟩
abbrev main_call0_call0_call3_call0_v135 : Ref sig .tc := ⟨.hbm, 218, rfl⟩
abbrev main_call0_call0_call3_call0_v136 : Ref sig .tc := ⟨.hbm, 219, rfl⟩
abbrev main_call0_call0_call3_call0_v137 : Ref sig .tc := ⟨.hbm, 220, rfl⟩
abbrev main_call0_call0_call3_call0_v138 : Ref sig .tc := ⟨.hbm, 221, rfl⟩
abbrev main_call0_call0_call3_call0_v139 : Ref sig .tc := ⟨.hbm, 222, rfl⟩
abbrev main_call0_call0_call3_call0_c_35 : Ref sig .tc := ⟨.hbm, 223, rfl⟩
abbrev main_call0_call0_call3_call0_v140 : Ref sig .tc := ⟨.hbm, 224, rfl⟩
abbrev main_call0_call0_call3_call0_v141 : Ref sig .tc := ⟨.hbm, 225, rfl⟩
abbrev main_call0_call0_call3_call0_v142 : Ref sig .tc := ⟨.hbm, 226, rfl⟩
abbrev main_call0_call0_call3_call0_c_36 : Ref sig .tc := ⟨.hbm, 227, rfl⟩
abbrev main_call0_call0_call3_call0_v143 : Ref sig .tc := ⟨.hbm, 228, rfl⟩
abbrev main_call0_call0_call3_call0_v144 : Ref sig .tc := ⟨.hbm, 229, rfl⟩
abbrev main_call0_call0_call3_call0_c_37 : Ref sig .tc := ⟨.hbm, 230, rfl⟩
abbrev main_call0_call0_call3_call0_v145 : Ref sig .tc := ⟨.hbm, 231, rfl⟩
abbrev main_call0_call0_call3_call0_v146 : Ref sig .tc := ⟨.hbm, 232, rfl⟩
abbrev main_call0_call0_call3_call0_v147 : Ref sig .tc := ⟨.hbm, 233, rfl⟩
abbrev main_call0_call0_call3_call0_v148 : Ref sig .tc := ⟨.hbm, 234, rfl⟩
abbrev main_call0_call0_call3_call0_v149 : Ref sig .tc := ⟨.hbm, 235, rfl⟩
abbrev main_call0_call0_call3_call0_c_38 : Ref sig .tc := ⟨.hbm, 236, rfl⟩
abbrev main_call0_call0_call3_call0_v150 : Ref sig .tc := ⟨.hbm, 237, rfl⟩
abbrev main_call0_call0_call3_call0_v151 : Ref sig .tc := ⟨.hbm, 238, rfl⟩
abbrev main_call0_call0_call3_call0_c_39 : Ref sig .tc := ⟨.hbm, 239, rfl⟩
abbrev main_call0_call0_call3_call0_v152 : Ref sig .tc := ⟨.hbm, 240, rfl⟩
abbrev main_call0_call0_call3_call0_v153 : Ref sig .tc := ⟨.hbm, 241, rfl⟩
abbrev main_call0_call0_call3_call0_v154 : Ref sig .tc := ⟨.hbm, 242, rfl⟩
abbrev main_call0_call0_call3_call0_v155 : Ref sig .tc := ⟨.hbm, 243, rfl⟩
abbrev main_call0_call0_call3_call0_v156 : Ref sig .tc := ⟨.hbm, 244, rfl⟩
abbrev main_call0_call0_call3_call0_c_40 : Ref sig .tc := ⟨.hbm, 245, rfl⟩
abbrev main_call0_call0_call3_call0_v157 : Ref sig .tc := ⟨.hbm, 246, rfl⟩
abbrev main_call0_call0_call3_call0_v158 : Ref sig .tc := ⟨.hbm, 247, rfl⟩
abbrev main_call0_call0_call3_call0_c_41 : Ref sig .tc := ⟨.hbm, 248, rfl⟩
abbrev main_call0_call0_call3_call0_v159 : Ref sig .tc := ⟨.hbm, 249, rfl⟩
abbrev main_call0_call0_call3_call0_v160 : Ref sig .tc := ⟨.hbm, 250, rfl⟩
abbrev main_call0_call0_call3_call0_v161 : Ref sig .tc := ⟨.hbm, 251, rfl⟩
abbrev main_call0_call0_call3_call0_v162 : Ref sig .tc := ⟨.hbm, 252, rfl⟩
abbrev main_call0_call0_call3_call0_v163 : Ref sig .tc := ⟨.hbm, 253, rfl⟩
abbrev main_call0_call0_call3_call0_c_42 : Ref sig .tc := ⟨.hbm, 254, rfl⟩
abbrev main_call0_call0_call3_call0_v164 : Ref sig .tc := ⟨.hbm, 255, rfl⟩
abbrev main_call0_call0_call3_call0_v165 : Ref sig .tc := ⟨.hbm, 256, rfl⟩
abbrev main_call0_call0_call3_call0_c_43 : Ref sig .tc := ⟨.hbm, 257, rfl⟩
abbrev main_call0_call0_call3_call0_v166 : Ref sig .tc := ⟨.hbm, 258, rfl⟩
abbrev main_call0_call0_call3_call0_v167 : Ref sig .tc := ⟨.hbm, 259, rfl⟩
abbrev main_call0_call0_call3_call0_v168 : Ref sig .tc := ⟨.hbm, 260, rfl⟩
abbrev main_call0_call0_call3_call0_v169 : Ref sig .tc := ⟨.hbm, 261, rfl⟩
abbrev main_call0_call0_call3_call0_v170 : Ref sig .tc := ⟨.hbm, 262, rfl⟩
abbrev main_call0_call0_call3_v11_0 : Ref sig .tc := ⟨.hbm, 263, rfl⟩
abbrev main_call0_call0_call3_call0_v172 : Ref sig .tc := ⟨.hbm, 264, rfl⟩
abbrev main_call0_call0_call3_call0_v173 : Ref sig .tc := ⟨.hbm, 265, rfl⟩
abbrev main_call0_call0_call3_call0_c_44 : Ref sig .tc := ⟨.hbm, 266, rfl⟩
abbrev main_call0_call0_call3_call0_v174 : Ref sig .tc := ⟨.hbm, 267, rfl⟩
abbrev main_call0_call0_call3_v11_1 : Ref sig .tc := ⟨.hbm, 268, rfl⟩
abbrev main_call0_call0_call3_v12 : Ref sig .tc := ⟨.hbm, 269, rfl⟩
abbrev main_call0_call0_call3_v13 : Ref sig .tc := ⟨.hbm, 270, rfl⟩
abbrev main_call0_call0_v8 : Ref sig .tc := ⟨.hbm, 271, rfl⟩
abbrev main_call0_call0_v9 : Ref sig .tc := ⟨.hbm, 272, rfl⟩
abbrev main_call0_call0_v10 : Ref sig .tc := ⟨.hbm, 273, rfl⟩
abbrev main_call0_call0_v11 : Ref sig .tc := ⟨.hbm, 274, rfl⟩
abbrev main_call0_call0_v12 : Ref sig .tc := ⟨.hbm, 275, rfl⟩
abbrev main_call0_call0_v13 : Ref sig .tc := ⟨.hbm, 276, rfl⟩
abbrev main_call0_call0_v14 : Ref sig .tc := ⟨.hbm, 277, rfl⟩
abbrev main_call0_call0_v15 : Ref sig .tc := ⟨.hbm, 278, rfl⟩
abbrev main_call0_call0_v16 : Ref sig .tc := ⟨.hbm, 279, rfl⟩
abbrev main_call0_call0_v17 : Ref sig .tc := ⟨.hbm, 280, rfl⟩
abbrev main_call0_call0_v18 : Ref sig .tc := ⟨.hbm, 281, rfl⟩
abbrev main_call0_call0_c_6 : Ref sig .tc := ⟨.hbm, 282, rfl⟩
abbrev main_call0_call0_v19 : Ref sig .tc := ⟨.hbm, 283, rfl⟩
abbrev main_call0_call0_v20 : Ref sig .tc := ⟨.hbm, 284, rfl⟩
abbrev main_call0_call0_c_7 : Ref sig .tc := ⟨.hbm, 285, rfl⟩
abbrev main_call0_call0_v21 : Ref sig .tc := ⟨.hbm, 286, rfl⟩
abbrev main_call0_call0_v22 : Ref sig .tc := ⟨.hbm, 287, rfl⟩
abbrev main_call0_call0_v23 : Ref sig .tc := ⟨.hbm, 288, rfl⟩
abbrev main_call0_call0_c_8 : Ref sig .tc := ⟨.hbm, 289, rfl⟩
abbrev main_call0_call0_v24 : Ref sig .tc := ⟨.hbm, 290, rfl⟩
abbrev main_call0_call0_v25 : Ref sig .tc := ⟨.hbm, 291, rfl⟩
abbrev main_call0_call0_v26 : Ref sig .tc := ⟨.hbm, 292, rfl⟩
abbrev main_call0_call0_v27 : Ref sig .tc := ⟨.hbm, 293, rfl⟩
abbrev main_call0_call0_call4_v0 : Ref sig .tc := ⟨.hbm, 294, rfl⟩
abbrev main_call0_call0_call4_c : Ref sig .tc := ⟨.hbm, 295, rfl⟩
abbrev main_call0_call0_call4_v1 : Ref sig .tc := ⟨.hbm, 296, rfl⟩
abbrev main_call0_call0_call4_v2 : Ref sig .tc := ⟨.hbm, 297, rfl⟩
abbrev main_call0_call0_call4_v3 : Ref sig .tc := ⟨.hbm, 298, rfl⟩
abbrev main_call0_call0_call4_v4 : Ref sig .tc := ⟨.hbm, 299, rfl⟩
abbrev main_call0_call0_call4_v5 : Ref sig .tc := ⟨.hbm, 300, rfl⟩
abbrev main_call0_call0_call4_v6 : Ref sig .tc := ⟨.hbm, 301, rfl⟩
abbrev main_call0_call0_call4_c_0 : Ref sig .tc := ⟨.hbm, 302, rfl⟩
abbrev main_call0_call0_call4_v7 : Ref sig .tc := ⟨.hbm, 303, rfl⟩
abbrev main_call0_call0_call4_v8 : Ref sig .tc := ⟨.hbm, 304, rfl⟩
abbrev main_call0_call0_call4_c_1 : Ref sig .tc := ⟨.hbm, 305, rfl⟩
abbrev main_call0_call0_call4_v9 : Ref sig .tc := ⟨.hbm, 306, rfl⟩
abbrev main_call0_call0_call4_v10 : Ref sig .tc := ⟨.hbm, 307, rfl⟩
abbrev main_call0_call0_call4_v11 : Ref sig .tc := ⟨.hbm, 308, rfl⟩
abbrev main_call0_call0_call4_v12 : Ref sig .tc := ⟨.hbm, 309, rfl⟩
abbrev main_call0_call0_call4_v13 : Ref sig .tc := ⟨.hbm, 310, rfl⟩
abbrev main_call0_call0_call4_c_2 : Ref sig .tc := ⟨.hbm, 311, rfl⟩
abbrev main_call0_call0_call4_v14 : Ref sig .tc := ⟨.hbm, 312, rfl⟩
abbrev main_call0_call0_call4_v15 : Ref sig .tc := ⟨.hbm, 313, rfl⟩
abbrev main_call0_call0_call4_c_3 : Ref sig .tc := ⟨.hbm, 314, rfl⟩
abbrev main_call0_call0_call4_v16 : Ref sig .tc := ⟨.hbm, 315, rfl⟩
abbrev main_call0_call0_call4_v17 : Ref sig .tc := ⟨.hbm, 316, rfl⟩
abbrev main_call0_call0_call4_v18 : Ref sig .tc := ⟨.hbm, 317, rfl⟩
abbrev main_call0_call0_call4_v19 : Ref sig .tc := ⟨.hbm, 318, rfl⟩
abbrev main_call0_call0_call4_v20 : Ref sig .tc := ⟨.hbm, 319, rfl⟩
abbrev main_call0_call0_call4_c_4 : Ref sig .tc := ⟨.hbm, 320, rfl⟩
abbrev main_call0_call0_call4_v21 : Ref sig .tc := ⟨.hbm, 321, rfl⟩
abbrev main_call0_call0_call4_v22 : Ref sig .tc := ⟨.hbm, 322, rfl⟩
abbrev main_call0_call0_call4_c_5 : Ref sig .tc := ⟨.hbm, 323, rfl⟩
abbrev main_call0_call0_call4_v23 : Ref sig .tc := ⟨.hbm, 324, rfl⟩
abbrev main_call0_call0_call4_v24 : Ref sig .tc := ⟨.hbm, 325, rfl⟩
abbrev main_call0_call0_call4_v25 : Ref sig .tc := ⟨.hbm, 326, rfl⟩
abbrev main_call0_call0_call4_v26 : Ref sig .tc := ⟨.hbm, 327, rfl⟩
abbrev main_call0_call0_call4_v27 : Ref sig .tc := ⟨.hbm, 328, rfl⟩
abbrev main_call0_call0_call4_c_6 : Ref sig .tc := ⟨.hbm, 329, rfl⟩
abbrev main_call0_call0_call4_v28 : Ref sig .tc := ⟨.hbm, 330, rfl⟩
abbrev main_call0_call0_call4_v29 : Ref sig .tc := ⟨.hbm, 331, rfl⟩
abbrev main_call0_call0_call4_c_7 : Ref sig .tc := ⟨.hbm, 332, rfl⟩
abbrev main_call0_call0_call4_v30 : Ref sig .tc := ⟨.hbm, 333, rfl⟩
abbrev main_call0_call0_call4_v31 : Ref sig .tc := ⟨.hbm, 334, rfl⟩
abbrev main_call0_call0_call4_v32 : Ref sig .tc := ⟨.hbm, 335, rfl⟩
abbrev main_call0_call0_call4_v33 : Ref sig .tc := ⟨.hbm, 336, rfl⟩
abbrev main_call0_call0_call4_v34 : Ref sig .tc := ⟨.hbm, 337, rfl⟩
abbrev main_call0_call0_call4_v35 : Ref sig .tc := ⟨.hbm, 338, rfl⟩
abbrev main_call0_call0_call4_v36 : Ref sig .tc := ⟨.hbm, 339, rfl⟩
abbrev main_call0_call0_call4_v37 : Ref sig .tc := ⟨.hbm, 340, rfl⟩
abbrev main_call0_call0_call4_c_8 : Ref sig .tc := ⟨.hbm, 341, rfl⟩
abbrev main_call0_call0_call4_v38 : Ref sig .tc := ⟨.hbm, 342, rfl⟩
abbrev main_call0_call0_call4_v39 : Ref sig .tc := ⟨.hbm, 343, rfl⟩
abbrev main_call0_call0_call4_v40 : Ref sig .tc := ⟨.hbm, 344, rfl⟩
abbrev main_call0_call0_call4_c_9 : Ref sig .tc := ⟨.hbm, 345, rfl⟩
abbrev main_call0_call0_call4_v41 : Ref sig .tc := ⟨.hbm, 346, rfl⟩
abbrev main_call0_call0_call4_v42 : Ref sig .tc := ⟨.hbm, 347, rfl⟩
abbrev main_call0_call0_call4_c_10 : Ref sig .tc := ⟨.hbm, 348, rfl⟩
abbrev main_call0_call0_call4_v43 : Ref sig .tc := ⟨.hbm, 349, rfl⟩
abbrev main_call0_call0_call4_v44 : Ref sig .tc := ⟨.hbm, 350, rfl⟩
abbrev main_call0_call0_call4_v45 : Ref sig .tc := ⟨.hbm, 351, rfl⟩
abbrev main_call0_call0_call4_v46 : Ref sig .tc := ⟨.hbm, 352, rfl⟩
abbrev main_call0_call0_call4_v47 : Ref sig .tc := ⟨.hbm, 353, rfl⟩
abbrev main_call0_call0_call4_c_11 : Ref sig .tc := ⟨.hbm, 354, rfl⟩
abbrev main_call0_call0_call4_v48 : Ref sig .tc := ⟨.hbm, 355, rfl⟩
abbrev main_call0_call0_call4_v49 : Ref sig .tc := ⟨.hbm, 356, rfl⟩
abbrev main_call0_call0_call4_c_12 : Ref sig .tc := ⟨.hbm, 357, rfl⟩
abbrev main_call0_call0_call4_v50 : Ref sig .tc := ⟨.hbm, 358, rfl⟩
abbrev main_call0_call0_call4_v51 : Ref sig .tc := ⟨.hbm, 359, rfl⟩
abbrev main_call0_call0_call4_v52 : Ref sig .tc := ⟨.hbm, 360, rfl⟩
abbrev main_call0_call0_call4_v53 : Ref sig .tc := ⟨.hbm, 361, rfl⟩
abbrev main_call0_call0_call4_v54 : Ref sig .tc := ⟨.hbm, 362, rfl⟩
abbrev main_call0_call0_call4_c_13 : Ref sig .tc := ⟨.hbm, 363, rfl⟩
abbrev main_call0_call0_call4_v55 : Ref sig .tc := ⟨.hbm, 364, rfl⟩
abbrev main_call0_call0_call4_v56 : Ref sig .tc := ⟨.hbm, 365, rfl⟩
abbrev main_call0_call0_call4_c_14 : Ref sig .tc := ⟨.hbm, 366, rfl⟩
abbrev main_call0_call0_call4_v57 : Ref sig .tc := ⟨.hbm, 367, rfl⟩
abbrev main_call0_call0_call4_v58 : Ref sig .tc := ⟨.hbm, 368, rfl⟩
abbrev main_call0_call0_call4_v59 : Ref sig .tc := ⟨.hbm, 369, rfl⟩
abbrev main_call0_call0_call4_v60 : Ref sig .tc := ⟨.hbm, 370, rfl⟩
abbrev main_call0_call0_call4_v61 : Ref sig .tc := ⟨.hbm, 371, rfl⟩
abbrev main_call0_call0_call4_c_15 : Ref sig .tc := ⟨.hbm, 372, rfl⟩
abbrev main_call0_call0_call4_v62 : Ref sig .tc := ⟨.hbm, 373, rfl⟩
abbrev main_call0_call0_call4_v63 : Ref sig .tc := ⟨.hbm, 374, rfl⟩
abbrev main_call0_call0_call4_c_16 : Ref sig .tc := ⟨.hbm, 375, rfl⟩
abbrev main_call0_call0_call4_v64 : Ref sig .tc := ⟨.hbm, 376, rfl⟩
abbrev main_call0_call0_call4_v65 : Ref sig .tc := ⟨.hbm, 377, rfl⟩
abbrev main_call0_call0_call4_v66 : Ref sig .tc := ⟨.hbm, 378, rfl⟩
abbrev main_call0_call0_call4_v67 : Ref sig .tc := ⟨.hbm, 379, rfl⟩
abbrev main_call0_call0_call4_v68 : Ref sig .tc := ⟨.hbm, 380, rfl⟩
abbrev main_call0_call0_call4_v69 : Ref sig .tc := ⟨.hbm, 381, rfl⟩
abbrev main_call0_call0_call4_v70 : Ref sig .tc := ⟨.hbm, 382, rfl⟩
abbrev main_call0_call0_call4_v71 : Ref sig .tc := ⟨.hbm, 383, rfl⟩
abbrev main_call0_call0_call4_c_17 : Ref sig .tc := ⟨.hbm, 384, rfl⟩
abbrev main_call0_call0_call4_v72 : Ref sig .tc := ⟨.hbm, 385, rfl⟩
abbrev main_call0_call0_call4_v73 : Ref sig .tc := ⟨.hbm, 386, rfl⟩
abbrev main_call0_call0_call4_v74 : Ref sig .tc := ⟨.hbm, 387, rfl⟩
abbrev main_call0_call0_call4_c_18 : Ref sig .tc := ⟨.hbm, 388, rfl⟩
abbrev main_call0_call0_call4_v75 : Ref sig .tc := ⟨.hbm, 389, rfl⟩
abbrev main_call0_call0_call4_v76 : Ref sig .tc := ⟨.hbm, 390, rfl⟩
abbrev main_call0_call0_call4_c_19 : Ref sig .tc := ⟨.hbm, 391, rfl⟩
abbrev main_call0_call0_call4_v77 : Ref sig .tc := ⟨.hbm, 392, rfl⟩
abbrev main_call0_call0_call4_v78 : Ref sig .tc := ⟨.hbm, 393, rfl⟩
abbrev main_call0_call0_call4_v79 : Ref sig .tc := ⟨.hbm, 394, rfl⟩
abbrev main_call0_call0_call4_v80 : Ref sig .tc := ⟨.hbm, 395, rfl⟩
abbrev main_call0_call0_call4_v81 : Ref sig .tc := ⟨.hbm, 396, rfl⟩
abbrev main_call0_call0_call4_c_20 : Ref sig .tc := ⟨.hbm, 397, rfl⟩
abbrev main_call0_call0_call4_v82 : Ref sig .tc := ⟨.hbm, 398, rfl⟩
abbrev main_call0_call0_call4_v83 : Ref sig .tc := ⟨.hbm, 399, rfl⟩
abbrev main_call0_call0_call4_c_21 : Ref sig .tc := ⟨.hbm, 400, rfl⟩
abbrev main_call0_call0_call4_v84 : Ref sig .tc := ⟨.hbm, 401, rfl⟩
abbrev main_call0_call0_call4_v85 : Ref sig .tc := ⟨.hbm, 402, rfl⟩
abbrev main_call0_call0_call4_v86 : Ref sig .tc := ⟨.hbm, 403, rfl⟩
abbrev main_call0_call0_call4_v87 : Ref sig .tc := ⟨.hbm, 404, rfl⟩
abbrev main_call0_call0_call4_v88 : Ref sig .tc := ⟨.hbm, 405, rfl⟩
abbrev main_call0_call0_call4_c_22 : Ref sig .tc := ⟨.hbm, 406, rfl⟩
abbrev main_call0_call0_call4_v89 : Ref sig .tc := ⟨.hbm, 407, rfl⟩
abbrev main_call0_call0_call4_v90 : Ref sig .tc := ⟨.hbm, 408, rfl⟩
abbrev main_call0_call0_call4_c_23 : Ref sig .tc := ⟨.hbm, 409, rfl⟩
abbrev main_call0_call0_call4_v91 : Ref sig .tc := ⟨.hbm, 410, rfl⟩
abbrev main_call0_call0_call4_v92 : Ref sig .tc := ⟨.hbm, 411, rfl⟩
abbrev main_call0_call0_call4_v93 : Ref sig .tc := ⟨.hbm, 412, rfl⟩
abbrev main_call0_call0_call4_v94 : Ref sig .tc := ⟨.hbm, 413, rfl⟩
abbrev main_call0_call0_call4_v95 : Ref sig .tc := ⟨.hbm, 414, rfl⟩
abbrev main_call0_call0_call4_c_24 : Ref sig .tc := ⟨.hbm, 415, rfl⟩
abbrev main_call0_call0_call4_v96 : Ref sig .tc := ⟨.hbm, 416, rfl⟩
abbrev main_call0_call0_call4_v97 : Ref sig .tc := ⟨.hbm, 417, rfl⟩
abbrev main_call0_call0_call4_c_25 : Ref sig .tc := ⟨.hbm, 418, rfl⟩
abbrev main_call0_call0_call4_v98 : Ref sig .tc := ⟨.hbm, 419, rfl⟩
abbrev main_call0_call0_call4_v99 : Ref sig .tc := ⟨.hbm, 420, rfl⟩
abbrev main_call0_call0_call4_v100 : Ref sig .tc := ⟨.hbm, 421, rfl⟩
abbrev main_call0_call0_call4_v101 : Ref sig .tc := ⟨.hbm, 422, rfl⟩
abbrev main_call0_call0_call4_v102 : Ref sig .tc := ⟨.hbm, 423, rfl⟩
abbrev main_call0_call0_call4_v103 : Ref sig .tc := ⟨.hbm, 424, rfl⟩
abbrev main_call0_call0_call4_v104 : Ref sig .tc := ⟨.hbm, 425, rfl⟩
abbrev main_call0_call0_call4_v105 : Ref sig .tc := ⟨.hbm, 426, rfl⟩
abbrev main_call0_call0_call4_c_26 : Ref sig .tc := ⟨.hbm, 427, rfl⟩
abbrev main_call0_call0_call4_v106 : Ref sig .tc := ⟨.hbm, 428, rfl⟩
abbrev main_call0_call0_call4_v107 : Ref sig .tc := ⟨.hbm, 429, rfl⟩
abbrev main_call0_call0_call4_v108 : Ref sig .tc := ⟨.hbm, 430, rfl⟩
abbrev main_call0_call0_call4_c_27 : Ref sig .tc := ⟨.hbm, 431, rfl⟩
abbrev main_call0_call0_call4_v109 : Ref sig .tc := ⟨.hbm, 432, rfl⟩
abbrev main_call0_call0_call4_v110 : Ref sig .tc := ⟨.hbm, 433, rfl⟩
abbrev main_call0_call0_call4_c_28 : Ref sig .tc := ⟨.hbm, 434, rfl⟩
abbrev main_call0_call0_call4_v111 : Ref sig .tc := ⟨.hbm, 435, rfl⟩
abbrev main_call0_call0_call4_v112 : Ref sig .tc := ⟨.hbm, 436, rfl⟩
abbrev main_call0_call0_call4_v113 : Ref sig .tc := ⟨.hbm, 437, rfl⟩
abbrev main_call0_call0_call4_v114 : Ref sig .tc := ⟨.hbm, 438, rfl⟩
abbrev main_call0_call0_call4_v115 : Ref sig .tc := ⟨.hbm, 439, rfl⟩
abbrev main_call0_call0_call4_c_29 : Ref sig .tc := ⟨.hbm, 440, rfl⟩
abbrev main_call0_call0_call4_v116 : Ref sig .tc := ⟨.hbm, 441, rfl⟩
abbrev main_call0_call0_call4_v117 : Ref sig .tc := ⟨.hbm, 442, rfl⟩
abbrev main_call0_call0_call4_c_30 : Ref sig .tc := ⟨.hbm, 443, rfl⟩
abbrev main_call0_call0_call4_v118 : Ref sig .tc := ⟨.hbm, 444, rfl⟩
abbrev main_call0_call0_call4_v119 : Ref sig .tc := ⟨.hbm, 445, rfl⟩
abbrev main_call0_call0_call4_v120 : Ref sig .tc := ⟨.hbm, 446, rfl⟩
abbrev main_call0_call0_call4_v121 : Ref sig .tc := ⟨.hbm, 447, rfl⟩
abbrev main_call0_call0_call4_v122 : Ref sig .tc := ⟨.hbm, 448, rfl⟩
abbrev main_call0_call0_call4_c_31 : Ref sig .tc := ⟨.hbm, 449, rfl⟩
abbrev main_call0_call0_call4_v123 : Ref sig .tc := ⟨.hbm, 450, rfl⟩
abbrev main_call0_call0_call4_v124 : Ref sig .tc := ⟨.hbm, 451, rfl⟩
abbrev main_call0_call0_call4_c_32 : Ref sig .tc := ⟨.hbm, 452, rfl⟩
abbrev main_call0_call0_call4_v125 : Ref sig .tc := ⟨.hbm, 453, rfl⟩
abbrev main_call0_call0_call4_v126 : Ref sig .tc := ⟨.hbm, 454, rfl⟩
abbrev main_call0_call0_call4_v127 : Ref sig .tc := ⟨.hbm, 455, rfl⟩
abbrev main_call0_call0_call4_v128 : Ref sig .tc := ⟨.hbm, 456, rfl⟩
abbrev main_call0_call0_call4_v129 : Ref sig .tc := ⟨.hbm, 457, rfl⟩
abbrev main_call0_call0_call4_c_33 : Ref sig .tc := ⟨.hbm, 458, rfl⟩
abbrev main_call0_call0_call4_v130 : Ref sig .tc := ⟨.hbm, 459, rfl⟩
abbrev main_call0_call0_call4_v131 : Ref sig .tc := ⟨.hbm, 460, rfl⟩
abbrev main_call0_call0_call4_c_34 : Ref sig .tc := ⟨.hbm, 461, rfl⟩
abbrev main_call0_call0_call4_v132 : Ref sig .tc := ⟨.hbm, 462, rfl⟩
abbrev main_call0_call0_call4_v133 : Ref sig .tc := ⟨.hbm, 463, rfl⟩
abbrev main_call0_call0_call4_v134 : Ref sig .tc := ⟨.hbm, 464, rfl⟩
abbrev main_call0_call0_call4_v135 : Ref sig .tc := ⟨.hbm, 465, rfl⟩
abbrev main_call0_call0_call4_v136 : Ref sig .tc := ⟨.hbm, 466, rfl⟩
abbrev main_call0_call0_call4_v137 : Ref sig .tc := ⟨.hbm, 467, rfl⟩
abbrev main_call0_call0_call4_v138 : Ref sig .tc := ⟨.hbm, 468, rfl⟩
abbrev main_call0_call0_call4_v139 : Ref sig .tc := ⟨.hbm, 469, rfl⟩
abbrev main_call0_call0_call4_c_35 : Ref sig .tc := ⟨.hbm, 470, rfl⟩
abbrev main_call0_call0_call4_v140 : Ref sig .tc := ⟨.hbm, 471, rfl⟩
abbrev main_call0_call0_call4_v141 : Ref sig .tc := ⟨.hbm, 472, rfl⟩
abbrev main_call0_call0_call4_v142 : Ref sig .tc := ⟨.hbm, 473, rfl⟩
abbrev main_call0_call0_call4_c_36 : Ref sig .tc := ⟨.hbm, 474, rfl⟩
abbrev main_call0_call0_call4_v143 : Ref sig .tc := ⟨.hbm, 475, rfl⟩
abbrev main_call0_call0_call4_v144 : Ref sig .tc := ⟨.hbm, 476, rfl⟩
abbrev main_call0_call0_call4_c_37 : Ref sig .tc := ⟨.hbm, 477, rfl⟩
abbrev main_call0_call0_call4_v145 : Ref sig .tc := ⟨.hbm, 478, rfl⟩
abbrev main_call0_call0_call4_v146 : Ref sig .tc := ⟨.hbm, 479, rfl⟩
abbrev main_call0_call0_call4_v147 : Ref sig .tc := ⟨.hbm, 480, rfl⟩
abbrev main_call0_call0_call4_v148 : Ref sig .tc := ⟨.hbm, 481, rfl⟩
abbrev main_call0_call0_call4_v149 : Ref sig .tc := ⟨.hbm, 482, rfl⟩
abbrev main_call0_call0_call4_c_38 : Ref sig .tc := ⟨.hbm, 483, rfl⟩
abbrev main_call0_call0_call4_v150 : Ref sig .tc := ⟨.hbm, 484, rfl⟩
abbrev main_call0_call0_call4_v151 : Ref sig .tc := ⟨.hbm, 485, rfl⟩
abbrev main_call0_call0_call4_c_39 : Ref sig .tc := ⟨.hbm, 486, rfl⟩
abbrev main_call0_call0_call4_v152 : Ref sig .tc := ⟨.hbm, 487, rfl⟩
abbrev main_call0_call0_call4_v153 : Ref sig .tc := ⟨.hbm, 488, rfl⟩
abbrev main_call0_call0_call4_v154 : Ref sig .tc := ⟨.hbm, 489, rfl⟩
abbrev main_call0_call0_call4_v155 : Ref sig .tc := ⟨.hbm, 490, rfl⟩
abbrev main_call0_call0_call4_v156 : Ref sig .tc := ⟨.hbm, 491, rfl⟩
abbrev main_call0_call0_call4_c_40 : Ref sig .tc := ⟨.hbm, 492, rfl⟩
abbrev main_call0_call0_call4_v157 : Ref sig .tc := ⟨.hbm, 493, rfl⟩
abbrev main_call0_call0_call4_v158 : Ref sig .tc := ⟨.hbm, 494, rfl⟩
abbrev main_call0_call0_call4_c_41 : Ref sig .tc := ⟨.hbm, 495, rfl⟩
abbrev main_call0_call0_call4_v159 : Ref sig .tc := ⟨.hbm, 496, rfl⟩
abbrev main_call0_call0_call4_v160 : Ref sig .tc := ⟨.hbm, 497, rfl⟩
abbrev main_call0_call0_call4_v161 : Ref sig .tc := ⟨.hbm, 498, rfl⟩
abbrev main_call0_call0_call4_v162 : Ref sig .tc := ⟨.hbm, 499, rfl⟩
abbrev main_call0_call0_call4_v163 : Ref sig .tc := ⟨.hbm, 500, rfl⟩
abbrev main_call0_call0_call4_c_42 : Ref sig .tc := ⟨.hbm, 501, rfl⟩
abbrev main_call0_call0_call4_v164 : Ref sig .tc := ⟨.hbm, 502, rfl⟩
abbrev main_call0_call0_call4_v165 : Ref sig .tc := ⟨.hbm, 503, rfl⟩
abbrev main_call0_call0_call4_c_43 : Ref sig .tc := ⟨.hbm, 504, rfl⟩
abbrev main_call0_call0_call4_v166 : Ref sig .tc := ⟨.hbm, 505, rfl⟩
abbrev main_call0_call0_call4_v167 : Ref sig .tc := ⟨.hbm, 506, rfl⟩
abbrev main_call0_call0_call4_v168 : Ref sig .tc := ⟨.hbm, 507, rfl⟩
abbrev main_call0_call0_call4_v169 : Ref sig .tc := ⟨.hbm, 508, rfl⟩
abbrev main_call0_call0_call4_v170 : Ref sig .tc := ⟨.hbm, 509, rfl⟩
abbrev main_call0_call0_v28_0 : Ref sig .tc := ⟨.hbm, 510, rfl⟩
abbrev main_call0_call0_call4_v172 : Ref sig .tc := ⟨.hbm, 511, rfl⟩
abbrev main_call0_call0_call4_v173 : Ref sig .tc := ⟨.hbm, 512, rfl⟩
abbrev main_call0_call0_call4_c_44 : Ref sig .tc := ⟨.hbm, 513, rfl⟩
abbrev main_call0_call0_call4_v174 : Ref sig .tc := ⟨.hbm, 514, rfl⟩
abbrev main_call0_call0_v28_1 : Ref sig .tc := ⟨.hbm, 515, rfl⟩
abbrev main_call0_call0_v29 : Ref sig .tc := ⟨.hbm, 516, rfl⟩
abbrev main_call0_call0_v30 : Ref sig .tc := ⟨.hbm, 517, rfl⟩
abbrev main_call0_call0_v31 : Ref sig .tc := ⟨.hbm, 518, rfl⟩
abbrev main_call0_call0_v32 : Ref sig .tc := ⟨.hbm, 519, rfl⟩
abbrev main_call0_call0_v33 : Ref sig .tc := ⟨.hbm, 520, rfl⟩
abbrev main_call0_call0_v34 : Ref sig .tc := ⟨.hbm, 521, rfl⟩
abbrev main_call0_call0_v35 : Ref sig .tc := ⟨.hbm, 522, rfl⟩
abbrev main_call0_call0_c_9 : Ref sig .tc := ⟨.hbm, 523, rfl⟩
abbrev main_call0_call0_v36 : Ref sig .tc := ⟨.hbm, 524, rfl⟩
abbrev main_call0_call0_v37 : Ref sig .tc := ⟨.hbm, 525, rfl⟩
abbrev main_call0_call0_c_10 : Ref sig .tc := ⟨.hbm, 526, rfl⟩
abbrev main_call0_call0_v38 : Ref sig .tc := ⟨.hbm, 527, rfl⟩
abbrev main_call0_call0_v39 : Ref sig .tc := ⟨.hbm, 528, rfl⟩
abbrev main_call0_call0_v40 : Ref sig .tc := ⟨.hbm, 529, rfl⟩
abbrev main_call0_call0_c_11 : Ref sig .tc := ⟨.hbm, 530, rfl⟩
abbrev main_call0_call0_v41 : Ref sig .tc := ⟨.hbm, 531, rfl⟩
abbrev main_call0_call0_v42 : Ref sig .tc := ⟨.hbm, 532, rfl⟩
abbrev main_call0_call0_v43 : Ref sig .tc := ⟨.hbm, 533, rfl⟩
abbrev main_call0_call0_v44 : Ref sig .tc := ⟨.hbm, 534, rfl⟩
abbrev main_call0_call0_call5_v0 : Ref sig .tc := ⟨.hbm, 535, rfl⟩
abbrev main_call0_call0_call5_c : Ref sig .tc := ⟨.hbm, 536, rfl⟩
abbrev main_call0_call0_call5_v1 : Ref sig .tc := ⟨.hbm, 537, rfl⟩
abbrev main_call0_call0_call5_v2 : Ref sig .tc := ⟨.hbm, 538, rfl⟩
abbrev main_call0_call0_call5_v3 : Ref sig .tc := ⟨.hbm, 539, rfl⟩
abbrev main_call0_call0_call5_v4 : Ref sig .tc := ⟨.hbm, 540, rfl⟩
abbrev main_call0_call0_call5_v5 : Ref sig .tc := ⟨.hbm, 541, rfl⟩
abbrev main_call0_call0_call5_v6 : Ref sig .tc := ⟨.hbm, 542, rfl⟩
abbrev main_call0_call0_call5_c_0 : Ref sig .tc := ⟨.hbm, 543, rfl⟩
abbrev main_call0_call0_call5_v7 : Ref sig .tc := ⟨.hbm, 544, rfl⟩
abbrev main_call0_call0_call5_v8 : Ref sig .tc := ⟨.hbm, 545, rfl⟩
abbrev main_call0_call0_call5_c_1 : Ref sig .tc := ⟨.hbm, 546, rfl⟩
abbrev main_call0_call0_call5_v9 : Ref sig .tc := ⟨.hbm, 547, rfl⟩
abbrev main_call0_call0_call5_v10 : Ref sig .tc := ⟨.hbm, 548, rfl⟩
abbrev main_call0_call0_call5_v11 : Ref sig .tc := ⟨.hbm, 549, rfl⟩
abbrev main_call0_call0_call5_v12 : Ref sig .tc := ⟨.hbm, 550, rfl⟩
abbrev main_call0_call0_call5_v13 : Ref sig .tc := ⟨.hbm, 551, rfl⟩
abbrev main_call0_call0_call5_c_2 : Ref sig .tc := ⟨.hbm, 552, rfl⟩
abbrev main_call0_call0_call5_v14 : Ref sig .tc := ⟨.hbm, 553, rfl⟩
abbrev main_call0_call0_call5_v15 : Ref sig .tc := ⟨.hbm, 554, rfl⟩
abbrev main_call0_call0_call5_c_3 : Ref sig .tc := ⟨.hbm, 555, rfl⟩
abbrev main_call0_call0_call5_v16 : Ref sig .tc := ⟨.hbm, 556, rfl⟩
abbrev main_call0_call0_call5_v17 : Ref sig .tc := ⟨.hbm, 557, rfl⟩
abbrev main_call0_call0_call5_v18 : Ref sig .tc := ⟨.hbm, 558, rfl⟩
abbrev main_call0_call0_call5_v19 : Ref sig .tc := ⟨.hbm, 559, rfl⟩
abbrev main_call0_call0_call5_v20 : Ref sig .tc := ⟨.hbm, 560, rfl⟩
abbrev main_call0_call0_call5_c_4 : Ref sig .tc := ⟨.hbm, 561, rfl⟩
abbrev main_call0_call0_call5_v21 : Ref sig .tc := ⟨.hbm, 562, rfl⟩
abbrev main_call0_call0_call5_v22 : Ref sig .tc := ⟨.hbm, 563, rfl⟩
abbrev main_call0_call0_call5_c_5 : Ref sig .tc := ⟨.hbm, 564, rfl⟩
abbrev main_call0_call0_call5_v23 : Ref sig .tc := ⟨.hbm, 565, rfl⟩
abbrev main_call0_call0_call5_v24 : Ref sig .tc := ⟨.hbm, 566, rfl⟩
abbrev main_call0_call0_call5_v25 : Ref sig .tc := ⟨.hbm, 567, rfl⟩
abbrev main_call0_call0_call5_v26 : Ref sig .tc := ⟨.hbm, 568, rfl⟩
abbrev main_call0_call0_call5_v27 : Ref sig .tc := ⟨.hbm, 569, rfl⟩
abbrev main_call0_call0_call5_c_6 : Ref sig .tc := ⟨.hbm, 570, rfl⟩
abbrev main_call0_call0_call5_v28 : Ref sig .tc := ⟨.hbm, 571, rfl⟩
abbrev main_call0_call0_call5_v29 : Ref sig .tc := ⟨.hbm, 572, rfl⟩
abbrev main_call0_call0_call5_c_7 : Ref sig .tc := ⟨.hbm, 573, rfl⟩
abbrev main_call0_call0_call5_v30 : Ref sig .tc := ⟨.hbm, 574, rfl⟩
abbrev main_call0_call0_call5_v31 : Ref sig .tc := ⟨.hbm, 575, rfl⟩
abbrev main_call0_call0_call5_v32 : Ref sig .tc := ⟨.hbm, 576, rfl⟩
abbrev main_call0_call0_call5_v33 : Ref sig .tc := ⟨.hbm, 577, rfl⟩
abbrev main_call0_call0_call5_v34 : Ref sig .tc := ⟨.hbm, 578, rfl⟩
abbrev main_call0_call0_call5_v35 : Ref sig .tc := ⟨.hbm, 579, rfl⟩
abbrev main_call0_call0_call5_v36 : Ref sig .tc := ⟨.hbm, 580, rfl⟩
abbrev main_call0_call0_call5_v37 : Ref sig .tc := ⟨.hbm, 581, rfl⟩
abbrev main_call0_call0_call5_c_8 : Ref sig .tc := ⟨.hbm, 582, rfl⟩
abbrev main_call0_call0_call5_v38 : Ref sig .tc := ⟨.hbm, 583, rfl⟩
abbrev main_call0_call0_call5_v39 : Ref sig .tc := ⟨.hbm, 584, rfl⟩
abbrev main_call0_call0_call5_v40 : Ref sig .tc := ⟨.hbm, 585, rfl⟩
abbrev main_call0_call0_call5_c_9 : Ref sig .tc := ⟨.hbm, 586, rfl⟩
abbrev main_call0_call0_call5_v41 : Ref sig .tc := ⟨.hbm, 587, rfl⟩
abbrev main_call0_call0_call5_v42 : Ref sig .tc := ⟨.hbm, 588, rfl⟩
abbrev main_call0_call0_call5_c_10 : Ref sig .tc := ⟨.hbm, 589, rfl⟩
abbrev main_call0_call0_call5_v43 : Ref sig .tc := ⟨.hbm, 590, rfl⟩
abbrev main_call0_call0_call5_v44 : Ref sig .tc := ⟨.hbm, 591, rfl⟩
abbrev main_call0_call0_call5_v45 : Ref sig .tc := ⟨.hbm, 592, rfl⟩
abbrev main_call0_call0_call5_v46 : Ref sig .tc := ⟨.hbm, 593, rfl⟩
abbrev main_call0_call0_call5_v47 : Ref sig .tc := ⟨.hbm, 594, rfl⟩
abbrev main_call0_call0_call5_c_11 : Ref sig .tc := ⟨.hbm, 595, rfl⟩
abbrev main_call0_call0_call5_v48 : Ref sig .tc := ⟨.hbm, 596, rfl⟩
abbrev main_call0_call0_call5_v49 : Ref sig .tc := ⟨.hbm, 597, rfl⟩
abbrev main_call0_call0_call5_c_12 : Ref sig .tc := ⟨.hbm, 598, rfl⟩
abbrev main_call0_call0_call5_v50 : Ref sig .tc := ⟨.hbm, 599, rfl⟩
abbrev main_call0_call0_call5_v51 : Ref sig .tc := ⟨.hbm, 600, rfl⟩
abbrev main_call0_call0_call5_v52 : Ref sig .tc := ⟨.hbm, 601, rfl⟩
abbrev main_call0_call0_call5_v53 : Ref sig .tc := ⟨.hbm, 602, rfl⟩
abbrev main_call0_call0_call5_v54 : Ref sig .tc := ⟨.hbm, 603, rfl⟩
abbrev main_call0_call0_call5_c_13 : Ref sig .tc := ⟨.hbm, 604, rfl⟩
abbrev main_call0_call0_call5_v55 : Ref sig .tc := ⟨.hbm, 605, rfl⟩
abbrev main_call0_call0_call5_v56 : Ref sig .tc := ⟨.hbm, 606, rfl⟩
abbrev main_call0_call0_call5_c_14 : Ref sig .tc := ⟨.hbm, 607, rfl⟩
abbrev main_call0_call0_call5_v57 : Ref sig .tc := ⟨.hbm, 608, rfl⟩
abbrev main_call0_call0_call5_v58 : Ref sig .tc := ⟨.hbm, 609, rfl⟩
abbrev main_call0_call0_call5_v59 : Ref sig .tc := ⟨.hbm, 610, rfl⟩
abbrev main_call0_call0_call5_v60 : Ref sig .tc := ⟨.hbm, 611, rfl⟩
abbrev main_call0_call0_call5_v61 : Ref sig .tc := ⟨.hbm, 612, rfl⟩
abbrev main_call0_call0_call5_c_15 : Ref sig .tc := ⟨.hbm, 613, rfl⟩
abbrev main_call0_call0_call5_v62 : Ref sig .tc := ⟨.hbm, 614, rfl⟩
abbrev main_call0_call0_call5_v63 : Ref sig .tc := ⟨.hbm, 615, rfl⟩
abbrev main_call0_call0_call5_c_16 : Ref sig .tc := ⟨.hbm, 616, rfl⟩
abbrev main_call0_call0_call5_v64 : Ref sig .tc := ⟨.hbm, 617, rfl⟩
abbrev main_call0_call0_call5_v65 : Ref sig .tc := ⟨.hbm, 618, rfl⟩
abbrev main_call0_call0_call5_v66 : Ref sig .tc := ⟨.hbm, 619, rfl⟩
abbrev main_call0_call0_call5_v67 : Ref sig .tc := ⟨.hbm, 620, rfl⟩
abbrev main_call0_call0_call5_v68 : Ref sig .tc := ⟨.hbm, 621, rfl⟩
abbrev main_call0_call0_call5_v69 : Ref sig .tc := ⟨.hbm, 622, rfl⟩
abbrev main_call0_call0_call5_v70 : Ref sig .tc := ⟨.hbm, 623, rfl⟩
abbrev main_call0_call0_call5_v71 : Ref sig .tc := ⟨.hbm, 624, rfl⟩
abbrev main_call0_call0_call5_c_17 : Ref sig .tc := ⟨.hbm, 625, rfl⟩
abbrev main_call0_call0_call5_v72 : Ref sig .tc := ⟨.hbm, 626, rfl⟩
abbrev main_call0_call0_call5_v73 : Ref sig .tc := ⟨.hbm, 627, rfl⟩
abbrev main_call0_call0_call5_v74 : Ref sig .tc := ⟨.hbm, 628, rfl⟩
abbrev main_call0_call0_call5_c_18 : Ref sig .tc := ⟨.hbm, 629, rfl⟩
abbrev main_call0_call0_call5_v75 : Ref sig .tc := ⟨.hbm, 630, rfl⟩
abbrev main_call0_call0_call5_v76 : Ref sig .tc := ⟨.hbm, 631, rfl⟩
abbrev main_call0_call0_call5_c_19 : Ref sig .tc := ⟨.hbm, 632, rfl⟩
abbrev main_call0_call0_call5_v77 : Ref sig .tc := ⟨.hbm, 633, rfl⟩
abbrev main_call0_call0_call5_v78 : Ref sig .tc := ⟨.hbm, 634, rfl⟩
abbrev main_call0_call0_call5_v79 : Ref sig .tc := ⟨.hbm, 635, rfl⟩
abbrev main_call0_call0_call5_v80 : Ref sig .tc := ⟨.hbm, 636, rfl⟩
abbrev main_call0_call0_call5_v81 : Ref sig .tc := ⟨.hbm, 637, rfl⟩
abbrev main_call0_call0_call5_c_20 : Ref sig .tc := ⟨.hbm, 638, rfl⟩
abbrev main_call0_call0_call5_v82 : Ref sig .tc := ⟨.hbm, 639, rfl⟩
abbrev main_call0_call0_call5_v83 : Ref sig .tc := ⟨.hbm, 640, rfl⟩
abbrev main_call0_call0_call5_c_21 : Ref sig .tc := ⟨.hbm, 641, rfl⟩
abbrev main_call0_call0_call5_v84 : Ref sig .tc := ⟨.hbm, 642, rfl⟩
abbrev main_call0_call0_call5_v85 : Ref sig .tc := ⟨.hbm, 643, rfl⟩
abbrev main_call0_call0_call5_v86 : Ref sig .tc := ⟨.hbm, 644, rfl⟩
abbrev main_call0_call0_call5_v87 : Ref sig .tc := ⟨.hbm, 645, rfl⟩
abbrev main_call0_call0_call5_v88 : Ref sig .tc := ⟨.hbm, 646, rfl⟩
abbrev main_call0_call0_call5_c_22 : Ref sig .tc := ⟨.hbm, 647, rfl⟩
abbrev main_call0_call0_call5_v89 : Ref sig .tc := ⟨.hbm, 648, rfl⟩
abbrev main_call0_call0_call5_v90 : Ref sig .tc := ⟨.hbm, 649, rfl⟩
abbrev main_call0_call0_call5_c_23 : Ref sig .tc := ⟨.hbm, 650, rfl⟩
abbrev main_call0_call0_call5_v91 : Ref sig .tc := ⟨.hbm, 651, rfl⟩
abbrev main_call0_call0_call5_v92 : Ref sig .tc := ⟨.hbm, 652, rfl⟩
abbrev main_call0_call0_call5_v93 : Ref sig .tc := ⟨.hbm, 653, rfl⟩
abbrev main_call0_call0_call5_v94 : Ref sig .tc := ⟨.hbm, 654, rfl⟩
abbrev main_call0_call0_call5_v95 : Ref sig .tc := ⟨.hbm, 655, rfl⟩
abbrev main_call0_call0_call5_c_24 : Ref sig .tc := ⟨.hbm, 656, rfl⟩
abbrev main_call0_call0_call5_v96 : Ref sig .tc := ⟨.hbm, 657, rfl⟩
abbrev main_call0_call0_call5_v97 : Ref sig .tc := ⟨.hbm, 658, rfl⟩
abbrev main_call0_call0_call5_c_25 : Ref sig .tc := ⟨.hbm, 659, rfl⟩
abbrev main_call0_call0_call5_v98 : Ref sig .tc := ⟨.hbm, 660, rfl⟩
abbrev main_call0_call0_call5_v99 : Ref sig .tc := ⟨.hbm, 661, rfl⟩
abbrev main_call0_call0_call5_v100 : Ref sig .tc := ⟨.hbm, 662, rfl⟩
abbrev main_call0_call0_call5_v101 : Ref sig .tc := ⟨.hbm, 663, rfl⟩
abbrev main_call0_call0_call5_v102 : Ref sig .tc := ⟨.hbm, 664, rfl⟩
abbrev main_call0_call0_call5_v103 : Ref sig .tc := ⟨.hbm, 665, rfl⟩
abbrev main_call0_call0_call5_v104 : Ref sig .tc := ⟨.hbm, 666, rfl⟩
abbrev main_call0_call0_call5_v105 : Ref sig .tc := ⟨.hbm, 667, rfl⟩
abbrev main_call0_call0_call5_c_26 : Ref sig .tc := ⟨.hbm, 668, rfl⟩
abbrev main_call0_call0_call5_v106 : Ref sig .tc := ⟨.hbm, 669, rfl⟩
abbrev main_call0_call0_call5_v107 : Ref sig .tc := ⟨.hbm, 670, rfl⟩
abbrev main_call0_call0_call5_v108 : Ref sig .tc := ⟨.hbm, 671, rfl⟩
abbrev main_call0_call0_call5_c_27 : Ref sig .tc := ⟨.hbm, 672, rfl⟩
abbrev main_call0_call0_call5_v109 : Ref sig .tc := ⟨.hbm, 673, rfl⟩
abbrev main_call0_call0_call5_v110 : Ref sig .tc := ⟨.hbm, 674, rfl⟩
abbrev main_call0_call0_call5_c_28 : Ref sig .tc := ⟨.hbm, 675, rfl⟩
abbrev main_call0_call0_call5_v111 : Ref sig .tc := ⟨.hbm, 676, rfl⟩
abbrev main_call0_call0_call5_v112 : Ref sig .tc := ⟨.hbm, 677, rfl⟩
abbrev main_call0_call0_call5_v113 : Ref sig .tc := ⟨.hbm, 678, rfl⟩
abbrev main_call0_call0_call5_v114 : Ref sig .tc := ⟨.hbm, 679, rfl⟩
abbrev main_call0_call0_call5_v115 : Ref sig .tc := ⟨.hbm, 680, rfl⟩
abbrev main_call0_call0_call5_c_29 : Ref sig .tc := ⟨.hbm, 681, rfl⟩
abbrev main_call0_call0_call5_v116 : Ref sig .tc := ⟨.hbm, 682, rfl⟩
abbrev main_call0_call0_call5_v117 : Ref sig .tc := ⟨.hbm, 683, rfl⟩
abbrev main_call0_call0_call5_c_30 : Ref sig .tc := ⟨.hbm, 684, rfl⟩
abbrev main_call0_call0_call5_v118 : Ref sig .tc := ⟨.hbm, 685, rfl⟩
abbrev main_call0_call0_call5_v119 : Ref sig .tc := ⟨.hbm, 686, rfl⟩
abbrev main_call0_call0_call5_v120 : Ref sig .tc := ⟨.hbm, 687, rfl⟩
abbrev main_call0_call0_call5_v121 : Ref sig .tc := ⟨.hbm, 688, rfl⟩
abbrev main_call0_call0_call5_v122 : Ref sig .tc := ⟨.hbm, 689, rfl⟩
abbrev main_call0_call0_call5_c_31 : Ref sig .tc := ⟨.hbm, 690, rfl⟩
abbrev main_call0_call0_call5_v123 : Ref sig .tc := ⟨.hbm, 691, rfl⟩
abbrev main_call0_call0_call5_v124 : Ref sig .tc := ⟨.hbm, 692, rfl⟩
abbrev main_call0_call0_call5_c_32 : Ref sig .tc := ⟨.hbm, 693, rfl⟩
abbrev main_call0_call0_call5_v125 : Ref sig .tc := ⟨.hbm, 694, rfl⟩
abbrev main_call0_call0_call5_v126 : Ref sig .tc := ⟨.hbm, 695, rfl⟩
abbrev main_call0_call0_call5_v127 : Ref sig .tc := ⟨.hbm, 696, rfl⟩
abbrev main_call0_call0_call5_v128 : Ref sig .tc := ⟨.hbm, 697, rfl⟩
abbrev main_call0_call0_call5_v129 : Ref sig .tc := ⟨.hbm, 698, rfl⟩
abbrev main_call0_call0_call5_c_33 : Ref sig .tc := ⟨.hbm, 699, rfl⟩
abbrev main_call0_call0_call5_v130 : Ref sig .tc := ⟨.hbm, 700, rfl⟩
abbrev main_call0_call0_call5_v131 : Ref sig .tc := ⟨.hbm, 701, rfl⟩
abbrev main_call0_call0_call5_c_34 : Ref sig .tc := ⟨.hbm, 702, rfl⟩
abbrev main_call0_call0_call5_v132 : Ref sig .tc := ⟨.hbm, 703, rfl⟩
abbrev main_call0_call0_call5_v133 : Ref sig .tc := ⟨.hbm, 704, rfl⟩
abbrev main_call0_call0_call5_v134 : Ref sig .tc := ⟨.hbm, 705, rfl⟩
abbrev main_call0_call0_call5_v135 : Ref sig .tc := ⟨.hbm, 706, rfl⟩
abbrev main_call0_call0_call5_v136 : Ref sig .tc := ⟨.hbm, 707, rfl⟩
abbrev main_call0_call0_call5_v137 : Ref sig .tc := ⟨.hbm, 708, rfl⟩
abbrev main_call0_call0_call5_v138 : Ref sig .tc := ⟨.hbm, 709, rfl⟩
abbrev main_call0_call0_call5_v139 : Ref sig .tc := ⟨.hbm, 710, rfl⟩
abbrev main_call0_call0_call5_c_35 : Ref sig .tc := ⟨.hbm, 711, rfl⟩
abbrev main_call0_call0_call5_v140 : Ref sig .tc := ⟨.hbm, 712, rfl⟩
abbrev main_call0_call0_call5_v141 : Ref sig .tc := ⟨.hbm, 713, rfl⟩
abbrev main_call0_call0_call5_v142 : Ref sig .tc := ⟨.hbm, 714, rfl⟩
abbrev main_call0_call0_call5_c_36 : Ref sig .tc := ⟨.hbm, 715, rfl⟩
abbrev main_call0_call0_call5_v143 : Ref sig .tc := ⟨.hbm, 716, rfl⟩
abbrev main_call0_call0_call5_v144 : Ref sig .tc := ⟨.hbm, 717, rfl⟩
abbrev main_call0_call0_call5_c_37 : Ref sig .tc := ⟨.hbm, 718, rfl⟩
abbrev main_call0_call0_call5_v145 : Ref sig .tc := ⟨.hbm, 719, rfl⟩
abbrev main_call0_call0_call5_v146 : Ref sig .tc := ⟨.hbm, 720, rfl⟩
abbrev main_call0_call0_call5_v147 : Ref sig .tc := ⟨.hbm, 721, rfl⟩
abbrev main_call0_call0_call5_v148 : Ref sig .tc := ⟨.hbm, 722, rfl⟩
abbrev main_call0_call0_call5_v149 : Ref sig .tc := ⟨.hbm, 723, rfl⟩
abbrev main_call0_call0_call5_c_38 : Ref sig .tc := ⟨.hbm, 724, rfl⟩
abbrev main_call0_call0_call5_v150 : Ref sig .tc := ⟨.hbm, 725, rfl⟩
abbrev main_call0_call0_call5_v151 : Ref sig .tc := ⟨.hbm, 726, rfl⟩
abbrev main_call0_call0_call5_c_39 : Ref sig .tc := ⟨.hbm, 727, rfl⟩
abbrev main_call0_call0_call5_v152 : Ref sig .tc := ⟨.hbm, 728, rfl⟩
abbrev main_call0_call0_call5_v153 : Ref sig .tc := ⟨.hbm, 729, rfl⟩
abbrev main_call0_call0_call5_v154 : Ref sig .tc := ⟨.hbm, 730, rfl⟩
abbrev main_call0_call0_call5_v155 : Ref sig .tc := ⟨.hbm, 731, rfl⟩
abbrev main_call0_call0_call5_v156 : Ref sig .tc := ⟨.hbm, 732, rfl⟩
abbrev main_call0_call0_call5_c_40 : Ref sig .tc := ⟨.hbm, 733, rfl⟩
abbrev main_call0_call0_call5_v157 : Ref sig .tc := ⟨.hbm, 734, rfl⟩
abbrev main_call0_call0_call5_v158 : Ref sig .tc := ⟨.hbm, 735, rfl⟩
abbrev main_call0_call0_call5_c_41 : Ref sig .tc := ⟨.hbm, 736, rfl⟩
abbrev main_call0_call0_call5_v159 : Ref sig .tc := ⟨.hbm, 737, rfl⟩
abbrev main_call0_call0_call5_v160 : Ref sig .tc := ⟨.hbm, 738, rfl⟩
abbrev main_call0_call0_call5_v161 : Ref sig .tc := ⟨.hbm, 739, rfl⟩
abbrev main_call0_call0_call5_v162 : Ref sig .tc := ⟨.hbm, 740, rfl⟩
abbrev main_call0_call0_call5_v163 : Ref sig .tc := ⟨.hbm, 741, rfl⟩
abbrev main_call0_call0_call5_c_42 : Ref sig .tc := ⟨.hbm, 742, rfl⟩
abbrev main_call0_call0_call5_v164 : Ref sig .tc := ⟨.hbm, 743, rfl⟩
abbrev main_call0_call0_call5_v165 : Ref sig .tc := ⟨.hbm, 744, rfl⟩
abbrev main_call0_call0_call5_c_43 : Ref sig .tc := ⟨.hbm, 745, rfl⟩
abbrev main_call0_call0_call5_v166 : Ref sig .tc := ⟨.hbm, 746, rfl⟩
abbrev main_call0_call0_call5_v167 : Ref sig .tc := ⟨.hbm, 747, rfl⟩
abbrev main_call0_call0_call5_v168 : Ref sig .tc := ⟨.hbm, 748, rfl⟩
abbrev main_call0_call0_call5_v169 : Ref sig .tc := ⟨.hbm, 749, rfl⟩
abbrev main_call0_call0_call5_v170 : Ref sig .tc := ⟨.hbm, 750, rfl⟩
abbrev main_call0_call0_v45_0 : Ref sig .tc := ⟨.hbm, 751, rfl⟩
abbrev main_call0_call0_call5_v172 : Ref sig .tc := ⟨.hbm, 752, rfl⟩
abbrev main_call0_call0_call5_v173 : Ref sig .tc := ⟨.hbm, 753, rfl⟩
abbrev main_call0_call0_call5_c_44 : Ref sig .tc := ⟨.hbm, 754, rfl⟩
abbrev main_call0_call0_call5_v174 : Ref sig .tc := ⟨.hbm, 755, rfl⟩
abbrev main_call0_call0_v45_1 : Ref sig .tc := ⟨.hbm, 756, rfl⟩
abbrev main_call0_call0_v46 : Ref sig .tc := ⟨.hbm, 757, rfl⟩
abbrev main_call0_call0_v47 : Ref sig .tc := ⟨.hbm, 758, rfl⟩
abbrev main_call0_call0_v48 : Ref sig .tc := ⟨.hbm, 759, rfl⟩
abbrev main_call0_call0_v49 : Ref sig .tc := ⟨.hbm, 760, rfl⟩
abbrev main_call0_call0_c_12 : Ref sig .tc := ⟨.hbm, 761, rfl⟩
abbrev main_call0_call0_v50 : Ref sig .tc := ⟨.hbm, 762, rfl⟩
abbrev main_call0_call0_v51 : Ref sig .tc := ⟨.hbm, 763, rfl⟩
abbrev main_call0_call0_v52 : Ref sig .tc := ⟨.hbm, 764, rfl⟩
abbrev main_call0_call0_v53 : Ref sig .tc := ⟨.hbm, 765, rfl⟩
abbrev main_call0_call0_v54 : Ref sig .tc := ⟨.hbm, 766, rfl⟩
abbrev main_call0_call0_c_13 : Ref sig .tc := ⟨.hbm, 767, rfl⟩
abbrev main_call0_call0_v55 : Ref sig .tc := ⟨.hbm, 768, rfl⟩
abbrev main_call0_call0_v56 : Ref sig .tc := ⟨.hbm, 769, rfl⟩
abbrev main_call0_call0_v57 : Ref sig .tc := ⟨.hbm, 770, rfl⟩
abbrev main_call0_call0_c_14 : Ref sig .tc := ⟨.hbm, 771, rfl⟩
abbrev main_call0_call0_v58 : Ref sig .tc := ⟨.hbm, 772, rfl⟩
abbrev main_call0_call0_v59 : Ref sig .tc := ⟨.hbm, 773, rfl⟩
abbrev main_call0_call0_v60 : Ref sig .tc := ⟨.hbm, 774, rfl⟩
abbrev main_call0_call0_v61 : Ref sig .tc := ⟨.hbm, 775, rfl⟩
abbrev main_call0_call0_v62 : Ref sig .tc := ⟨.hbm, 776, rfl⟩
abbrev main_call0_call0_v63 : Ref sig .tc := ⟨.hbm, 777, rfl⟩
abbrev main_call0_call0_v64 : Ref sig .tc := ⟨.hbm, 778, rfl⟩
abbrev main_call0_call0_v65 : Ref sig .tc := ⟨.hbm, 779, rfl⟩
abbrev main_call0_call0_v66 : Ref sig .tc := ⟨.hbm, 780, rfl⟩
abbrev main_call0_call0_v67 : Ref sig .tc := ⟨.hbm, 781, rfl⟩
abbrev main_call0_call0_v68 : Ref sig .tc := ⟨.hbm, 782, rfl⟩
abbrev main_call0_call0_v69 : Ref sig .tc := ⟨.hbm, 783, rfl⟩
abbrev main_call0_call0_v70 : Ref sig .tc := ⟨.hbm, 784, rfl⟩
abbrev main_call0_call0_v71 : Ref sig .tc := ⟨.hbm, 785, rfl⟩
abbrev main_call0_call0_v72 : Ref sig .tc := ⟨.hbm, 786, rfl⟩
abbrev main_call0_v7 : Ref sig .tc := ⟨.hbm, 787, rfl⟩
abbrev main_call0_c_4 : Ref sig .tc := ⟨.hbm, 788, rfl⟩
abbrev main_call0_call1_v0 : Ref sig .tc := ⟨.hbm, 789, rfl⟩
abbrev main_call0_call1_c : Ref sig .tc := ⟨.hbm, 790, rfl⟩
abbrev main_call0_call1_v1 : Ref sig .tc := ⟨.hbm, 791, rfl⟩
abbrev main_call0_call1_c_0 : Ref sig .tc := ⟨.hbm, 792, rfl⟩
abbrev main_call0_call1_v2 : Ref sig .tc := ⟨.hbm, 793, rfl⟩
abbrev main_call0_call1_v3 : Ref sig .tc := ⟨.hbm, 794, rfl⟩
abbrev main_call0_call1_v4 : Ref sig .tc := ⟨.hbm, 795, rfl⟩
abbrev main_call0_call1_c_1 : Ref sig .tc := ⟨.hbm, 796, rfl⟩
abbrev main_call0_call1_v5 : Ref sig .tc := ⟨.hbm, 797, rfl⟩
abbrev main_call0_call1_v6 : Ref sig .tc := ⟨.hbm, 798, rfl⟩
abbrev main_call0_call1_c_2 : Ref sig .tc := ⟨.hbm, 799, rfl⟩
abbrev main_call0_call1_v7 : Ref sig .tc := ⟨.hbm, 800, rfl⟩
abbrev main_call0_call1_v8 : Ref sig .tc := ⟨.hbm, 801, rfl⟩
abbrev main_call0_call1_c_3 : Ref sig .tc := ⟨.hbm, 802, rfl⟩
abbrev main_call0_call1_v9 : Ref sig .tc := ⟨.hbm, 803, rfl⟩
abbrev main_call0_call1_v10 : Ref sig .tc := ⟨.hbm, 804, rfl⟩
abbrev main_call0_call1_v11 : Ref sig .tc := ⟨.hbm, 805, rfl⟩
abbrev main_call0_call1_v12 : Ref sig .tc := ⟨.hbm, 806, rfl⟩
abbrev main_call0_call1_v13 : Ref sig .tc := ⟨.hbm, 807, rfl⟩
abbrev main_call0_call1_v14 : Ref sig .tc := ⟨.hbm, 808, rfl⟩
abbrev main_call0_v8 : Ref sig .tc := ⟨.hbm, 809, rfl⟩
abbrev main_call0_c_5 : Ref sig .tc := ⟨.hbm, 810, rfl⟩
abbrev main_call0_v9 : Ref sig .tc := ⟨.hbm, 811, rfl⟩
abbrev main_call0_v10 : Ref sig .tc := ⟨.hbm, 812, rfl⟩
abbrev main_call0_c_6 : Ref sig .tc := ⟨.hbm, 813, rfl⟩
abbrev main_call0_call2_v0 : Ref sig .tc := ⟨.hbm, 814, rfl⟩
abbrev main_call0_call2_v1 : Ref sig .tc := ⟨.hbm, 815, rfl⟩
abbrev main_call0_call2_v2 : Ref sig .tc := ⟨.hbm, 816, rfl⟩
abbrev main_call0_call2_v3 : Ref sig .tc := ⟨.hbm, 817, rfl⟩
abbrev main_call0_call2_v4 : Ref sig .tc := ⟨.hbm, 818, rfl⟩
abbrev main_call0_call2_v5 : Ref sig .tc := ⟨.hbm, 819, rfl⟩
abbrev main_call0_call2_v6 : Ref sig .tc := ⟨.hbm, 820, rfl⟩
abbrev main_call0_call2_v7 : Ref sig .tc := ⟨.hbm, 821, rfl⟩
abbrev main_call0_call2_v8 : Ref sig .tc := ⟨.hbm, 822, rfl⟩
abbrev main_call0_call2_c : Ref sig .tc := ⟨.hbm, 823, rfl⟩
abbrev main_call0_call2_v9 : Ref sig .tc := ⟨.hbm, 824, rfl⟩
abbrev main_call0_call2_v10 : Ref sig .tc := ⟨.hbm, 825, rfl⟩
abbrev main_call0_call2_v11 : Ref sig .tc := ⟨.hbm, 826, rfl⟩
abbrev main_call0_call2_c_0 : Ref sig .tc := ⟨.hbm, 827, rfl⟩
abbrev main_call0_call2_v12 : Ref sig .tc := ⟨.hbm, 828, rfl⟩
abbrev main_call0_call2_v13 : Ref sig .tc := ⟨.hbm, 829, rfl⟩
abbrev main_call0_v11 : Ref sig .tc := ⟨.hbm, 830, rfl⟩
abbrev main_call0_c_7 : Ref sig .tc := ⟨.hbm, 831, rfl⟩
abbrev main_call0_v12 : Ref sig .tc := ⟨.hbm, 832, rfl⟩
abbrev main_call0_v13 : Ref sig .tc := ⟨.hbm, 833, rfl⟩
abbrev main_call0_v14 : Ref sig .tc := ⟨.hbm, 834, rfl⟩
abbrev main_call0_v15 : Ref sig .tc := ⟨.hbm, 835, rfl⟩
abbrev main_call0_v16 : Ref sig .tc := ⟨.hbm, 836, rfl⟩
abbrev main_call0_v17 : Ref sig .tc := ⟨.hbm, 837, rfl⟩
abbrev main_v0 : Ref sig .tc := ⟨.hbm, 838, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c2_i32 : BitVec 32 := 2#32
  let v3 : BitVec 32 := Scalar.addi c0_i32 c2_i32
  let c1_i32 : BitVec 32 := 1#32
  ⟨c0_i32, v3, c1_i32⟩
def k0_off1 (k0_t1 : Fin k0_t1_loop.trips) (c0_i32_349 : BitVec 32) : Fin 2 → Nat :=
  let c0_i32 : BitVec 32 := 0#32
  let c1_i32 : BitVec 32 := 1#32
  let arg10 : BitVec 32 := Scf.iv c0_i32 c1_i32 k0_t1
  let c8_i32 : BitVec 32 := 8#32
  let v549 : BitVec 32 := Scalar.muli arg10 c8_i32
  let v550 : BitVec 32 := Scalar.addi v549 c0_i32_349
  let c128_i32_350 : BitVec 32 := 128#32
  let v551 : BitVec 32 := Scalar.muli v550 c128_i32_350
  let v552 : Index := Scalar.indexCast v551
  let c0_351 : Index := 0#32
  ![v552.toNat, 0]
def k0_off2 (k0_t1 : Fin k0_t1_loop.trips) (c0_i32_349 : BitVec 32) : Fin 2 → Nat :=
  let c0_i32 : BitVec 32 := 0#32
  let c1_i32 : BitVec 32 := 1#32
  let arg10 : BitVec 32 := Scf.iv c0_i32 c1_i32 k0_t1
  let c8_i32 : BitVec 32 := 8#32
  let v549 : BitVec 32 := Scalar.muli arg10 c8_i32
  let v550 : BitVec 32 := Scalar.addi v549 c0_i32_349
  let c128_i32_354 : BitVec 32 := 128#32
  let v559 : BitVec 32 := Scalar.muli v550 c128_i32_354
  let v560 : Index := Scalar.indexCast v559
  let c0_355 : Index := 0#32
  ![v560.toNat, 0]
def k0_off3 (k0_t1 : Fin k0_t1_loop.trips) (c0_i32_349 : BitVec 32) : Fin 3 → Nat :=
  let c0_468 : Index := 0#32
  let c0_i32 : BitVec 32 := 0#32
  let c1_i32 : BitVec 32 := 1#32
  let arg10 : BitVec 32 := Scf.iv c0_i32 c1_i32 k0_t1
  let c8_i32 : BitVec 32 := 8#32
  let v549 : BitVec 32 := Scalar.muli arg10 c8_i32
  let v550 : BitVec 32 := Scalar.addi v549 c0_i32_349
  let v815 : Index := Scalar.indexCast v550
  let c0_469 : Index := 0#32
  ![0, v815.toNat, 0]
def k0_off4 (k0_t1 : Fin k0_t1_loop.trips) (c0_i32_349 : BitVec 32) : Fin 2 → Nat :=
  let c0_i32 : BitVec 32 := 0#32
  let c1_i32 : BitVec 32 := 1#32
  let arg10 : BitVec 32 := Scf.iv c0_i32 c1_i32 k0_t1
  let c8_i32 : BitVec 32 := 8#32
  let v549 : BitVec 32 := Scalar.muli arg10 c8_i32
  let v550 : BitVec 32 := Scalar.addi v549 c0_i32_349
  let c128_i32_470 : BitVec 32 := 128#32
  let v819 : BitVec 32 := Scalar.muli v550 c128_i32_470
  let v820 : Index := Scalar.indexCast v819
  let c64_471 : Index := 64#32
  ![v820.toNat, 64]
def k0_off5 (k0_t1 : Fin k0_t1_loop.trips) (c0_i32_349 : BitVec 32) : Fin 3 → Nat :=
  let c1_611 : Index := 1#32
  let c0_i32 : BitVec 32 := 0#32
  let c1_i32 : BitVec 32 := 1#32
  let arg10 : BitVec 32 := Scf.iv c0_i32 c1_i32 k0_t1
  let c8_i32 : BitVec 32 := 8#32
  let v549 : BitVec 32 := Scalar.muli arg10 c8_i32
  let v550 : BitVec 32 := Scalar.addi v549 c0_i32_349
  let v1075 : Index := Scalar.indexCast v550
  let c0_612 : Index := 0#32
  ![1, v1075.toNat, 0]
@[reducible] def k0_t2_loop : Scf.Loop 32 :=
  let c0_i32_5 : BitVec 32 := 0#32
  let c24_i32_6 : BitVec 32 := 24#32
  let v13 : BitVec 32 := Scalar.addi c0_i32_5 c24_i32_6
  let c1_i32_7 : BitVec 32 := 1#32
  ⟨c0_i32_5, v13, c1_i32_7⟩
def k0_off6 (k0_t2 : Fin k0_t2_loop.trips) : Fin 2 → Nat :=
  let c0_351 : Index := 0#32
  let c0_i32_5 : BitVec 32 := 0#32
  let c1_i32_7 : BitVec 32 := 1#32
  let arg10 : BitVec 32 := Scf.iv c0_i32_5 c1_i32_7 k0_t2
  let v561 : Index := Scalar.indexCast arg10
  ![0, v561.toNat]
def k0_off7 (k0_t2 : Fin k0_t2_loop.trips) : Fin 2 → Nat :=
  let c1_356 : Index := 1#32
  let c0_i32_5 : BitVec 32 := 0#32
  let c1_i32_7 : BitVec 32 := 1#32
  let arg10 : BitVec 32 := Scf.iv c0_i32_5 c1_i32_7 k0_t2
  let v579 : Index := Scalar.indexCast arg10
  ![1, v579.toNat]
def k0_off8 (v17 : BitVec 32) : Fin 2 → Nat :=
  let v18 : Index := Scalar.indexCast v17
  let c0_13 : Index := 0#32
  ![v18.toNat, 0]

def k0_chk1 (v17 : BitVec 32) : Prop :=
  (∀ a, (k0_off8 v17) a + S1x64.size a ≤ S2048x128.size a)
theorem k0_off8_inb : ∀ (v17 : BitVec 32) (k0_hw1 : k0_chk1 v17), ∀ a, (k0_off8 v17) a + S1x64.size a ≤ S2048x128.size a := fun v17 k0_hw1 => k0_hw1

def k0_off9 (v21 : BitVec 32) : Fin 2 → Nat :=
  let v22 : Index := Scalar.indexCast v21
  let c0_16 : Index := 0#32
  ![v22.toNat, 0]

def k0_chk2 (v21 : BitVec 32) : Prop :=
  (∀ a, (k0_off9 v21) a + S1x64.size a ≤ S2048x128.size a)
theorem k0_off9_inb : ∀ (v21 : BitVec 32) (k0_hw2 : k0_chk2 v21), ∀ a, (k0_off9 v21) a + S1x64.size a ≤ S2048x128.size a := fun v21 k0_hw2 => k0_hw2

def k0_off10 (v25 : BitVec 32) : Fin 2 → Nat :=
  let v26 : Index := Scalar.indexCast v25
  let c0_18 : Index := 0#32
  ![v26.toNat, 0]

def k0_chk3 (v25 : BitVec 32) : Prop :=
  (∀ a, (k0_off10 v25) a + S1x64.size a ≤ S2048x128.size a)
theorem k0_off10_inb : ∀ (v25 : BitVec 32) (k0_hw3 : k0_chk3 v25), ∀ a, (k0_off10 v25) a + S1x64.size a ≤ S2048x128.size a := fun v25 k0_hw3 => k0_hw3

def k0_off11 (v29 : BitVec 32) : Fin 2 → Nat :=
  let v30 : Index := Scalar.indexCast v29
  let c0_20 : Index := 0#32
  ![v30.toNat, 0]

def k0_chk4 (v29 : BitVec 32) : Prop :=
  (∀ a, (k0_off11 v29) a + S1x64.size a ≤ S2048x128.size a)
theorem k0_off11_inb : ∀ (v29 : BitVec 32) (k0_hw4 : k0_chk4 v29), ∀ a, (k0_off11 v29) a + S1x64.size a ≤ S2048x128.size a := fun v29 k0_hw4 => k0_hw4

def k0_off12 (v33 : BitVec 32) : Fin 2 → Nat :=
  let v34 : Index := Scalar.indexCast v33
  let c0_22 : Index := 0#32
  ![v34.toNat, 0]

def k0_chk5 (v33 : BitVec 32) : Prop :=
  (∀ a, (k0_off12 v33) a + S1x64.size a ≤ S2048x128.size a)
theorem k0_off12_inb : ∀ (v33 : BitVec 32) (k0_hw5 : k0_chk5 v33), ∀ a, (k0_off12 v33) a + S1x64.size a ≤ S2048x128.size a := fun v33 k0_hw5 => k0_hw5

def k0_off13 (v37 : BitVec 32) : Fin 2 → Nat :=
  let v38 : Index := Scalar.indexCast v37
  let c0_24 : Index := 0#32
  ![v38.toNat, 0]

def k0_chk6 (v37 : BitVec 32) : Prop :=
  (∀ a, (k0_off13 v37) a + S1x64.size a ≤ S2048x128.size a)
theorem k0_off13_inb : ∀ (v37 : BitVec 32) (k0_hw6 : k0_chk6 v37), ∀ a, (k0_off13 v37) a + S1x64.size a ≤ S2048x128.size a := fun v37 k0_hw6 => k0_hw6

def k0_off14 (v41 : BitVec 32) : Fin 2 → Nat :=
  let v42 : Index := Scalar.indexCast v41
  let c0_26 : Index := 0#32
  ![v42.toNat, 0]

def k0_chk7 (v41 : BitVec 32) : Prop :=
  (∀ a, (k0_off14 v41) a + S1x64.size a ≤ S2048x128.size a)
theorem k0_off14_inb : ∀ (v41 : BitVec 32) (k0_hw7 : k0_chk7 v41), ∀ a, (k0_off14 v41) a + S1x64.size a ≤ S2048x128.size a := fun v41 k0_hw7 => k0_hw7

def k0_off15 (v45 : BitVec 32) : Fin 2 → Nat :=
  let v46 : Index := Scalar.indexCast v45
  let c0_28 : Index := 0#32
  ![v46.toNat, 0]

def k0_chk8 (v45 : BitVec 32) : Prop :=
  (∀ a, (k0_off15 v45) a + S1x64.size a ≤ S2048x128.size a)
theorem k0_off15_inb : ∀ (v45 : BitVec 32) (k0_hw8 : k0_chk8 v45), ∀ a, (k0_off15 v45) a + S1x64.size a ≤ S2048x128.size a := fun v45 k0_hw8 => k0_hw8

def k0_off16 (v49 : BitVec 32) : Fin 2 → Nat :=
  let v50 : Index := Scalar.indexCast v49
  let c0_30 : Index := 0#32
  ![v50.toNat, 0]

def k0_chk9 (v49 : BitVec 32) : Prop :=
  (∀ a, (k0_off16 v49) a + S1x64.size a ≤ S2048x128.size a)
theorem k0_off16_inb : ∀ (v49 : BitVec 32) (k0_hw9 : k0_chk9 v49), ∀ a, (k0_off16 v49) a + S1x64.size a ≤ S2048x128.size a := fun v49 k0_hw9 => k0_hw9

def k0_off17 (v53 : BitVec 32) : Fin 2 → Nat :=
  let v54 : Index := Scalar.indexCast v53
  let c0_32 : Index := 0#32
  ![v54.toNat, 0]

def k0_chk10 (v53 : BitVec 32) : Prop :=
  (∀ a, (k0_off17 v53) a + S1x64.size a ≤ S2048x128.size a)
theorem k0_off17_inb : ∀ (v53 : BitVec 32) (k0_hw10 : k0_chk10 v53), ∀ a, (k0_off17 v53) a + S1x64.size a ≤ S2048x128.size a := fun v53 k0_hw10 => k0_hw10

def k0_off18 (v57 : BitVec 32) : Fin 2 → Nat :=
  let v58 : Index := Scalar.indexCast v57
  let c0_34 : Index := 0#32
  ![v58.toNat, 0]

def k0_chk11 (v57 : BitVec 32) : Prop :=
  (∀ a, (k0_off18 v57) a + S1x64.size a ≤ S2048x128.size a)
theorem k0_off18_inb : ∀ (v57 : BitVec 32) (k0_hw11 : k0_chk11 v57), ∀ a, (k0_off18 v57) a + S1x64.size a ≤ S2048x128.size a := fun v57 k0_hw11 => k0_hw11

def k0_off19 (v61 : BitVec 32) : Fin 2 → Nat :=
  let v62 : Index := Scalar.indexCast v61
  let c0_36 : Index := 0#32
  ![v62.toNat, 0]

def k0_chk12 (v61 : BitVec 32) : Prop :=
  (∀ a, (k0_off19 v61) a + S1x64.size a ≤ S2048x128.size a)
theorem k0_off19_inb : ∀ (v61 : BitVec 32) (k0_hw12 : k0_chk12 v61), ∀ a, (k0_off19 v61) a + S1x64.size a ≤ S2048x128.size a := fun v61 k0_hw12 => k0_hw12

def k0_off20 (v65 : BitVec 32) : Fin 2 → Nat :=
  let v66 : Index := Scalar.indexCast v65
  let c0_38 : Index := 0#32
  ![v66.toNat, 0]

def k0_chk13 (v65 : BitVec 32) : Prop :=
  (∀ a, (k0_off20 v65) a + S1x64.size a ≤ S2048x128.size a)
theorem k0_off20_inb : ∀ (v65 : BitVec 32) (k0_hw13 : k0_chk13 v65), ∀ a, (k0_off20 v65) a + S1x64.size a ≤ S2048x128.size a := fun v65 k0_hw13 => k0_hw13

def k0_off21 (v69 : BitVec 32) : Fin 2 → Nat :=
  let v70 : Index := Scalar.indexCast v69
  let c0_40 : Index := 0#32
  ![v70.toNat, 0]

def k0_chk14 (v69 : BitVec 32) : Prop :=
  (∀ a, (k0_off21 v69) a + S1x64.size a ≤ S2048x128.size a)
theorem k0_off21_inb : ∀ (v69 : BitVec 32) (k0_hw14 : k0_chk14 v69), ∀ a, (k0_off21 v69) a + S1x64.size a ≤ S2048x128.size a := fun v69 k0_hw14 => k0_hw14

def k0_off22 (v73 : BitVec 32) : Fin 2 → Nat :=
  let v74 : Index := Scalar.indexCast v73
  let c0_42 : Index := 0#32
  ![v74.toNat, 0]

def k0_chk15 (v73 : BitVec 32) : Prop :=
  (∀ a, (k0_off22 v73) a + S1x64.size a ≤ S2048x128.size a)
theorem k0_off22_inb : ∀ (v73 : BitVec 32) (k0_hw15 : k0_chk15 v73), ∀ a, (k0_off22 v73) a + S1x64.size a ≤ S2048x128.size a := fun v73 k0_hw15 => k0_hw15

def k0_off23 (v77 : BitVec 32) : Fin 2 → Nat :=
  let v78 : Index := Scalar.indexCast v77
  let c0_44 : Index := 0#32
  ![v78.toNat, 0]

def k0_chk16 (v77 : BitVec 32) : Prop :=
  (∀ a, (k0_off23 v77) a + S1x64.size a ≤ S2048x128.size a)
theorem k0_off23_inb : ∀ (v77 : BitVec 32) (k0_hw16 : k0_chk16 v77), ∀ a, (k0_off23 v77) a + S1x64.size a ≤ S2048x128.size a := fun v77 k0_hw16 => k0_hw16

def k0_off24 (v81 : BitVec 32) : Fin 2 → Nat :=
  let v82 : Index := Scalar.indexCast v81
  let c0_46 : Index := 0#32
  ![v82.toNat, 0]

def k0_chk17 (v81 : BitVec 32) : Prop :=
  (∀ a, (k0_off24 v81) a + S1x64.size a ≤ S2048x128.size a)
theorem k0_off24_inb : ∀ (v81 : BitVec 32) (k0_hw17 : k0_chk17 v81), ∀ a, (k0_off24 v81) a + S1x64.size a ≤ S2048x128.size a := fun v81 k0_hw17 => k0_hw17

def k0_off25 (v85 : BitVec 32) : Fin 2 → Nat :=
  let v86 : Index := Scalar.indexCast v85
  let c0_48 : Index := 0#32
  ![v86.toNat, 0]

def k0_chk18 (v85 : BitVec 32) : Prop :=
  (∀ a, (k0_off25 v85) a + S1x64.size a ≤ S2048x128.size a)
theorem k0_off25_inb : ∀ (v85 : BitVec 32) (k0_hw18 : k0_chk18 v85), ∀ a, (k0_off25 v85) a + S1x64.size a ≤ S2048x128.size a := fun v85 k0_hw18 => k0_hw18

def k0_off26 (v89 : BitVec 32) : Fin 2 → Nat :=
  let v90 : Index := Scalar.indexCast v89
  let c0_50 : Index := 0#32
  ![v90.toNat, 0]

def k0_chk19 (v89 : BitVec 32) : Prop :=
  (∀ a, (k0_off26 v89) a + S1x64.size a ≤ S2048x128.size a)
theorem k0_off26_inb : ∀ (v89 : BitVec 32) (k0_hw19 : k0_chk19 v89), ∀ a, (k0_off26 v89) a + S1x64.size a ≤ S2048x128.size a := fun v89 k0_hw19 => k0_hw19

def k0_off27 (v93 : BitVec 32) : Fin 2 → Nat :=
  let v94 : Index := Scalar.indexCast v93
  let c0_52 : Index := 0#32
  ![v94.toNat, 0]

def k0_chk20 (v93 : BitVec 32) : Prop :=
  (∀ a, (k0_off27 v93) a + S1x64.size a ≤ S2048x128.size a)
theorem k0_off27_inb : ∀ (v93 : BitVec 32) (k0_hw20 : k0_chk20 v93), ∀ a, (k0_off27 v93) a + S1x64.size a ≤ S2048x128.size a := fun v93 k0_hw20 => k0_hw20

def k0_off28 (v97 : BitVec 32) : Fin 2 → Nat :=
  let v98 : Index := Scalar.indexCast v97
  let c0_54 : Index := 0#32
  ![v98.toNat, 0]

def k0_chk21 (v97 : BitVec 32) : Prop :=
  (∀ a, (k0_off28 v97) a + S1x64.size a ≤ S2048x128.size a)
theorem k0_off28_inb : ∀ (v97 : BitVec 32) (k0_hw21 : k0_chk21 v97), ∀ a, (k0_off28 v97) a + S1x64.size a ≤ S2048x128.size a := fun v97 k0_hw21 => k0_hw21

def k0_off29 (v101 : BitVec 32) : Fin 2 → Nat :=
  let v102 : Index := Scalar.indexCast v101
  let c0_56 : Index := 0#32
  ![v102.toNat, 0]

def k0_chk22 (v101 : BitVec 32) : Prop :=
  (∀ a, (k0_off29 v101) a + S1x64.size a ≤ S2048x128.size a)
theorem k0_off29_inb : ∀ (v101 : BitVec 32) (k0_hw22 : k0_chk22 v101), ∀ a, (k0_off29 v101) a + S1x64.size a ≤ S2048x128.size a := fun v101 k0_hw22 => k0_hw22

def k0_off30 (v105 : BitVec 32) : Fin 2 → Nat :=
  let v106 : Index := Scalar.indexCast v105
  let c0_58 : Index := 0#32
  ![v106.toNat, 0]

def k0_chk23 (v105 : BitVec 32) : Prop :=
  (∀ a, (k0_off30 v105) a + S1x64.size a ≤ S2048x128.size a)
theorem k0_off30_inb : ∀ (v105 : BitVec 32) (k0_hw23 : k0_chk23 v105), ∀ a, (k0_off30 v105) a + S1x64.size a ≤ S2048x128.size a := fun v105 k0_hw23 => k0_hw23

def k0_off31 (v109 : BitVec 32) : Fin 2 → Nat :=
  let v110 : Index := Scalar.indexCast v109
  let c0_60 : Index := 0#32
  ![v110.toNat, 0]

def k0_chk24 (v109 : BitVec 32) : Prop :=
  (∀ a, (k0_off31 v109) a + S1x64.size a ≤ S2048x128.size a)
theorem k0_off31_inb : ∀ (v109 : BitVec 32) (k0_hw24 : k0_chk24 v109), ∀ a, (k0_off31 v109) a + S1x64.size a ≤ S2048x128.size a := fun v109 k0_hw24 => k0_hw24

def k0_off32 (v139 : BitVec 32) : Fin 3 → Nat :=
  let c0_74 : Index := 0#32
  let v140 : Index := Scalar.indexCast v139
  let c0_75 : Index := 0#32
  ![0, v140.toNat, 0]

def k0_chk25 (v139 : BitVec 32) : Prop :=
  (∀ a, (k0_off32 v139) a + S1x1x64.size a ≤ S2x2048x64.size a)
theorem k0_off32_inb : ∀ (v139 : BitVec 32) (k0_hw25 : k0_chk25 v139), ∀ a, (k0_off32 v139) a + S1x1x64.size a ≤ S2x2048x64.size a := fun v139 k0_hw25 => k0_hw25

def k0_off33 (v145 : BitVec 32) : Fin 3 → Nat :=
  let c0_78 : Index := 0#32
  let v146 : Index := Scalar.indexCast v145
  let c0_79 : Index := 0#32
  ![0, v146.toNat, 0]

def k0_chk26 (v145 : BitVec 32) : Prop :=
  (∀ a, (k0_off33 v145) a + S1x1x64.size a ≤ S2x2048x64.size a)
theorem k0_off33_inb : ∀ (v145 : BitVec 32) (k0_hw26 : k0_chk26 v145), ∀ a, (k0_off33 v145) a + S1x1x64.size a ≤ S2x2048x64.size a := fun v145 k0_hw26 => k0_hw26

def k0_off34 (v151 : BitVec 32) : Fin 3 → Nat :=
  let c0_82 : Index := 0#32
  let v152 : Index := Scalar.indexCast v151
  let c0_83 : Index := 0#32
  ![0, v152.toNat, 0]

def k0_chk27 (v151 : BitVec 32) : Prop :=
  (∀ a, (k0_off34 v151) a + S1x1x64.size a ≤ S2x2048x64.size a)
theorem k0_off34_inb : ∀ (v151 : BitVec 32) (k0_hw27 : k0_chk27 v151), ∀ a, (k0_off34 v151) a + S1x1x64.size a ≤ S2x2048x64.size a := fun v151 k0_hw27 => k0_hw27

def k0_off35 (v157 : BitVec 32) : Fin 3 → Nat :=
  let c0_86 : Index := 0#32
  let v158 : Index := Scalar.indexCast v157
  let c0_87 : Index := 0#32
  ![0, v158.toNat, 0]

def k0_chk28 (v157 : BitVec 32) : Prop :=
  (∀ a, (k0_off35 v157) a + S1x1x64.size a ≤ S2x2048x64.size a)
theorem k0_off35_inb : ∀ (v157 : BitVec 32) (k0_hw28 : k0_chk28 v157), ∀ a, (k0_off35 v157) a + S1x1x64.size a ≤ S2x2048x64.size a := fun v157 k0_hw28 => k0_hw28

def k0_off36 (v163 : BitVec 32) : Fin 3 → Nat :=
  let c0_90 : Index := 0#32
  let v164 : Index := Scalar.indexCast v163
  let c0_91 : Index := 0#32
  ![0, v164.toNat, 0]

def k0_chk29 (v163 : BitVec 32) : Prop :=
  (∀ a, (k0_off36 v163) a + S1x1x64.size a ≤ S2x2048x64.size a)
theorem k0_off36_inb : ∀ (v163 : BitVec 32) (k0_hw29 : k0_chk29 v163), ∀ a, (k0_off36 v163) a + S1x1x64.size a ≤ S2x2048x64.size a := fun v163 k0_hw29 => k0_hw29

def k0_off37 (v169 : BitVec 32) : Fin 3 → Nat :=
  let c0_94 : Index := 0#32
  let v170 : Index := Scalar.indexCast v169
  let c0_95 : Index := 0#32
  ![0, v170.toNat, 0]

def k0_chk30 (v169 : BitVec 32) : Prop :=
  (∀ a, (k0_off37 v169) a + S1x1x64.size a ≤ S2x2048x64.size a)
theorem k0_off37_inb : ∀ (v169 : BitVec 32) (k0_hw30 : k0_chk30 v169), ∀ a, (k0_off37 v169) a + S1x1x64.size a ≤ S2x2048x64.size a := fun v169 k0_hw30 => k0_hw30

def k0_off38 (v175 : BitVec 32) : Fin 3 → Nat :=
  let c0_98 : Index := 0#32
  let v176 : Index := Scalar.indexCast v175
  let c0_99 : Index := 0#32
  ![0, v176.toNat, 0]

def k0_chk31 (v175 : BitVec 32) : Prop :=
  (∀ a, (k0_off38 v175) a + S1x1x64.size a ≤ S2x2048x64.size a)
theorem k0_off38_inb : ∀ (v175 : BitVec 32) (k0_hw31 : k0_chk31 v175), ∀ a, (k0_off38 v175) a + S1x1x64.size a ≤ S2x2048x64.size a := fun v175 k0_hw31 => k0_hw31

def k0_off39 (v181 : BitVec 32) : Fin 3 → Nat :=
  let c0_102 : Index := 0#32
  let v182 : Index := Scalar.indexCast v181
  let c0_103 : Index := 0#32
  ![0, v182.toNat, 0]

def k0_chk32 (v181 : BitVec 32) : Prop :=
  (∀ a, (k0_off39 v181) a + S1x1x64.size a ≤ S2x2048x64.size a)
theorem k0_off39_inb : ∀ (v181 : BitVec 32) (k0_hw32 : k0_chk32 v181), ∀ a, (k0_off39 v181) a + S1x1x64.size a ≤ S2x2048x64.size a := fun v181 k0_hw32 => k0_hw32

def k0_off40 (v187 : BitVec 32) : Fin 3 → Nat :=
  let c0_106 : Index := 0#32
  let v188 : Index := Scalar.indexCast v187
  let c0_107 : Index := 0#32
  ![0, v188.toNat, 0]

def k0_chk33 (v187 : BitVec 32) : Prop :=
  (∀ a, (k0_off40 v187) a + S1x1x64.size a ≤ S2x2048x64.size a)
theorem k0_off40_inb : ∀ (v187 : BitVec 32) (k0_hw33 : k0_chk33 v187), ∀ a, (k0_off40 v187) a + S1x1x64.size a ≤ S2x2048x64.size a := fun v187 k0_hw33 => k0_hw33

def k0_off41 (v193 : BitVec 32) : Fin 3 → Nat :=
  let c0_110 : Index := 0#32
  let v194 : Index := Scalar.indexCast v193
  let c0_111 : Index := 0#32
  ![0, v194.toNat, 0]

def k0_chk34 (v193 : BitVec 32) : Prop :=
  (∀ a, (k0_off41 v193) a + S1x1x64.size a ≤ S2x2048x64.size a)
theorem k0_off41_inb : ∀ (v193 : BitVec 32) (k0_hw34 : k0_chk34 v193), ∀ a, (k0_off41 v193) a + S1x1x64.size a ≤ S2x2048x64.size a := fun v193 k0_hw34 => k0_hw34

def k0_off42 (v199 : BitVec 32) : Fin 3 → Nat :=
  let c0_114 : Index := 0#32
  let v200 : Index := Scalar.indexCast v199
  let c0_115 : Index := 0#32
  ![0, v200.toNat, 0]

def k0_chk35 (v199 : BitVec 32) : Prop :=
  (∀ a, (k0_off42 v199) a + S1x1x64.size a ≤ S2x2048x64.size a)
theorem k0_off42_inb : ∀ (v199 : BitVec 32) (k0_hw35 : k0_chk35 v199), ∀ a, (k0_off42 v199) a + S1x1x64.size a ≤ S2x2048x64.size a := fun v199 k0_hw35 => k0_hw35

def k0_off43 (v205 : BitVec 32) : Fin 3 → Nat :=
  let c0_118 : Index := 0#32
  let v206 : Index := Scalar.indexCast v205
  let c0_119 : Index := 0#32
  ![0, v206.toNat, 0]

def k0_chk36 (v205 : BitVec 32) : Prop :=
  (∀ a, (k0_off43 v205) a + S1x1x64.size a ≤ S2x2048x64.size a)
theorem k0_off43_inb : ∀ (v205 : BitVec 32) (k0_hw36 : k0_chk36 v205), ∀ a, (k0_off43 v205) a + S1x1x64.size a ≤ S2x2048x64.size a := fun v205 k0_hw36 => k0_hw36

def k0_off44 (v211 : BitVec 32) : Fin 3 → Nat :=
  let c0_122 : Index := 0#32
  let v212 : Index := Scalar.indexCast v211
  let c0_123 : Index := 0#32
  ![0, v212.toNat, 0]

def k0_chk37 (v211 : BitVec 32) : Prop :=
  (∀ a, (k0_off44 v211) a + S1x1x64.size a ≤ S2x2048x64.size a)
theorem k0_off44_inb : ∀ (v211 : BitVec 32) (k0_hw37 : k0_chk37 v211), ∀ a, (k0_off44 v211) a + S1x1x64.size a ≤ S2x2048x64.size a := fun v211 k0_hw37 => k0_hw37

def k0_off45 (v217 : BitVec 32) : Fin 3 → Nat :=
  let c0_126 : Index := 0#32
  let v218 : Index := Scalar.indexCast v217
  let c0_127 : Index := 0#32
  ![0, v218.toNat, 0]

def k0_chk38 (v217 : BitVec 32) : Prop :=
  (∀ a, (k0_off45 v217) a + S1x1x64.size a ≤ S2x2048x64.size a)
theorem k0_off45_inb : ∀ (v217 : BitVec 32) (k0_hw38 : k0_chk38 v217), ∀ a, (k0_off45 v217) a + S1x1x64.size a ≤ S2x2048x64.size a := fun v217 k0_hw38 => k0_hw38

def k0_off46 (v223 : BitVec 32) : Fin 3 → Nat :=
  let c0_130 : Index := 0#32
  let v224 : Index := Scalar.indexCast v223
  let c0_131 : Index := 0#32
  ![0, v224.toNat, 0]

def k0_chk39 (v223 : BitVec 32) : Prop :=
  (∀ a, (k0_off46 v223) a + S1x1x64.size a ≤ S2x2048x64.size a)
theorem k0_off46_inb : ∀ (v223 : BitVec 32) (k0_hw39 : k0_chk39 v223), ∀ a, (k0_off46 v223) a + S1x1x64.size a ≤ S2x2048x64.size a := fun v223 k0_hw39 => k0_hw39

def k0_off47 (v229 : BitVec 32) : Fin 3 → Nat :=
  let c0_134 : Index := 0#32
  let v230 : Index := Scalar.indexCast v229
  let c0_135 : Index := 0#32
  ![0, v230.toNat, 0]

def k0_chk40 (v229 : BitVec 32) : Prop :=
  (∀ a, (k0_off47 v229) a + S1x1x64.size a ≤ S2x2048x64.size a)
theorem k0_off47_inb : ∀ (v229 : BitVec 32) (k0_hw40 : k0_chk40 v229), ∀ a, (k0_off47 v229) a + S1x1x64.size a ≤ S2x2048x64.size a := fun v229 k0_hw40 => k0_hw40

def k0_off48 (v235 : BitVec 32) : Fin 3 → Nat :=
  let c0_138 : Index := 0#32
  let v236 : Index := Scalar.indexCast v235
  let c0_139 : Index := 0#32
  ![0, v236.toNat, 0]

def k0_chk41 (v235 : BitVec 32) : Prop :=
  (∀ a, (k0_off48 v235) a + S1x1x64.size a ≤ S2x2048x64.size a)
theorem k0_off48_inb : ∀ (v235 : BitVec 32) (k0_hw41 : k0_chk41 v235), ∀ a, (k0_off48 v235) a + S1x1x64.size a ≤ S2x2048x64.size a := fun v235 k0_hw41 => k0_hw41

def k0_off49 (v241 : BitVec 32) : Fin 3 → Nat :=
  let c0_142 : Index := 0#32
  let v242 : Index := Scalar.indexCast v241
  let c0_143 : Index := 0#32
  ![0, v242.toNat, 0]

def k0_chk42 (v241 : BitVec 32) : Prop :=
  (∀ a, (k0_off49 v241) a + S1x1x64.size a ≤ S2x2048x64.size a)
theorem k0_off49_inb : ∀ (v241 : BitVec 32) (k0_hw42 : k0_chk42 v241), ∀ a, (k0_off49 v241) a + S1x1x64.size a ≤ S2x2048x64.size a := fun v241 k0_hw42 => k0_hw42

def k0_off50 (v247 : BitVec 32) : Fin 3 → Nat :=
  let c0_146 : Index := 0#32
  let v248 : Index := Scalar.indexCast v247
  let c0_147 : Index := 0#32
  ![0, v248.toNat, 0]

def k0_chk43 (v247 : BitVec 32) : Prop :=
  (∀ a, (k0_off50 v247) a + S1x1x64.size a ≤ S2x2048x64.size a)
theorem k0_off50_inb : ∀ (v247 : BitVec 32) (k0_hw43 : k0_chk43 v247), ∀ a, (k0_off50 v247) a + S1x1x64.size a ≤ S2x2048x64.size a := fun v247 k0_hw43 => k0_hw43

def k0_off51 (v253 : BitVec 32) : Fin 3 → Nat :=
  let c0_150 : Index := 0#32
  let v254 : Index := Scalar.indexCast v253
  let c0_151 : Index := 0#32
  ![0, v254.toNat, 0]

def k0_chk44 (v253 : BitVec 32) : Prop :=
  (∀ a, (k0_off51 v253) a + S1x1x64.size a ≤ S2x2048x64.size a)
theorem k0_off51_inb : ∀ (v253 : BitVec 32) (k0_hw44 : k0_chk44 v253), ∀ a, (k0_off51 v253) a + S1x1x64.size a ≤ S2x2048x64.size a := fun v253 k0_hw44 => k0_hw44

def k0_off52 (v259 : BitVec 32) : Fin 3 → Nat :=
  let c0_154 : Index := 0#32
  let v260 : Index := Scalar.indexCast v259
  let c0_155 : Index := 0#32
  ![0, v260.toNat, 0]

def k0_chk45 (v259 : BitVec 32) : Prop :=
  (∀ a, (k0_off52 v259) a + S1x1x64.size a ≤ S2x2048x64.size a)
theorem k0_off52_inb : ∀ (v259 : BitVec 32) (k0_hw45 : k0_chk45 v259), ∀ a, (k0_off52 v259) a + S1x1x64.size a ≤ S2x2048x64.size a := fun v259 k0_hw45 => k0_hw45

def k0_off53 (v265 : BitVec 32) : Fin 3 → Nat :=
  let c0_158 : Index := 0#32
  let v266 : Index := Scalar.indexCast v265
  let c0_159 : Index := 0#32
  ![0, v266.toNat, 0]

def k0_chk46 (v265 : BitVec 32) : Prop :=
  (∀ a, (k0_off53 v265) a + S1x1x64.size a ≤ S2x2048x64.size a)
theorem k0_off53_inb : ∀ (v265 : BitVec 32) (k0_hw46 : k0_chk46 v265), ∀ a, (k0_off53 v265) a + S1x1x64.size a ≤ S2x2048x64.size a := fun v265 k0_hw46 => k0_hw46

def k0_off54 (v271 : BitVec 32) : Fin 3 → Nat :=
  let c0_162 : Index := 0#32
  let v272 : Index := Scalar.indexCast v271
  let c0_163 : Index := 0#32
  ![0, v272.toNat, 0]

def k0_chk47 (v271 : BitVec 32) : Prop :=
  (∀ a, (k0_off54 v271) a + S1x1x64.size a ≤ S2x2048x64.size a)
theorem k0_off54_inb : ∀ (v271 : BitVec 32) (k0_hw47 : k0_chk47 v271), ∀ a, (k0_off54 v271) a + S1x1x64.size a ≤ S2x2048x64.size a := fun v271 k0_hw47 => k0_hw47

def k0_off55 (v277 : BitVec 32) : Fin 3 → Nat :=
  let c0_166 : Index := 0#32
  let v278 : Index := Scalar.indexCast v277
  let c0_167 : Index := 0#32
  ![0, v278.toNat, 0]

def k0_chk48 (v277 : BitVec 32) : Prop :=
  (∀ a, (k0_off55 v277) a + S1x1x64.size a ≤ S2x2048x64.size a)
theorem k0_off55_inb : ∀ (v277 : BitVec 32) (k0_hw48 : k0_chk48 v277), ∀ a, (k0_off55 v277) a + S1x1x64.size a ≤ S2x2048x64.size a := fun v277 k0_hw48 => k0_hw48

def k0_off56 (v284 : BitVec 32) : Fin 2 → Nat :=
  let v285 : Index := Scalar.indexCast v284
  let c64_171 : Index := 64#32
  ![v285.toNat, 64]

def k0_chk49 (v284 : BitVec 32) : Prop :=
  (∀ a, (k0_off56 v284) a + S1x64.size a ≤ S2048x128.size a)
theorem k0_off56_inb : ∀ (v284 : BitVec 32) (k0_hw49 : k0_chk49 v284), ∀ a, (k0_off56 v284) a + S1x64.size a ≤ S2048x128.size a := fun v284 k0_hw49 => k0_hw49

def k0_off57 (v288 : BitVec 32) : Fin 2 → Nat :=
  let v289 : Index := Scalar.indexCast v288
  let c64_174 : Index := 64#32
  ![v289.toNat, 64]

def k0_chk50 (v288 : BitVec 32) : Prop :=
  (∀ a, (k0_off57 v288) a + S1x64.size a ≤ S2048x128.size a)
theorem k0_off57_inb : ∀ (v288 : BitVec 32) (k0_hw50 : k0_chk50 v288), ∀ a, (k0_off57 v288) a + S1x64.size a ≤ S2048x128.size a := fun v288 k0_hw50 => k0_hw50

def k0_off58 (v292 : BitVec 32) : Fin 2 → Nat :=
  let v293 : Index := Scalar.indexCast v292
  let c64_177 : Index := 64#32
  ![v293.toNat, 64]

def k0_chk51 (v292 : BitVec 32) : Prop :=
  (∀ a, (k0_off58 v292) a + S1x64.size a ≤ S2048x128.size a)
theorem k0_off58_inb : ∀ (v292 : BitVec 32) (k0_hw51 : k0_chk51 v292), ∀ a, (k0_off58 v292) a + S1x64.size a ≤ S2048x128.size a := fun v292 k0_hw51 => k0_hw51

def k0_off59 (v296 : BitVec 32) : Fin 2 → Nat :=
  let v297 : Index := Scalar.indexCast v296
  let c64_180 : Index := 64#32
  ![v297.toNat, 64]

def k0_chk52 (v296 : BitVec 32) : Prop :=
  (∀ a, (k0_off59 v296) a + S1x64.size a ≤ S2048x128.size a)
theorem k0_off59_inb : ∀ (v296 : BitVec 32) (k0_hw52 : k0_chk52 v296), ∀ a, (k0_off59 v296) a + S1x64.size a ≤ S2048x128.size a := fun v296 k0_hw52 => k0_hw52

def k0_off60 (v300 : BitVec 32) : Fin 2 → Nat :=
  let v301 : Index := Scalar.indexCast v300
  let c64_183 : Index := 64#32
  ![v301.toNat, 64]

def k0_chk53 (v300 : BitVec 32) : Prop :=
  (∀ a, (k0_off60 v300) a + S1x64.size a ≤ S2048x128.size a)
theorem k0_off60_inb : ∀ (v300 : BitVec 32) (k0_hw53 : k0_chk53 v300), ∀ a, (k0_off60 v300) a + S1x64.size a ≤ S2048x128.size a := fun v300 k0_hw53 => k0_hw53

def k0_off61 (v304 : BitVec 32) : Fin 2 → Nat :=
  let v305 : Index := Scalar.indexCast v304
  let c64_186 : Index := 64#32
  ![v305.toNat, 64]

def k0_chk54 (v304 : BitVec 32) : Prop :=
  (∀ a, (k0_off61 v304) a + S1x64.size a ≤ S2048x128.size a)
theorem k0_off61_inb : ∀ (v304 : BitVec 32) (k0_hw54 : k0_chk54 v304), ∀ a, (k0_off61 v304) a + S1x64.size a ≤ S2048x128.size a := fun v304 k0_hw54 => k0_hw54

def k0_off62 (v308 : BitVec 32) : Fin 2 → Nat :=
  let v309 : Index := Scalar.indexCast v308
  let c64_189 : Index := 64#32
  ![v309.toNat, 64]

def k0_chk55 (v308 : BitVec 32) : Prop :=
  (∀ a, (k0_off62 v308) a + S1x64.size a ≤ S2048x128.size a)
theorem k0_off62_inb : ∀ (v308 : BitVec 32) (k0_hw55 : k0_chk55 v308), ∀ a, (k0_off62 v308) a + S1x64.size a ≤ S2048x128.size a := fun v308 k0_hw55 => k0_hw55

def k0_off63 (v312 : BitVec 32) : Fin 2 → Nat :=
  let v313 : Index := Scalar.indexCast v312
  let c64_192 : Index := 64#32
  ![v313.toNat, 64]

def k0_chk56 (v312 : BitVec 32) : Prop :=
  (∀ a, (k0_off63 v312) a + S1x64.size a ≤ S2048x128.size a)
theorem k0_off63_inb : ∀ (v312 : BitVec 32) (k0_hw56 : k0_chk56 v312), ∀ a, (k0_off63 v312) a + S1x64.size a ≤ S2048x128.size a := fun v312 k0_hw56 => k0_hw56

def k0_off64 (v316 : BitVec 32) : Fin 2 → Nat :=
  let v317 : Index := Scalar.indexCast v316
  let c64_195 : Index := 64#32
  ![v317.toNat, 64]

def k0_chk57 (v316 : BitVec 32) : Prop :=
  (∀ a, (k0_off64 v316) a + S1x64.size a ≤ S2048x128.size a)
theorem k0_off64_inb : ∀ (v316 : BitVec 32) (k0_hw57 : k0_chk57 v316), ∀ a, (k0_off64 v316) a + S1x64.size a ≤ S2048x128.size a := fun v316 k0_hw57 => k0_hw57

def k0_off65 (v320 : BitVec 32) : Fin 2 → Nat :=
  let v321 : Index := Scalar.indexCast v320
  let c64_198 : Index := 64#32
  ![v321.toNat, 64]

def k0_chk58 (v320 : BitVec 32) : Prop :=
  (∀ a, (k0_off65 v320) a + S1x64.size a ≤ S2048x128.size a)
theorem k0_off65_inb : ∀ (v320 : BitVec 32) (k0_hw58 : k0_chk58 v320), ∀ a, (k0_off65 v320) a + S1x64.size a ≤ S2048x128.size a := fun v320 k0_hw58 => k0_hw58

def k0_off66 (v324 : BitVec 32) : Fin 2 → Nat :=
  let v325 : Index := Scalar.indexCast v324
  let c64_201 : Index := 64#32
  ![v325.toNat, 64]

def k0_chk59 (v324 : BitVec 32) : Prop :=
  (∀ a, (k0_off66 v324) a + S1x64.size a ≤ S2048x128.size a)
theorem k0_off66_inb : ∀ (v324 : BitVec 32) (k0_hw59 : k0_chk59 v324), ∀ a, (k0_off66 v324) a + S1x64.size a ≤ S2048x128.size a := fun v324 k0_hw59 => k0_hw59

def k0_off67 (v328 : BitVec 32) : Fin 2 → Nat :=
  let v329 : Index := Scalar.indexCast v328
  let c64_204 : Index := 64#32
  ![v329.toNat, 64]

def k0_chk60 (v328 : BitVec 32) : Prop :=
  (∀ a, (k0_off67 v328) a + S1x64.size a ≤ S2048x128.size a)
theorem k0_off67_inb : ∀ (v328 : BitVec 32) (k0_hw60 : k0_chk60 v328), ∀ a, (k0_off67 v328) a + S1x64.size a ≤ S2048x128.size a := fun v328 k0_hw60 => k0_hw60

def k0_off68 (v332 : BitVec 32) : Fin 2 → Nat :=
  let v333 : Index := Scalar.indexCast v332
  let c64_207 : Index := 64#32
  ![v333.toNat, 64]

def k0_chk61 (v332 : BitVec 32) : Prop :=
  (∀ a, (k0_off68 v332) a + S1x64.size a ≤ S2048x128.size a)
theorem k0_off68_inb : ∀ (v332 : BitVec 32) (k0_hw61 : k0_chk61 v332), ∀ a, (k0_off68 v332) a + S1x64.size a ≤ S2048x128.size a := fun v332 k0_hw61 => k0_hw61

def k0_off69 (v336 : BitVec 32) : Fin 2 → Nat :=
  let v337 : Index := Scalar.indexCast v336
  let c64_210 : Index := 64#32
  ![v337.toNat, 64]

def k0_chk62 (v336 : BitVec 32) : Prop :=
  (∀ a, (k0_off69 v336) a + S1x64.size a ≤ S2048x128.size a)
theorem k0_off69_inb : ∀ (v336 : BitVec 32) (k0_hw62 : k0_chk62 v336), ∀ a, (k0_off69 v336) a + S1x64.size a ≤ S2048x128.size a := fun v336 k0_hw62 => k0_hw62

def k0_off70 (v340 : BitVec 32) : Fin 2 → Nat :=
  let v341 : Index := Scalar.indexCast v340
  let c64_213 : Index := 64#32
  ![v341.toNat, 64]

def k0_chk63 (v340 : BitVec 32) : Prop :=
  (∀ a, (k0_off70 v340) a + S1x64.size a ≤ S2048x128.size a)
theorem k0_off70_inb : ∀ (v340 : BitVec 32) (k0_hw63 : k0_chk63 v340), ∀ a, (k0_off70 v340) a + S1x64.size a ≤ S2048x128.size a := fun v340 k0_hw63 => k0_hw63

def k0_off71 (v344 : BitVec 32) : Fin 2 → Nat :=
  let v345 : Index := Scalar.indexCast v344
  let c64_216 : Index := 64#32
  ![v345.toNat, 64]

def k0_chk64 (v344 : BitVec 32) : Prop :=
  (∀ a, (k0_off71 v344) a + S1x64.size a ≤ S2048x128.size a)
theorem k0_off71_inb : ∀ (v344 : BitVec 32) (k0_hw64 : k0_chk64 v344), ∀ a, (k0_off71 v344) a + S1x64.size a ≤ S2048x128.size a := fun v344 k0_hw64 => k0_hw64

def k0_off72 (v348 : BitVec 32) : Fin 2 → Nat :=
  let v349 : Index := Scalar.indexCast v348
  let c64_219 : Index := 64#32
  ![v349.toNat, 64]

def k0_chk65 (v348 : BitVec 32) : Prop :=
  (∀ a, (k0_off72 v348) a + S1x64.size a ≤ S2048x128.size a)
theorem k0_off72_inb : ∀ (v348 : BitVec 32) (k0_hw65 : k0_chk65 v348), ∀ a, (k0_off72 v348) a + S1x64.size a ≤ S2048x128.size a := fun v348 k0_hw65 => k0_hw65

def k0_off73 (v352 : BitVec 32) : Fin 2 → Nat :=
  let v353 : Index := Scalar.indexCast v352
  let c64_222 : Index := 64#32
  ![v353.toNat, 64]

def k0_chk66 (v352 : BitVec 32) : Prop :=
  (∀ a, (k0_off73 v352) a + S1x64.size a ≤ S2048x128.size a)
theorem k0_off73_inb : ∀ (v352 : BitVec 32) (k0_hw66 : k0_chk66 v352), ∀ a, (k0_off73 v352) a + S1x64.size a ≤ S2048x128.size a := fun v352 k0_hw66 => k0_hw66

def k0_off74 (v356 : BitVec 32) : Fin 2 → Nat :=
  let v357 : Index := Scalar.indexCast v356
  let c64_225 : Index := 64#32
  ![v357.toNat, 64]

def k0_chk67 (v356 : BitVec 32) : Prop :=
  (∀ a, (k0_off74 v356) a + S1x64.size a ≤ S2048x128.size a)
theorem k0_off74_inb : ∀ (v356 : BitVec 32) (k0_hw67 : k0_chk67 v356), ∀ a, (k0_off74 v356) a + S1x64.size a ≤ S2048x128.size a := fun v356 k0_hw67 => k0_hw67

def k0_off75 (v360 : BitVec 32) : Fin 2 → Nat :=
  let v361 : Index := Scalar.indexCast v360
  let c64_228 : Index := 64#32
  ![v361.toNat, 64]

def k0_chk68 (v360 : BitVec 32) : Prop :=
  (∀ a, (k0_off75 v360) a + S1x64.size a ≤ S2048x128.size a)
theorem k0_off75_inb : ∀ (v360 : BitVec 32) (k0_hw68 : k0_chk68 v360), ∀ a, (k0_off75 v360) a + S1x64.size a ≤ S2048x128.size a := fun v360 k0_hw68 => k0_hw68

def k0_off76 (v364 : BitVec 32) : Fin 2 → Nat :=
  let v365 : Index := Scalar.indexCast v364
  let c64_231 : Index := 64#32
  ![v365.toNat, 64]

def k0_chk69 (v364 : BitVec 32) : Prop :=
  (∀ a, (k0_off76 v364) a + S1x64.size a ≤ S2048x128.size a)
theorem k0_off76_inb : ∀ (v364 : BitVec 32) (k0_hw69 : k0_chk69 v364), ∀ a, (k0_off76 v364) a + S1x64.size a ≤ S2048x128.size a := fun v364 k0_hw69 => k0_hw69

def k0_off77 (v368 : BitVec 32) : Fin 2 → Nat :=
  let v369 : Index := Scalar.indexCast v368
  let c64_234 : Index := 64#32
  ![v369.toNat, 64]

def k0_chk70 (v368 : BitVec 32) : Prop :=
  (∀ a, (k0_off77 v368) a + S1x64.size a ≤ S2048x128.size a)
theorem k0_off77_inb : ∀ (v368 : BitVec 32) (k0_hw70 : k0_chk70 v368), ∀ a, (k0_off77 v368) a + S1x64.size a ≤ S2048x128.size a := fun v368 k0_hw70 => k0_hw70

def k0_off78 (v372 : BitVec 32) : Fin 2 → Nat :=
  let v373 : Index := Scalar.indexCast v372
  let c64_237 : Index := 64#32
  ![v373.toNat, 64]

def k0_chk71 (v372 : BitVec 32) : Prop :=
  (∀ a, (k0_off78 v372) a + S1x64.size a ≤ S2048x128.size a)
theorem k0_off78_inb : ∀ (v372 : BitVec 32) (k0_hw71 : k0_chk71 v372), ∀ a, (k0_off78 v372) a + S1x64.size a ≤ S2048x128.size a := fun v372 k0_hw71 => k0_hw71

def k0_off79 (v376 : BitVec 32) : Fin 2 → Nat :=
  let v377 : Index := Scalar.indexCast v376
  let c64_240 : Index := 64#32
  ![v377.toNat, 64]

def k0_chk72 (v376 : BitVec 32) : Prop :=
  (∀ a, (k0_off79 v376) a + S1x64.size a ≤ S2048x128.size a)
theorem k0_off79_inb : ∀ (v376 : BitVec 32) (k0_hw72 : k0_chk72 v376), ∀ a, (k0_off79 v376) a + S1x64.size a ≤ S2048x128.size a := fun v376 k0_hw72 => k0_hw72

def k0_off80 (v406 : BitVec 32) : Fin 3 → Nat :=
  let c1_255 : Index := 1#32
  let v407 : Index := Scalar.indexCast v406
  let c0_256 : Index := 0#32
  ![1, v407.toNat, 0]

def k0_chk73 (v406 : BitVec 32) : Prop :=
  (∀ a, (k0_off80 v406) a + S1x1x64.size a ≤ S2x2048x64.size a)
theorem k0_off80_inb : ∀ (v406 : BitVec 32) (k0_hw73 : k0_chk73 v406), ∀ a, (k0_off80 v406) a + S1x1x64.size a ≤ S2x2048x64.size a := fun v406 k0_hw73 => k0_hw73

def k0_off81 (v412 : BitVec 32) : Fin 3 → Nat :=
  let c1_259 : Index := 1#32
  let v413 : Index := Scalar.indexCast v412
  let c0_260 : Index := 0#32
  ![1, v413.toNat, 0]

def k0_chk74 (v412 : BitVec 32) : Prop :=
  (∀ a, (k0_off81 v412) a + S1x1x64.size a ≤ S2x2048x64.size a)
theorem k0_off81_inb : ∀ (v412 : BitVec 32) (k0_hw74 : k0_chk74 v412), ∀ a, (k0_off81 v412) a + S1x1x64.size a ≤ S2x2048x64.size a := fun v412 k0_hw74 => k0_hw74

def k0_off82 (v418 : BitVec 32) : Fin 3 → Nat :=
  let c1_263 : Index := 1#32
  let v419 : Index := Scalar.indexCast v418
  let c0_264 : Index := 0#32
  ![1, v419.toNat, 0]

def k0_chk75 (v418 : BitVec 32) : Prop :=
  (∀ a, (k0_off82 v418) a + S1x1x64.size a ≤ S2x2048x64.size a)
theorem k0_off82_inb : ∀ (v418 : BitVec 32) (k0_hw75 : k0_chk75 v418), ∀ a, (k0_off82 v418) a + S1x1x64.size a ≤ S2x2048x64.size a := fun v418 k0_hw75 => k0_hw75

def k0_off83 (v424 : BitVec 32) : Fin 3 → Nat :=
  let c1_267 : Index := 1#32
  let v425 : Index := Scalar.indexCast v424
  let c0_268 : Index := 0#32
  ![1, v425.toNat, 0]

def k0_chk76 (v424 : BitVec 32) : Prop :=
  (∀ a, (k0_off83 v424) a + S1x1x64.size a ≤ S2x2048x64.size a)
theorem k0_off83_inb : ∀ (v424 : BitVec 32) (k0_hw76 : k0_chk76 v424), ∀ a, (k0_off83 v424) a + S1x1x64.size a ≤ S2x2048x64.size a := fun v424 k0_hw76 => k0_hw76

def k0_off84 (v430 : BitVec 32) : Fin 3 → Nat :=
  let c1_271 : Index := 1#32
  let v431 : Index := Scalar.indexCast v430
  let c0_272 : Index := 0#32
  ![1, v431.toNat, 0]

def k0_chk77 (v430 : BitVec 32) : Prop :=
  (∀ a, (k0_off84 v430) a + S1x1x64.size a ≤ S2x2048x64.size a)
theorem k0_off84_inb : ∀ (v430 : BitVec 32) (k0_hw77 : k0_chk77 v430), ∀ a, (k0_off84 v430) a + S1x1x64.size a ≤ S2x2048x64.size a := fun v430 k0_hw77 => k0_hw77

def k0_off85 (v436 : BitVec 32) : Fin 3 → Nat :=
  let c1_275 : Index := 1#32
  let v437 : Index := Scalar.indexCast v436
  let c0_276 : Index := 0#32
  ![1, v437.toNat, 0]

def k0_chk78 (v436 : BitVec 32) : Prop :=
  (∀ a, (k0_off85 v436) a + S1x1x64.size a ≤ S2x2048x64.size a)
theorem k0_off85_inb : ∀ (v436 : BitVec 32) (k0_hw78 : k0_chk78 v436), ∀ a, (k0_off85 v436) a + S1x1x64.size a ≤ S2x2048x64.size a := fun v436 k0_hw78 => k0_hw78

def k0_off86 (v442 : BitVec 32) : Fin 3 → Nat :=
  let c1_279 : Index := 1#32
  let v443 : Index := Scalar.indexCast v442
  let c0_280 : Index := 0#32
  ![1, v443.toNat, 0]

def k0_chk79 (v442 : BitVec 32) : Prop :=
  (∀ a, (k0_off86 v442) a + S1x1x64.size a ≤ S2x2048x64.size a)
theorem k0_off86_inb : ∀ (v442 : BitVec 32) (k0_hw79 : k0_chk79 v442), ∀ a, (k0_off86 v442) a + S1x1x64.size a ≤ S2x2048x64.size a := fun v442 k0_hw79 => k0_hw79

def k0_off87 (v448 : BitVec 32) : Fin 3 → Nat :=
  let c1_283 : Index := 1#32
  let v449 : Index := Scalar.indexCast v448
  let c0_284 : Index := 0#32
  ![1, v449.toNat, 0]

def k0_chk80 (v448 : BitVec 32) : Prop :=
  (∀ a, (k0_off87 v448) a + S1x1x64.size a ≤ S2x2048x64.size a)
theorem k0_off87_inb : ∀ (v448 : BitVec 32) (k0_hw80 : k0_chk80 v448), ∀ a, (k0_off87 v448) a + S1x1x64.size a ≤ S2x2048x64.size a := fun v448 k0_hw80 => k0_hw80

def k0_off88 (v454 : BitVec 32) : Fin 3 → Nat :=
  let c1_287 : Index := 1#32
  let v455 : Index := Scalar.indexCast v454
  let c0_288 : Index := 0#32
  ![1, v455.toNat, 0]

def k0_chk81 (v454 : BitVec 32) : Prop :=
  (∀ a, (k0_off88 v454) a + S1x1x64.size a ≤ S2x2048x64.size a)
theorem k0_off88_inb : ∀ (v454 : BitVec 32) (k0_hw81 : k0_chk81 v454), ∀ a, (k0_off88 v454) a + S1x1x64.size a ≤ S2x2048x64.size a := fun v454 k0_hw81 => k0_hw81

def k0_off89 (v460 : BitVec 32) : Fin 3 → Nat :=
  let c1_291 : Index := 1#32
  let v461 : Index := Scalar.indexCast v460
  let c0_292 : Index := 0#32
  ![1, v461.toNat, 0]

def k0_chk82 (v460 : BitVec 32) : Prop :=
  (∀ a, (k0_off89 v460) a + S1x1x64.size a ≤ S2x2048x64.size a)
theorem k0_off89_inb : ∀ (v460 : BitVec 32) (k0_hw82 : k0_chk82 v460), ∀ a, (k0_off89 v460) a + S1x1x64.size a ≤ S2x2048x64.size a := fun v460 k0_hw82 => k0_hw82

def k0_off90 (v466 : BitVec 32) : Fin 3 → Nat :=
  let c1_295 : Index := 1#32
  let v467 : Index := Scalar.indexCast v466
  let c0_296 : Index := 0#32
  ![1, v467.toNat, 0]

def k0_chk83 (v466 : BitVec 32) : Prop :=
  (∀ a, (k0_off90 v466) a + S1x1x64.size a ≤ S2x2048x64.size a)
theorem k0_off90_inb : ∀ (v466 : BitVec 32) (k0_hw83 : k0_chk83 v466), ∀ a, (k0_off90 v466) a + S1x1x64.size a ≤ S2x2048x64.size a := fun v466 k0_hw83 => k0_hw83

def k0_off91 (v472 : BitVec 32) : Fin 3 → Nat :=
  let c1_299 : Index := 1#32
  let v473 : Index := Scalar.indexCast v472
  let c0_300 : Index := 0#32
  ![1, v473.toNat, 0]

def k0_chk84 (v472 : BitVec 32) : Prop :=
  (∀ a, (k0_off91 v472) a + S1x1x64.size a ≤ S2x2048x64.size a)
theorem k0_off91_inb : ∀ (v472 : BitVec 32) (k0_hw84 : k0_chk84 v472), ∀ a, (k0_off91 v472) a + S1x1x64.size a ≤ S2x2048x64.size a := fun v472 k0_hw84 => k0_hw84

def k0_off92 (v478 : BitVec 32) : Fin 3 → Nat :=
  let c1_303 : Index := 1#32
  let v479 : Index := Scalar.indexCast v478
  let c0_304 : Index := 0#32
  ![1, v479.toNat, 0]

def k0_chk85 (v478 : BitVec 32) : Prop :=
  (∀ a, (k0_off92 v478) a + S1x1x64.size a ≤ S2x2048x64.size a)
theorem k0_off92_inb : ∀ (v478 : BitVec 32) (k0_hw85 : k0_chk85 v478), ∀ a, (k0_off92 v478) a + S1x1x64.size a ≤ S2x2048x64.size a := fun v478 k0_hw85 => k0_hw85

def k0_off93 (v484 : BitVec 32) : Fin 3 → Nat :=
  let c1_307 : Index := 1#32
  let v485 : Index := Scalar.indexCast v484
  let c0_308 : Index := 0#32
  ![1, v485.toNat, 0]

def k0_chk86 (v484 : BitVec 32) : Prop :=
  (∀ a, (k0_off93 v484) a + S1x1x64.size a ≤ S2x2048x64.size a)
theorem k0_off93_inb : ∀ (v484 : BitVec 32) (k0_hw86 : k0_chk86 v484), ∀ a, (k0_off93 v484) a + S1x1x64.size a ≤ S2x2048x64.size a := fun v484 k0_hw86 => k0_hw86

def k0_off94 (v490 : BitVec 32) : Fin 3 → Nat :=
  let c1_311 : Index := 1#32
  let v491 : Index := Scalar.indexCast v490
  let c0_312 : Index := 0#32
  ![1, v491.toNat, 0]

def k0_chk87 (v490 : BitVec 32) : Prop :=
  (∀ a, (k0_off94 v490) a + S1x1x64.size a ≤ S2x2048x64.size a)
theorem k0_off94_inb : ∀ (v490 : BitVec 32) (k0_hw87 : k0_chk87 v490), ∀ a, (k0_off94 v490) a + S1x1x64.size a ≤ S2x2048x64.size a := fun v490 k0_hw87 => k0_hw87

def k0_off95 (v496 : BitVec 32) : Fin 3 → Nat :=
  let c1_315 : Index := 1#32
  let v497 : Index := Scalar.indexCast v496
  let c0_316 : Index := 0#32
  ![1, v497.toNat, 0]

def k0_chk88 (v496 : BitVec 32) : Prop :=
  (∀ a, (k0_off95 v496) a + S1x1x64.size a ≤ S2x2048x64.size a)
theorem k0_off95_inb : ∀ (v496 : BitVec 32) (k0_hw88 : k0_chk88 v496), ∀ a, (k0_off95 v496) a + S1x1x64.size a ≤ S2x2048x64.size a := fun v496 k0_hw88 => k0_hw88

def k0_off96 (v502 : BitVec 32) : Fin 3 → Nat :=
  let c1_319 : Index := 1#32
  let v503 : Index := Scalar.indexCast v502
  let c0_320 : Index := 0#32
  ![1, v503.toNat, 0]

def k0_chk89 (v502 : BitVec 32) : Prop :=
  (∀ a, (k0_off96 v502) a + S1x1x64.size a ≤ S2x2048x64.size a)
theorem k0_off96_inb : ∀ (v502 : BitVec 32) (k0_hw89 : k0_chk89 v502), ∀ a, (k0_off96 v502) a + S1x1x64.size a ≤ S2x2048x64.size a := fun v502 k0_hw89 => k0_hw89

def k0_off97 (v508 : BitVec 32) : Fin 3 → Nat :=
  let c1_323 : Index := 1#32
  let v509 : Index := Scalar.indexCast v508
  let c0_324 : Index := 0#32
  ![1, v509.toNat, 0]

def k0_chk90 (v508 : BitVec 32) : Prop :=
  (∀ a, (k0_off97 v508) a + S1x1x64.size a ≤ S2x2048x64.size a)
theorem k0_off97_inb : ∀ (v508 : BitVec 32) (k0_hw90 : k0_chk90 v508), ∀ a, (k0_off97 v508) a + S1x1x64.size a ≤ S2x2048x64.size a := fun v508 k0_hw90 => k0_hw90

def k0_off98 (v514 : BitVec 32) : Fin 3 → Nat :=
  let c1_327 : Index := 1#32
  let v515 : Index := Scalar.indexCast v514
  let c0_328 : Index := 0#32
  ![1, v515.toNat, 0]

def k0_chk91 (v514 : BitVec 32) : Prop :=
  (∀ a, (k0_off98 v514) a + S1x1x64.size a ≤ S2x2048x64.size a)
theorem k0_off98_inb : ∀ (v514 : BitVec 32) (k0_hw91 : k0_chk91 v514), ∀ a, (k0_off98 v514) a + S1x1x64.size a ≤ S2x2048x64.size a := fun v514 k0_hw91 => k0_hw91

def k0_off99 (v520 : BitVec 32) : Fin 3 → Nat :=
  let c1_331 : Index := 1#32
  let v521 : Index := Scalar.indexCast v520
  let c0_332 : Index := 0#32
  ![1, v521.toNat, 0]

def k0_chk92 (v520 : BitVec 32) : Prop :=
  (∀ a, (k0_off99 v520) a + S1x1x64.size a ≤ S2x2048x64.size a)
theorem k0_off99_inb : ∀ (v520 : BitVec 32) (k0_hw92 : k0_chk92 v520), ∀ a, (k0_off99 v520) a + S1x1x64.size a ≤ S2x2048x64.size a := fun v520 k0_hw92 => k0_hw92

def k0_off100 (v526 : BitVec 32) : Fin 3 → Nat :=
  let c1_335 : Index := 1#32
  let v527 : Index := Scalar.indexCast v526
  let c0_336 : Index := 0#32
  ![1, v527.toNat, 0]

def k0_chk93 (v526 : BitVec 32) : Prop :=
  (∀ a, (k0_off100 v526) a + S1x1x64.size a ≤ S2x2048x64.size a)
theorem k0_off100_inb : ∀ (v526 : BitVec 32) (k0_hw93 : k0_chk93 v526), ∀ a, (k0_off100 v526) a + S1x1x64.size a ≤ S2x2048x64.size a := fun v526 k0_hw93 => k0_hw93

def k0_off101 (v532 : BitVec 32) : Fin 3 → Nat :=
  let c1_339 : Index := 1#32
  let v533 : Index := Scalar.indexCast v532
  let c0_340 : Index := 0#32
  ![1, v533.toNat, 0]

def k0_chk94 (v532 : BitVec 32) : Prop :=
  (∀ a, (k0_off101 v532) a + S1x1x64.size a ≤ S2x2048x64.size a)
theorem k0_off101_inb : ∀ (v532 : BitVec 32) (k0_hw94 : k0_chk94 v532), ∀ a, (k0_off101 v532) a + S1x1x64.size a ≤ S2x2048x64.size a := fun v532 k0_hw94 => k0_hw94

def k0_off102 (v538 : BitVec 32) : Fin 3 → Nat :=
  let c1_343 : Index := 1#32
  let v539 : Index := Scalar.indexCast v538
  let c0_344 : Index := 0#32
  ![1, v539.toNat, 0]

def k0_chk95 (v538 : BitVec 32) : Prop :=
  (∀ a, (k0_off102 v538) a + S1x1x64.size a ≤ S2x2048x64.size a)
theorem k0_off102_inb : ∀ (v538 : BitVec 32) (k0_hw95 : k0_chk95 v538), ∀ a, (k0_off102 v538) a + S1x1x64.size a ≤ S2x2048x64.size a := fun v538 k0_hw95 => k0_hw95

def k0_off103 (v544 : BitVec 32) : Fin 3 → Nat :=
  let c1_347 : Index := 1#32
  let v545 : Index := Scalar.indexCast v544
  let c0_348 : Index := 0#32
  ![1, v545.toNat, 0]

def k0_chk96 (v544 : BitVec 32) : Prop :=
  (∀ a, (k0_off103 v544) a + S1x1x64.size a ≤ S2x2048x64.size a)
theorem k0_off103_inb : ∀ (v544 : BitVec 32) (k0_hw96 : k0_chk96 v544), ∀ a, (k0_off103 v544) a + S1x1x64.size a ≤ S2x2048x64.size a := fun v544 k0_hw96 => k0_hw96

def cc0_transform_0 (i : grid0.Coords) : Fin 2 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_1 (i : grid0.Coords) : Fin 2 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_2 (i : grid0.Coords) : Fin 2 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S2x2048x2x12x64 : Shape := ⟨5, ![2, 2048, 2, 12, 64]⟩
abbrev S1 : Shape := ⟨1, ![1]⟩
abbrev S2x12x2048x2x64 : Shape := ⟨5, ![2, 12, 2048, 2, 64]⟩
abbrev S_ : Shape := ⟨0, ![]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S2048x24 : Shape := ⟨2, ![2048, 24]⟩
abbrev S2048x24x1 : Shape := ⟨3, ![2048, 24, 1]⟩
abbrev S2x12x2048x24x2x64 : Shape := ⟨6, ![2, 12, 2048, 24, 2, 64]⟩
abbrev S2x12x2048x2x24 : Shape := ⟨5, ![2, 12, 2048, 2, 24]⟩
abbrev S2x12x2048x2 : Shape := ⟨4, ![2, 12, 2048, 2]⟩
abbrev S2x12x2x2048 : Shape := ⟨4, ![2, 12, 2, 2048]⟩
abbrev S2x12x2x24 : Shape := ⟨4, ![2, 12, 2, 24]⟩
abbrev S2x12x24x2 : Shape := ⟨4, ![2, 12, 24, 2]⟩
abbrev S2x12x24x2x1 : Shape := ⟨5, ![2, 12, 24, 2, 1]⟩
abbrev S2x12x24x2x64 : Shape := ⟨5, ![2, 12, 24, 2, 64]⟩
abbrev S2x12x24x2x64x1 : Shape := ⟨6, ![2, 12, 24, 2, 64, 1]⟩
abbrev S1x1x1x1x1x1 : Shape := ⟨6, ![1, 1, 1, 1, 1, 1]⟩
abbrev S2x12x2x24x64 : Shape := ⟨5, ![2, 12, 2, 24, 64]⟩
abbrev S2x12x2x2048x64 : Shape := ⟨5, ![2, 12, 2, 2048, 64]⟩
abbrev S2x12x2x24x2048 : Shape := ⟨5, ![2, 12, 2, 24, 2048]⟩
abbrev S2x12x2x64 : Shape := ⟨4, ![2, 12, 2, 64]⟩
abbrev S2x12x1x2x64 : Shape := ⟨5, ![2, 12, 1, 2, 64]⟩
abbrev S2x12x2x24x1 : Shape := ⟨5, ![2, 12, 2, 24, 1]⟩
abbrev S2x1x1x1 : Shape := ⟨4, ![2, 1, 1, 1]⟩
abbrev S12 : Shape := ⟨1, ![12]⟩
abbrev S1x12x1x1 : Shape := ⟨4, ![1, 12, 1, 1]⟩
abbrev S1x1x2x1 : Shape := ⟨4, ![1, 1, 2, 1]⟩
abbrev S2x12x2x24x4 : Shape := ⟨5, ![2, 12, 2, 24, 4]⟩
abbrev S2x2x12x2048x64 : Shape := ⟨5, ![2, 2, 12, 2048, 64]⟩

abbrev nBuf : Space → Nat
  | .hbm => 912
  | .vmem => 0
  | .smem => 0
  | _ => 0

abbrev hbmTy0_0 (i : Nat) : BufTy := match i % 128 with
  | 0 => ⟨S2x2048x2x12x64, .f32⟩
  | 1 => ⟨S2x2048x2x12x64, .f32⟩
  | 2 => ⟨S2x2048x2x12x64, .f32⟩
  | 3 => ⟨S1, .i1⟩
  | 4 => ⟨S2x12x2048x2x64, .f32⟩
  | 5 => ⟨S2x12x2048x2x64, .f32⟩
  | 6 => ⟨S2x12x2048x2x64, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S1x1, .i32⟩
  | 36 => ⟨S1x1, .i32⟩
  | 37 => ⟨S1, .i32⟩
  | 38 => ⟨S_, .i32⟩
  | 39 => ⟨S1, .i32⟩
  | 40 => ⟨S_, .i32⟩
  | 41 => ⟨S2, .i64⟩
  | 42 => ⟨S_, .i64⟩
  | 43 => ⟨S2, .i64⟩
  | 44 => ⟨S2, .i64⟩
  | 45 => ⟨S_, .i64⟩
  | 46 => ⟨S2, .i64⟩
  | 47 => ⟨S2, .i64⟩
  | 48 => ⟨S2, .i32⟩
  | 49 => ⟨S2, .i32⟩
  | 50 => ⟨S_, .i32⟩
  | 51 => ⟨S_, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S2x2048x2x12x64, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S2x2048x2x12x64, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S2x1, .i32⟩
  | 17 => ⟨S2x1, .i32⟩
  | 18 => ⟨S2x2, .i32⟩
  | 19 => ⟨S1x2, .i32⟩
  | 20 => ⟨S2, .i32⟩
  | 21 => ⟨S1x2, .i32⟩
  | 22 => ⟨S2, .i32⟩
  | 23 => ⟨S1, .i32⟩
  | 24 => ⟨S_, .i32⟩
  | 25 => ⟨S1, .i32⟩
  | 26 => ⟨S_, .i32⟩
  | 27 => ⟨S2048x24, .i64⟩
  | 28 => ⟨S2048x24, .i64⟩
  | 29 => ⟨S_, .i64⟩
  | 30 => ⟨S2048x24, .i64⟩
  | 31 => ⟨S2048x24, .i64⟩
  | 32 => ⟨S_, .i64⟩
  | 33 => ⟨S2048x24, .i64⟩
  | 34 => ⟨S2048x24, .i64⟩
  | 35 => ⟨S2048x24, .i64⟩
  | 36 => ⟨S_, .i64⟩
  | 37 => ⟨S2048x24, .i64⟩
  | 38 => ⟨S2048x24, .i64⟩
  | 39 => ⟨S2048x24, .i32⟩
  | 40 => ⟨S2048x24, .i32⟩
  | 41 => ⟨S_, .i32⟩
  | 42 => ⟨S_, .i32⟩
  | 43 => ⟨S_, .i32⟩
  | 44 => ⟨S2048x24, .i32⟩
  | 45 => ⟨S2048x24, .i32⟩
  | 46 => ⟨S2048x24, .i32⟩
  | 47 => ⟨S2048x24, .i32⟩
  | 48 => ⟨S2048x24, .i32⟩
  | 49 => ⟨S_, .i32⟩
  | 50 => ⟨S2048x24, .i32⟩
  | 51 => ⟨S2048x24, .i32⟩
  | 52 => ⟨S_, .i32⟩
  | 53 => ⟨S2048x24, .i32⟩
  | 54 => ⟨S2048x24, .i32⟩
  | 55 => ⟨S2048x24, .i32⟩
  | 56 => ⟨S2048x24, .i32⟩
  | 57 => ⟨S2048x24, .i32⟩
  | 58 => ⟨S_, .i32⟩
  | 59 => ⟨S2048x24, .i32⟩
  | 60 => ⟨S2048x24, .i32⟩
  | 61 => ⟨S_, .i32⟩
  | 62 => ⟨S2048x24, .i32⟩
  | 63 => ⟨S2048x24, .i32⟩
  | 64 => ⟨S2048x24, .i32⟩
  | 65 => ⟨S2048x24, .i32⟩
  | 66 => ⟨S2048x24, .i32⟩
  | 67 => ⟨S_, .i32⟩
  | 68 => ⟨S2048x24, .i32⟩
  | 69 => ⟨S2048x24, .i32⟩
  | 70 => ⟨S_, .i32⟩
  | 71 => ⟨S2048x24, .i32⟩
  | 72 => ⟨S2048x24, .i32⟩
  | 73 => ⟨S2048x24, .i32⟩
  | 74 => ⟨S2048x24, .i32⟩
  | 75 => ⟨S2048x24, .i32⟩
  | 76 => ⟨S_, .i32⟩
  | 77 => ⟨S2048x24, .i32⟩
  | 78 => ⟨S2048x24, .i32⟩
  | 79 => ⟨S_, .i32⟩
  | 80 => ⟨S2048x24, .i32⟩
  | 81 => ⟨S2048x24, .i32⟩
  | 82 => ⟨S2048x24, .i32⟩
  | 83 => ⟨S2048x24, .i32⟩
  | 84 => ⟨S2048x24, .i32⟩
  | 85 => ⟨S2048x24, .i32⟩
  | 86 => ⟨S2048x24, .i32⟩
  | 87 => ⟨S2048x24, .i32⟩
  | 88 => ⟨S_, .i32⟩
  | 89 => ⟨S2048x24, .i32⟩
  | 90 => ⟨S2048x24, .i32⟩
  | 91 => ⟨S2048x24, .i32⟩
  | 92 => ⟨S_, .i32⟩
  | 93 => ⟨S2048x24, .i32⟩
  | 94 => ⟨S2048x24, .i32⟩
  | 95 => ⟨S_, .i32⟩
  | 96 => ⟨S2048x24, .i32⟩
  | 97 => ⟨S2048x24, .i32⟩
  | 98 => ⟨S2048x24, .i32⟩
  | 99 => ⟨S2048x24, .i32⟩
  | 100 => ⟨S2048x24, .i32⟩
  | 101 => ⟨S_, .i32⟩
  | 102 => ⟨S2048x24, .i32⟩
  | 103 => ⟨S2048x24, .i32⟩
  | 104 => ⟨S_, .i32⟩
  | 105 => ⟨S2048x24, .i32⟩
  | 106 => ⟨S2048x24, .i32⟩
  | 107 => ⟨S2048x24, .i32⟩
  | 108 => ⟨S2048x24, .i32⟩
  | 109 => ⟨S2048x24, .i32⟩
  | 110 => ⟨S_, .i32⟩
  | 111 => ⟨S2048x24, .i32⟩
  | 112 => ⟨S2048x24, .i32⟩
  | 113 => ⟨S_, .i32⟩
  | 114 => ⟨S2048x24, .i32⟩
  | 115 => ⟨S2048x24, .i32⟩
  | 116 => ⟨S2048x24, .i32⟩
  | 117 => ⟨S2048x24, .i32⟩
  | 118 => ⟨S2048x24, .i32⟩
  | 119 => ⟨S_, .i32⟩
  | 120 => ⟨S2048x24, .i32⟩
  | 121 => ⟨S2048x24, .i32⟩
  | 122 => ⟨S_, .i32⟩
  | 123 => ⟨S2048x24, .i32⟩
  | 124 => ⟨S2048x24, .i32⟩
  | 125 => ⟨S2048x24, .i32⟩
  | 126 => ⟨S2048x24, .i32⟩
  | 127 => ⟨S2048x24, .i32⟩
  | _ => ⟨S2x2048x2x12x64, .f32⟩

abbrev hbmTy0_3 (i : Nat) : BufTy := match i % 128 with
  | 0 => ⟨S2048x24, .i32⟩
  | 1 => ⟨S2048x24, .i32⟩
  | 2 => ⟨S2048x24, .i32⟩
  | 3 => ⟨S_, .i32⟩
  | 4 => ⟨S2048x24, .i32⟩
  | 5 => ⟨S2048x24, .i32⟩
  | 6 => ⟨S2048x24, .i32⟩
  | 7 => ⟨S_, .i32⟩
  | 8 => ⟨S2048x24, .i32⟩
  | 9 => ⟨S2048x24, .i32⟩
  | 10 => ⟨S_, .i32⟩
  | 11 => ⟨S2048x24, .i32⟩
  | 12 => ⟨S2048x24, .i32⟩
  | 13 => ⟨S2048x24, .i32⟩
  | 14 => ⟨S2048x24, .i32⟩
  | 15 => ⟨S2048x24, .i32⟩
  | 16 => ⟨S_, .i32⟩
  | 17 => ⟨S2048x24, .i32⟩
  | 18 => ⟨S2048x24, .i32⟩
  | 19 => ⟨S_, .i32⟩
  | 20 => ⟨S2048x24, .i32⟩
  | 21 => ⟨S2048x24, .i32⟩
  | 22 => ⟨S2048x24, .i32⟩
  | 23 => ⟨S2048x24, .i32⟩
  | 24 => ⟨S2048x24, .i32⟩
  | 25 => ⟨S_, .i32⟩
  | 26 => ⟨S2048x24, .i32⟩
  | 27 => ⟨S2048x24, .i32⟩
  | 28 => ⟨S_, .i32⟩
  | 29 => ⟨S2048x24, .i32⟩
  | 30 => ⟨S2048x24, .i32⟩
  | 31 => ⟨S2048x24, .i32⟩
  | 32 => ⟨S2048x24, .i32⟩
  | 33 => ⟨S2048x24, .i32⟩
  | 34 => ⟨S_, .i32⟩
  | 35 => ⟨S2048x24, .i32⟩
  | 36 => ⟨S2048x24, .i32⟩
  | 37 => ⟨S_, .i32⟩
  | 38 => ⟨S2048x24, .i32⟩
  | 39 => ⟨S2048x24, .i32⟩
  | 40 => ⟨S2048x24, .i32⟩
  | 41 => ⟨S2048x24, .i32⟩
  | 42 => ⟨S2048x24, .i32⟩
  | 43 => ⟨S2048x24, .i32⟩
  | 44 => ⟨S2048x24, .i32⟩
  | 45 => ⟨S2048x24, .i32⟩
  | 46 => ⟨S_, .i32⟩
  | 47 => ⟨S2048x24, .i32⟩
  | 48 => ⟨S2048x24, .i32⟩
  | 49 => ⟨S2048x24, .i32⟩
  | 50 => ⟨S_, .i32⟩
  | 51 => ⟨S2048x24, .i32⟩
  | 52 => ⟨S2048x24, .i32⟩
  | 53 => ⟨S_, .i32⟩
  | 54 => ⟨S2048x24, .i32⟩
  | 55 => ⟨S2048x24, .i32⟩
  | 56 => ⟨S2048x24, .i32⟩
  | 57 => ⟨S2048x24, .i32⟩
  | 58 => ⟨S2048x24, .i32⟩
  | 59 => ⟨S_, .i32⟩
  | 60 => ⟨S2048x24, .i32⟩
  | 61 => ⟨S2048x24, .i32⟩
  | 62 => ⟨S_, .i32⟩
  | 63 => ⟨S2048x24, .i32⟩
  | 64 => ⟨S2048x24, .i32⟩
  | 65 => ⟨S2048x24, .i32⟩
  | 66 => ⟨S2048x24, .i32⟩
  | 67 => ⟨S2048x24, .i32⟩
  | 68 => ⟨S_, .i32⟩
  | 69 => ⟨S2048x24, .i32⟩
  | 70 => ⟨S2048x24, .i32⟩
  | 71 => ⟨S_, .i32⟩
  | 72 => ⟨S2048x24, .i32⟩
  | 73 => ⟨S2048x24, .i32⟩
  | 74 => ⟨S2048x24, .i32⟩
  | 75 => ⟨S2048x24, .i32⟩
  | 76 => ⟨S2048x24, .i32⟩
  | 77 => ⟨S_, .i32⟩
  | 78 => ⟨S2048x24, .i32⟩
  | 79 => ⟨S2048x24, .i32⟩
  | 80 => ⟨S_, .i32⟩
  | 81 => ⟨S2048x24, .i32⟩
  | 82 => ⟨S2048x24, .i32⟩
  | 83 => ⟨S2048x24, .i32⟩
  | 84 => ⟨S2048x24, .i32⟩
  | 85 => ⟨S2048x24, .i32⟩
  | 86 => ⟨S2048x24, .i32⟩
  | 87 => ⟨S2048x24, .i32⟩
  | 88 => ⟨S2048x24, .i32⟩
  | 89 => ⟨S_, .i32⟩
  | 90 => ⟨S2048x24, .i32⟩
  | 91 => ⟨S2048x24, .i32⟩
  | 92 => ⟨S2048x24, .i32⟩
  | 93 => ⟨S_, .i32⟩
  | 94 => ⟨S2048x24, .i32⟩
  | 95 => ⟨S2048x24, .i32⟩
  | 96 => ⟨S_, .i32⟩
  | 97 => ⟨S2048x24, .i32⟩
  | 98 => ⟨S2048x24, .i32⟩
  | 99 => ⟨S2048x24, .i32⟩
  | 100 => ⟨S2048x24, .i32⟩
  | 101 => ⟨S2048x24, .i32⟩
  | 102 => ⟨S_, .i32⟩
  | 103 => ⟨S2048x24, .i32⟩
  | 104 => ⟨S2048x24, .i32⟩
  | 105 => ⟨S_, .i32⟩
  | 106 => ⟨S2048x24, .i32⟩
  | 107 => ⟨S2048x24, .i32⟩
  | 108 => ⟨S2048x24, .i32⟩
  | 109 => ⟨S2048x24, .i32⟩
  | 110 => ⟨S2048x24, .i32⟩
  | 111 => ⟨S_, .i32⟩
  | 112 => ⟨S2048x24, .i32⟩
  | 113 => ⟨S2048x24, .i32⟩
  | 114 => ⟨S_, .i32⟩
  | 115 => ⟨S2048x24, .i32⟩
  | 116 => ⟨S2048x24, .i32⟩
  | 117 => ⟨S2048x24, .i32⟩
  | 118 => ⟨S2048x24, .i32⟩
  | 119 => ⟨S2048x24, .i32⟩
  | 120 => ⟨S_, .i32⟩
  | 121 => ⟨S2048x24, .i32⟩
  | 122 => ⟨S2048x24, .i32⟩
  | 123 => ⟨S_, .i32⟩
  | 124 => ⟨S2048x24, .i32⟩
  | 125 => ⟨S2048x24, .i32⟩
  | 126 => ⟨S2048x24, .i32⟩
  | 127 => ⟨S2048x24, .i32⟩
  | _ => ⟨S2x2048x2x12x64, .f32⟩

abbrev hbmTy0_4 (i : Nat) : BufTy := match i % 128 with
  | 0 => ⟨S2048x24, .i32⟩
  | 1 => ⟨S2048x24, .i32⟩
  | 2 => ⟨S2048x24, .i32⟩
  | 3 => ⟨S2048x24, .i32⟩
  | 4 => ⟨S_, .i32⟩
  | 5 => ⟨S2048x24, .i32⟩
  | 6 => ⟨S2048x24, .i32⟩
  | 7 => ⟨S2048x24, .i32⟩
  | 8 => ⟨S1, .i32⟩
  | 9 => ⟨S_, .i32⟩
  | 10 => ⟨S1, .i32⟩
  | 11 => ⟨S_, .i32⟩
  | 12 => ⟨S2048x24, .i64⟩
  | 13 => ⟨S2048x24, .i64⟩
  | 14 => ⟨S_, .i64⟩
  | 15 => ⟨S2048x24, .i64⟩
  | 16 => ⟨S2048x24, .i64⟩
  | 17 => ⟨S_, .i64⟩
  | 18 => ⟨S2048x24, .i64⟩
  | 19 => ⟨S2048x24, .i64⟩
  | 20 => ⟨S2048x24, .i64⟩
  | 21 => ⟨S_, .i64⟩
  | 22 => ⟨S2048x24, .i64⟩
  | 23 => ⟨S2048x24, .i64⟩
  | 24 => ⟨S2048x24, .i32⟩
  | 25 => ⟨S2048x24, .i32⟩
  | 26 => ⟨S_, .i32⟩
  | 27 => ⟨S_, .i32⟩
  | 28 => ⟨S_, .i32⟩
  | 29 => ⟨S2048x24, .i32⟩
  | 30 => ⟨S2048x24, .i32⟩
  | 31 => ⟨S2048x24, .i32⟩
  | 32 => ⟨S2048x24, .i32⟩
  | 33 => ⟨S2048x24, .i32⟩
  | 34 => ⟨S_, .i32⟩
  | 35 => ⟨S2048x24, .i32⟩
  | 36 => ⟨S2048x24, .i32⟩
  | 37 => ⟨S_, .i32⟩
  | 38 => ⟨S2048x24, .i32⟩
  | 39 => ⟨S2048x24, .i32⟩
  | 40 => ⟨S2048x24, .i32⟩
  | 41 => ⟨S2048x24, .i32⟩
  | 42 => ⟨S2048x24, .i32⟩
  | 43 => ⟨S_, .i32⟩
  | 44 => ⟨S2048x24, .i32⟩
  | 45 => ⟨S2048x24, .i32⟩
  | 46 => ⟨S_, .i32⟩
  | 47 => ⟨S2048x24, .i32⟩
  | 48 => ⟨S2048x24, .i32⟩
  | 49 => ⟨S2048x24, .i32⟩
  | 50 => ⟨S2048x24, .i32⟩
  | 51 => ⟨S2048x24, .i32⟩
  | 52 => ⟨S_, .i32⟩
  | 53 => ⟨S2048x24, .i32⟩
  | 54 => ⟨S2048x24, .i32⟩
  | 55 => ⟨S_, .i32⟩
  | 56 => ⟨S2048x24, .i32⟩
  | 57 => ⟨S2048x24, .i32⟩
  | 58 => ⟨S2048x24, .i32⟩
  | 59 => ⟨S2048x24, .i32⟩
  | 60 => ⟨S2048x24, .i32⟩
  | 61 => ⟨S_, .i32⟩
  | 62 => ⟨S2048x24, .i32⟩
  | 63 => ⟨S2048x24, .i32⟩
  | 64 => ⟨S_, .i32⟩
  | 65 => ⟨S2048x24, .i32⟩
  | 66 => ⟨S2048x24, .i32⟩
  | 67 => ⟨S2048x24, .i32⟩
  | 68 => ⟨S2048x24, .i32⟩
  | 69 => ⟨S2048x24, .i32⟩
  | 70 => ⟨S2048x24, .i32⟩
  | 71 => ⟨S2048x24, .i32⟩
  | 72 => ⟨S2048x24, .i32⟩
  | 73 => ⟨S_, .i32⟩
  | 74 => ⟨S2048x24, .i32⟩
  | 75 => ⟨S2048x24, .i32⟩
  | 76 => ⟨S2048x24, .i32⟩
  | 77 => ⟨S_, .i32⟩
  | 78 => ⟨S2048x24, .i32⟩
  | 79 => ⟨S2048x24, .i32⟩
  | 80 => ⟨S_, .i32⟩
  | 81 => ⟨S2048x24, .i32⟩
  | 82 => ⟨S2048x24, .i32⟩
  | 83 => ⟨S2048x24, .i32⟩
  | 84 => ⟨S2048x24, .i32⟩
  | 85 => ⟨S2048x24, .i32⟩
  | 86 => ⟨S_, .i32⟩
  | 87 => ⟨S2048x24, .i32⟩
  | 88 => ⟨S2048x24, .i32⟩
  | 89 => ⟨S_, .i32⟩
  | 90 => ⟨S2048x24, .i32⟩
  | 91 => ⟨S2048x24, .i32⟩
  | 92 => ⟨S2048x24, .i32⟩
  | 93 => ⟨S2048x24, .i32⟩
  | 94 => ⟨S2048x24, .i32⟩
  | 95 => ⟨S_, .i32⟩
  | 96 => ⟨S2048x24, .i32⟩
  | 97 => ⟨S2048x24, .i32⟩
  | 98 => ⟨S_, .i32⟩
  | 99 => ⟨S2048x24, .i32⟩
  | 100 => ⟨S2048x24, .i32⟩
  | 101 => ⟨S2048x24, .i32⟩
  | 102 => ⟨S2048x24, .i32⟩
  | 103 => ⟨S2048x24, .i32⟩
  | 104 => ⟨S_, .i32⟩
  | 105 => ⟨S2048x24, .i32⟩
  | 106 => ⟨S2048x24, .i32⟩
  | 107 => ⟨S_, .i32⟩
  | 108 => ⟨S2048x24, .i32⟩
  | 109 => ⟨S2048x24, .i32⟩
  | 110 => ⟨S2048x24, .i32⟩
  | 111 => ⟨S2048x24, .i32⟩
  | 112 => ⟨S2048x24, .i32⟩
  | 113 => ⟨S2048x24, .i32⟩
  | 114 => ⟨S2048x24, .i32⟩
  | 115 => ⟨S2048x24, .i32⟩
  | 116 => ⟨S_, .i32⟩
  | 117 => ⟨S2048x24, .i32⟩
  | 118 => ⟨S2048x24, .i32⟩
  | 119 => ⟨S2048x24, .i32⟩
  | 120 => ⟨S_, .i32⟩
  | 121 => ⟨S2048x24, .i32⟩
  | 122 => ⟨S2048x24, .i32⟩
  | 123 => ⟨S_, .i32⟩
  | 124 => ⟨S2048x24, .i32⟩
  | 125 => ⟨S2048x24, .i32⟩
  | 126 => ⟨S2048x24, .i32⟩
  | 127 => ⟨S2048x24, .i32⟩
  | _ => ⟨S2x2048x2x12x64, .f32⟩

abbrev hbmTy0_5 (i : Nat) : BufTy := match i % 128 with
  | 0 => ⟨S2048x24, .i32⟩
  | 1 => ⟨S_, .i32⟩
  | 2 => ⟨S2048x24, .i32⟩
  | 3 => ⟨S2048x24, .i32⟩
  | 4 => ⟨S_, .i32⟩
  | 5 => ⟨S2048x24, .i32⟩
  | 6 => ⟨S2048x24, .i32⟩
  | 7 => ⟨S2048x24, .i32⟩
  | 8 => ⟨S2048x24, .i32⟩
  | 9 => ⟨S2048x24, .i32⟩
  | 10 => ⟨S_, .i32⟩
  | 11 => ⟨S2048x24, .i32⟩
  | 12 => ⟨S2048x24, .i32⟩
  | 13 => ⟨S_, .i32⟩
  | 14 => ⟨S2048x24, .i32⟩
  | 15 => ⟨S2048x24, .i32⟩
  | 16 => ⟨S2048x24, .i32⟩
  | 17 => ⟨S2048x24, .i32⟩
  | 18 => ⟨S2048x24, .i32⟩
  | 19 => ⟨S_, .i32⟩
  | 20 => ⟨S2048x24, .i32⟩
  | 21 => ⟨S2048x24, .i32⟩
  | 22 => ⟨S_, .i32⟩
  | 23 => ⟨S2048x24, .i32⟩
  | 24 => ⟨S2048x24, .i32⟩
  | 25 => ⟨S2048x24, .i32⟩
  | 26 => ⟨S2048x24, .i32⟩
  | 27 => ⟨S2048x24, .i32⟩
  | 28 => ⟨S2048x24, .i32⟩
  | 29 => ⟨S2048x24, .i32⟩
  | 30 => ⟨S2048x24, .i32⟩
  | 31 => ⟨S_, .i32⟩
  | 32 => ⟨S2048x24, .i32⟩
  | 33 => ⟨S2048x24, .i32⟩
  | 34 => ⟨S2048x24, .i32⟩
  | 35 => ⟨S_, .i32⟩
  | 36 => ⟨S2048x24, .i32⟩
  | 37 => ⟨S2048x24, .i32⟩
  | 38 => ⟨S_, .i32⟩
  | 39 => ⟨S2048x24, .i32⟩
  | 40 => ⟨S2048x24, .i32⟩
  | 41 => ⟨S2048x24, .i32⟩
  | 42 => ⟨S2048x24, .i32⟩
  | 43 => ⟨S2048x24, .i32⟩
  | 44 => ⟨S_, .i32⟩
  | 45 => ⟨S2048x24, .i32⟩
  | 46 => ⟨S2048x24, .i32⟩
  | 47 => ⟨S_, .i32⟩
  | 48 => ⟨S2048x24, .i32⟩
  | 49 => ⟨S2048x24, .i32⟩
  | 50 => ⟨S2048x24, .i32⟩
  | 51 => ⟨S2048x24, .i32⟩
  | 52 => ⟨S2048x24, .i32⟩
  | 53 => ⟨S_, .i32⟩
  | 54 => ⟨S2048x24, .i32⟩
  | 55 => ⟨S2048x24, .i32⟩
  | 56 => ⟨S_, .i32⟩
  | 57 => ⟨S2048x24, .i32⟩
  | 58 => ⟨S2048x24, .i32⟩
  | 59 => ⟨S2048x24, .i32⟩
  | 60 => ⟨S2048x24, .i32⟩
  | 61 => ⟨S2048x24, .i32⟩
  | 62 => ⟨S_, .i32⟩
  | 63 => ⟨S2048x24, .i32⟩
  | 64 => ⟨S2048x24, .i32⟩
  | 65 => ⟨S_, .i32⟩
  | 66 => ⟨S2048x24, .i32⟩
  | 67 => ⟨S2048x24, .i32⟩
  | 68 => ⟨S2048x24, .i32⟩
  | 69 => ⟨S2048x24, .i32⟩
  | 70 => ⟨S2048x24, .i32⟩
  | 71 => ⟨S2048x24, .i32⟩
  | 72 => ⟨S2048x24, .i32⟩
  | 73 => ⟨S2048x24, .i32⟩
  | 74 => ⟨S_, .i32⟩
  | 75 => ⟨S2048x24, .i32⟩
  | 76 => ⟨S2048x24, .i32⟩
  | 77 => ⟨S2048x24, .i32⟩
  | 78 => ⟨S_, .i32⟩
  | 79 => ⟨S2048x24, .i32⟩
  | 80 => ⟨S2048x24, .i32⟩
  | 81 => ⟨S_, .i32⟩
  | 82 => ⟨S2048x24, .i32⟩
  | 83 => ⟨S2048x24, .i32⟩
  | 84 => ⟨S2048x24, .i32⟩
  | 85 => ⟨S2048x24, .i32⟩
  | 86 => ⟨S2048x24, .i32⟩
  | 87 => ⟨S_, .i32⟩
  | 88 => ⟨S2048x24, .i32⟩
  | 89 => ⟨S2048x24, .i32⟩
  | 90 => ⟨S_, .i32⟩
  | 91 => ⟨S2048x24, .i32⟩
  | 92 => ⟨S2048x24, .i32⟩
  | 93 => ⟨S2048x24, .i32⟩
  | 94 => ⟨S2048x24, .i32⟩
  | 95 => ⟨S2048x24, .i32⟩
  | 96 => ⟨S_, .i32⟩
  | 97 => ⟨S2048x24, .i32⟩
  | 98 => ⟨S2048x24, .i32⟩
  | 99 => ⟨S_, .i32⟩
  | 100 => ⟨S2048x24, .i32⟩
  | 101 => ⟨S2048x24, .i32⟩
  | 102 => ⟨S2048x24, .i32⟩
  | 103 => ⟨S2048x24, .i32⟩
  | 104 => ⟨S2048x24, .i32⟩
  | 105 => ⟨S_, .i32⟩
  | 106 => ⟨S2048x24, .i32⟩
  | 107 => ⟨S2048x24, .i32⟩
  | 108 => ⟨S_, .i32⟩
  | 109 => ⟨S2048x24, .i32⟩
  | 110 => ⟨S2048x24, .i32⟩
  | 111 => ⟨S2048x24, .i32⟩
  | 112 => ⟨S2048x24, .i32⟩
  | 113 => ⟨S2048x24, .i32⟩
  | 114 => ⟨S2048x24, .i32⟩
  | 115 => ⟨S2048x24, .i32⟩
  | 116 => ⟨S2048x24, .i32⟩
  | 117 => ⟨S_, .i32⟩
  | 118 => ⟨S2048x24, .i32⟩
  | 119 => ⟨S2048x24, .i32⟩
  | 120 => ⟨S2048x24, .i32⟩
  | 121 => ⟨S1x1, .i32⟩
  | 122 => ⟨S1x1, .i32⟩
  | 123 => ⟨S1x1, .i1⟩
  | 124 => ⟨S_, .i32⟩
  | 125 => ⟨S1x1, .i32⟩
  | 126 => ⟨S1x1, .i32⟩
  | 127 => ⟨S1x1, .i1⟩
  | _ => ⟨S2x2048x2x12x64, .f32⟩

abbrev hbmTy0_6 (i : Nat) : BufTy := match i % 128 with
  | 0 => ⟨S1x1, .i1⟩
  | 1 => ⟨S1x1, .i1⟩
  | 2 => ⟨S_, .i32⟩
  | 3 => ⟨S1x1, .i32⟩
  | 4 => ⟨S1x1, .i32⟩
  | 5 => ⟨S1x1, .i32⟩
  | 6 => ⟨S_, .i32⟩
  | 7 => ⟨S1x1, .i32⟩
  | 8 => ⟨S1x1, .i32⟩
  | 9 => ⟨S1x1, .i32⟩
  | 10 => ⟨S1x1, .i32⟩
  | 11 => ⟨S2048x24, .i32⟩
  | 12 => ⟨S2048x24, .i32⟩
  | 13 => ⟨S2048x24, .i32⟩
  | 14 => ⟨S2048x24, .i32⟩
  | 15 => ⟨S2048x24, .i32⟩
  | 16 => ⟨S2048x24, .i32⟩
  | 17 => ⟨S2048x24, .i32⟩
  | 18 => ⟨S2048x24, .i32⟩
  | 19 => ⟨S2048x24, .i32⟩
  | 20 => ⟨S2048x24, .i32⟩
  | 21 => ⟨S2048x24, .i32⟩
  | 22 => ⟨S2048x24, .i32⟩
  | 23 => ⟨S_, .i32⟩
  | 24 => ⟨S2048x24, .i32⟩
  | 25 => ⟨S2048x24, .i1⟩
  | 26 => ⟨S_, .i32⟩
  | 27 => ⟨S2048x24, .i32⟩
  | 28 => ⟨S2048x24, .i32⟩
  | 29 => ⟨S2048x24, .i32⟩
  | 30 => ⟨S2048x24x1, .i32⟩
  | 31 => ⟨S2x12x2048x24x2x64, .f32⟩
  | 32 => ⟨S2x12x2048x2x24, .f32⟩
  | 33 => ⟨S_, .f32⟩
  | 34 => ⟨S2x12x2048x2, .f32⟩
  | 35 => ⟨S_, .f32⟩
  | 36 => ⟨S2x12x2048x2, .f32⟩
  | 37 => ⟨S_, .f32⟩
  | 38 => ⟨S2x12x2048x2, .f32⟩
  | 39 => ⟨S2x12x2048x2, .f32⟩
  | 40 => ⟨S2x12x2048x2, .f32⟩
  | 41 => ⟨S2x12x2x2048, .f32⟩
  | 42 => ⟨S2x12x2x24, .f32⟩
  | 43 => ⟨S2x12x2x24, .i32⟩
  | 44 => ⟨S2x12x24x2, .i32⟩
  | 45 => ⟨S2x12x24x2x1, .i32⟩
  | 46 => ⟨S2x12x24x2x64, .i32⟩
  | 47 => ⟨S_, .i32⟩
  | 48 => ⟨S2x12x24x2x64, .i32⟩
  | 49 => ⟨S2x12x24x2x64, .i1⟩
  | 50 => ⟨S_, .i32⟩
  | 51 => ⟨S2x12x24x2x64, .i32⟩
  | 52 => ⟨S2x12x24x2x64, .i32⟩
  | 53 => ⟨S2x12x24x2x64, .i32⟩
  | 54 => ⟨S2x12x24x2x64x1, .i32⟩
  | 55 => ⟨S1, .i32⟩
  | 56 => ⟨S_, .i32⟩
  | 57 => ⟨S2x12x24x2x64x1, .i32⟩
  | 58 => ⟨S2x12x24x2x64x1, .i1⟩
  | 59 => ⟨S1x1x1x1x1x1, .i32⟩
  | 60 => ⟨S2x12x24x2x64x1, .i32⟩
  | 61 => ⟨S2x12x24x2x64x1, .i1⟩
  | 62 => ⟨S2x12x24x2x64x1, .i1⟩
  | 63 => ⟨S_, .i1⟩
  | 64 => ⟨S2x12x24x2x64, .i1⟩
  | 65 => ⟨S2x12x24x2x64, .f32⟩
  | 66 => ⟨S_, .f32⟩
  | 67 => ⟨S2x12x24x2x64, .f32⟩
  | 68 => ⟨S2x12x24x2x64, .f32⟩
  | 69 => ⟨S2x12x2x24x64, .f32⟩
  | 70 => ⟨S2x12x2x2048x64, .f32⟩
  | 71 => ⟨S2x12x2x24x2048, .f32⟩
  | 72 => ⟨S_, .f32⟩
  | 73 => ⟨S2x12x2x24x2048, .f32⟩
  | 74 => ⟨S2x12x2x24x2048, .f32⟩
  | 75 => ⟨S_, .f32⟩
  | 76 => ⟨S2x12x2x64, .f32⟩
  | 77 => ⟨S_, .f32⟩
  | 78 => ⟨S2x12x2x64, .f32⟩
  | 79 => ⟨S2x12x2x64, .f32⟩
  | 80 => ⟨S2x12x1x2x64, .f32⟩
  | 81 => ⟨S2x12x2048x2x64, .f32⟩
  | 82 => ⟨S2x12x2x2048x64, .f32⟩
  | 83 => ⟨S2x12x2x2048x64, .f32⟩
  | 84 => ⟨S2x12x2x24, .i32⟩
  | 85 => ⟨S_, .f32⟩
  | 86 => ⟨S2x12x2x24, .f32⟩
  | 87 => ⟨S_, .f32⟩
  | 88 => ⟨S2x12x2x24, .f32⟩
  | 89 => ⟨S2x12x2x24, .f32⟩
  | 90 => ⟨S2x12x2x24x1, .f32⟩
  | 91 => ⟨S2x12x2x24x2048, .f32⟩
  | 92 => ⟨S2x12x2x24x2048, .f32⟩
  | 93 => ⟨S2x12x2x24x2048, .f32⟩
  | 94 => ⟨S_, .f32⟩
  | 95 => ⟨S2x12x2x24, .f32⟩
  | 96 => ⟨S2x12x2x24x1, .f32⟩
  | 97 => ⟨S2x12x2x24x2048, .f32⟩
  | 98 => ⟨S2x12x2x24x2048, .f32⟩
  | 99 => ⟨S2x12x2x24x64, .f32⟩
  | 100 => ⟨S2, .i32⟩
  | 101 => ⟨S2x1x1x1, .i32⟩
  | 102 => ⟨S12, .i32⟩
  | 103 => ⟨S1x12x1x1, .i32⟩
  | 104 => ⟨S2, .i32⟩
  | 105 => ⟨S1x1x2x1, .i32⟩
  | 106 => ⟨S_, .i32⟩
  | 107 => ⟨S2x1x1x1, .i32⟩
  | 108 => ⟨S2x1x1x1, .i1⟩
  | 109 => ⟨S_, .i32⟩
  | 110 => ⟨S2x1x1x1, .i32⟩
  | 111 => ⟨S2x1x1x1, .i32⟩
  | 112 => ⟨S2x1x1x1, .i32⟩
  | 113 => ⟨S_, .i32⟩
  | 114 => ⟨S1x12x1x1, .i32⟩
  | 115 => ⟨S1x12x1x1, .i1⟩
  | 116 => ⟨S_, .i32⟩
  | 117 => ⟨S1x12x1x1, .i32⟩
  | 118 => ⟨S1x12x1x1, .i32⟩
  | 119 => ⟨S1x12x1x1, .i32⟩
  | 120 => ⟨S_, .i32⟩
  | 121 => ⟨S1x1x2x1, .i32⟩
  | 122 => ⟨S1x1x2x1, .i1⟩
  | 123 => ⟨S_, .i32⟩
  | 124 => ⟨S1x1x2x1, .i32⟩
  | 125 => ⟨S1x1x2x1, .i32⟩
  | 126 => ⟨S1x1x2x1, .i32⟩
  | 127 => ⟨S_, .i32⟩
  | _ => ⟨S2x2048x2x12x64, .f32⟩

abbrev hbmTy0_7 (i : Nat) : BufTy := match i % 128 with
  | 0 => ⟨S2x12x2x24, .i32⟩
  | 1 => ⟨S2x12x2x24, .i1⟩
  | 2 => ⟨S_, .i32⟩
  | 3 => ⟨S2x12x2x24, .i32⟩
  | 4 => ⟨S2x12x2x24, .i32⟩
  | 5 => ⟨S2x12x2x24, .i32⟩
  | 6 => ⟨S2x12x2x24, .i32⟩
  | 7 => ⟨S2x12x2x24, .i32⟩
  | 8 => ⟨S2x12x2x24, .i32⟩
  | 9 => ⟨S2x12x2x24x1, .i32⟩
  | 10 => ⟨S2x12x2x24x1, .i32⟩
  | 11 => ⟨S2x12x2x24x1, .i32⟩
  | 12 => ⟨S2x12x2x24x1, .i32⟩
  | 13 => ⟨S2x12x2x24x4, .i32⟩
  | 14 => ⟨S2x12x2x2048x64, .f32⟩
  | 15 => ⟨S2x2x12x2048x64, .f32⟩
  | _ => ⟨S2x2048x2x12x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2048x2x12x64, .f32⟩

abbrev bufTy : (tb : Table) → Fin (tcTables nBuf tb) → BufTy
  | .hbm, ⟨i, _⟩ => hbmTy i
  | _, _ => ⟨S2x2048x2x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_c_3 : Ref sig .tc := ⟨.hbm, 18, rfl⟩
abbrev main_call0_c : Ref sig .tc := ⟨.hbm, 19, rfl⟩
abbrev main_call0_c_0 : Ref sig .tc := ⟨.hbm, 20, rfl⟩
abbrev main_call0_c_1 : Ref sig .tc := ⟨.hbm, 21, rfl⟩
abbrev main_call0_call0_v0 : Ref sig .tc := ⟨.hbm, 22, rfl⟩
abbrev main_call0_v0 : Ref sig .tc := ⟨.hbm, 23, rfl⟩
abbrev main_call0_v1 : Ref sig .tc := ⟨.hbm, 24, rfl⟩
abbrev main_call0_c_2 : Ref sig .tc := ⟨.hbm, 25, rfl⟩
abbrev main_call0_c_3 : Ref sig .tc := ⟨.hbm, 26, rfl⟩
abbrev main_call0_call1_v0 : Ref sig .tc := ⟨.hbm, 27, rfl⟩
abbrev main_call0_v2 : Ref sig .tc := ⟨.hbm, 28, rfl⟩
abbrev main_call0_v3 : Ref sig .tc := ⟨.hbm, 29, rfl⟩
abbrev main_call0_c_4 : Ref sig .tc := ⟨.hbm, 30, rfl⟩
abbrev main_call0_c_5 : Ref sig .tc := ⟨.hbm, 31, rfl⟩
abbrev main_call0_call2_v0 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_call3_v0 : Ref sig .tc := ⟨.hbm, 37, rfl⟩
abbrev main_call0_call3_v1 : Ref sig .tc := ⟨.hbm, 38, rfl⟩
abbrev main_call0_call3_v2 : Ref sig .tc := ⟨.hbm, 39, rfl⟩
abbrev main_call0_call3_v3 : Ref sig .tc := ⟨.hbm, 40, rfl⟩
abbrev main_call0_call3_v4 : Ref sig .tc := ⟨.hbm, 41, rfl⟩
abbrev main_call0_call3_c : Ref sig .tc := ⟨.hbm, 42, rfl⟩
abbrev main_call0_call3_v5 : Ref sig .tc := ⟨.hbm, 43, rfl⟩
abbrev main_call0_call3_v6 : Ref sig .tc := ⟨.hbm, 44, rfl⟩
abbrev main_call0_call3_c_0 : Ref sig .tc := ⟨.hbm, 45, rfl⟩
abbrev main_call0_call3_v7 : Ref sig .tc := ⟨.hbm, 46, rfl⟩
abbrev main_call0_call3_v8 : Ref sig .tc := ⟨.hbm, 47, rfl⟩
abbrev main_call0_call3_v9 : Ref sig .tc := ⟨.hbm, 48, rfl⟩
abbrev main_call0_call3_v10 : Ref sig .tc := ⟨.hbm, 49, rfl⟩
abbrev main_call0_call3_call0_v0 : Ref sig .tc := ⟨.hbm, 50, rfl⟩
abbrev main_call0_call3_call0_c : Ref sig .tc := ⟨.hbm, 51, rfl⟩
abbrev main_call0_call3_call0_v1 : Ref sig .tc := ⟨.hbm, 52, rfl⟩
abbrev main_call0_call3_call0_v2 : Ref sig .tc := ⟨.hbm, 53, rfl⟩
abbrev main_call0_call3_call0_v3 : Ref sig .tc := ⟨.hbm, 54, rfl⟩
abbrev main_call0_call3_call0_v4 : Ref sig .tc := ⟨.hbm, 55, rfl⟩
abbrev main_call0_call3_call0_v5 : Ref sig .tc := ⟨.hbm, 56, rfl⟩
abbrev main_call0_call3_call0_v6 : Ref sig .tc := ⟨.hbm, 57, rfl⟩
abbrev main_call0_call3_call0_c_0 : Ref sig .tc := ⟨.hbm, 58, rfl⟩
abbrev main_call0_call3_call0_v7 : Ref sig .tc := ⟨.hbm, 59, rfl⟩
abbrev main_call0_call3_call0_v8 : Ref sig .tc := ⟨.hbm, 60, rfl⟩
abbrev main_call0_call3_call0_c_1 : Ref sig .tc := ⟨.hbm, 61, rfl⟩
abbrev main_call0_call3_call0_v9 : Ref sig .tc := ⟨.hbm, 62, rfl⟩
abbrev main_call0_call3_call0_v10 : Ref sig .tc := ⟨.hbm, 63, rfl⟩
abbrev main_call0_call3_call0_v11 : Ref sig .tc := ⟨.hbm, 64, rfl⟩
abbrev main_call0_call3_call0_v12 : Ref sig .tc := ⟨.hbm, 65, rfl⟩
abbrev main_call0_call3_call0_v13 : Ref sig .tc := ⟨.hbm, 66, rfl⟩
abbrev main_call0_call3_call0_c_2 : Ref sig .tc := ⟨.hbm, 67, rfl⟩
abbrev main_call0_call3_call0_v14 : Ref sig .tc := ⟨.hbm, 68, rfl⟩
abbrev main_call0_call3_call0_v15 : Ref sig .tc := ⟨.hbm, 69, rfl⟩
abbrev main_call0_call3_call0_c_3 : Ref sig .tc := ⟨.hbm, 70, rfl⟩
abbrev main_call0_call3_call0_v16 : Ref sig .tc := ⟨.hbm, 71, rfl⟩
abbrev main_call0_call3_call0_v17 : Ref sig .tc := ⟨.hbm, 72, rfl⟩
abbrev main_call0_call3_call0_v18 : Ref sig .tc := ⟨.hbm, 73, rfl⟩
abbrev main_call0_call3_call0_v19 : Ref sig .tc := ⟨.hbm, 74, rfl⟩
abbrev main_call0_call3_call0_v20 : Ref sig .tc := ⟨.hbm, 75, rfl⟩
abbrev main_call0_call3_call0_c_4 : Ref sig .tc := ⟨.hbm, 76, rfl⟩
abbrev main_call0_call3_call0_v21 : Ref sig .tc := ⟨.hbm, 77, rfl⟩
abbrev main_call0_call3_call0_v22 : Ref sig .tc := ⟨.hbm, 78, rfl⟩
abbrev main_call0_call3_call0_c_5 : Ref sig .tc := ⟨.hbm, 79, rfl⟩
abbrev main_call0_call3_call0_v23 : Ref sig .tc := ⟨.hbm, 80, rfl⟩
abbrev main_call0_call3_call0_v24 : Ref sig .tc := ⟨.hbm, 81, rfl⟩
abbrev main_call0_call3_call0_v25 : Ref sig .tc := ⟨.hbm, 82, rfl⟩
abbrev main_call0_call3_call0_v26 : Ref sig .tc := ⟨.hbm, 83, rfl⟩
abbrev main_call0_call3_call0_v27 : Ref sig .tc := ⟨.hbm, 84, rfl⟩
abbrev main_call0_call3_call0_c_6 : Ref sig .tc := ⟨.hbm, 85, rfl⟩
abbrev main_call0_call3_call0_v28 : Ref sig .tc := ⟨.hbm, 86, rfl⟩
abbrev main_call0_call3_call0_v29 : Ref sig .tc := ⟨.hbm, 87, rfl⟩
abbrev main_call0_call3_call0_c_7 : Ref sig .tc := ⟨.hbm, 88, rfl⟩
abbrev main_call0_call3_call0_v30 : Ref sig .tc := ⟨.hbm, 89, rfl⟩
abbrev main_call0_call3_call0_v31 : Ref sig .tc := ⟨.hbm, 90, rfl⟩
abbrev main_call0_call3_call0_v32 : Ref sig .tc := ⟨.hbm, 91, rfl⟩
abbrev main_call0_call3_call0_v33 : Ref sig .tc := ⟨.hbm, 92, rfl⟩
abbrev main_call0_call3_call0_v34 : Ref sig .tc := ⟨.hbm, 93, rfl⟩
abbrev main_call0_call3_call0_v35 : Ref sig .tc := ⟨.hbm, 94, rfl⟩
abbrev main_call0_call3_call0_v36 : Ref sig .tc := ⟨.hbm, 95, rfl⟩
abbrev main_call0_call3_call0_v37 : Ref sig .tc := ⟨.hbm, 96, rfl⟩
abbrev main_call0_call3_call0_c_8 : Ref sig .tc := ⟨.hbm, 97, rfl⟩
abbrev main_call0_call3_call0_v38 : Ref sig .tc := ⟨.hbm, 98, rfl⟩
abbrev main_call0_call3_call0_v39 : Ref sig .tc := ⟨.hbm, 99, rfl⟩
abbrev main_call0_call3_call0_v40 : Ref sig .tc := ⟨.hbm, 100, rfl⟩
abbrev main_call0_call3_call0_c_9 : Ref sig .tc := ⟨.hbm, 101, rfl⟩
abbrev main_call0_call3_call0_v41 : Ref sig .tc := ⟨.hbm, 102, rfl⟩
abbrev main_call0_call3_call0_v42 : Ref sig .tc := ⟨.hbm, 103, rfl⟩
abbrev main_call0_call3_call0_c_10 : Ref sig .tc := ⟨.hbm, 104, rfl⟩
abbrev main_call0_call3_call0_v43 : Ref sig .tc := ⟨.hbm, 105, rfl⟩
abbrev main_call0_call3_call0_v44 : Ref sig .tc := ⟨.hbm, 106, rfl⟩
abbrev main_call0_call3_call0_v45 : Ref sig .tc := ⟨.hbm, 107, rfl⟩
abbrev main_call0_call3_call0_v46 : Ref sig .tc := ⟨.hbm, 108, rfl⟩
abbrev main_call0_call3_call0_v47 : Ref sig .tc := ⟨.hbm, 109, rfl⟩
abbrev main_call0_call3_call0_c_11 : Ref sig .tc := ⟨.hbm, 110, rfl⟩
abbrev main_call0_call3_call0_v48 : Ref sig .tc := ⟨.hbm, 111, rfl⟩
abbrev main_call0_call3_call0_v49 : Ref sig .tc := ⟨.hbm, 112, rfl⟩
abbrev main_call0_call3_call0_c_12 : Ref sig .tc := ⟨.hbm, 113, rfl⟩
abbrev main_call0_call3_call0_v50 : Ref sig .tc := ⟨.hbm, 114, rfl⟩
abbrev main_call0_call3_call0_v51 : Ref sig .tc := ⟨.hbm, 115, rfl⟩
abbrev main_call0_call3_call0_v52 : Ref sig .tc := ⟨.hbm, 116, rfl⟩
abbrev main_call0_call3_call0_v53 : Ref sig .tc := ⟨.hbm, 117, rfl⟩
abbrev main_call0_call3_call0_v54 : Ref sig .tc := ⟨.hbm, 118, rfl⟩
abbrev main_call0_call3_call0_c_13 : Ref sig .tc := ⟨.hbm, 119, rfl⟩
abbrev main_call0_call3_call0_v55 : Ref sig .tc := ⟨.hbm, 120, rfl⟩
abbrev main_call0_call3_call0_v56 : Ref sig .tc := ⟨.hbm, 121, rfl⟩
abbrev main_call0_call3_call0_c_14 : Ref sig .tc := ⟨.hbm, 122, rfl⟩
abbrev main_call0_call3_call0_v57 : Ref sig .tc := ⟨.hbm, 123, rfl⟩
abbrev main_call0_call3_call0_v58 : Ref sig .tc := ⟨.hbm, 124, rfl⟩
abbrev main_call0_call3_call0_v59 : Ref sig .tc := ⟨.hbm, 125, rfl⟩
abbrev main_call0_call3_call0_v60 : Ref sig .tc := ⟨.hbm, 126, rfl⟩
abbrev main_call0_call3_call0_v61 : Ref sig .tc := ⟨.hbm, 127, rfl⟩
abbrev main_call0_call3_call0_c_15 : Ref sig .tc := ⟨.hbm, 128, rfl⟩
abbrev main_call0_call3_call0_v62 : Ref sig .tc := ⟨.hbm, 129, rfl⟩
abbrev main_call0_call3_call0_v63 : Ref sig .tc := ⟨.hbm, 130, rfl⟩
abbrev main_call0_call3_call0_c_16 : Ref sig .tc := ⟨.hbm, 131, rfl⟩
abbrev main_call0_call3_call0_v64 : Ref sig .tc := ⟨.hbm, 132, rfl⟩
abbrev main_call0_call3_call0_v65 : Ref sig .tc := ⟨.hbm, 133, rfl⟩
abbrev main_call0_call3_call0_v66 : Ref sig .tc := ⟨.hbm, 134, rfl⟩
abbrev main_call0_call3_call0_v67 : Ref sig .tc := ⟨.hbm, 135, rfl⟩
abbrev main_call0_call3_call0_v68 : Ref sig .tc := ⟨.hbm, 136, rfl⟩
abbrev main_call0_call3_call0_v69 : Ref sig .tc := ⟨.hbm, 137, rfl⟩
abbrev main_call0_call3_call0_v70 : Ref sig .tc := ⟨.hbm, 138, rfl⟩
abbrev main_call0_call3_call0_v71 : Ref sig .tc := ⟨.hbm, 139, rfl⟩
abbrev main_call0_call3_call0_c_17 : Ref sig .tc := ⟨.hbm, 140, rfl⟩
abbrev main_call0_call3_call0_v72 : Ref sig .tc := ⟨.hbm, 141, rfl⟩
abbrev main_call0_call3_call0_v73 : Ref sig .tc := ⟨.hbm, 142, rfl⟩
abbrev main_call0_call3_call0_v74 : Ref sig .tc := ⟨.hbm, 143, rfl⟩
abbrev main_call0_call3_call0_c_18 : Ref sig .tc := ⟨.hbm, 144, rfl⟩
abbrev main_call0_call3_call0_v75 : Ref sig .tc := ⟨.hbm, 145, rfl⟩
abbrev main_call0_call3_call0_v76 : Ref sig .tc := ⟨.hbm, 146, rfl⟩
abbrev main_call0_call3_call0_c_19 : Ref sig .tc := ⟨.hbm, 147, rfl⟩
abbrev main_call0_call3_call0_v77 : Ref sig .tc := ⟨.hbm, 148, rfl⟩
abbrev main_call0_call3_call0_v78 : Ref sig .tc := ⟨.hbm, 149, rfl⟩
abbrev main_call0_call3_call0_v79 : Ref sig .tc := ⟨.hbm, 150, rfl⟩
abbrev main_call0_call3_call0_v80 : Ref sig .tc := ⟨.hbm, 151, rfl⟩
abbrev main_call0_call3_call0_v81 : Ref sig .tc := ⟨.hbm, 152, rfl⟩
abbrev main_call0_call3_call0_c_20 : Ref sig .tc := ⟨.hbm, 153, rfl⟩
abbrev main_call0_call3_call0_v82 : Ref sig .tc := ⟨.hbm, 154, rfl⟩
abbrev main_call0_call3_call0_v83 : Ref sig .tc := ⟨.hbm, 155, rfl⟩
abbrev main_call0_call3_call0_c_21 : Ref sig .tc := ⟨.hbm, 156, rfl⟩
abbrev main_call0_call3_call0_v84 : Ref sig .tc := ⟨.hbm, 157, rfl⟩
abbrev main_call0_call3_call0_v85 : Ref sig .tc := ⟨.hbm, 158, rfl⟩
abbrev main_call0_call3_call0_v86 : Ref sig .tc := ⟨.hbm, 159, rfl⟩
abbrev main_call0_call3_call0_v87 : Ref sig .tc := ⟨.hbm, 160, rfl⟩
abbrev main_call0_call3_call0_v88 : Ref sig .tc := ⟨.hbm, 161, rfl⟩
abbrev main_call0_call3_call0_c_22 : Ref sig .tc := ⟨.hbm, 162, rfl⟩
abbrev main_call0_call3_call0_v89 : Ref sig .tc := ⟨.hbm, 163, rfl⟩
abbrev main_call0_call3_call0_v90 : Ref sig .tc := ⟨.hbm, 164, rfl⟩
abbrev main_call0_call3_call0_c_23 : Ref sig .tc := ⟨.hbm, 165, rfl⟩
abbrev main_call0_call3_call0_v91 : Ref sig .tc := ⟨.hbm, 166, rfl⟩
abbrev main_call0_call3_call0_v92 : Ref sig .tc := ⟨.hbm, 167, rfl⟩
abbrev main_call0_call3_call0_v93 : Ref sig .tc := ⟨.hbm, 168, rfl⟩
abbrev main_call0_call3_call0_v94 : Ref sig .tc := ⟨.hbm, 169, rfl⟩
abbrev main_call0_call3_call0_v95 : Ref sig .tc := ⟨.hbm, 170, rfl⟩
abbrev main_call0_call3_call0_c_24 : Ref sig .tc := ⟨.hbm, 171, rfl⟩
abbrev main_call0_call3_call0_v96 : Ref sig .tc := ⟨.hbm, 172, rfl⟩
abbrev main_call0_call3_call0_v97 : Ref sig .tc := ⟨.hbm, 173, rfl⟩
abbrev main_call0_call3_call0_c_25 : Ref sig .tc := ⟨.hbm, 174, rfl⟩
abbrev main_call0_call3_call0_v98 : Ref sig .tc := ⟨.hbm, 175, rfl⟩
abbrev main_call0_call3_call0_v99 : Ref sig .tc := ⟨.hbm, 176, rfl⟩
abbrev main_call0_call3_call0_v100 : Ref sig .tc := ⟨.hbm, 177, rfl⟩
abbrev main_call0_call3_call0_v101 : Ref sig .tc := ⟨.hbm, 178, rfl⟩
abbrev main_call0_call3_call0_v102 : Ref sig .tc := ⟨.hbm, 179, rfl⟩
abbrev main_call0_call3_call0_v103 : Ref sig .tc := ⟨.hbm, 180, rfl⟩
abbrev main_call0_call3_call0_v104 : Ref sig .tc := ⟨.hbm, 181, rfl⟩
abbrev main_call0_call3_call0_v105 : Ref sig .tc := ⟨.hbm, 182, rfl⟩
abbrev main_call0_call3_call0_c_26 : Ref sig .tc := ⟨.hbm, 183, rfl⟩
abbrev main_call0_call3_call0_v106 : Ref sig .tc := ⟨.hbm, 184, rfl⟩
abbrev main_call0_call3_call0_v107 : Ref sig .tc := ⟨.hbm, 185, rfl⟩
abbrev main_call0_call3_call0_v108 : Ref sig .tc := ⟨.hbm, 186, rfl⟩
abbrev main_call0_call3_call0_c_27 : Ref sig .tc := ⟨.hbm, 187, rfl⟩
abbrev main_call0_call3_call0_v109 : Ref sig .tc := ⟨.hbm, 188, rfl⟩
abbrev main_call0_call3_call0_v110 : Ref sig .tc := ⟨.hbm, 189, rfl⟩
abbrev main_call0_call3_call0_c_28 : Ref sig .tc := ⟨.hbm, 190, rfl⟩
abbrev main_call0_call3_call0_v111 : Ref sig .tc := ⟨.hbm, 191, rfl⟩
abbrev main_call0_call3_call0_v112 : Ref sig .tc := ⟨.hbm, 192, rfl⟩
abbrev main_call0_call3_call0_v113 : Ref sig .tc := ⟨.hbm, 193, rfl⟩
abbrev main_call0_call3_call0_v114 : Ref sig .tc := ⟨.hbm, 194, rfl⟩
abbrev main_call0_call3_call0_v115 : Ref sig .tc := ⟨.hbm, 195, rfl⟩
abbrev main_call0_call3_call0_c_29 : Ref sig .tc := ⟨.hbm, 196, rfl⟩
abbrev main_call0_call3_call0_v116 : Ref sig .tc := ⟨.hbm, 197, rfl⟩
abbrev main_call0_call3_call0_v117 : Ref sig .tc := ⟨.hbm, 198, rfl⟩
abbrev main_call0_call3_call0_c_30 : Ref sig .tc := ⟨.hbm, 199, rfl⟩
abbrev main_call0_call3_call0_v118 : Ref sig .tc := ⟨.hbm, 200, rfl⟩
abbrev main_call0_call3_call0_v119 : Ref sig .tc := ⟨.hbm, 201, rfl⟩
abbrev main_call0_call3_call0_v120 : Ref sig .tc := ⟨.hbm, 202, rfl⟩
abbrev main_call0_call3_call0_v121 : Ref sig .tc := ⟨.hbm, 203, rfl⟩
abbrev main_call0_call3_call0_v122 : Ref sig .tc := ⟨.hbm, 204, rfl⟩
abbrev main_call0_call3_call0_c_31 : Ref sig .tc := ⟨.hbm, 205, rfl⟩
abbrev main_call0_call3_call0_v123 : Ref sig .tc := ⟨.hbm, 206, rfl⟩
abbrev main_call0_call3_call0_v124 : Ref sig .tc := ⟨.hbm, 207, rfl⟩
abbrev main_call0_call3_call0_c_32 : Ref sig .tc := ⟨.hbm, 208, rfl⟩
abbrev main_call0_call3_call0_v125 : Ref sig .tc := ⟨.hbm, 209, rfl⟩
abbrev main_call0_call3_call0_v126 : Ref sig .tc := ⟨.hbm, 210, rfl⟩
abbrev main_call0_call3_call0_v127 : Ref sig .tc := ⟨.hbm, 211, rfl⟩
abbrev main_call0_call3_call0_v128 : Ref sig .tc := ⟨.hbm, 212, rfl⟩
abbrev main_call0_call3_call0_v129 : Ref sig .tc := ⟨.hbm, 213, rfl⟩
abbrev main_call0_call3_call0_c_33 : Ref sig .tc := ⟨.hbm, 214, rfl⟩
abbrev main_call0_call3_call0_v130 : Ref sig .tc := ⟨.hbm, 215, rfl⟩
abbrev main_call0_call3_call0_v131 : Ref sig .tc := ⟨.hbm, 216, rfl⟩
abbrev main_call0_call3_call0_c_34 : Ref sig .tc := ⟨.hbm, 217, rfl⟩
abbrev main_call0_call3_call0_v132 : Ref sig .tc := ⟨.hbm, 218, rfl⟩
abbrev main_call0_call3_call0_v133 : Ref sig .tc := ⟨.hbm, 219, rfl⟩
abbrev main_call0_call3_call0_v134 : Ref sig .tc := ⟨.hbm, 220, rfl⟩
abbrev main_call0_call3_call0_v135 : Ref sig .tc := ⟨.hbm, 221, rfl⟩
abbrev main_call0_call3_call0_v136 : Ref sig .tc := ⟨.hbm, 222, rfl⟩
abbrev main_call0_call3_call0_v137 : Ref sig .tc := ⟨.hbm, 223, rfl⟩
abbrev main_call0_call3_call0_v138 : Ref sig .tc := ⟨.hbm, 224, rfl⟩
abbrev main_call0_call3_call0_v139 : Ref sig .tc := ⟨.hbm, 225, rfl⟩
abbrev main_call0_call3_call0_c_35 : Ref sig .tc := ⟨.hbm, 226, rfl⟩
abbrev main_call0_call3_call0_v140 : Ref sig .tc := ⟨.hbm, 227, rfl⟩
abbrev main_call0_call3_call0_v141 : Ref sig .tc := ⟨.hbm, 228, rfl⟩
abbrev main_call0_call3_call0_v142 : Ref sig .tc := ⟨.hbm, 229, rfl⟩
abbrev main_call0_call3_call0_c_36 : Ref sig .tc := ⟨.hbm, 230, rfl⟩
abbrev main_call0_call3_call0_v143 : Ref sig .tc := ⟨.hbm, 231, rfl⟩
abbrev main_call0_call3_call0_v144 : Ref sig .tc := ⟨.hbm, 232, rfl⟩
abbrev main_call0_call3_call0_c_37 : Ref sig .tc := ⟨.hbm, 233, rfl⟩
abbrev main_call0_call3_call0_v145 : Ref sig .tc := ⟨.hbm, 234, rfl⟩
abbrev main_call0_call3_call0_v146 : Ref sig .tc := ⟨.hbm, 235, rfl⟩
abbrev main_call0_call3_call0_v147 : Ref sig .tc := ⟨.hbm, 236, rfl⟩
abbrev main_call0_call3_call0_v148 : Ref sig .tc := ⟨.hbm, 237, rfl⟩
abbrev main_call0_call3_call0_v149 : Ref sig .tc := ⟨.hbm, 238, rfl⟩
abbrev main_call0_call3_call0_c_38 : Ref sig .tc := ⟨.hbm, 239, rfl⟩
abbrev main_call0_call3_call0_v150 : Ref sig .tc := ⟨.hbm, 240, rfl⟩
abbrev main_call0_call3_call0_v151 : Ref sig .tc := ⟨.hbm, 241, rfl⟩
abbrev main_call0_call3_call0_c_39 : Ref sig .tc := ⟨.hbm, 242, rfl⟩
abbrev main_call0_call3_call0_v152 : Ref sig .tc := ⟨.hbm, 243, rfl⟩
abbrev main_call0_call3_call0_v153 : Ref sig .tc := ⟨.hbm, 244, rfl⟩
abbrev main_call0_call3_call0_v154 : Ref sig .tc := ⟨.hbm, 245, rfl⟩
abbrev main_call0_call3_call0_v155 : Ref sig .tc := ⟨.hbm, 246, rfl⟩
abbrev main_call0_call3_call0_v156 : Ref sig .tc := ⟨.hbm, 247, rfl⟩
abbrev main_call0_call3_call0_c_40 : Ref sig .tc := ⟨.hbm, 248, rfl⟩
abbrev main_call0_call3_call0_v157 : Ref sig .tc := ⟨.hbm, 249, rfl⟩
abbrev main_call0_call3_call0_v158 : Ref sig .tc := ⟨.hbm, 250, rfl⟩
abbrev main_call0_call3_call0_c_41 : Ref sig .tc := ⟨.hbm, 251, rfl⟩
abbrev main_call0_call3_call0_v159 : Ref sig .tc := ⟨.hbm, 252, rfl⟩
abbrev main_call0_call3_call0_v160 : Ref sig .tc := ⟨.hbm, 253, rfl⟩
abbrev main_call0_call3_call0_v161 : Ref sig .tc := ⟨.hbm, 254, rfl⟩
abbrev main_call0_call3_call0_v162 : Ref sig .tc := ⟨.hbm, 255, rfl⟩
abbrev main_call0_call3_call0_v163 : Ref sig .tc := ⟨.hbm, 256, rfl⟩
abbrev main_call0_call3_call0_c_42 : Ref sig .tc := ⟨.hbm, 257, rfl⟩
abbrev main_call0_call3_call0_v164 : Ref sig .tc := ⟨.hbm, 258, rfl⟩
abbrev main_call0_call3_call0_v165 : Ref sig .tc := ⟨.hbm, 259, rfl⟩
abbrev main_call0_call3_call0_c_43 : Ref sig .tc := ⟨.hbm, 260, rfl⟩
abbrev main_call0_call3_call0_v166 : Ref sig .tc := ⟨.hbm, 261, rfl⟩
abbrev main_call0_call3_call0_v167 : Ref sig .tc := ⟨.hbm, 262, rfl⟩
abbrev main_call0_call3_call0_v168 : Ref sig .tc := ⟨.hbm, 263, rfl⟩
abbrev main_call0_call3_call0_v169 : Ref sig .tc := ⟨.hbm, 264, rfl⟩
abbrev main_call0_call3_call0_v170 : Ref sig .tc := ⟨.hbm, 265, rfl⟩
abbrev main_call0_call3_v11_0 : Ref sig .tc := ⟨.hbm, 266, rfl⟩
abbrev main_call0_call3_call0_v172 : Ref sig .tc := ⟨.hbm, 267, rfl⟩
abbrev main_call0_call3_call0_v173 : Ref sig .tc := ⟨.hbm, 268, rfl⟩
abbrev main_call0_call3_call0_c_44 : Ref sig .tc := ⟨.hbm, 269, rfl⟩
abbrev main_call0_call3_call0_v174 : Ref sig .tc := ⟨.hbm, 270, rfl⟩
abbrev main_call0_call3_v11_1 : Ref sig .tc := ⟨.hbm, 271, rfl⟩
abbrev main_call0_call3_v12 : Ref sig .tc := ⟨.hbm, 272, rfl⟩
abbrev main_call0_call3_v13 : Ref sig .tc := ⟨.hbm, 273, rfl⟩
abbrev main_call0_v8 : Ref sig .tc := ⟨.hbm, 274, rfl⟩
abbrev main_call0_v9 : Ref sig .tc := ⟨.hbm, 275, rfl⟩
abbrev main_call0_v10 : Ref sig .tc := ⟨.hbm, 276, rfl⟩
abbrev main_call0_v11 : Ref sig .tc := ⟨.hbm, 277, rfl⟩
abbrev main_call0_v12 : Ref sig .tc := ⟨.hbm, 278, rfl⟩
abbrev main_call0_v13 : Ref sig .tc := ⟨.hbm, 279, rfl⟩
abbrev main_call0_v14 : Ref sig .tc := ⟨.hbm, 280, rfl⟩
abbrev main_call0_v15 : Ref sig .tc := ⟨.hbm, 281, rfl⟩
abbrev main_call0_v16 : Ref sig .tc := ⟨.hbm, 282, rfl⟩
abbrev main_call0_v17 : Ref sig .tc := ⟨.hbm, 283, rfl⟩
abbrev main_call0_v18 : Ref sig .tc := ⟨.hbm, 284, rfl⟩
abbrev main_call0_c_6 : Ref sig .tc := ⟨.hbm, 285, rfl⟩
abbrev main_call0_v19 : Ref sig .tc := ⟨.hbm, 286, rfl⟩
abbrev main_call0_v20 : Ref sig .tc := ⟨.hbm, 287, rfl⟩
abbrev main_call0_c_7 : Ref sig .tc := ⟨.hbm, 288, rfl⟩
abbrev main_call0_v21 : Ref sig .tc := ⟨.hbm, 289, rfl⟩
abbrev main_call0_v22 : Ref sig .tc := ⟨.hbm, 290, rfl⟩
abbrev main_call0_v23 : Ref sig .tc := ⟨.hbm, 291, rfl⟩
abbrev main_call0_c_8 : Ref sig .tc := ⟨.hbm, 292, rfl⟩
abbrev main_call0_v24 : Ref sig .tc := ⟨.hbm, 293, rfl⟩
abbrev main_call0_v25 : Ref sig .tc := ⟨.hbm, 294, rfl⟩
abbrev main_call0_v26 : Ref sig .tc := ⟨.hbm, 295, rfl⟩
abbrev main_call0_v27 : Ref sig .tc := ⟨.hbm, 296, rfl⟩
abbrev main_call0_call4_v0 : Ref sig .tc := ⟨.hbm, 297, rfl⟩
abbrev main_call0_call4_c : Ref sig .tc := ⟨.hbm, 298, rfl⟩
abbrev main_call0_call4_v1 : Ref sig .tc := ⟨.hbm, 299, rfl⟩
abbrev main_call0_call4_v2 : Ref sig .tc := ⟨.hbm, 300, rfl⟩
abbrev main_call0_call4_v3 : Ref sig .tc := ⟨.hbm, 301, rfl⟩
abbrev main_call0_call4_v4 : Ref sig .tc := ⟨.hbm, 302, rfl⟩
abbrev main_call0_call4_v5 : Ref sig .tc := ⟨.hbm, 303, rfl⟩
abbrev main_call0_call4_v6 : Ref sig .tc := ⟨.hbm, 304, rfl⟩
abbrev main_call0_call4_c_0 : Ref sig .tc := ⟨.hbm, 305, rfl⟩
abbrev main_call0_call4_v7 : Ref sig .tc := ⟨.hbm, 306, rfl⟩
abbrev main_call0_call4_v8 : Ref sig .tc := ⟨.hbm, 307, rfl⟩
abbrev main_call0_call4_c_1 : Ref sig .tc := ⟨.hbm, 308, rfl⟩
abbrev main_call0_call4_v9 : Ref sig .tc := ⟨.hbm, 309, rfl⟩
abbrev main_call0_call4_v10 : Ref sig .tc := ⟨.hbm, 310, rfl⟩
abbrev main_call0_call4_v11 : Ref sig .tc := ⟨.hbm, 311, rfl⟩
abbrev main_call0_call4_v12 : Ref sig .tc := ⟨.hbm, 312, rfl⟩
abbrev main_call0_call4_v13 : Ref sig .tc := ⟨.hbm, 313, rfl⟩
abbrev main_call0_call4_c_2 : Ref sig .tc := ⟨.hbm, 314, rfl⟩
abbrev main_call0_call4_v14 : Ref sig .tc := ⟨.hbm, 315, rfl⟩
abbrev main_call0_call4_v15 : Ref sig .tc := ⟨.hbm, 316, rfl⟩
abbrev main_call0_call4_c_3 : Ref sig .tc := ⟨.hbm, 317, rfl⟩
abbrev main_call0_call4_v16 : Ref sig .tc := ⟨.hbm, 318, rfl⟩
abbrev main_call0_call4_v17 : Ref sig .tc := ⟨.hbm, 319, rfl⟩
abbrev main_call0_call4_v18 : Ref sig .tc := ⟨.hbm, 320, rfl⟩
abbrev main_call0_call4_v19 : Ref sig .tc := ⟨.hbm, 321, rfl⟩
abbrev main_call0_call4_v20 : Ref sig .tc := ⟨.hbm, 322, rfl⟩
abbrev main_call0_call4_c_4 : Ref sig .tc := ⟨.hbm, 323, rfl⟩
abbrev main_call0_call4_v21 : Ref sig .tc := ⟨.hbm, 324, rfl⟩
abbrev main_call0_call4_v22 : Ref sig .tc := ⟨.hbm, 325, rfl⟩
abbrev main_call0_call4_c_5 : Ref sig .tc := ⟨.hbm, 326, rfl⟩
abbrev main_call0_call4_v23 : Ref sig .tc := ⟨.hbm, 327, rfl⟩
abbrev main_call0_call4_v24 : Ref sig .tc := ⟨.hbm, 328, rfl⟩
abbrev main_call0_call4_v25 : Ref sig .tc := ⟨.hbm, 329, rfl⟩
abbrev main_call0_call4_v26 : Ref sig .tc := ⟨.hbm, 330, rfl⟩
abbrev main_call0_call4_v27 : Ref sig .tc := ⟨.hbm, 331, rfl⟩
abbrev main_call0_call4_c_6 : Ref sig .tc := ⟨.hbm, 332, rfl⟩
abbrev main_call0_call4_v28 : Ref sig .tc := ⟨.hbm, 333, rfl⟩
abbrev main_call0_call4_v29 : Ref sig .tc := ⟨.hbm, 334, rfl⟩
abbrev main_call0_call4_c_7 : Ref sig .tc := ⟨.hbm, 335, rfl⟩
abbrev main_call0_call4_v30 : Ref sig .tc := ⟨.hbm, 336, rfl⟩
abbrev main_call0_call4_v31 : Ref sig .tc := ⟨.hbm, 337, rfl⟩
abbrev main_call0_call4_v32 : Ref sig .tc := ⟨.hbm, 338, rfl⟩
abbrev main_call0_call4_v33 : Ref sig .tc := ⟨.hbm, 339, rfl⟩
abbrev main_call0_call4_v34 : Ref sig .tc := ⟨.hbm, 340, rfl⟩
abbrev main_call0_call4_v35 : Ref sig .tc := ⟨.hbm, 341, rfl⟩
abbrev main_call0_call4_v36 : Ref sig .tc := ⟨.hbm, 342, rfl⟩
abbrev main_call0_call4_v37 : Ref sig .tc := ⟨.hbm, 343, rfl⟩
abbrev main_call0_call4_c_8 : Ref sig .tc := ⟨.hbm, 344, rfl⟩
abbrev main_call0_call4_v38 : Ref sig .tc := ⟨.hbm, 345, rfl⟩
abbrev main_call0_call4_v39 : Ref sig .tc := ⟨.hbm, 346, rfl⟩
abbrev main_call0_call4_v40 : Ref sig .tc := ⟨.hbm, 347, rfl⟩
abbrev main_call0_call4_c_9 : Ref sig .tc := ⟨.hbm, 348, rfl⟩
abbrev main_call0_call4_v41 : Ref sig .tc := ⟨.hbm, 349, rfl⟩
abbrev main_call0_call4_v42 : Ref sig .tc := ⟨.hbm, 350, rfl⟩
abbrev main_call0_call4_c_10 : Ref sig .tc := ⟨.hbm, 351, rfl⟩
abbrev main_call0_call4_v43 : Ref sig .tc := ⟨.hbm, 352, rfl⟩
abbrev main_call0_call4_v44 : Ref sig .tc := ⟨.hbm, 353, rfl⟩
abbrev main_call0_call4_v45 : Ref sig .tc := ⟨.hbm, 354, rfl⟩
abbrev main_call0_call4_v46 : Ref sig .tc := ⟨.hbm, 355, rfl⟩
abbrev main_call0_call4_v47 : Ref sig .tc := ⟨.hbm, 356, rfl⟩
abbrev main_call0_call4_c_11 : Ref sig .tc := ⟨.hbm, 357, rfl⟩
abbrev main_call0_call4_v48 : Ref sig .tc := ⟨.hbm, 358, rfl⟩
abbrev main_call0_call4_v49 : Ref sig .tc := ⟨.hbm, 359, rfl⟩
abbrev main_call0_call4_c_12 : Ref sig .tc := ⟨.hbm, 360, rfl⟩
abbrev main_call0_call4_v50 : Ref sig .tc := ⟨.hbm, 361, rfl⟩
abbrev main_call0_call4_v51 : Ref sig .tc := ⟨.hbm, 362, rfl⟩
abbrev main_call0_call4_v52 : Ref sig .tc := ⟨.hbm, 363, rfl⟩
abbrev main_call0_call4_v53 : Ref sig .tc := ⟨.hbm, 364, rfl⟩
abbrev main_call0_call4_v54 : Ref sig .tc := ⟨.hbm, 365, rfl⟩
abbrev main_call0_call4_c_13 : Ref sig .tc := ⟨.hbm, 366, rfl⟩
abbrev main_call0_call4_v55 : Ref sig .tc := ⟨.hbm, 367, rfl⟩
abbrev main_call0_call4_v56 : Ref sig .tc := ⟨.hbm, 368, rfl⟩
abbrev main_call0_call4_c_14 : Ref sig .tc := ⟨.hbm, 369, rfl⟩
abbrev main_call0_call4_v57 : Ref sig .tc := ⟨.hbm, 370, rfl⟩
abbrev main_call0_call4_v58 : Ref sig .tc := ⟨.hbm, 371, rfl⟩
abbrev main_call0_call4_v59 : Ref sig .tc := ⟨.hbm, 372, rfl⟩
abbrev main_call0_call4_v60 : Ref sig .tc := ⟨.hbm, 373, rfl⟩
abbrev main_call0_call4_v61 : Ref sig .tc := ⟨.hbm, 374, rfl⟩
abbrev main_call0_call4_c_15 : Ref sig .tc := ⟨.hbm, 375, rfl⟩
abbrev main_call0_call4_v62 : Ref sig .tc := ⟨.hbm, 376, rfl⟩
abbrev main_call0_call4_v63 : Ref sig .tc := ⟨.hbm, 377, rfl⟩
abbrev main_call0_call4_c_16 : Ref sig .tc := ⟨.hbm, 378, rfl⟩
abbrev main_call0_call4_v64 : Ref sig .tc := ⟨.hbm, 379, rfl⟩
abbrev main_call0_call4_v65 : Ref sig .tc := ⟨.hbm, 380, rfl⟩
abbrev main_call0_call4_v66 : Ref sig .tc := ⟨.hbm, 381, rfl⟩
abbrev main_call0_call4_v67 : Ref sig .tc := ⟨.hbm, 382, rfl⟩
abbrev main_call0_call4_v68 : Ref sig .tc := ⟨.hbm, 383, rfl⟩
abbrev main_call0_call4_v69 : Ref sig .tc := ⟨.hbm, 384, rfl⟩
abbrev main_call0_call4_v70 : Ref sig .tc := ⟨.hbm, 385, rfl⟩
abbrev main_call0_call4_v71 : Ref sig .tc := ⟨.hbm, 386, rfl⟩
abbrev main_call0_call4_c_17 : Ref sig .tc := ⟨.hbm, 387, rfl⟩
abbrev main_call0_call4_v72 : Ref sig .tc := ⟨.hbm, 388, rfl⟩
abbrev main_call0_call4_v73 : Ref sig .tc := ⟨.hbm, 389, rfl⟩
abbrev main_call0_call4_v74 : Ref sig .tc := ⟨.hbm, 390, rfl⟩
abbrev main_call0_call4_c_18 : Ref sig .tc := ⟨.hbm, 391, rfl⟩
abbrev main_call0_call4_v75 : Ref sig .tc := ⟨.hbm, 392, rfl⟩
abbrev main_call0_call4_v76 : Ref sig .tc := ⟨.hbm, 393, rfl⟩
abbrev main_call0_call4_c_19 : Ref sig .tc := ⟨.hbm, 394, rfl⟩
abbrev main_call0_call4_v77 : Ref sig .tc := ⟨.hbm, 395, rfl⟩
abbrev main_call0_call4_v78 : Ref sig .tc := ⟨.hbm, 396, rfl⟩
abbrev main_call0_call4_v79 : Ref sig .tc := ⟨.hbm, 397, rfl⟩
abbrev main_call0_call4_v80 : Ref sig .tc := ⟨.hbm, 398, rfl⟩
abbrev main_call0_call4_v81 : Ref sig .tc := ⟨.hbm, 399, rfl⟩
abbrev main_call0_call4_c_20 : Ref sig .tc := ⟨.hbm, 400, rfl⟩
abbrev main_call0_call4_v82 : Ref sig .tc := ⟨.hbm, 401, rfl⟩
abbrev main_call0_call4_v83 : Ref sig .tc := ⟨.hbm, 402, rfl⟩
abbrev main_call0_call4_c_21 : Ref sig .tc := ⟨.hbm, 403, rfl⟩
abbrev main_call0_call4_v84 : Ref sig .tc := ⟨.hbm, 404, rfl⟩
abbrev main_call0_call4_v85 : Ref sig .tc := ⟨.hbm, 405, rfl⟩
abbrev main_call0_call4_v86 : Ref sig .tc := ⟨.hbm, 406, rfl⟩
abbrev main_call0_call4_v87 : Ref sig .tc := ⟨.hbm, 407, rfl⟩
abbrev main_call0_call4_v88 : Ref sig .tc := ⟨.hbm, 408, rfl⟩
abbrev main_call0_call4_c_22 : Ref sig .tc := ⟨.hbm, 409, rfl⟩
abbrev main_call0_call4_v89 : Ref sig .tc := ⟨.hbm, 410, rfl⟩
abbrev main_call0_call4_v90 : Ref sig .tc := ⟨.hbm, 411, rfl⟩
abbrev main_call0_call4_c_23 : Ref sig .tc := ⟨.hbm, 412, rfl⟩
abbrev main_call0_call4_v91 : Ref sig .tc := ⟨.hbm, 413, rfl⟩
abbrev main_call0_call4_v92 : Ref sig .tc := ⟨.hbm, 414, rfl⟩
abbrev main_call0_call4_v93 : Ref sig .tc := ⟨.hbm, 415, rfl⟩
abbrev main_call0_call4_v94 : Ref sig .tc := ⟨.hbm, 416, rfl⟩
abbrev main_call0_call4_v95 : Ref sig .tc := ⟨.hbm, 417, rfl⟩
abbrev main_call0_call4_c_24 : Ref sig .tc := ⟨.hbm, 418, rfl⟩
abbrev main_call0_call4_v96 : Ref sig .tc := ⟨.hbm, 419, rfl⟩
abbrev main_call0_call4_v97 : Ref sig .tc := ⟨.hbm, 420, rfl⟩
abbrev main_call0_call4_c_25 : Ref sig .tc := ⟨.hbm, 421, rfl⟩
abbrev main_call0_call4_v98 : Ref sig .tc := ⟨.hbm, 422, rfl⟩
abbrev main_call0_call4_v99 : Ref sig .tc := ⟨.hbm, 423, rfl⟩
abbrev main_call0_call4_v100 : Ref sig .tc := ⟨.hbm, 424, rfl⟩
abbrev main_call0_call4_v101 : Ref sig .tc := ⟨.hbm, 425, rfl⟩
abbrev main_call0_call4_v102 : Ref sig .tc := ⟨.hbm, 426, rfl⟩
abbrev main_call0_call4_v103 : Ref sig .tc := ⟨.hbm, 427, rfl⟩
abbrev main_call0_call4_v104 : Ref sig .tc := ⟨.hbm, 428, rfl⟩
abbrev main_call0_call4_v105 : Ref sig .tc := ⟨.hbm, 429, rfl⟩
abbrev main_call0_call4_c_26 : Ref sig .tc := ⟨.hbm, 430, rfl⟩
abbrev main_call0_call4_v106 : Ref sig .tc := ⟨.hbm, 431, rfl⟩
abbrev main_call0_call4_v107 : Ref sig .tc := ⟨.hbm, 432, rfl⟩
abbrev main_call0_call4_v108 : Ref sig .tc := ⟨.hbm, 433, rfl⟩
abbrev main_call0_call4_c_27 : Ref sig .tc := ⟨.hbm, 434, rfl⟩
abbrev main_call0_call4_v109 : Ref sig .tc := ⟨.hbm, 435, rfl⟩
abbrev main_call0_call4_v110 : Ref sig .tc := ⟨.hbm, 436, rfl⟩
abbrev main_call0_call4_c_28 : Ref sig .tc := ⟨.hbm, 437, rfl⟩
abbrev main_call0_call4_v111 : Ref sig .tc := ⟨.hbm, 438, rfl⟩
abbrev main_call0_call4_v112 : Ref sig .tc := ⟨.hbm, 439, rfl⟩
abbrev main_call0_call4_v113 : Ref sig .tc := ⟨.hbm, 440, rfl⟩
abbrev main_call0_call4_v114 : Ref sig .tc := ⟨.hbm, 441, rfl⟩
abbrev main_call0_call4_v115 : Ref sig .tc := ⟨.hbm, 442, rfl⟩
abbrev main_call0_call4_c_29 : Ref sig .tc := ⟨.hbm, 443, rfl⟩
abbrev main_call0_call4_v116 : Ref sig .tc := ⟨.hbm, 444, rfl⟩
abbrev main_call0_call4_v117 : Ref sig .tc := ⟨.hbm, 445, rfl⟩
abbrev main_call0_call4_c_30 : Ref sig .tc := ⟨.hbm, 446, rfl⟩
abbrev main_call0_call4_v118 : Ref sig .tc := ⟨.hbm, 447, rfl⟩
abbrev main_call0_call4_v119 : Ref sig .tc := ⟨.hbm, 448, rfl⟩
abbrev main_call0_call4_v120 : Ref sig .tc := ⟨.hbm, 449, rfl⟩
abbrev main_call0_call4_v121 : Ref sig .tc := ⟨.hbm, 450, rfl⟩
abbrev main_call0_call4_v122 : Ref sig .tc := ⟨.hbm, 451, rfl⟩
abbrev main_call0_call4_c_31 : Ref sig .tc := ⟨.hbm, 452, rfl⟩
abbrev main_call0_call4_v123 : Ref sig .tc := ⟨.hbm, 453, rfl⟩
abbrev main_call0_call4_v124 : Ref sig .tc := ⟨.hbm, 454, rfl⟩
abbrev main_call0_call4_c_32 : Ref sig .tc := ⟨.hbm, 455, rfl⟩
abbrev main_call0_call4_v125 : Ref sig .tc := ⟨.hbm, 456, rfl⟩
abbrev main_call0_call4_v126 : Ref sig .tc := ⟨.hbm, 457, rfl⟩
abbrev main_call0_call4_v127 : Ref sig .tc := ⟨.hbm, 458, rfl⟩
abbrev main_call0_call4_v128 : Ref sig .tc := ⟨.hbm, 459, rfl⟩
abbrev main_call0_call4_v129 : Ref sig .tc := ⟨.hbm, 460, rfl⟩
abbrev main_call0_call4_c_33 : Ref sig .tc := ⟨.hbm, 461, rfl⟩
abbrev main_call0_call4_v130 : Ref sig .tc := ⟨.hbm, 462, rfl⟩
abbrev main_call0_call4_v131 : Ref sig .tc := ⟨.hbm, 463, rfl⟩
abbrev main_call0_call4_c_34 : Ref sig .tc := ⟨.hbm, 464, rfl⟩
abbrev main_call0_call4_v132 : Ref sig .tc := ⟨.hbm, 465, rfl⟩
abbrev main_call0_call4_v133 : Ref sig .tc := ⟨.hbm, 466, rfl⟩
abbrev main_call0_call4_v134 : Ref sig .tc := ⟨.hbm, 467, rfl⟩
abbrev main_call0_call4_v135 : Ref sig .tc := ⟨.hbm, 468, rfl⟩
abbrev main_call0_call4_v136 : Ref sig .tc := ⟨.hbm, 469, rfl⟩
abbrev main_call0_call4_v137 : Ref sig .tc := ⟨.hbm, 470, rfl⟩
abbrev main_call0_call4_v138 : Ref sig .tc := ⟨.hbm, 471, rfl⟩
abbrev main_call0_call4_v139 : Ref sig .tc := ⟨.hbm, 472, rfl⟩
abbrev main_call0_call4_c_35 : Ref sig .tc := ⟨.hbm, 473, rfl⟩
abbrev main_call0_call4_v140 : Ref sig .tc := ⟨.hbm, 474, rfl⟩
abbrev main_call0_call4_v141 : Ref sig .tc := ⟨.hbm, 475, rfl⟩
abbrev main_call0_call4_v142 : Ref sig .tc := ⟨.hbm, 476, rfl⟩
abbrev main_call0_call4_c_36 : Ref sig .tc := ⟨.hbm, 477, rfl⟩
abbrev main_call0_call4_v143 : Ref sig .tc := ⟨.hbm, 478, rfl⟩
abbrev main_call0_call4_v144 : Ref sig .tc := ⟨.hbm, 479, rfl⟩
abbrev main_call0_call4_c_37 : Ref sig .tc := ⟨.hbm, 480, rfl⟩
abbrev main_call0_call4_v145 : Ref sig .tc := ⟨.hbm, 481, rfl⟩
abbrev main_call0_call4_v146 : Ref sig .tc := ⟨.hbm, 482, rfl⟩
abbrev main_call0_call4_v147 : Ref sig .tc := ⟨.hbm, 483, rfl⟩
abbrev main_call0_call4_v148 : Ref sig .tc := ⟨.hbm, 484, rfl⟩
abbrev main_call0_call4_v149 : Ref sig .tc := ⟨.hbm, 485, rfl⟩
abbrev main_call0_call4_c_38 : Ref sig .tc := ⟨.hbm, 486, rfl⟩
abbrev main_call0_call4_v150 : Ref sig .tc := ⟨.hbm, 487, rfl⟩
abbrev main_call0_call4_v151 : Ref sig .tc := ⟨.hbm, 488, rfl⟩
abbrev main_call0_call4_c_39 : Ref sig .tc := ⟨.hbm, 489, rfl⟩
abbrev main_call0_call4_v152 : Ref sig .tc := ⟨.hbm, 490, rfl⟩
abbrev main_call0_call4_v153 : Ref sig .tc := ⟨.hbm, 491, rfl⟩
abbrev main_call0_call4_v154 : Ref sig .tc := ⟨.hbm, 492, rfl⟩
abbrev main_call0_call4_v155 : Ref sig .tc := ⟨.hbm, 493, rfl⟩
abbrev main_call0_call4_v156 : Ref sig .tc := ⟨.hbm, 494, rfl⟩
abbrev main_call0_call4_c_40 : Ref sig .tc := ⟨.hbm, 495, rfl⟩
abbrev main_call0_call4_v157 : Ref sig .tc := ⟨.hbm, 496, rfl⟩
abbrev main_call0_call4_v158 : Ref sig .tc := ⟨.hbm, 497, rfl⟩
abbrev main_call0_call4_c_41 : Ref sig .tc := ⟨.hbm, 498, rfl⟩
abbrev main_call0_call4_v159 : Ref sig .tc := ⟨.hbm, 499, rfl⟩
abbrev main_call0_call4_v160 : Ref sig .tc := ⟨.hbm, 500, rfl⟩
abbrev main_call0_call4_v161 : Ref sig .tc := ⟨.hbm, 501, rfl⟩
abbrev main_call0_call4_v162 : Ref sig .tc := ⟨.hbm, 502, rfl⟩
abbrev main_call0_call4_v163 : Ref sig .tc := ⟨.hbm, 503, rfl⟩
abbrev main_call0_call4_c_42 : Ref sig .tc := ⟨.hbm, 504, rfl⟩
abbrev main_call0_call4_v164 : Ref sig .tc := ⟨.hbm, 505, rfl⟩
abbrev main_call0_call4_v165 : Ref sig .tc := ⟨.hbm, 506, rfl⟩
abbrev main_call0_call4_c_43 : Ref sig .tc := ⟨.hbm, 507, rfl⟩
abbrev main_call0_call4_v166 : Ref sig .tc := ⟨.hbm, 508, rfl⟩
abbrev main_call0_call4_v167 : Ref sig .tc := ⟨.hbm, 509, rfl⟩
abbrev main_call0_call4_v168 : Ref sig .tc := ⟨.hbm, 510, rfl⟩
abbrev main_call0_call4_v169 : Ref sig .tc := ⟨.hbm, 511, rfl⟩
abbrev main_call0_call4_v170 : Ref sig .tc := ⟨.hbm, 512, rfl⟩
abbrev main_call0_v28_0 : Ref sig .tc := ⟨.hbm, 513, rfl⟩
abbrev main_call0_call4_v172 : Ref sig .tc := ⟨.hbm, 514, rfl⟩
abbrev main_call0_call4_v173 : Ref sig .tc := ⟨.hbm, 515, rfl⟩
abbrev main_call0_call4_c_44 : Ref sig .tc := ⟨.hbm, 516, rfl⟩
abbrev main_call0_call4_v174 : Ref sig .tc := ⟨.hbm, 517, rfl⟩
abbrev main_call0_v28_1 : Ref sig .tc := ⟨.hbm, 518, rfl⟩
abbrev main_call0_v29 : Ref sig .tc := ⟨.hbm, 519, rfl⟩
abbrev main_call0_v30 : Ref sig .tc := ⟨.hbm, 520, rfl⟩
abbrev main_call0_v31 : Ref sig .tc := ⟨.hbm, 521, rfl⟩
abbrev main_call0_v32 : Ref sig .tc := ⟨.hbm, 522, rfl⟩
abbrev main_call0_v33 : Ref sig .tc := ⟨.hbm, 523, rfl⟩
abbrev main_call0_v34 : Ref sig .tc := ⟨.hbm, 524, rfl⟩
abbrev main_call0_v35 : Ref sig .tc := ⟨.hbm, 525, rfl⟩
abbrev main_call0_c_9 : Ref sig .tc := ⟨.hbm, 526, rfl⟩
abbrev main_call0_v36 : Ref sig .tc := ⟨.hbm, 527, rfl⟩
abbrev main_call0_v37 : Ref sig .tc := ⟨.hbm, 528, rfl⟩
abbrev main_call0_c_10 : Ref sig .tc := ⟨.hbm, 529, rfl⟩
abbrev main_call0_v38 : Ref sig .tc := ⟨.hbm, 530, rfl⟩
abbrev main_call0_v39 : Ref sig .tc := ⟨.hbm, 531, rfl⟩
abbrev main_call0_v40 : Ref sig .tc := ⟨.hbm, 532, rfl⟩
abbrev main_call0_c_11 : Ref sig .tc := ⟨.hbm, 533, rfl⟩
abbrev main_call0_v41 : Ref sig .tc := ⟨.hbm, 534, rfl⟩
abbrev main_call0_v42 : Ref sig .tc := ⟨.hbm, 535, rfl⟩
abbrev main_call0_v43 : Ref sig .tc := ⟨.hbm, 536, rfl⟩
abbrev main_call0_v44 : Ref sig .tc := ⟨.hbm, 537, rfl⟩
abbrev main_call0_call5_v0 : Ref sig .tc := ⟨.hbm, 538, rfl⟩
abbrev main_call0_call5_c : Ref sig .tc := ⟨.hbm, 539, rfl⟩
abbrev main_call0_call5_v1 : Ref sig .tc := ⟨.hbm, 540, rfl⟩
abbrev main_call0_call5_v2 : Ref sig .tc := ⟨.hbm, 541, rfl⟩
abbrev main_call0_call5_v3 : Ref sig .tc := ⟨.hbm, 542, rfl⟩
abbrev main_call0_call5_v4 : Ref sig .tc := ⟨.hbm, 543, rfl⟩
abbrev main_call0_call5_v5 : Ref sig .tc := ⟨.hbm, 544, rfl⟩
abbrev main_call0_call5_v6 : Ref sig .tc := ⟨.hbm, 545, rfl⟩
abbrev main_call0_call5_c_0 : Ref sig .tc := ⟨.hbm, 546, rfl⟩
abbrev main_call0_call5_v7 : Ref sig .tc := ⟨.hbm, 547, rfl⟩
abbrev main_call0_call5_v8 : Ref sig .tc := ⟨.hbm, 548, rfl⟩
abbrev main_call0_call5_c_1 : Ref sig .tc := ⟨.hbm, 549, rfl⟩
abbrev main_call0_call5_v9 : Ref sig .tc := ⟨.hbm, 550, rfl⟩
abbrev main_call0_call5_v10 : Ref sig .tc := ⟨.hbm, 551, rfl⟩
abbrev main_call0_call5_v11 : Ref sig .tc := ⟨.hbm, 552, rfl⟩
abbrev main_call0_call5_v12 : Ref sig .tc := ⟨.hbm, 553, rfl⟩
abbrev main_call0_call5_v13 : Ref sig .tc := ⟨.hbm, 554, rfl⟩
abbrev main_call0_call5_c_2 : Ref sig .tc := ⟨.hbm, 555, rfl⟩
abbrev main_call0_call5_v14 : Ref sig .tc := ⟨.hbm, 556, rfl⟩
abbrev main_call0_call5_v15 : Ref sig .tc := ⟨.hbm, 557, rfl⟩
abbrev main_call0_call5_c_3 : Ref sig .tc := ⟨.hbm, 558, rfl⟩
abbrev main_call0_call5_v16 : Ref sig .tc := ⟨.hbm, 559, rfl⟩
abbrev main_call0_call5_v17 : Ref sig .tc := ⟨.hbm, 560, rfl⟩
abbrev main_call0_call5_v18 : Ref sig .tc := ⟨.hbm, 561, rfl⟩
abbrev main_call0_call5_v19 : Ref sig .tc := ⟨.hbm, 562, rfl⟩
abbrev main_call0_call5_v20 : Ref sig .tc := ⟨.hbm, 563, rfl⟩
abbrev main_call0_call5_c_4 : Ref sig .tc := ⟨.hbm, 564, rfl⟩
abbrev main_call0_call5_v21 : Ref sig .tc := ⟨.hbm, 565, rfl⟩
abbrev main_call0_call5_v22 : Ref sig .tc := ⟨.hbm, 566, rfl⟩
abbrev main_call0_call5_c_5 : Ref sig .tc := ⟨.hbm, 567, rfl⟩
abbrev main_call0_call5_v23 : Ref sig .tc := ⟨.hbm, 568, rfl⟩
abbrev main_call0_call5_v24 : Ref sig .tc := ⟨.hbm, 569, rfl⟩
abbrev main_call0_call5_v25 : Ref sig .tc := ⟨.hbm, 570, rfl⟩
abbrev main_call0_call5_v26 : Ref sig .tc := ⟨.hbm, 571, rfl⟩
abbrev main_call0_call5_v27 : Ref sig .tc := ⟨.hbm, 572, rfl⟩
abbrev main_call0_call5_c_6 : Ref sig .tc := ⟨.hbm, 573, rfl⟩
abbrev main_call0_call5_v28 : Ref sig .tc := ⟨.hbm, 574, rfl⟩
abbrev main_call0_call5_v29 : Ref sig .tc := ⟨.hbm, 575, rfl⟩
abbrev main_call0_call5_c_7 : Ref sig .tc := ⟨.hbm, 576, rfl⟩
abbrev main_call0_call5_v30 : Ref sig .tc := ⟨.hbm, 577, rfl⟩
abbrev main_call0_call5_v31 : Ref sig .tc := ⟨.hbm, 578, rfl⟩
abbrev main_call0_call5_v32 : Ref sig .tc := ⟨.hbm, 579, rfl⟩
abbrev main_call0_call5_v33 : Ref sig .tc := ⟨.hbm, 580, rfl⟩
abbrev main_call0_call5_v34 : Ref sig .tc := ⟨.hbm, 581, rfl⟩
abbrev main_call0_call5_v35 : Ref sig .tc := ⟨.hbm, 582, rfl⟩
abbrev main_call0_call5_v36 : Ref sig .tc := ⟨.hbm, 583, rfl⟩
abbrev main_call0_call5_v37 : Ref sig .tc := ⟨.hbm, 584, rfl⟩
abbrev main_call0_call5_c_8 : Ref sig .tc := ⟨.hbm, 585, rfl⟩
abbrev main_call0_call5_v38 : Ref sig .tc := ⟨.hbm, 586, rfl⟩
abbrev main_call0_call5_v39 : Ref sig .tc := ⟨.hbm, 587, rfl⟩
abbrev main_call0_call5_v40 : Ref sig .tc := ⟨.hbm, 588, rfl⟩
abbrev main_call0_call5_c_9 : Ref sig .tc := ⟨.hbm, 589, rfl⟩
abbrev main_call0_call5_v41 : Ref sig .tc := ⟨.hbm, 590, rfl⟩
abbrev main_call0_call5_v42 : Ref sig .tc := ⟨.hbm, 591, rfl⟩
abbrev main_call0_call5_c_10 : Ref sig .tc := ⟨.hbm, 592, rfl⟩
abbrev main_call0_call5_v43 : Ref sig .tc := ⟨.hbm, 593, rfl⟩
abbrev main_call0_call5_v44 : Ref sig .tc := ⟨.hbm, 594, rfl⟩
abbrev main_call0_call5_v45 : Ref sig .tc := ⟨.hbm, 595, rfl⟩
abbrev main_call0_call5_v46 : Ref sig .tc := ⟨.hbm, 596, rfl⟩
abbrev main_call0_call5_v47 : Ref sig .tc := ⟨.hbm, 597, rfl⟩
abbrev main_call0_call5_c_11 : Ref sig .tc := ⟨.hbm, 598, rfl⟩
abbrev main_call0_call5_v48 : Ref sig .tc := ⟨.hbm, 599, rfl⟩
abbrev main_call0_call5_v49 : Ref sig .tc := ⟨.hbm, 600, rfl⟩
abbrev main_call0_call5_c_12 : Ref sig .tc := ⟨.hbm, 601, rfl⟩
abbrev main_call0_call5_v50 : Ref sig .tc := ⟨.hbm, 602, rfl⟩
abbrev main_call0_call5_v51 : Ref sig .tc := ⟨.hbm, 603, rfl⟩
abbrev main_call0_call5_v52 : Ref sig .tc := ⟨.hbm, 604, rfl⟩
abbrev main_call0_call5_v53 : Ref sig .tc := ⟨.hbm, 605, rfl⟩
abbrev main_call0_call5_v54 : Ref sig .tc := ⟨.hbm, 606, rfl⟩
abbrev main_call0_call5_c_13 : Ref sig .tc := ⟨.hbm, 607, rfl⟩
abbrev main_call0_call5_v55 : Ref sig .tc := ⟨.hbm, 608, rfl⟩
abbrev main_call0_call5_v56 : Ref sig .tc := ⟨.hbm, 609, rfl⟩
abbrev main_call0_call5_c_14 : Ref sig .tc := ⟨.hbm, 610, rfl⟩
abbrev main_call0_call5_v57 : Ref sig .tc := ⟨.hbm, 611, rfl⟩
abbrev main_call0_call5_v58 : Ref sig .tc := ⟨.hbm, 612, rfl⟩
abbrev main_call0_call5_v59 : Ref sig .tc := ⟨.hbm, 613, rfl⟩
abbrev main_call0_call5_v60 : Ref sig .tc := ⟨.hbm, 614, rfl⟩
abbrev main_call0_call5_v61 : Ref sig .tc := ⟨.hbm, 615, rfl⟩
abbrev main_call0_call5_c_15 : Ref sig .tc := ⟨.hbm, 616, rfl⟩
abbrev main_call0_call5_v62 : Ref sig .tc := ⟨.hbm, 617, rfl⟩
abbrev main_call0_call5_v63 : Ref sig .tc := ⟨.hbm, 618, rfl⟩
abbrev main_call0_call5_c_16 : Ref sig .tc := ⟨.hbm, 619, rfl⟩
abbrev main_call0_call5_v64 : Ref sig .tc := ⟨.hbm, 620, rfl⟩
abbrev main_call0_call5_v65 : Ref sig .tc := ⟨.hbm, 621, rfl⟩
abbrev main_call0_call5_v66 : Ref sig .tc := ⟨.hbm, 622, rfl⟩
abbrev main_call0_call5_v67 : Ref sig .tc := ⟨.hbm, 623, rfl⟩
abbrev main_call0_call5_v68 : Ref sig .tc := ⟨.hbm, 624, rfl⟩
abbrev main_call0_call5_v69 : Ref sig .tc := ⟨.hbm, 625, rfl⟩
abbrev main_call0_call5_v70 : Ref sig .tc := ⟨.hbm, 626, rfl⟩
abbrev main_call0_call5_v71 : Ref sig .tc := ⟨.hbm, 627, rfl⟩
abbrev main_call0_call5_c_17 : Ref sig .tc := ⟨.hbm, 628, rfl⟩
abbrev main_call0_call5_v72 : Ref sig .tc := ⟨.hbm, 629, rfl⟩
abbrev main_call0_call5_v73 : Ref sig .tc := ⟨.hbm, 630, rfl⟩
abbrev main_call0_call5_v74 : Ref sig .tc := ⟨.hbm, 631, rfl⟩
abbrev main_call0_call5_c_18 : Ref sig .tc := ⟨.hbm, 632, rfl⟩
abbrev main_call0_call5_v75 : Ref sig .tc := ⟨.hbm, 633, rfl⟩
abbrev main_call0_call5_v76 : Ref sig .tc := ⟨.hbm, 634, rfl⟩
abbrev main_call0_call5_c_19 : Ref sig .tc := ⟨.hbm, 635, rfl⟩
abbrev main_call0_call5_v77 : Ref sig .tc := ⟨.hbm, 636, rfl⟩
abbrev main_call0_call5_v78 : Ref sig .tc := ⟨.hbm, 637, rfl⟩
abbrev main_call0_call5_v79 : Ref sig .tc := ⟨.hbm, 638, rfl⟩
abbrev main_call0_call5_v80 : Ref sig .tc := ⟨.hbm, 639, rfl⟩
abbrev main_call0_call5_v81 : Ref sig .tc := ⟨.hbm, 640, rfl⟩
abbrev main_call0_call5_c_20 : Ref sig .tc := ⟨.hbm, 641, rfl⟩
abbrev main_call0_call5_v82 : Ref sig .tc := ⟨.hbm, 642, rfl⟩
abbrev main_call0_call5_v83 : Ref sig .tc := ⟨.hbm, 643, rfl⟩
abbrev main_call0_call5_c_21 : Ref sig .tc := ⟨.hbm, 644, rfl⟩
abbrev main_call0_call5_v84 : Ref sig .tc := ⟨.hbm, 645, rfl⟩
abbrev main_call0_call5_v85 : Ref sig .tc := ⟨.hbm, 646, rfl⟩
abbrev main_call0_call5_v86 : Ref sig .tc := ⟨.hbm, 647, rfl⟩
abbrev main_call0_call5_v87 : Ref sig .tc := ⟨.hbm, 648, rfl⟩
abbrev main_call0_call5_v88 : Ref sig .tc := ⟨.hbm, 649, rfl⟩
abbrev main_call0_call5_c_22 : Ref sig .tc := ⟨.hbm, 650, rfl⟩
abbrev main_call0_call5_v89 : Ref sig .tc := ⟨.hbm, 651, rfl⟩
abbrev main_call0_call5_v90 : Ref sig .tc := ⟨.hbm, 652, rfl⟩
abbrev main_call0_call5_c_23 : Ref sig .tc := ⟨.hbm, 653, rfl⟩
abbrev main_call0_call5_v91 : Ref sig .tc := ⟨.hbm, 654, rfl⟩
abbrev main_call0_call5_v92 : Ref sig .tc := ⟨.hbm, 655, rfl⟩
abbrev main_call0_call5_v93 : Ref sig .tc := ⟨.hbm, 656, rfl⟩
abbrev main_call0_call5_v94 : Ref sig .tc := ⟨.hbm, 657, rfl⟩
abbrev main_call0_call5_v95 : Ref sig .tc := ⟨.hbm, 658, rfl⟩
abbrev main_call0_call5_c_24 : Ref sig .tc := ⟨.hbm, 659, rfl⟩
abbrev main_call0_call5_v96 : Ref sig .tc := ⟨.hbm, 660, rfl⟩
abbrev main_call0_call5_v97 : Ref sig .tc := ⟨.hbm, 661, rfl⟩
abbrev main_call0_call5_c_25 : Ref sig .tc := ⟨.hbm, 662, rfl⟩
abbrev main_call0_call5_v98 : Ref sig .tc := ⟨.hbm, 663, rfl⟩
abbrev main_call0_call5_v99 : Ref sig .tc := ⟨.hbm, 664, rfl⟩
abbrev main_call0_call5_v100 : Ref sig .tc := ⟨.hbm, 665, rfl⟩
abbrev main_call0_call5_v101 : Ref sig .tc := ⟨.hbm, 666, rfl⟩
abbrev main_call0_call5_v102 : Ref sig .tc := ⟨.hbm, 667, rfl⟩
abbrev main_call0_call5_v103 : Ref sig .tc := ⟨.hbm, 668, rfl⟩
abbrev main_call0_call5_v104 : Ref sig .tc := ⟨.hbm, 669, rfl⟩
abbrev main_call0_call5_v105 : Ref sig .tc := ⟨.hbm, 670, rfl⟩
abbrev main_call0_call5_c_26 : Ref sig .tc := ⟨.hbm, 671, rfl⟩
abbrev main_call0_call5_v106 : Ref sig .tc := ⟨.hbm, 672, rfl⟩
abbrev main_call0_call5_v107 : Ref sig .tc := ⟨.hbm, 673, rfl⟩
abbrev main_call0_call5_v108 : Ref sig .tc := ⟨.hbm, 674, rfl⟩
abbrev main_call0_call5_c_27 : Ref sig .tc := ⟨.hbm, 675, rfl⟩
abbrev main_call0_call5_v109 : Ref sig .tc := ⟨.hbm, 676, rfl⟩
abbrev main_call0_call5_v110 : Ref sig .tc := ⟨.hbm, 677, rfl⟩
abbrev main_call0_call5_c_28 : Ref sig .tc := ⟨.hbm, 678, rfl⟩
abbrev main_call0_call5_v111 : Ref sig .tc := ⟨.hbm, 679, rfl⟩
abbrev main_call0_call5_v112 : Ref sig .tc := ⟨.hbm, 680, rfl⟩
abbrev main_call0_call5_v113 : Ref sig .tc := ⟨.hbm, 681, rfl⟩
abbrev main_call0_call5_v114 : Ref sig .tc := ⟨.hbm, 682, rfl⟩
abbrev main_call0_call5_v115 : Ref sig .tc := ⟨.hbm, 683, rfl⟩
abbrev main_call0_call5_c_29 : Ref sig .tc := ⟨.hbm, 684, rfl⟩
abbrev main_call0_call5_v116 : Ref sig .tc := ⟨.hbm, 685, rfl⟩
abbrev main_call0_call5_v117 : Ref sig .tc := ⟨.hbm, 686, rfl⟩
abbrev main_call0_call5_c_30 : Ref sig .tc := ⟨.hbm, 687, rfl⟩
abbrev main_call0_call5_v118 : Ref sig .tc := ⟨.hbm, 688, rfl⟩
abbrev main_call0_call5_v119 : Ref sig .tc := ⟨.hbm, 689, rfl⟩
abbrev main_call0_call5_v120 : Ref sig .tc := ⟨.hbm, 690, rfl⟩
abbrev main_call0_call5_v121 : Ref sig .tc := ⟨.hbm, 691, rfl⟩
abbrev main_call0_call5_v122 : Ref sig .tc := ⟨.hbm, 692, rfl⟩
abbrev main_call0_call5_c_31 : Ref sig .tc := ⟨.hbm, 693, rfl⟩
abbrev main_call0_call5_v123 : Ref sig .tc := ⟨.hbm, 694, rfl⟩
abbrev main_call0_call5_v124 : Ref sig .tc := ⟨.hbm, 695, rfl⟩
abbrev main_call0_call5_c_32 : Ref sig .tc := ⟨.hbm, 696, rfl⟩
abbrev main_call0_call5_v125 : Ref sig .tc := ⟨.hbm, 697, rfl⟩
abbrev main_call0_call5_v126 : Ref sig .tc := ⟨.hbm, 698, rfl⟩
abbrev main_call0_call5_v127 : Ref sig .tc := ⟨.hbm, 699, rfl⟩
abbrev main_call0_call5_v128 : Ref sig .tc := ⟨.hbm, 700, rfl⟩
abbrev main_call0_call5_v129 : Ref sig .tc := ⟨.hbm, 701, rfl⟩
abbrev main_call0_call5_c_33 : Ref sig .tc := ⟨.hbm, 702, rfl⟩
abbrev main_call0_call5_v130 : Ref sig .tc := ⟨.hbm, 703, rfl⟩
abbrev main_call0_call5_v131 : Ref sig .tc := ⟨.hbm, 704, rfl⟩
abbrev main_call0_call5_c_34 : Ref sig .tc := ⟨.hbm, 705, rfl⟩
abbrev main_call0_call5_v132 : Ref sig .tc := ⟨.hbm, 706, rfl⟩
abbrev main_call0_call5_v133 : Ref sig .tc := ⟨.hbm, 707, rfl⟩
abbrev main_call0_call5_v134 : Ref sig .tc := ⟨.hbm, 708, rfl⟩
abbrev main_call0_call5_v135 : Ref sig .tc := ⟨.hbm, 709, rfl⟩
abbrev main_call0_call5_v136 : Ref sig .tc := ⟨.hbm, 710, rfl⟩
abbrev main_call0_call5_v137 : Ref sig .tc := ⟨.hbm, 711, rfl⟩
abbrev main_call0_call5_v138 : Ref sig .tc := ⟨.hbm, 712, rfl⟩
abbrev main_call0_call5_v139 : Ref sig .tc := ⟨.hbm, 713, rfl⟩
abbrev main_call0_call5_c_35 : Ref sig .tc := ⟨.hbm, 714, rfl⟩
abbrev main_call0_call5_v140 : Ref sig .tc := ⟨.hbm, 715, rfl⟩
abbrev main_call0_call5_v141 : Ref sig .tc := ⟨.hbm, 716, rfl⟩
abbrev main_call0_call5_v142 : Ref sig .tc := ⟨.hbm, 717, rfl⟩
abbrev main_call0_call5_c_36 : Ref sig .tc := ⟨.hbm, 718, rfl⟩
abbrev main_call0_call5_v143 : Ref sig .tc := ⟨.hbm, 719, rfl⟩
abbrev main_call0_call5_v144 : Ref sig .tc := ⟨.hbm, 720, rfl⟩
abbrev main_call0_call5_c_37 : Ref sig .tc := ⟨.hbm, 721, rfl⟩
abbrev main_call0_call5_v145 : Ref sig .tc := ⟨.hbm, 722, rfl⟩
abbrev main_call0_call5_v146 : Ref sig .tc := ⟨.hbm, 723, rfl⟩
abbrev main_call0_call5_v147 : Ref sig .tc := ⟨.hbm, 724, rfl⟩
abbrev main_call0_call5_v148 : Ref sig .tc := ⟨.hbm, 725, rfl⟩
abbrev main_call0_call5_v149 : Ref sig .tc := ⟨.hbm, 726, rfl⟩
abbrev main_call0_call5_c_38 : Ref sig .tc := ⟨.hbm, 727, rfl⟩
abbrev main_call0_call5_v150 : Ref sig .tc := ⟨.hbm, 728, rfl⟩
abbrev main_call0_call5_v151 : Ref sig .tc := ⟨.hbm, 729, rfl⟩
abbrev main_call0_call5_c_39 : Ref sig .tc := ⟨.hbm, 730, rfl⟩
abbrev main_call0_call5_v152 : Ref sig .tc := ⟨.hbm, 731, rfl⟩
abbrev main_call0_call5_v153 : Ref sig .tc := ⟨.hbm, 732, rfl⟩
abbrev main_call0_call5_v154 : Ref sig .tc := ⟨.hbm, 733, rfl⟩
abbrev main_call0_call5_v155 : Ref sig .tc := ⟨.hbm, 734, rfl⟩
abbrev main_call0_call5_v156 : Ref sig .tc := ⟨.hbm, 735, rfl⟩
abbrev main_call0_call5_c_40 : Ref sig .tc := ⟨.hbm, 736, rfl⟩
abbrev main_call0_call5_v157 : Ref sig .tc := ⟨.hbm, 737, rfl⟩
abbrev main_call0_call5_v158 : Ref sig .tc := ⟨.hbm, 738, rfl⟩
abbrev main_call0_call5_c_41 : Ref sig .tc := ⟨.hbm, 739, rfl⟩
abbrev main_call0_call5_v159 : Ref sig .tc := ⟨.hbm, 740, rfl⟩
abbrev main_call0_call5_v160 : Ref sig .tc := ⟨.hbm, 741, rfl⟩
abbrev main_call0_call5_v161 : Ref sig .tc := ⟨.hbm, 742, rfl⟩
abbrev main_call0_call5_v162 : Ref sig .tc := ⟨.hbm, 743, rfl⟩
abbrev main_call0_call5_v163 : Ref sig .tc := ⟨.hbm, 744, rfl⟩
abbrev main_call0_call5_c_42 : Ref sig .tc := ⟨.hbm, 745, rfl⟩
abbrev main_call0_call5_v164 : Ref sig .tc := ⟨.hbm, 746, rfl⟩
abbrev main_call0_call5_v165 : Ref sig .tc := ⟨.hbm, 747, rfl⟩
abbrev main_call0_call5_c_43 : Ref sig .tc := ⟨.hbm, 748, rfl⟩
abbrev main_call0_call5_v166 : Ref sig .tc := ⟨.hbm, 749, rfl⟩
abbrev main_call0_call5_v167 : Ref sig .tc := ⟨.hbm, 750, rfl⟩
abbrev main_call0_call5_v168 : Ref sig .tc := ⟨.hbm, 751, rfl⟩
abbrev main_call0_call5_v169 : Ref sig .tc := ⟨.hbm, 752, rfl⟩
abbrev main_call0_call5_v170 : Ref sig .tc := ⟨.hbm, 753, rfl⟩
abbrev main_call0_v45_0 : Ref sig .tc := ⟨.hbm, 754, rfl⟩
abbrev main_call0_call5_v172 : Ref sig .tc := ⟨.hbm, 755, rfl⟩
abbrev main_call0_call5_v173 : Ref sig .tc := ⟨.hbm, 756, rfl⟩
abbrev main_call0_call5_c_44 : Ref sig .tc := ⟨.hbm, 757, rfl⟩
abbrev main_call0_call5_v174 : Ref sig .tc := ⟨.hbm, 758, rfl⟩
abbrev main_call0_v45_1 : Ref sig .tc := ⟨.hbm, 759, rfl⟩
abbrev main_call0_v46 : Ref sig .tc := ⟨.hbm, 760, rfl⟩
abbrev main_call0_v47 : Ref sig .tc := ⟨.hbm, 761, rfl⟩
abbrev main_call0_v48 : Ref sig .tc := ⟨.hbm, 762, rfl⟩
abbrev main_call0_v49 : Ref sig .tc := ⟨.hbm, 763, rfl⟩
abbrev main_call0_c_12 : Ref sig .tc := ⟨.hbm, 764, rfl⟩
abbrev main_call0_v50 : Ref sig .tc := ⟨.hbm, 765, rfl⟩
abbrev main_call0_v51 : Ref sig .tc := ⟨.hbm, 766, rfl⟩
abbrev main_call0_v52 : Ref sig .tc := ⟨.hbm, 767, rfl⟩
abbrev main_call0_v53 : Ref sig .tc := ⟨.hbm, 768, rfl⟩
abbrev main_call0_v54 : Ref sig .tc := ⟨.hbm, 769, rfl⟩
abbrev main_call0_c_13 : Ref sig .tc := ⟨.hbm, 770, rfl⟩
abbrev main_call0_v55 : Ref sig .tc := ⟨.hbm, 771, rfl⟩
abbrev main_call0_v56 : Ref sig .tc := ⟨.hbm, 772, rfl⟩
abbrev main_call0_v57 : Ref sig .tc := ⟨.hbm, 773, rfl⟩
abbrev main_call0_c_14 : Ref sig .tc := ⟨.hbm, 774, rfl⟩
abbrev main_call0_v58 : Ref sig .tc := ⟨.hbm, 775, rfl⟩
abbrev main_call0_v59 : Ref sig .tc := ⟨.hbm, 776, rfl⟩
abbrev main_call0_v60 : Ref sig .tc := ⟨.hbm, 777, rfl⟩
abbrev main_call0_v61 : Ref sig .tc := ⟨.hbm, 778, rfl⟩
abbrev main_call0_v62 : Ref sig .tc := ⟨.hbm, 779, rfl⟩
abbrev main_call0_v63 : Ref sig .tc := ⟨.hbm, 780, rfl⟩
abbrev main_call0_v64 : Ref sig .tc := ⟨.hbm, 781, rfl⟩
abbrev main_call0_v65 : Ref sig .tc := ⟨.hbm, 782, rfl⟩
abbrev main_call0_v66 : Ref sig .tc := ⟨.hbm, 783, rfl⟩
abbrev main_call0_v67 : Ref sig .tc := ⟨.hbm, 784, rfl⟩
abbrev main_call0_v68 : Ref sig .tc := ⟨.hbm, 785, rfl⟩
abbrev main_call0_v69 : Ref sig .tc := ⟨.hbm, 786, rfl⟩
abbrev main_call0_v70 : Ref sig .tc := ⟨.hbm, 787, rfl⟩
abbrev main_call0_v71 : Ref sig .tc := ⟨.hbm, 788, rfl⟩
abbrev main_call0_v72 : Ref sig .tc := ⟨.hbm, 789, rfl⟩
abbrev main_v10 : Ref sig .tc := ⟨.hbm, 790, rfl⟩
abbrev main_c_4 : Ref sig .tc := ⟨.hbm, 791, rfl⟩
abbrev main_v11 : Ref sig .tc := ⟨.hbm, 792, rfl⟩
abbrev main_v12 : Ref sig .tc := ⟨.hbm, 793, rfl⟩
abbrev main_c_5 : Ref sig .tc := ⟨.hbm, 794, rfl⟩
abbrev main_v13 : Ref sig .tc := ⟨.hbm, 795, rfl⟩
abbrev main_v14 : Ref sig .tc := ⟨.hbm, 796, rfl⟩
abbrev main_v15 : Ref sig .tc := ⟨.hbm, 797, rfl⟩
abbrev main_v16 : Ref sig .tc := ⟨.hbm, 798, rfl⟩
abbrev main_v17 : Ref sig .tc := ⟨.hbm, 799, rfl⟩
abbrev main_v18 : Ref sig .tc := ⟨.hbm, 800, rfl⟩
abbrev main_cst : Ref sig .tc := ⟨.hbm, 801, rfl⟩
abbrev main_v19 : Ref sig .tc := ⟨.hbm, 802, rfl⟩
abbrev main_cst_6 : Ref sig .tc := ⟨.hbm, 803, rfl⟩
abbrev main_v20 : Ref sig .tc := ⟨.hbm, 804, rfl⟩
abbrev main_cst_7 : Ref sig .tc := ⟨.hbm, 805, rfl⟩
abbrev main_v21 : Ref sig .tc := ⟨.hbm, 806, rfl⟩
abbrev main_v22 : Ref sig .tc := ⟨.hbm, 807, rfl⟩
abbrev main_v23 : Ref sig .tc := ⟨.hbm, 808, rfl⟩
abbrev main_v24 : Ref sig .tc := ⟨.hbm, 809, rfl⟩
abbrev main_values : Ref sig .tc := ⟨.hbm, 810, rfl⟩
abbrev main_indices : Ref sig .tc := ⟨.hbm, 811, rfl⟩
abbrev main_v25 : Ref sig .tc := ⟨.hbm, 812, rfl⟩
abbrev main_v26 : Ref sig .tc := ⟨.hbm, 813, rfl⟩
abbrev main_v27 : Ref sig .tc := ⟨.hbm, 814, rfl⟩
abbrev main_call1_c : Ref sig .tc := ⟨.hbm, 815, rfl⟩
abbrev main_call1_v0 : Ref sig .tc := ⟨.hbm, 816, rfl⟩
abbrev main_call1_v1 : Ref sig .tc := ⟨.hbm, 817, rfl⟩
abbrev main_call1_c_0 : Ref sig .tc := ⟨.hbm, 818, rfl⟩
abbrev main_call1_v2 : Ref sig .tc := ⟨.hbm, 819, rfl⟩
abbrev main_call1_v3 : Ref sig .tc := ⟨.hbm, 820, rfl⟩
abbrev main_call1_v4 : Ref sig .tc := ⟨.hbm, 821, rfl⟩
abbrev main_call1_v5 : Ref sig .tc := ⟨.hbm, 822, rfl⟩
abbrev main_call1_c_1 : Ref sig .tc := ⟨.hbm, 823, rfl⟩
abbrev main_call1_c_2 : Ref sig .tc := ⟨.hbm, 824, rfl⟩
abbrev main_call1_v6 : Ref sig .tc := ⟨.hbm, 825, rfl⟩
abbrev main_call1_v7 : Ref sig .tc := ⟨.hbm, 826, rfl⟩
abbrev main_call1_v8 : Ref sig .tc := ⟨.hbm, 827, rfl⟩
abbrev main_call1_v9 : Ref sig .tc := ⟨.hbm, 828, rfl⟩
abbrev main_call1_v10 : Ref sig .tc := ⟨.hbm, 829, rfl⟩
abbrev main_call1_v11 : Ref sig .tc := ⟨.hbm, 830, rfl⟩
abbrev main_call1_c_3 : Ref sig .tc := ⟨.hbm, 831, rfl⟩
abbrev main_call1_v12 : Ref sig .tc := ⟨.hbm, 832, rfl⟩
abbrev main_call1_v13 : Ref sig .tc := ⟨.hbm, 833, rfl⟩
abbrev main_call1_cst : Ref sig .tc := ⟨.hbm, 834, rfl⟩
abbrev main_call1_v14 : Ref sig .tc := ⟨.hbm, 835, rfl⟩
abbrev main_v28 : Ref sig .tc := ⟨.hbm, 836, rfl⟩
abbrev main_v29 : Ref sig .tc := ⟨.hbm, 837, rfl⟩
abbrev main_v30 : Ref sig .tc := ⟨.hbm, 838, rfl⟩
abbrev main_v31 : Ref sig .tc := ⟨.hbm, 839, rfl⟩
abbrev main_cst_8 : Ref sig .tc := ⟨.hbm, 840, rfl⟩
abbrev main_v32 : Ref sig .tc := ⟨.hbm, 841, rfl⟩
abbrev main_v33 : Ref sig .tc := ⟨.hbm, 842, rfl⟩
abbrev main_cst_9 : Ref sig .tc := ⟨.hbm, 843, rfl⟩
abbrev main_v34 : Ref sig .tc := ⟨.hbm, 844, rfl⟩
abbrev main_cst_10 : Ref sig .tc := ⟨.hbm, 845, rfl⟩
abbrev main_v35 : Ref sig .tc := ⟨.hbm, 846, rfl⟩
abbrev main_v36 : Ref sig .tc := ⟨.hbm, 847, rfl⟩
abbrev main_v37 : Ref sig .tc := ⟨.hbm, 848, rfl⟩
abbrev main_v38 : Ref sig .tc := ⟨.hbm, 849, rfl⟩
abbrev main_v39 : Ref sig .tc := ⟨.hbm, 850, rfl⟩
abbrev main_v40 : Ref sig .tc := ⟨.hbm, 851, rfl⟩
abbrev main_v41 : Ref sig .tc := ⟨.hbm, 852, rfl⟩
abbrev main_cst_11 : Ref sig .tc := ⟨.hbm, 853, rfl⟩
abbrev main_v42 : Ref sig .tc := ⟨.hbm, 854, rfl⟩
abbrev main_cst_12 : Ref sig .tc := ⟨.hbm, 855, rfl⟩
abbrev main_v43 : Ref sig .tc := ⟨.hbm, 856, rfl⟩
abbrev main_v44 : Ref sig .tc := ⟨.hbm, 857, rfl⟩
abbrev main_v45 : Ref sig .tc := ⟨.hbm, 858, rfl⟩
abbrev main_v46 : Ref sig .tc := ⟨.hbm, 859, rfl⟩
abbrev main_v47 : Ref sig .tc := ⟨.hbm, 860, rfl⟩
abbrev main_v48 : Ref sig .tc := ⟨.hbm, 861, rfl⟩
abbrev main_cst_13 : Ref sig .tc := ⟨.hbm, 862, rfl⟩
abbrev main_v49 : Ref sig .tc := ⟨.hbm, 863, rfl⟩
abbrev main_v50 : Ref sig .tc := ⟨.hbm, 864, rfl⟩
abbrev main_v51 : Ref sig .tc := ⟨.hbm, 865, rfl⟩
abbrev main_v52 : Ref sig .tc := ⟨.hbm, 866, rfl⟩
abbrev main_v53 : Ref sig .tc := ⟨.hbm, 867, rfl⟩
abbrev main_v54 : Ref sig .tc := ⟨.hbm, 868, rfl⟩
abbrev main_v55 : Ref sig .tc := ⟨.hbm, 869, rfl⟩
abbrev main_v56 : Ref sig .tc := ⟨.hbm, 870, rfl⟩
abbrev main_v57 : Ref sig .tc := ⟨.hbm, 871, rfl⟩
abbrev main_v58 : Ref sig .tc := ⟨.hbm, 872, rfl⟩
abbrev main_v59 : Ref sig .tc := ⟨.hbm, 873, rfl⟩
abbrev main_c_14 : Ref sig .tc := ⟨.hbm, 874, rfl⟩
abbrev main_v60 : Ref sig .tc := ⟨.hbm, 875, rfl⟩
abbrev main_v61 : Ref sig .tc := ⟨.hbm, 876, rfl⟩
abbrev main_c_15 : Ref sig .tc := ⟨.hbm, 877, rfl⟩
abbrev main_v62 : Ref sig .tc := ⟨.hbm, 878, rfl⟩
abbrev main_v63 : Ref sig .tc := ⟨.hbm, 879, rfl⟩
abbrev main_v64 : Ref sig .tc := ⟨.hbm, 880, rfl⟩
abbrev main_c_16 : Ref sig .tc := ⟨.hbm, 881, rfl⟩
abbrev main_v65 : Ref sig .tc := ⟨.hbm, 882, rfl⟩
abbrev main_v66 : Ref sig .tc := ⟨.hbm, 883, rfl⟩
abbrev main_c_17 : Ref sig .tc := ⟨.hbm, 884, rfl⟩
abbrev main_v67 : Ref sig .tc := ⟨.hbm, 885, rfl⟩
abbrev main_v68 : Ref sig .tc := ⟨.hbm, 886, rfl⟩
abbrev main_v69 : Ref sig .tc := ⟨.hbm, 887, rfl⟩
abbrev main_c_18 : Ref sig .tc := ⟨.hbm, 888, rfl⟩
abbrev main_v70 : Ref sig .tc := ⟨.hbm, 889, rfl⟩
abbrev main_v71 : Ref sig .tc := ⟨.hbm, 890, rfl⟩
abbrev main_c_19 : Ref sig .tc := ⟨.hbm, 891, rfl⟩
abbrev main_v72 : Ref sig .tc := ⟨.hbm, 892, rfl⟩
abbrev main_v73 : Ref sig .tc := ⟨.hbm, 893, rfl⟩
abbrev main_v74 : Ref sig .tc := ⟨.hbm, 894, rfl⟩
abbrev main_c_20 : Ref sig .tc := ⟨.hbm, 895, rfl⟩
abbrev main_v75 : Ref sig .tc := ⟨.hbm, 896, rfl⟩
abbrev main_v76 : Ref sig .tc := ⟨.hbm, 897, rfl⟩
abbrev main_c_21 : Ref sig .tc := ⟨.hbm, 898, rfl⟩
abbrev main_v77 : Ref sig .tc := ⟨.hbm, 899, rfl⟩
abbrev main_v78 : Ref sig .tc := ⟨.hbm, 900, rfl⟩
abbrev main_v79 : Ref sig .tc := ⟨.hbm, 901, rfl⟩
abbrev main_v80 : Ref sig .tc := ⟨.hbm, 902, rfl⟩
abbrev main_v81 : Ref sig .tc := ⟨.hbm, 903, rfl⟩
abbrev main_v82 : Ref sig .tc := ⟨.hbm, 904, rfl⟩
abbrev main_v83 : Ref sig .tc := ⟨.hbm, 905, rfl⟩
abbrev main_v84 : Ref sig .tc := ⟨.hbm, 906, rfl⟩
abbrev main_v85 : Ref sig .tc := ⟨.hbm, 907, rfl⟩
abbrev main_v86 : Ref sig .tc := ⟨.hbm, 908, rfl⟩
abbrev main_v87 : Ref sig .tc := ⟨.hbm, 909, rfl⟩
abbrev main_v88 : Ref sig .tc := ⟨.hbm, 910, rfl⟩
abbrev main_v89 : Ref sig .tc := ⟨.hbm, 911, rfl⟩

abbrev nD : Nat := 1
abbrev τ : Topo := Topo.v7x

variable {F : FTy → Type} [FloatOps F]
-- ==== Proof.IntMin.lean ====
/- The integer minimum reduction of a vector of small words: the result is one of the words and the least of them. -/
module

public import Idealize.ShloMosaic.PureOps.Reduce
public import Idealize.ShloMosaic.Lib.WordCmp

@[expose] public section

namespace Cert.Proof

open Idealize.ShloMosaic

/-- A signed minimum of two words below half the range is the smaller by their numbers. -/
theorem minsi_small (x y : BitVec 32) (hx : x.toNat < 2 ^ 31) (hy : y.toNat < 2 ^ 31) :
    IntOp.minsi x y = if x.toNat < y.toNat then x else y := by
  unfold IntOp.minsi
  rw [BitVec.slt_eq_decide, WordCmp.toInt_eq_toNat_of_lt_half (w := 32) hx, WordCmp.toInt_eq_toNat_of_lt_half (w := 32) hy]
  simp

/-- A fold of the signed minimum over small words, from a small start: a small word, at most the start and every word
    folded, and one of them. -/
theorem fold_minsi_small {ι : Type*} (f : ι → BitVec 32) (b : BitVec 32) (hb : b.toNat < 2 ^ 31)
    (hf : ∀ i, (f i).toNat < 2 ^ 31) (S : Finset ι) :
    (S.fold IntOp.minsi b f).toNat < 2 ^ 31 ∧ (S.fold IntOp.minsi b f).toNat ≤ b.toNat
      ∧ (∀ i ∈ S, (S.fold IntOp.minsi b f).toNat ≤ (f i).toNat)
      ∧ (S.fold IntOp.minsi b f = b ∨ ∃ i ∈ S, S.fold IntOp.minsi b f = f i) := by
  classical
  induction S using Finset.induction_on with
  | empty => exact ⟨by simpa using hb, by simp, by simp, .inl (by simp)⟩
  | insert a S ha ih =>
    obtain ⟨h1, h2, h3, h4⟩ := ih
    rw [Finset.fold_insert ha, minsi_small _ _ (hf a) h1]
    split
    · rename_i hlt
      refine ⟨hf a, by omega, fun i hi => ?_, .inr ⟨a, Finset.mem_insert_self _ _, rfl⟩⟩
      rcases Finset.mem_insert.1 hi with rfl | hi
      · exact le_refl _
      · have := h3 i hi; omega
    · rename_i hlt
      refine ⟨h1, h2, fun i hi => ?_, ?_⟩
      · rcases Finset.mem_insert.1 hi with rfl | hi
        · omega
        · exact h3 i hi
      · rcases h4 with h4 | ⟨i, hi, h4⟩
        · exact .inl h4
        · exact .inr ⟨i, Finset.mem_insert_of_mem hi, h4⟩

/-- The minimum reduction of a vector of words below `N` over a set of positions holding one at least: a word of the
    vector at such a position, at most every other such word. -/
theorem multiReductionI_min {s t : Shape} (axes : List (Fin s.rank)) (src : IVec s 32) (h : s.Reduces axes t)
    (hacc : (2147483647#32 : BitVec 32) = IKind.minsi.neutral) (j : t.Idx) (hs : ∀ i, (src i).toNat < 2 ^ 31 - 1)
    (i₀ : s.Idx) (hi₀ : h.drop i₀ = j) :
    (∀ i, h.drop i = j → (multiReductionI .minsi axes t src 2147483647#32 h hacc j).toNat ≤ (src i).toNat)
      ∧ ∃ i, h.drop i = j ∧ multiReductionI .minsi axes t src 2147483647#32 h hacc j = src i := by
  have key := fold_minsi_small src 2147483647#32 (by decide) (fun i => by have := hs i; omega)
    (Finset.univ.filter fun i => h.drop i = j)
  rw [multiReductionI_eq_fold]
  obtain ⟨-, -, h3, h4⟩ := key
  refine ⟨fun i hi => h3 i (by simpa using hi), ?_⟩
  rcases h4 with h4 | ⟨i, hi, h4⟩
  · exfalso
    have h5 := h3 i₀ (by simpa using hi₀)
    have h6 := hs i₀
    rw [h4] at h5
    have : (2147483647#32 : BitVec 32).toNat = 2147483647 := by decide
    omega
  · exact ⟨i, by simpa using hi, h4⟩

end Cert.Proof
-- ==== Proof.IPick.lean ====
/- The selection loop of one grid step: what each of its 24 trips stores and carries, and that every index it
   stores is a row of the block. -/
module

public import proofs.«01_k».proof.Proof.Gen.KernelIdeal.Loops
public import proofs.«01_k».proof.Proof.IntMin
public import Idealize.ShloMosaic.Lib.WritesUnit
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The index a trip stores: the least flat position that holds the maximum, or the last one when none does. -/
def pick (m : FVec F S16x128 .f32) : BitVec 32 := extractAt ![0, 0, 0] (k0_pay448 m) inpos_S1x1x1_p0_0_0

/-- The measures a trip hands on: the picked position is lowered. -/
abbrev next (m : FVec F S16x128 .f32) : FVec F S16x128 .f32 := k0_pay449 m

/-- The flat position of a place of the sixteen rows. -/
theorem flat_toNat (i : S16x128.Idx) : (k0_pay445 i).toNat = (i 0).val * 128 + (i 1).val := by
  have h0 : (i 0).val < 16 := (i 0).isLt
  have h1 : (i 1).val < 128 := (i 1).isLt
  show (IntOp.addi (IntOp.muli (BitVec.ofNat 32 (0 * 16 + (i 0).val)) (128#32)) (BitVec.ofNat 32 (0 * 128 + (i 1).val))).toNat = _
  simp only [IntOp.addi, IntOp.muli, BitVec.toNat_add, BitVec.toNat_mul, BitVec.toNat_ofNat]
  omega

/-- A flat position is below 2048. -/
theorem flat_lt (i : S16x128.Idx) : (k0_pay445 i).toNat < 2048 := by
  have h0 : (i 0).val < 16 := (i 0).isLt
  have h1 : (i 1).val < 128 := (i 1).isLt
  rw [flat_toNat]; omega

/-- The words the minimum of a trip is over: the flat position where the maximum stands, the last row elsewhere. -/
def cand (m : FVec F S16x128 .f32) : IVec S16x128 32 :=
  select (cmpf .oeq m (broadcast S16x128 (extractAt ![0, 0, 0] (shapeCast S1x1x1 (multiReduction .maximumf [1, 2] S1
    (shapeCast S1x16x128 m shapeCasts_S16x128_S1x16x128) 0xFF800000#32 reduces_S1x16x128_S1 (.inl rfl) rfl)
    shapeCasts_S1_S1x1x1) inpos_S1x1x1_p0_0_0))) k0_pay445 (broadcast S16x128 2047#32)

theorem cand_lt (m : FVec F S16x128 .f32) (i : S16x128.Idx) : (cand m i).toNat < 2048 := by
  unfold cand
  rw [ValueIdx.select_apply]
  unfold Scalar.select
  split
  · exact flat_lt i
  · exact (by decide : (2047#32 : BitVec 32).toNat < 2048)

theorem S1_idx (x y : S1.Idx) : x = y := by
  funext a
  have h1 : (x a).val < 1 := by have := (x a).isLt; fin_cases a; exact this
  have h2 : (y a).val < 1 := by have := (y a).isLt; fin_cases a; exact this
  exact Fin.ext (by omega)

/-- The picked word is the minimum reduction of the candidates. -/
theorem pick_eq (m : FVec F S16x128 .f32) :
    pick m = multiReductionI .minsi [1, 2] S1 (shapeCast S1x16x128 (cand m) shapeCasts_S16x128_S1x16x128) 2147483647#32
      reduces_S1x16x128_S1 rfl (Shape.reshapeEquiv shapeCasts_S1_S1x1x1 (fun a => ⟨(![0, 0, 0] : Fin 3 → ℕ) a, inpos_S1x1x1_p0_0_0 a⟩)) := rfl

/-- The picked word is the least candidate and one of them. -/
theorem pick_spec (m : FVec F S16x128 .f32) :
    (∀ i, (pick m).toNat ≤ (cand m i).toNat) ∧ ∃ i, pick m = cand m i := by
  rw [pick_eq]
  obtain ⟨h1, i, -, h2⟩ := Cert.Proof.multiReductionI_min [1, 2]
    (shapeCast S1x16x128 (cand m) shapeCasts_S16x128_S1x16x128) reduces_S1x16x128_S1 rfl
    (Shape.reshapeEquiv shapeCasts_S1_S1x1x1 (fun a => ⟨(![0, 0, 0] : Fin 3 → ℕ) a, inpos_S1x1x1_p0_0_0 a⟩))
    (fun i => lt_of_lt_of_le (cand_lt m _) (by decide)) (ValueIdx.ix3 0 0 0) (S1_idx _ _)
  refine ⟨fun i => ?_, _, h2⟩
  have h3 := h1 (Shape.reshapeEquiv (Eq.symm shapeCasts_S16x128_S1x16x128) i) (S1_idx _ _)
  refine h3.trans_eq (congrArg (fun j => (cand m j).toNat) ?_)
  exact (Shape.reshapeEquiv_reshapeEquiv _ _ _).trans (Shape.reshapeEquiv_self _ _)

theorem pick_lt (m : FVec F S16x128 .f32) : (pick m).toNat < 2048 := by
  obtain ⟨-, i, hi⟩ := pick_spec m
  rw [hi]; exact cand_lt m i

section Loop

variable (𝒱 : Variants) (c : Dev nD) (bd : Option 𝒱.V) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)

/-- A trip of the selection loop hands on both halves' lowered measures. -/
theorem tripR_eq (k : Fin k0_t2_loop.trips) (acc : FVec F S16x128 .f32 × FVec F S16x128 .f32) :
    tripR_k0_t2 (F := F) 𝒱 c bd i arg1 harg1 arg2 harg2 arg3 harg3 arg4 harg4 arg5 harg5 arg6 harg6 arg7 harg7 arg8 harg8 arg9 harg9 k acc
      = (next acc.1, next acc.2) := by
  unfold tripR_k0_t2 trip_k0_t2; rfl

/-- A trip of the selection loop stores one index for each of the two heads. -/
theorem tripL_eq (k : Fin k0_t2_loop.trips) (acc : FVec F S16x128 .f32 × FVec F S16x128 .f32) :
    tripL_k0_t2 (F := F) 𝒱 c bd i arg1 harg1 arg2 harg2 arg3 harg3 arg4 harg4 arg5 harg5 arg6 harg6 arg7 harg7 arg8 harg8 arg9 harg9 k acc
      = [⟨Rect.unit (s := S2x24) (k0_off7 k) S1x1.size (k0_off7_inb k), fun _ => pick acc.2⟩,
         ⟨Rect.unit (s := S2x24) (k0_off6 k) S1x1.size (k0_off6_inb k), fun _ => pick acc.1⟩] := by
  unfold tripL_k0_t2 trip_k0_t2; rfl

/-- The measures before trip `k`. -/
def meas (m : FVec F S16x128 .f32) (k : ℕ) : FVec F S16x128 .f32 := next^[k] m

/-- The measures of the two heads as a function of the head. -/
def sub (init : FVec F S16x128 .f32 × FVec F S16x128 .f32) (s : ℕ) : FVec F S16x128 .f32 := if s = 0 then init.1 else init.2

theorem st_fst (init : FVec F S16x128 .f32 × FVec F S16x128 .f32) (k : ℕ) (hk : k ≤ k0_t2_loop.trips) :
    (st_k0_t2 (F := F) 𝒱 c bd i arg1 harg1 arg2 harg2 arg3 harg3 arg4 harg4 arg5 harg5 arg6 harg6 arg7 harg7 arg8 harg8 arg9 harg9 init k).1
      = (meas init.1 k, meas init.2 k) := by
  induction k with
  | zero => rfl
  | succ k ih =>
    have := st_k0_t2_succ (F := F) 𝒱 c bd i arg1 harg1 arg2 harg2 arg3 harg3 arg4 harg4 arg5 harg5 arg6 harg6 arg7 harg7 arg8 harg8 arg9 harg9 init ⟨k, hk⟩
    rw [this, tripR_eq]
    simp only [ih (by omega)]
    simp only [meas, Function.iterate_succ_apply']

theorem off6_eq (k : Fin k0_t2_loop.trips) : k0_off6 k = ![0, k.val] := by revert k; decide +kernel
theorem off7_eq (k : Fin k0_t2_loop.trips) : k0_off7 k = ![1, k.val] := by revert k; decide +kernel

/-- After `k` trips the index buffer holds, for each head, the indices picked so far. -/
theorem st_read (init : FVec F S16x128 .f32 × FVec F S16x128 .f32) (G : BufTy.Contents (Elt F) arg9.view.ty) (k : ℕ)
    (hk : k ≤ k0_t2_loop.trips) (y : S2x24.Idx) (hy : (y 1).val < k) :
    arg9.view.read (Elt F) (arg9.view.writes (Elt F) G
        (st_k0_t2 (F := F) 𝒱 c bd i arg1 harg1 arg2 harg2 arg3 harg3 arg4 harg4 arg5 harg5 arg6 harg6 arg7 harg7 arg8 harg8 arg9 harg9 init k).2) y
      = pick (meas (sub init (y 0).val) (y 1).val) := by
  induction k with
  | zero => omega
  | succ k ih =>
    have := st_k0_t2_succ (F := F) 𝒱 c bd i arg1 harg1 arg2 harg2 arg3 harg3 arg4 harg4 arg5 harg5 arg6 harg6 arg7 harg7 arg8 harg8 arg9 harg9 init ⟨k, hk⟩
    rw [this, tripL_eq, st_fst _ _ _ _ _ _ _ _ _ _ _ _ _ _ _ _ _ _ _ _ _ _ _ _ (by exact Nat.le_of_lt hk)]
    simp only [List.cons_append, List.nil_append]
    have h0 : (y 0).val < 2 := (y 0).isLt
    rw [View.read_writes_cons_unit _ _ _ _ _ y (off7_eq ⟨k, hk⟩), View.read_writes_cons_unit _ _ _ _ _ y (off6_eq ⟨k, hk⟩)]
    by_cases hlt : (y 1).val < k
    · rw [dif_neg, dif_neg, ih (by omega) hlt]
      · intro h; have := (h 1).1; simp at this; omega
      · intro h; have := (h 1).1; simp at this; omega
    · have hyk : (y 1).val = k := by omega
      by_cases h01 : (y 0).val = 0
      · rw [dif_neg, dif_pos]
        · simp [sub, h01, hyk]
        · intro a; fin_cases a <;> simp [h01, hyk]
        · intro h; have := (h 0).1; simp [h01] at this
      · have hy1 : (y 0).val = 1 := by omega
        rw [dif_pos]
        · simp [sub, h01, hyk]
        · intro a; fin_cases a <;> simp [hy1, hyk]

/-- After all trips every word of the index buffer is a row of the block. -/
theorem st_read_all (init : FVec F S16x128 .f32 × FVec F S16x128 .f32) (G : BufTy.Contents (Elt F) arg9.view.ty) (y : S2x24.Idx) :
    arg9.view.read (Elt F) (arg9.view.writes (Elt F) G
        (st_k0_t2 (F := F) 𝒱 c bd i arg1 harg1 arg2 harg2 arg3 harg3 arg4 harg4 arg5 harg5 arg6 harg6 arg7 harg7 arg8 harg8 arg9 harg9 init k0_t2_loop.trips).2) y
      = pick (meas (sub init (y 0).val) (y 1).val) :=
  st_read 𝒱 c bd i arg1 harg1 arg2 harg2 arg3 harg3 arg4 harg4 arg5 harg5 arg6 harg6 arg7 harg7 arg8 harg8 arg9 harg9 init G _ le_rfl y
    (lt_of_lt_of_eq (y 1).isLt (by decide +kernel))

end Loop

/-! ## A word below 2048 names a row of each buffer -/

theorem in_q (w : BitVec 32) (o : ℕ) (ho : o ≤ 64) (h : w.toNat < 2048) :
    ∀ a, (![(Scalar.indexCast w).toNat, o] : Fin 2 → ℕ) a + S1x64.size a ≤ S2048x128.size a := fun a => by
  fin_cases a
  · exact (by omega : w.toNat + 1 ≤ 2048)
  · exact (by omega : o + 64 ≤ 128)

theorem in_o (w : BitVec 32) (o : ℕ) (ho : o ≤ 1) (h : w.toNat < 2048) :
    ∀ a, (![o, (Scalar.indexCast w).toNat, 0] : Fin 3 → ℕ) a + S1x1x64.size a ≤ S2x2048x64.size a := fun a => by
  fin_cases a
  · exact (by omega : o + 1 ≤ 2)
  · exact (by omega : w.toNat + 1 ≤ 2048)
  · exact (by decide : 0 + 64 ≤ 64)

end Cert.KernelIdeal.Hand
-- ==== Proof.IRun.lean ====
/- The kernel body run once at symbolic operands. -/
module

public import proofs.«01_k».proof.Proof.IPick
public import proofs.«01_k».proof.Proof.Gen.KernelIdeal.Frame
public import Idealize.ShloMosaic.Lib.Tactic
public import Idealize.ShloMosaic.Lib.Pipeline.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section
variable (𝒱 : Variants) (c : Dev nD) (bd : Option 𝒱.V) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)

/-- Every word loaded from the index buffer after the selection loop is below 2048. -/
theorem word_lt (init : FVec F S16x128 .f32 × FVec F S16x128 .f32) (G : BufTy.Contents (Elt F) arg9.view.ty) (r : LoadRect S2x24) (x : r.shape.Idx) :
    BitVec.toNat (arg9.view.readAt (Elt F) r (arg9.view.writes (Elt F) G
        (st_k0_t2 (F := F) 𝒱 c bd i arg1 harg1 arg2 harg2 arg3 harg3 arg4 harg4 arg5 harg5 arg6 harg6 arg7 harg7 arg8 harg8 arg9 harg9 init k0_t2_loop.trips).2) x) < 2048 := by
  rw [View.readAt_apply, st_read_all]; exact pick_lt _

end

set_option maxHeartbeats 4000000 in
/-- The body from its blocks and scratch: it runs to the end, handing the inputs back as they were and the result and
    the scratch at what it left. -/
theorem kernelRun (𝒱 : Variants) (c : Dev nD) (bd : Option 𝒱.V) (E : Set ℕ) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (G6 : BufTy.Contents (Elt F) arg6.view.ty)
  (G7 : BufTy.Contents (Elt F) arg7.view.ty) (G8 : BufTy.Contents (Elt F) arg8.view.ty) (G9 : BufTy.Contents (Elt F) arg9.view.ty)
  (Q : PUnit → sProp 𝕄) :
    iprop((arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} G6)
      ∗ (arg7.view.loc (c : Thread nD τ) ↦[arg7.view.set]{fullShare} G7) ∗ (arg8.view.loc (c : Thread nD τ) ↦[arg8.view.set]{fullShare} G8)
      ∗ (arg9.view.loc (c : Thread nD τ) ↦[arg9.view.set]{fullShare} G9)
      ∗ (iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5) ∗ (∃ f, arg6.view.loc (c : Thread nD τ) ↦[arg6.view.set]{fullShare} f)
        ∗ (∃ f, arg7.view.loc (c : Thread nD τ) ↦[arg7.view.set]{fullShare} f) ∗ (∃ f, arg8.view.loc (c : Thread nD τ) ↦[arg8.view.set]{fullShare} f)
        ∗ (∃ f, arg9.view.loc (c : Thread nD τ) ↦[arg9.view.set]{fullShare} f)) -∗ Q ⟨⟩))
    ⊢ wp frame (wpE (defs₀ (F := F)) 𝒱 (c : Thread nD τ) bd) E (cc0__kernel_body (F := F) i arg1 harg1 arg2 harg2 arg3 harg3 arg4 harg4 arg5 harg5 arg6 harg6 arg7 harg7 arg8 harg8 arg9 harg9) Q := by
  iintro ⟨H1, H2, H3, H4, H5, H6, H7, H8, H9, Hk⟩
  sl_exec (disch := first | exact in_q _ _ (by decide) (word_lt ..) | exact in_o _ _ (by decide) (word_lt ..))
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

end Cert.KernelIdeal.Hand
-- ==== Proof.IFrame.lean ====
/- The launch: every run of the program ends with its arguments as they were and every semaphore counter at zero. -/
module

public import proofs.«01_k».proof.Proof.IRun
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

open Idealize.ShloMosaic.Rounds
open Idealize.ShloMosaic.Pipeline (Dat Cfg Window BodyObligationLoose cellOf)

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The proof data on core `c`: the arrays as the region finds them, the input blocks left in place, the result block not
    named, the scratch at anything between the steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

/-- The result's window is the one not named. -/
def fgt : Fin cfg0.W → Bool := fun w => match w with
  | ⟨0, _⟩ => false | ⟨1, _⟩ => false | ⟨2, _⟩ => false | ⟨3, _⟩ => false | ⟨4, _⟩ => false | ⟨5, _⟩ => true

theorem defs₀_row (t : Fin cfg0.N) : (defs₀ (F := F)) .tc cfg0.body (cfg0.bodyArgs t (cfg0.slots t)) = bodyAt0 t := by
  unfold defs₀; rw [Defs.onTc_tc]

/-- The body on any memrefs, in terms of what they hold: the inputs are left as they were. -/
theorem bodyOwns (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (Y1 Y2 Y3 : S2048x128.Idx → Elt F .f32) (Y4 Y5 : S2048x128.Idx → Elt F .i32) (P R S : sProp 𝕄)
  (hS : S = iprop(((∃ X, owns (c : Thread nD τ) arg7 fullShare X) ∗ (∃ X, owns (c : Thread nD τ) arg8 fullShare X) ∗ (∃ X, owns (c : Thread nD τ) arg9 fullShare X)) ∗ P)) :
    iprop(S ∗ R
      ∗ owns (c : Thread nD τ) arg1 fullShare Y1 ∗ owns (c : Thread nD τ) arg2 fullShare Y2 ∗ owns (c : Thread nD τ) arg3 fullShare Y3
      ∗ owns (c : Thread nD τ) arg4 fullShare Y4 ∗ owns (c : Thread nD τ) arg5 fullShare Y5 ∗ (∃ X, owns (c : Thread nD τ) arg6 fullShare X))
    ⊢ wp frame (wpE (defs₀ (F := F)) 𝒱₀ (c : Thread nD τ) none) Set.univ
      (cc0__kernel_body (F := F) i arg1 harg1 arg2 harg2 arg3 harg3 arg4 harg4 arg5 harg5 arg6 harg6 arg7 harg7 arg8 harg8 arg9 harg9)
      (fun _ => iprop(S ∗ R
      ∗ owns (c : Thread nD τ) arg1 fullShare Y1 ∗ owns (c : Thread nD τ) arg2 fullShare Y2 ∗ owns (c : Thread nD τ) arg3 fullShare Y3
      ∗ owns (c : Thread nD τ) arg4 fullShare Y4 ∗ owns (c : Thread nD τ) arg5 fullShare Y5 ∗ (∃ X, owns (c : Thread nD τ) arg6 fullShare X))) := by
  subst hS
  unfold owns
  iintro ⟨⟨⟨⟨%X7, %g7, %h7, H7⟩, ⟨%X8, %g8, %h8, H8⟩, ⟨%X9, %g9, %h9, H9⟩⟩, HP⟩, HR, ⟨%f1, %hf1, H1⟩, ⟨%f2, %hf2, H2⟩, ⟨%f3, %hf3, H3⟩, ⟨%f4, %hf4, H4⟩, ⟨%f5, %hf5, H5⟩, ⟨%X6, %f6, %hf6, H6⟩⟩
  iapply (kernelRun 𝒱₀ c none Set.univ i arg1 harg1 arg2 harg2 arg3 harg3 arg4 harg4 arg5 harg5 arg6 harg6 arg7 harg7 arg8 harg8 arg9 harg9 f1 f2 f3 f4 f5 f6 g7 g8 g9)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, ⟨%e6, H6⟩, ⟨%e7, H7⟩, ⟨%e8, H8⟩, ⟨%e9, H9⟩⟩
  isplitl [H7 H8 H9 HP]
  · isplitr [HP]
    · isplitl [H7]; · iexists _; iexists e7; isplitr; (· ipureintro; rfl); iexact H7
      isplitl [H8]; · iexists _; iexists e8; isplitr; (· ipureintro; rfl); iexact H8
      iexists _; iexists e9; isplitr; (· ipureintro; rfl); iexact H9
    · iexact HP
  isplitl [HR]; · iexact HR
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  iexists _; iexists e6; isplitr; (· ipureintro; rfl); iexact H6

/-- The scratch and the generator's register, in terms of what the scratch holds. -/
theorem scratch_eq (c : Dev nD) : (Pipeline.ΦA spec0 c : sProp 𝕄) =
    iprop(((∃ X, owns (c : Thread nD τ) (Memref.whole cc0_scratch0) fullShare X) ∗ (∃ X, owns (c : Thread nD τ) (Memref.whole cc0_scratch1) fullShare X)
      ∗ (∃ X, owns (c : Thread nD τ) (Memref.whole cc0_scratch2) fullShare X)) ∗ ∃ r, prngReg c r) := by
  unfold Pipeline.ΦA
  rw [scopedRest0_eq]
  simp only [owns_whole]

/-- Contents that do not depend on what the block held before. -/
theorem owns_any {c : Thread nD τ} {sp : Space} {sh : Shape} {e : EltTy} {mr : Memref sig c.2.kind sp sh e} {D : Type}
    {f : D → sh.Idx → Elt F e} {X : sh.Idx → Elt F e} (h : ∀ d, f d = X) :
    iprop(∃ d, owns c mr fullShare (f d)) ⊢ (owns c mr fullShare X : sProp 𝕄) := by
  iintro ⟨%d, H⟩
  rw [h d]
  iexact H

set_option maxHeartbeats 1000000 in
theorem body_obligation (c : Dev nD) : BodyObligationLoose (dats m 0 c) (defs₀ (F := F)) 𝒱₀ () Set.univ fgt := fun t => by
  rw [bigSep_W0, bigSep_W0, defs₀_row]
  simp only [show ∀ w, cfg0.idle w (cfg0.grid.coords t) = false from fun _ => rfl, show ∀ w, cfg0.loose w = false from fun _ => rfl, fgt]
  have step := bodyOwns (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iprop(∃ r, prngReg c r)) ((dats m 0 c).owesAt () t.castSucc) _ (scratch_eq c)
  have h0 : ∀ d, (dats m 0 c).before 0 t d = iblk m c 0 t := before0_0_of m (dats m 0 c) (A_eq m c 0) (after0 m c) t
  have h1 : ∀ d, (dats m 0 c).before 1 t d = iblk m c 1 t := before0_1_of m (dats m 0 c) (A_eq m c 1) (after1 m c) t
  have h2 : ∀ d, (dats m 0 c).before 2 t d = iblk m c 2 t := before0_2_of m (dats m 0 c) (A_eq m c 2) (after2 m c) t
  have h3 : ∀ d, (dats m 0 c).before 3 t d = iblk m c 3 t := before0_3_of m (dats m 0 c) (A_eq m c 3) (after3 m c) t
  have h4 : ∀ d, (dats m 0 c).before 4 t d = iblk m c 4 t := before0_4_of m (dats m 0 c) (A_eq m c 4) (after4 m c) t
  have hO : (dats m 0 c).owesAt () t.succ = (dats m 0 c).owesAt () t.castSucc := by unfold Dat.owesAt Pipeline.owesWithin; rfl
  rw [after0, after1, after2, after3, after4, hO]
  refine BIBase.Entails.trans ?_ step
  refine BIClass.sep_mono .rfl (BIClass.sep_mono .rfl ?_)
  refine BIClass.sep_mono (owns_any h0) ?_
  refine BIClass.sep_mono (owns_any h1) ?_
  refine BIClass.sep_mono (owns_any h2) ?_
  refine BIClass.sep_mono (owns_any h3) ?_
  exact BIClass.sep_mono (owns_any h4) .rfl

/-- The buffer the tail writes. -/
def tailWrites : Finset (Ref sig .tc) := {main_v0}

set_option backward.isDefEq.respectTransparency.types false in
theorem run_kept : θ_run defs (onTc (τ := τ) (main (F := F))) (s₀ m ρ) (fun r =>
    Pipeline.RDat.FramePostR cfg0 (fun c => (dats m 0 c).toRForget fgt) tailWrites (V m) r ∧ r.2.sem = fun _ => 0) :=
  Pipeline.θ_run_frame_around_T_forget cfgs (dats m) 0 launch0 defs₀ 𝒱₀ fgt tailWrites m ρ main
    (fun c => body_obligation m c) (fun c => (dats m 0 c).share_full fun _ => rfl) (fun _ _ => rfl)
    (V0 m) [hostOps1] sfx_sub sfx_fresh sfx_keeps
    (by
      intro ops ho op hop b hb
      simp only [List.mem_singleton] at ho
      subst ho
      simp only [List.mem_singleton] at hop
      subst hop
      simp only [StableHlo.reshape_writes, Finset.mem_singleton] at hb
      unfold tailWrites
      rw [Finset.mem_singleton]
      by_contra hne
      exact StableHlo.devRef_ne_of_ne hne hb)
    (hmain m 𝒱₀) (fun c w => A_eq m c w) (fun _ _ => rfl)
    _ (fun _ h => h)

/-- The frame and quiescence of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨
      ((h.1 c).2 main_arg0 (Finset.mem_sdiff.2 ⟨Pipeline.mem_restRefs_of main_arg0 (by decide) (by decide), by decide⟩)).trans (V_main_arg0 m c),
      ((h.1 c).2 main_arg1 (Finset.mem_sdiff.2 ⟨Pipeline.mem_restRefs_of main_arg1 (by decide) (by decide), by decide⟩)).trans (V_main_arg1 m c),
      ((h.1 c).2 main_arg2 (Finset.mem_sdiff.2 ⟨Pipeline.mem_restRefs_of main_arg2 (by decide) (by decide), by decide⟩)).trans (V_main_arg2 m c),
      ((h.1 c).2 main_arg3 (Finset.mem_sdiff.2 ⟨Pipeline.mem_restRefs_of main_arg3 (by decide) (by decide), by decide⟩)).trans (V_main_arg3 m c)⟩, h.2⟩) (run_kept m ρ)

end Cert.KernelIdeal.Hand
-- ==== Proof.RRun.lean ====
/- The reference's operations in order, read off the printed functions, and its run. -/
module

public import proofs.«01_k».proof.Proof.Gen.ReferenceIdeal
public import Idealize.ShloMosaic.Lib.StableHlo.RunHlo

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal.Gen

variable {F : FTy → Type} [FloatOps F]

open StableHlo (IsSeq)

/-- A printed stretch and its operations. -/
abbrev Line (p : Prog (TpuEff nD τ sig (Elt F) (Pipeline.Sig Λ₀ (Fin 0) fun p => (pcfgs (F := F) p).Adm) .tc) PUnit) :=
  {l : List (HloOp τ sig (Elt F)) // IsSeq p l}

/-- A stretch followed by another is their operations one after the other. -/
theorem isSeq_bind {Λ : Labels} {p q : Prog (TpuEff nD τ sig (Elt F) Λ .tc) PUnit}
    {a l : List (HloOp τ sig (Elt F))} (hp : IsSeq p a) (hq : IsSeq q l) : IsSeq (p >>= fun _ => q) (a ++ l) := by
  unfold IsSeq at *
  rw [StableHlo.seq_append, hp, hq]

/-- A stretch that ends in an operation. -/
theorem isSeq_last {Λ : Labels} {op : HloOp τ sig (Elt F)} :
    IsSeq (Λ := Λ) (nD := nD) (hlo rfl op fun _ => .ret (⟨⟩ : PUnit)) [op] := by
  unfold IsSeq
  exact (bind_pure_unit (x := (hlo rfl op fun _ => .ret (⟨⟩ : PUnit)))).symm

def clipOps (a b c) (φ : fn_clip.Bufs) : Line (F := F) (fn_clip.body a b c φ) := by
  apply Subtype.mk
  unfold fn_clip.body
  repeat (first | exact IsSeq.nil | exact isSeq_last | apply IsSeq.cons)

def clip0Ops (a b c) (φ : fn_clip_0.Bufs) : Line (F := F) (fn_clip_0.body a b c φ) := by
  apply Subtype.mk
  unfold fn_clip_0.body
  repeat (first | exact IsSeq.nil | exact isSeq_last | apply IsSeq.cons)

def threefryOps0 (a b c d) (φ : fn_threefry2x32.Bufs) : Line (F := F) (fn_threefry2x32.body_part0 a b c d φ) := by
  apply Subtype.mk
  unfold fn_threefry2x32.body_part0
  repeat (first | exact IsSeq.nil | exact isSeq_last | apply IsSeq.cons)
def threefryOps1 (a b c d) (φ : fn_threefry2x32.Bufs) : Line (F := F) (fn_threefry2x32.body_part1 a b c d φ) := by
  apply Subtype.mk
  unfold fn_threefry2x32.body_part1
  repeat (first | exact IsSeq.nil | exact isSeq_last | apply IsSeq.cons)
def threefryOps2 (a b c d) (φ : fn_threefry2x32.Bufs) : Line (F := F) (fn_threefry2x32.body_part2 a b c d φ) := by
  apply Subtype.mk
  unfold fn_threefry2x32.body_part2
  repeat (first | exact IsSeq.nil | exact isSeq_last | apply IsSeq.cons)
def threefryOps3 (a b c d) (φ : fn_threefry2x32.Bufs) : Line (F := F) (fn_threefry2x32.body_part3 a b c d φ) := by
  apply Subtype.mk
  unfold fn_threefry2x32.body_part3
  repeat (first | exact IsSeq.nil | exact isSeq_last | apply IsSeq.cons)

def threefryOps (a b c d) (φ : fn_threefry2x32.Bufs) : Line (F := F) (fn_threefry2x32.body a b c d φ) :=
  ⟨_, isSeq_bind (threefryOps0 a b c d φ).2 (isSeq_bind (threefryOps1 a b c d φ).2 (isSeq_bind (threefryOps2 a b c d φ).2 (threefryOps3 a b c d φ).2))⟩

def splitOps (a) (φ : fn_threefry_split.Bufs) : Line (F := F) (fn_threefry_split.body a φ) := by
  apply Subtype.mk
  unfold fn_threefry_split.body
  repeat (first | exact IsSeq.nil | exact isSeq_last | apply IsSeq.cons | apply isSeq_bind (threefryOps _ _ _ _ _).2)

def threefryWideOps0 (a b c d) (φ : fn_threefry2x32_1.Bufs) : Line (F := F) (fn_threefry2x32_1.body_part0 a b c d φ) := by
  apply Subtype.mk
  unfold fn_threefry2x32_1.body_part0
  repeat (first | exact IsSeq.nil | exact isSeq_last | apply IsSeq.cons)
def threefryWideOps1 (a b c d) (φ : fn_threefry2x32_1.Bufs) : Line (F := F) (fn_threefry2x32_1.body_part1 a b c d φ) := by
  apply Subtype.mk
  unfold fn_threefry2x32_1.body_part1
  repeat (first | exact IsSeq.nil | exact isSeq_last | apply IsSeq.cons)
def threefryWideOps2 (a b c d) (φ : fn_threefry2x32_1.Bufs) : Line (F := F) (fn_threefry2x32_1.body_part2 a b c d φ) := by
  apply Subtype.mk
  unfold fn_threefry2x32_1.body_part2
  repeat (first | exact IsSeq.nil | exact isSeq_last | apply IsSeq.cons)
def threefryWideOps3 (a b c d) (φ : fn_threefry2x32_1.Bufs) : Line (F := F) (fn_threefry2x32_1.body_part3 a b c d φ) := by
  apply Subtype.mk
  unfold fn_threefry2x32_1.body_part3
  repeat (first | exact IsSeq.nil | exact isSeq_last | apply IsSeq.cons)

def threefryWideOps (a b c d) (φ : fn_threefry2x32_1.Bufs) : Line (F := F) (fn_threefry2x32_1.body a b c d φ) :=
  ⟨_, isSeq_bind (threefryWideOps0 a b c d φ).2 (isSeq_bind (threefryWideOps1 a b c d φ).2 (isSeq_bind (threefryWideOps2 a b c d φ).2 (threefryWideOps3 a b c d φ).2))⟩

def randintOps0 (a b c) (φ : fn_randint.Bufs) : Line (F := F) (fn_randint.body_part0 a b c φ) := by
  apply Subtype.mk
  unfold fn_randint.body_part0
  repeat (first | exact IsSeq.nil | exact isSeq_last | apply IsSeq.cons | apply isSeq_bind (clipOps _ _ _ _).2 | apply isSeq_bind (clip0Ops _ _ _ _).2 | apply isSeq_bind (splitOps _ _).2 | apply isSeq_bind (threefryWideOps _ _ _ _ _).2)
def randintOps1 (a b c) (φ : fn_randint.Bufs) : Line (F := F) (fn_randint.body_part1 a b c φ) := by
  apply Subtype.mk
  unfold fn_randint.body_part1
  repeat (first | exact IsSeq.nil | exact isSeq_last | apply IsSeq.cons)

def randintOps (a b c) (φ : fn_randint.Bufs) : Line (F := F) (fn_randint.body a b c φ) :=
  ⟨_, isSeq_bind (randintOps0 a b c φ).2 (randintOps1 a b c φ).2⟩

def takeOps (a b) (φ : fn_take_along_axis.Bufs) : Line (F := F) (fn_take_along_axis.body a b φ) := by
  apply Subtype.mk
  unfold fn_take_along_axis.body
  repeat (first | exact IsSeq.nil | exact isSeq_last | apply IsSeq.cons)

set_option maxHeartbeats 4000000 in
set_option maxRecDepth 65536 in
def mainOps0 (d : Dev nD) : Line (F := F) (main_part0 d) := by
  apply Subtype.mk
  unfold main_part0
  repeat (first | apply IsSeq.cons | exact IsSeq.nil | exact isSeq_last | apply isSeq_bind (randintOps _ _ _ _).2 | apply isSeq_bind (takeOps _ _ _).2)
set_option maxHeartbeats 4000000 in
set_option maxRecDepth 65536 in
def mainOps1 (d : Dev nD) : Line (F := F) (main_part1 d) := by
  apply Subtype.mk
  unfold main_part1
  repeat (first | apply IsSeq.cons | exact IsSeq.nil | exact isSeq_last | apply isSeq_bind (takeOps _ _ _).2)

def mainOps (d : Dev nD) : Line (F := F) (main d) :=
  ⟨_, isSeq_bind (mainOps0 d).2 (mainOps1 d).2⟩

end Cert.ReferenceIdeal.Hand
-- ==== Proof.Ssa.lean ====
/- Straight lines of host operations in single-assignment order: every operation writes one buffer, numbered above
   the buffers it reads and above everything written before it. In the contents such a line leaves, each operation's
   equation holds between its operands and its result; and two such lines that run the same operations on
   correspondingly numbered buffers leave the same contents in them. -/
module

public import Idealize.ShloMosaic.Lib.StableHlo.RunHlo
public import Idealize.ShloMosaic.Adequacy

@[expose] public section

noncomputable section

namespace Cert.Ssa

open Idealize.ShloMosaic Idealize.ShloMosaic.TcCoe Idealize.SL.Sem

variable {τ : Topo} {sig sig' : RefSig} {Val : EltTy → Type}

/-- A buffer's number. -/
def num (r : Ref sig .tc) : ℕ := r.idx.val

/-- The operation writes buffers numbered `k`, from buffers numbered below `k`. -/
def OpAt (k : ℕ) (op : HloOp τ sig Val) : Prop :=
  op.fresh = ∅ ∧ op.bufs ⊆ StableHlo.tcRefs τ sig ∧ (∀ b ∈ op.bufs, b ∉ op.writes → b.idx.val < k) ∧ ∀ b ∈ op.writes, b.idx.val = k

/-- The line is in single-assignment order, and writes nothing numbered below `lo`. -/
def Good : ℕ → List (HloOp τ sig Val) → Prop
  | _, [] => True
  | lo, op :: l => ∃ k, lo ≤ k ∧ OpAt k op ∧ Good (k + 1) l

theorem Good.cons {k lo : ℕ} {op : HloOp τ sig Val} {l : List (HloOp τ sig Val)} (h : OpAt k op) (hk : lo ≤ k) (hl : Good (k + 1) l) :
    Good lo (op :: l) := ⟨k, hk, h, hl⟩

/-- The equation of one operation in the contents `W`: what it writes is what it computes from what it reads. -/
def Reads (W : Valuation τ sig Val) (op : HloOp τ sig Val) : Prop :=
  ∃ V : Valuation τ sig Val, (∀ b ∈ op.bufs, b ∉ op.writes → V b = W b) ∧ ∀ b ∈ op.writes, W b = op.result V b

theorem Good.kept : ∀ {l : List (HloOp τ sig Val)} {lo : ℕ} (_ : Good lo l) (V : Valuation τ sig Val) (b : DevRef τ sig), b.idx.val < lo →
    StableHlo.after l V b = V b
  | [], _, _, _, _, _ => rfl
  | op :: l, lo, ⟨k, hk, ⟨_, _, _, hw⟩, hl⟩, V, b, hb => by
      rw [StableHlo.after_cons, Good.kept hl _ b (by omega)]
      exact op.result_of_not_mem V fun h => by have := hw b h; omega

theorem Good.reads : ∀ {l : List (HloOp τ sig Val)} {lo : ℕ} (_ : Good lo l) (V : Valuation τ sig Val),
    l.Forall (Reads (StableHlo.after l V))
  | [], _, _, _ => trivial
  | op :: l, lo, ⟨k, hk, ⟨hf, hs, hr, hw⟩, hl⟩, V => by
      rw [List.forall_cons]
      refine ⟨⟨V, fun b hb hn => ?_, fun b hb => ?_⟩, Good.reads hl (op.result V)⟩
      · rw [StableHlo.after_cons, hl.kept _ b (by have := hr b hb hn; omega), op.result_of_not_mem V hn]
      · rw [StableHlo.after_cons, hl.kept _ b (by have := hw b hb; omega)]

theorem Good.sub : ∀ {l : List (HloOp τ sig Val)} {lo : ℕ} (_ : Good lo l), l.Forall fun op => op.bufs ⊆ StableHlo.tcRefs τ sig
  | [], _, _ => trivial
  | _ :: _, _, ⟨_, _, ⟨_, hs, _, _⟩, hl⟩ => (List.forall_cons _ _ _).mpr ⟨hs, Good.sub hl⟩

theorem Good.fresh : ∀ {l : List (HloOp τ sig Val)} {lo : ℕ} (_ : Good lo l), ∀ op ∈ l, op.fresh = ∅
  | [], _, _ => fun _ h => nomatch h
  | _ :: _, _, ⟨_, _, ⟨hf, _, _, _⟩, hl⟩ => fun op h => by
      rcases List.mem_cons.mp h with rfl | h
      · exact hf
      · exact Good.fresh hl op h

theorem Good.nil (lo : ℕ) : Good lo ([] : List (HloOp τ sig Val)) := trivial

section
variable {x a b c y : Ref sig .tc} {l : List (HloOp τ sig Val)} {lo : ℕ}

theorem OpAt.nullary {v : y.ty.Contents Val} {hy} :
    OpAt (τ := τ) (Val := Val) (num y) (StableHlo.nullary y v hy) :=
  ⟨rfl, StableHlo.nullary_bufs_sub .., by simp +contextual [StableHlo.nullary_writes, StableHlo.nullary_bufs], by simp [StableHlo.nullary_writes, num]⟩

theorem OpAt.unary {f : x.ty.Contents Val → y.ty.Contents Val} {hx hy} (h₁ : num x < num y) :
    OpAt (τ := τ) (Val := Val) (num y) (StableHlo.unary x y f hx hy) :=
  ⟨rfl, StableHlo.unary_bufs_sub .., by
    intro d hd hn
    simp only [StableHlo.unary_bufs, StableHlo.unary_writes, Finset.mem_insert, Finset.mem_singleton] at hd hn
    rcases hd with rfl | rfl
    · exact h₁
    · exact absurd rfl hn, by simp [StableHlo.unary_writes, num]⟩

theorem OpAt.reshape {he hn hx hy} (h₁ : num x < num y) :
    OpAt (τ := τ) (Val := Val) (num y) (StableHlo.reshape x y he hn hx hy) :=
  ⟨rfl, StableHlo.reshape_bufs_sub .., by
    intro d hd hn
    simp only [StableHlo.reshape_bufs, StableHlo.reshape_writes, Finset.mem_insert, Finset.mem_singleton] at hd hn
    rcases hd with rfl | rfl
    · exact h₁
    · exact absurd rfl hn, by simp [StableHlo.reshape_writes, num]⟩

theorem OpAt.binary {f : a.ty.Contents Val → b.ty.Contents Val → y.ty.Contents Val} {ha hb hy} (h₁ : num a < num y) (h₂ : num b < num y)
    : OpAt (τ := τ) (Val := Val) (num y) (StableHlo.binary a b y f ha hb hy) :=
  ⟨rfl, StableHlo.binary_bufs_sub .., by
    intro d hd hn
    simp only [StableHlo.binary_bufs, StableHlo.binary_writes, Finset.mem_insert, Finset.mem_singleton] at hd hn
    rcases hd with rfl | rfl | rfl
    · exact h₁
    · exact h₂
    · exact absurd rfl hn, by simp [StableHlo.binary_writes, num]⟩

theorem OpAt.ternary {f : c.ty.Contents Val → a.ty.Contents Val → b.ty.Contents Val → y.ty.Contents Val} {hc ha hb hy} (h₀ : num c < num y)
    (h₁ : num a < num y) (h₂ : num b < num y) : OpAt (τ := τ) (Val := Val) (num y) (StableHlo.ternary c a b y f hc ha hb hy) :=
  ⟨rfl, StableHlo.ternary_bufs_sub .., by
    intro d hd hn
    simp only [StableHlo.ternary_bufs, StableHlo.ternary_writes, Finset.mem_insert, Finset.mem_singleton] at hd hn
    rcases hd with rfl | rfl | rfl | rfl
    · exact h₀
    · exact h₁
    · exact h₂
    · exact absurd rfl hn, by simp [StableHlo.ternary_writes, num]⟩

theorem OpAt.nary {n : ℕ} {xs : Fin n → Ref sig .tc} {f : ((k : Fin n) → (xs k).ty.Contents Val) → y.ty.Contents Val} {hxs hy}
    (h₁ : ∀ k, num (xs k) < num y) : OpAt (τ := τ) (Val := Val) (num y) (StableHlo.nary xs y f hxs hy) :=
  ⟨rfl, StableHlo.nary_bufs_sub .., by
    intro d hd hn
    simp only [StableHlo.nary, StableHlo.nary_writes, Finset.mem_insert, Finset.mem_singleton, Finset.mem_image, Finset.mem_univ, true_and] at hd hn
    rcases hd with rfl | ⟨k, rfl⟩
    · exact absurd rfl hn
    · exact h₁ k, by simp [StableHlo.nary_writes, num]⟩

variable {W : Valuation τ sig Val}

theorem rd_nullary {v : y.ty.Contents Val} {hy} (h : Reads W (StableHlo.nullary y v hy)) : W (Proc.devRef .tc y) = v := by
  obtain ⟨V, _, hw⟩ := h
  rw [hw _ (by simp [StableHlo.nullary_writes])]
  exact StableHlo.nullary_result' v hy V

theorem rd_unary {f : x.ty.Contents Val → y.ty.Contents Val} {hx hy} (h : Reads W (StableHlo.unary x y f hx hy)) (h₁ : num x < num y) :
    W (Proc.devRef .tc y) = f (W (Proc.devRef .tc x)) := by
  obtain ⟨V, hr, hw⟩ := h
  rw [hw _ (by simp [StableHlo.unary_writes]), StableHlo.unary_result' f hx hy V, hr]
  · simp [StableHlo.unary_bufs, StableHlo.reshape_bufs, StableHlo.binary_bufs, StableHlo.ternary_bufs]
  · simp only [StableHlo.unary_writes, Finset.mem_singleton]; intro e; rw [Proc.devRef_injective _ e] at h₁; omega

theorem rd_reshape {he hn hx hy} (h : Reads W (StableHlo.reshape x y he hn hx hy)) (h₁ : num x < num y) :
    W (Proc.devRef .tc y) = fun i => he ▸ shapeCast y.ty.shape (W (Proc.devRef .tc x)) hn i := by
  obtain ⟨V, hr, hw⟩ := h
  rw [hw _ (by simp [StableHlo.reshape_writes]), StableHlo.reshape_result' he hn hx hy V, hr]
  · simp [StableHlo.unary_bufs, StableHlo.reshape_bufs, StableHlo.binary_bufs, StableHlo.ternary_bufs]
  · simp only [StableHlo.reshape_writes, Finset.mem_singleton]; intro e; rw [Proc.devRef_injective _ e] at h₁; omega

theorem rd_binary {f : a.ty.Contents Val → b.ty.Contents Val → y.ty.Contents Val} {ha hb hy} (h : Reads W (StableHlo.binary a b y f ha hb hy))
    (h₁ : num a < num y) (h₂ : num b < num y) : W (Proc.devRef .tc y) = f (W (Proc.devRef .tc a)) (W (Proc.devRef .tc b)) := by
  obtain ⟨V, hr, hw⟩ := h
  rw [hw _ (by simp [StableHlo.binary_writes]), StableHlo.binary_result' f ha hb hy V, hr (Proc.devRef .tc a), hr (Proc.devRef .tc b)]
  · simp [StableHlo.unary_bufs, StableHlo.reshape_bufs, StableHlo.binary_bufs, StableHlo.ternary_bufs]
  · simp only [StableHlo.binary_writes, Finset.mem_singleton]; intro e; rw [Proc.devRef_injective _ e] at h₂; omega
  · simp [StableHlo.unary_bufs, StableHlo.reshape_bufs, StableHlo.binary_bufs, StableHlo.ternary_bufs]
  · simp only [StableHlo.binary_writes, Finset.mem_singleton]; intro e; rw [Proc.devRef_injective _ e] at h₁; omega

theorem rd_ternary {f : c.ty.Contents Val → a.ty.Contents Val → b.ty.Contents Val → y.ty.Contents Val} {hc ha hb hy}
    (h : Reads W (StableHlo.ternary c a b y f hc ha hb hy)) (h₀ : num c < num y) (h₁ : num a < num y) (h₂ : num b < num y) :
    W (Proc.devRef .tc y) = f (W (Proc.devRef .tc c)) (W (Proc.devRef .tc a)) (W (Proc.devRef .tc b)) := by
  obtain ⟨V, hr, hw⟩ := h
  rw [hw _ (by simp [StableHlo.ternary_writes]), StableHlo.ternary_result' f hc ha hb hy V, hr (Proc.devRef .tc c), hr (Proc.devRef .tc a), hr (Proc.devRef .tc b)]
  · simp [StableHlo.unary_bufs, StableHlo.reshape_bufs, StableHlo.binary_bufs, StableHlo.ternary_bufs]
  · simp only [StableHlo.ternary_writes, Finset.mem_singleton]; intro e; rw [Proc.devRef_injective _ e] at h₂; omega
  · simp [StableHlo.unary_bufs, StableHlo.reshape_bufs, StableHlo.binary_bufs, StableHlo.ternary_bufs]
  · simp only [StableHlo.ternary_writes, Finset.mem_singleton]; intro e; rw [Proc.devRef_injective _ e] at h₁; omega
  · simp [StableHlo.unary_bufs, StableHlo.reshape_bufs, StableHlo.binary_bufs, StableHlo.ternary_bufs]
  · simp only [StableHlo.ternary_writes, Finset.mem_singleton]; intro e; rw [Proc.devRef_injective _ e] at h₀; omega

theorem rd_nary {n : ℕ} {xs : Fin n → Ref sig .tc} {f : ((k : Fin n) → (xs k).ty.Contents Val) → y.ty.Contents Val} {hxs hy}
    (h : Reads W (StableHlo.nary xs y f hxs hy)) (h₁ : ∀ k, num (xs k) < num y) :
    W (Proc.devRef .tc y) = f fun k => W (Proc.devRef .tc (xs k)) := by
  obtain ⟨V, hr, hw⟩ := h
  rw [hw _ (by simp [StableHlo.nary_writes]), StableHlo.nary_result' xs f hxs hy V]
  refine congrArg f (funext fun k => hr _ ?_ ?_)
  · exact Finset.mem_insert_of_mem (Finset.mem_image_of_mem _ (Finset.mem_univ k))
  · simp only [StableHlo.nary_writes, Finset.mem_singleton]; intro e; have := h₁ k; rw [Proc.devRef_injective _ e] at this; omega

end

/-! ### Two lines side by side -/

/-- The buffers numbered from `lo` to `n` hold the same in `V` as those numbered `off` above them in `V'`. -/
def Agree (off lo n : ℕ) (V : Valuation τ sig Val) (V' : Valuation τ sig' Val) : Prop :=
  ∀ (r : Ref sig .tc) (r' : Ref sig' .tc), r.space = .hbm → r'.space = .hbm → lo ≤ num r → num r < n → num r' = num r + off →
    HEq (V (Proc.devRef .tc r)) (V' (Proc.devRef .tc r'))

/-- From agreement below `n` the two lines lead to agreement below `m`. -/
def Sim (off lo n m : ℕ) (l : List (HloOp τ sig Val)) (l' : List (HloOp τ sig' Val)) : Prop :=
  ∀ V V', Agree off lo n V V' → Agree off lo m (StableHlo.after l V) (StableHlo.after l' V')

theorem ref_ext {r s : Ref sig .tc} (hr : r.space = .hbm) (hs : s.space = .hbm) (h : num r = num s) : r = s := by
  obtain ⟨_, i, hi⟩ := r
  obtain ⟨_, j, hj⟩ := s
  obtain rfl : _ = Space.hbm := hr
  obtain rfl : _ = Space.hbm := hs
  obtain rfl : i = j := Fin.ext h
  rfl

theorem Sim.done {off lo n : ℕ} {l : List (HloOp τ sig Val)} {l' : List (HloOp τ sig' Val)} (h : Good n l) (h' : Good (n + off) l') :
    Sim off lo n n l l' := fun V V' hV r r' hr hr' h₁ h₂ h₃ => by
  rw [h.kept V _ h₂, h'.kept V' _ (show num r' < _ by omega)]
  exact hV r r' hr hr' h₁ h₂ h₃

/-- One operation on either side, writing corresponding buffers with the same contents, carries the agreement one further. -/
theorem Agree.step {off lo n : ℕ} {V : Valuation τ sig Val} {V' : Valuation τ sig' Val} (hV : Agree off lo n V V') {op : HloOp τ sig Val}
    {op' : HloOp τ sig' Val} {y : Ref sig .tc} {y' : Ref sig' .tc} (hw : op.writes = {Proc.devRef .tc y}) (hw' : op'.writes = {Proc.devRef .tc y'})
    (hs : y.space = .hbm) (hs' : y'.space = .hbm) (hn : n = num y) (hy : num y' = num y + off)
    (h : HEq (op.result V (Proc.devRef .tc y)) (op'.result V' (Proc.devRef .tc y'))) : Agree off lo (num y + 1) (op.result V) (op'.result V') := by
  intro r r' hr hr' h₁ h₂ h₃
  by_cases e : num r = num y
  · obtain rfl := ref_ext hr hs e
    obtain rfl := ref_ext hr' hs' (by omega)
    exact h
  · rw [op.result_of_not_mem V, op'.result_of_not_mem V']
    · exact hV r r' hr hr' h₁ (by omega) h₃
    · rw [hw', Finset.mem_singleton]; intro e'; rw [Proc.devRef_injective _ e'] at h₃; omega
    · rw [hw, Finset.mem_singleton]; intro e'; exact e (by rw [Proc.devRef_injective _ e'])

section
variable {x a b c y : Ref sig .tc} {x' a' b' c' y' : Ref sig' .tc} {l : List (HloOp τ sig Val)} {l' : List (HloOp τ sig' Val)} {off lo n m : ℕ}

/-- Corresponding buffers among those that agree. -/
def Match (off lo n : ℕ) (x : Ref sig .tc) (x' : Ref sig' .tc) : Prop :=
  x.space = .hbm ∧ x'.space = .hbm ∧ lo ≤ num x ∧ num x < n ∧ num x' = num x + off

theorem Agree.at {V : Valuation τ sig Val} {V' : Valuation τ sig' Val} (hV : Agree off lo n V V') (h : Match off lo n x x') :
    HEq (V (Proc.devRef .tc x)) (V' (Proc.devRef .tc x')) := hV x x' h.1 h.2.1 h.2.2.1 h.2.2.2.1 h.2.2.2.2

/-- The two operations write buffers number `n` and `n + off`, with the same contents where they start from contents that
    agree below. -/
def Pair (off lo n : ℕ) (op : HloOp τ sig Val) (op' : HloOp τ sig' Val) : Prop :=
  ∀ V V', Agree off lo n V V' → Agree off lo (n + 1) (op.result V) (op'.result V')

theorem Sim.cons {off lo n k m : ℕ} {op : HloOp τ sig Val} {op' : HloOp τ sig' Val} {l : List (HloOp τ sig Val)} {l' : List (HloOp τ sig' Val)}
    (h : Pair off lo k op op') (hk : n = k) (hl : Sim off lo (k + 1) m l l') : Sim off lo n m (op :: l) (op' :: l') :=
  fun V V' hV => hl _ _ (h V V' (hk ▸ hV))

/-- Operations before the first corresponding one do not matter. -/
theorem Sim.skip {off lo m : ℕ} {l : List (HloOp τ sig Val)} {op' : HloOp τ sig' Val} {l' : List (HloOp τ sig' Val)} (hl : Sim off lo lo m l l') :
    Sim off lo lo m l (op' :: l') :=
  fun V V' _ => hl V (op'.result V') fun _ _ _ _ h₁ h₂ _ => absurd h₂ (by omega)

theorem Pair.nullary {v : y.ty.Contents Val} {v' : y'.ty.Contents Val} {hy hy'} (hs : y.space = .hbm) (hs' : y'.space = .hbm)
    (ho : num y' = num y + off) (hv : HEq v v') :
    Pair (τ := τ) (Val := Val) off lo (num y) (StableHlo.nullary y v hy) (StableHlo.nullary y' v' hy') := by
  intro V V' hV
  exact
  (hV.step rfl rfl hs hs' rfl ho (by rw [StableHlo.nullary_result', StableHlo.nullary_result']; exact hv))

theorem Pair.unary {f : x.ty.Contents Val → y.ty.Contents Val} {f' : x'.ty.Contents Val → y'.ty.Contents Val} {hx hy hx' hy'}
    (hs : y.space = .hbm) (hs' : y'.space = .hbm) (ho : num y' = num y + off) (h₁ : Match off lo (num y) x x')
    (hf : ∀ u u', HEq u u' → HEq (f u) (f' u')) :
    Pair (τ := τ) (Val := Val) off lo (num y) (StableHlo.unary x y f hx hy) (StableHlo.unary x' y' f' hx' hy') := by
  intro V V' hV
  exact
  (hV.step rfl rfl hs hs' rfl ho (by
    rw [StableHlo.unary_result', StableHlo.unary_result']; exact hf _ _ (hV.at h₁)))

theorem Pair.reshape {he : x.ty.elt = y.ty.elt} {hsh hx hy} {he' : x'.ty.elt = y'.ty.elt} {hsh' hx' hy'}
    (hs : y.space = .hbm) (hs' : y'.space = .hbm) (ho : num y' = num y + off) (h₁ : Match off lo (num y) x x')
    (hf : ∀ (u : x.ty.Contents Val) (u' : x'.ty.Contents Val), HEq u u' →
      HEq (fun i => he ▸ shapeCast y.ty.shape u hsh i : y.ty.Contents Val) (fun i => he' ▸ shapeCast y'.ty.shape u' hsh' i : y'.ty.Contents Val)) :
    Pair (τ := τ) (Val := Val) off lo (num y) (StableHlo.reshape x y he hsh hx hy) (StableHlo.reshape x' y' he' hsh' hx' hy') := by
  intro V V' hV
  exact
  (hV.step rfl rfl hs hs' rfl ho (by
    rw [StableHlo.reshape_result', StableHlo.reshape_result']; exact hf _ _ (hV.at h₁)))

theorem Pair.binary {f : a.ty.Contents Val → b.ty.Contents Val → y.ty.Contents Val} {f' : a'.ty.Contents Val → b'.ty.Contents Val → y'.ty.Contents Val}
    {ha hb hy ha' hb' hy'} (hs : y.space = .hbm) (hs' : y'.space = .hbm) (ho : num y' = num y + off)
    (h₁ : Match off lo (num y) a a') (h₂ : Match off lo (num y) b b') (hf : ∀ u u' w w', HEq u u' → HEq w w' → HEq (f u w) (f' u' w')) :
    Pair (τ := τ) (Val := Val) off lo (num y) (StableHlo.binary a b y f ha hb hy) (StableHlo.binary a' b' y' f' ha' hb' hy') := by
  intro V V' hV
  exact
  (hV.step rfl rfl hs hs' rfl ho (by
    rw [StableHlo.binary_result', StableHlo.binary_result']; exact hf _ _ _ _ (hV.at h₁) (hV.at h₂)))

theorem Pair.ternary {f : c.ty.Contents Val → a.ty.Contents Val → b.ty.Contents Val → y.ty.Contents Val}
    {f' : c'.ty.Contents Val → a'.ty.Contents Val → b'.ty.Contents Val → y'.ty.Contents Val}
    {hc ha hb hy hc' ha' hb' hy'} (hs : y.space = .hbm) (hs' : y'.space = .hbm) (ho : num y' = num y + off)
    (h₀ : Match off lo (num y) c c') (h₁ : Match off lo (num y) a a') (h₂ : Match off lo (num y) b b')
    (hf : ∀ t t' u u' w w', HEq t t' → HEq u u' → HEq w w' → HEq (f t u w) (f' t' u' w')) :
    Pair (τ := τ) (Val := Val) off lo (num y) (StableHlo.ternary c a b y f hc ha hb hy) (StableHlo.ternary c' a' b' y' f' hc' ha' hb' hy') := by
  intro V V' hV
  exact
  (hV.step rfl rfl hs hs' rfl ho (by
    rw [StableHlo.ternary_result', StableHlo.ternary_result']
    exact hf _ _ _ _ _ _ (hV.at h₀) (hV.at h₁) (hV.at h₂)))

end

end Cert.Ssa
-- ==== Proof.RGood.lean ====
/- The reference's operations are in single-assignment order; its run, and that it leaves its arguments. -/
module

public import proofs.«01_k».proof.Proof.RRun
public import proofs.«01_k».proof.Proof.Ssa

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal.Gen

variable {F : FTy → Type} [FloatOps F]

open Cert.Ssa

set_option maxHeartbeats 40000000 in
theorem mainOps_good (d : Dev nD) : Good 4 (mainOps (F := F) d).1 := by
  repeat
    apply Good.cons
    focus
      first
        | with_reducible refine OpAt.binary ?_ ?_
        | with_reducible refine OpAt.unary ?_
        | with_reducible exact OpAt.nullary
        | with_reducible refine OpAt.reshape ?_
        | with_reducible refine OpAt.ternary ?_ ?_ ?_
        | with_reducible refine OpAt.nary ?_
      all_goals decide
    focus decide
  exact Good.nil _

/-- The reference's run: it leaves what its operations, in order, compute from the contents it starts with. -/
theorem run (m : (ℓ : Loc nD τ sig) → Buf (Elt F) ℓ) (ρ : Dev nD → PrngReg) :
    θ_run (defs (F := F)) (onTc (τ := τ) main) ⟨m, fun _ => 0, ρ⟩ fun r =>
      (∀ (d : Dev nD) (b : Ref sig .tc), r.2.mem ((d.tc : Thread nD τ).loc b) = StableHlo.after (mainOps (F := F) d).1 (StableHlo.launchContents m d) (Proc.devRef .tc b))
        ∧ r.2.sem = fun _ => 0 :=
  (θ_run _ _ _).mono (fun _ h => ⟨h, funext fun s => nomatch s⟩)
    (StableHlo.run_seq (by decide) (by decide) defs main (fun d => (mainOps d).1) (fun d => (mainOps d).2)
      (fun d => (mainOps_good d).sub) m ρ (fun d => (mainOps_good d).fresh))

theorem frame (m : (ℓ : Loc nD τ sig) → Buf (Elt F) ℓ) (ρ : Dev nD → PrngReg) :
    θ_run (defs (F := F)) (onTc (τ := τ) main) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun _ h => ⟨fun c =>
    ⟨(h.1 c main_arg0).trans ((mainOps_good c).kept _ _ (by decide)), (h.1 c main_arg1).trans ((mainOps_good c).kept _ _ (by decide)),
      (h.1 c main_arg2).trans ((mainOps_good c).kept _ _ (by decide)), (h.1 c main_arg3).trans ((mainOps_good c).kept _ _ (by decide))⟩, h.2⟩) (run m ρ)

end Cert.ReferenceIdeal.Hand
-- ==== Proof.IRows.lean ====
/- What one trip of the measuring loop stores: eight rows of measures for each of the two heads, each from the scores the trip has just put in the scratch. -/
module

public import proofs.«01_k».proof.Proof.IPick
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The lane each sampled key sits in, as the gather takes it. -/
def lane (lo : IVec S128x128 32) : IVec S128x128 32 :=
  shapeCast S128x128 (shapeCast S128x128x1 (select (cmpi .slt lo (broadcast S128x128 0#32)) (addi lo (broadcast S128x128 128#32)) lo)
    shapeCasts_S128x128_S128x128x1) shapeCasts_S128x128x1_S128x128

/-- The sampled scores that lie in one run of 128 keys, zero elsewhere. -/
def term (lo hi : IVec S128x128 32) (t : BitVec 32) (w : FVec F S128x128 .f32) : FVec F S128x128 .f32 :=
  select (cmpi .eq hi (broadcast S128x128 t)) (dynamicGather 1 w (lane lo)) (broadcast S128x128 (Scalar.ofBits .f32 0x00000000#32))

/-- The sampled scores of 128 queries: the sixteen runs added pairwise. -/
def gath (lo hi : IVec S128x128 32) (w : Fin 16 → FVec F S128x128 .f32) : FVec F S128x128 .f32 :=
  addf
    (addf (addf (addf (term lo hi 0#32 (w 0)) (term lo hi 1#32 (w 1))) (addf (term lo hi 2#32 (w 2)) (term lo hi 3#32 (w 3))))
      (addf (addf (term lo hi 4#32 (w 4)) (term lo hi 5#32 (w 5))) (addf (term lo hi 6#32 (w 6)) (term lo hi 7#32 (w 7)))))
    (addf (addf (addf (term lo hi 8#32 (w 8)) (term lo hi 9#32 (w 9))) (addf (term lo hi 10#32 (w 10)) (term lo hi 11#32 (w 11))))
      (addf (addf (term lo hi 12#32 (w 12)) (term lo hi 13#32 (w 13))) (addf (term lo hi 14#32 (w 14)) (term lo hi 15#32 (w 15)))))

/-- The measures of 128 queries from their sampled scores. -/
def mrow (g : FVec F S128x128 .f32) : FVec F S128 .f32 :=
  subf (multiReduction .maximumf [1] S128 (select k0_pay444 g (broadcast S128x128 (Named.named κ "neg" 0xFF61B1E6#32))) 0xFF800000#32
      reduces_S128x128_S128 (.inl rfl) rfl)
    (divf (multiReduction .add [1] S128 g 0x00000000#32 reduces_S128x128_S128 (.inl rfl) rfl) (broadcast S128 (Scalar.ofBits .f32 0x45000000#32)))

/-- The scores of 128 queries against every key. -/
def score (q : Vec F S128x64 .f32) (k : Vec F S2048x64 .f32) : FVec F S128x2048 .f32 :=
  matmul dot_S128x64_S2048x64_S128x2048_1_1_0_0_n_n (some .fp32) (shapeCast S128x64 q shapeCasts_S128x64_S128x64)
    (shapeCast S2048x64 k shapeCasts_S2048x64_S2048x64) (constant S128x2048 .f32 0x00000000#32)

/-- Run `t` of 128 keys of the scores. -/
def part (s : FVec F S128x2048 .f32) (t : Fin 16) : FVec F S128x128 .f32 := fun x =>
  s (ValueIdx.ix2 (x 0) ⟨128 * t.val + (x 1).val, by have h : (x 1).val < 128 := (x 1).isLt; omega⟩)

section
variable (v : View sig .tc .vmem S2x8x128x2048 .f32)

/-- Reading a run of 128 keys back from the scratch the scores were just stored in. -/
theorem cov_part (a b : ℕ) (inb) (s : FVec F S128x2048 .f32) (L : List (View.Piece (Elt F) S2x8x128x2048 .f32)) (t : Fin 16)
    (inbt : ∀ x, (![a, b, 0, 128 * t.val] : Fin 4 → ℕ) x + S1x1x128x128.size x ≤ S2x8x128x2048.size x) :
    shapeCast S128x128 (v.readCov ((⟨Rect.unit (s := S2x8x128x2048) ![a, b, 0, 0] S1x1x128x2048.size inb,
        shapeCast S1x1x128x2048 s shapeCasts_S128x2048_S1x1x128x2048⟩ : View.Piece (Elt F) S2x8x128x2048 .f32) :: L)
      (Rect.unit (s := S2x8x128x2048) ![a, b, 0, 128 * t.val] S1x1x128x128.size inbt).toLoadRect) shapeCasts_S1x1x128x128_S128x128 = part s t := by
  funext x
  have h1 : (x 1).val < 128 := (x 1).isLt
  refine (shapeCast_apply (s := S1x1x128x128) (t := S128x128) _ _ x (ValueIdx.ix4 0 0 (x 0) (x 1)) ?_).trans ?_
  · rw [Shape.rowMajor_val_four, Shape.rowMajor_val_two]
    exact (by simp : ((0 * 1 + 0) * 128 + (x 0).val) * 128 + (x 1).val = (x 0).val * 128 + (x 1).val)
  unfold View.readCov
  rw [View.readAt_apply, View.read_writes_cons_unit_of_mem v _ inb _ _ _ (ValueIdx.ix4 0 0 (x 0) ⟨128 * t.val + (x 1).val, by omega⟩) rfl]
  · refine (shapeCast_apply (s := S128x2048) (t := S1x1x128x2048) _ _ _ (ValueIdx.ix2 (x 0) ⟨128 * t.val + (x 1).val, by omega⟩) ?_).trans rfl
    rw [Shape.rowMajor_val_four, Shape.rowMajor_val_two]
    exact (by simp : (x 0).val * 2048 + (128 * t.val + (x 1).val) = ((0 * 1 + 0) * 128 + (x 0).val) * 2048 + (128 * t.val + (x 1).val))
  · intro a
    fin_cases a
    · exact (by simp : a + 0 = a + 0)
    · exact (by simp : b + 0 = b + 0)
    · exact (by simp : 0 + 1 * (x 0).val = 0 + (x 0).val)
    · exact (by omega : 128 * t.val + 1 * (x 1).val = 0 + (128 * t.val + (x 1).val))

/-- A run of 128 keys lies in the block the scores are in. -/
theorem inb_part (a b : ℕ) (inb : ∀ x, (![a, b, 0, 0] : Fin 4 → ℕ) x + S1x1x128x2048.size x ≤ S2x8x128x2048.size x) (t : Fin 16) (x) :
    (![a, b, 0, 128 * t.val] : Fin 4 → ℕ) x + S1x1x128x128.size x ≤ S2x8x128x2048.size x := by
  have h := t.isLt
  fin_cases x
  · exact inb 0
  · exact inb 1
  · exact inb 2
  · exact (by omega : 128 * t.val + 128 ≤ 2048)

/-- What is stored from the scratch holding the scores is what the scores say. -/
theorem cov_piece (a b : ℕ) (inb : ∀ x, (![a, b, 0, 0] : Fin 4 → ℕ) x + S1x1x128x2048.size x ≤ S2x8x128x2048.size x) (s : FVec F S128x2048 .f32) (L : List (View.Piece (Elt F) S2x8x128x2048 .f32))
    (lo hi : IVec S128x128 32) :
    shapeCast S1x1x128 (mrow (gath lo hi fun t => shapeCast S128x128 (v.readCov ((⟨Rect.unit (s := S2x8x128x2048) ![a, b, 0, 0] S1x1x128x2048.size inb,
        shapeCast S1x1x128x2048 s shapeCasts_S128x2048_S1x1x128x2048⟩ : View.Piece (Elt F) S2x8x128x2048 .f32) :: L)
      (Rect.unit (s := S2x8x128x2048) ![a, b, 0, 128 * t.val] S1x1x128x128.size (inb_part a b inb t)).toLoadRect) shapeCasts_S1x1x128x128_S128x128)) shapeCasts_S128_S1x1x128
      = shapeCast S1x1x128 (mrow (gath lo hi (part s))) shapeCasts_S128_S1x1x128 := by
  exact congrArg (fun w => shapeCast S1x1x128 (mrow (gath lo hi w)) shapeCasts_S128_S1x1x128) (funext fun t => cov_part v a b inb s L t (inb_part a b inb t))

end

section Loop

variable (𝒱 : Variants) (c : Dev nD) (bd : Option 𝒱.V) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (X1 : BufTy.Contents (Elt F) arg1.view.ty) (X2 : BufTy.Contents (Elt F) arg2.view.ty)
  (X4 : BufTy.Contents (Elt F) arg4.view.ty) (X5 : BufTy.Contents (Elt F) arg5.view.ty)

/-- The words of 128 rows of a table. -/
def words (a : Memref sig .tc .vmem S2048x128 .i32) (X : BufTy.Contents (Elt F) a.view.ty) (k : Fin k0_t1_loop.trips) (h : Fin 8) : IVec S128x128 32 :=
  shapeCast S128x128 (a.view.readAt (Elt F) (Rect.unit (s := S2048x128) (k0_off1 k (BitVec.ofNat 32 h.val)) S128x128.size (k0_off1_inb k h)).toLoadRect X) shapeCasts_S128x128_S128x128

/-- What is stored for the first head's 128 queries number `h` of trip `k`. -/
def row0 (k : Fin k0_t1_loop.trips) (h : Fin 8) : View.Piece (Elt F) S2x16x128 .f32 :=
  ⟨Rect.unit (s := S2x16x128) (k0_off3 k (BitVec.ofNat 32 h.val)) S1x1x128.size (k0_off3_inb k h),
    shapeCast S1x1x128 (mrow (gath (words arg4 X4 k h) (words arg5 X5 k h) (part (score
      (arg1.view.readAt (Elt F) (Rect.unit (s := S2048x128) (k0_off2 k (BitVec.ofNat 32 h.val)) S128x64.size (k0_off2_inb k h)).toLoadRect X1)
      (arg2.view.readAt (Elt F) (Rect.unit (s := S2048x128) ![0, 0] S2048x64.size inb_S2048x128_S2048x64_0_0).toLoadRect X2))))) shapeCasts_S128_S1x1x128⟩

/-- The same for the second head. -/
def row1 (k : Fin k0_t1_loop.trips) (h : Fin 8) : View.Piece (Elt F) S2x16x128 .f32 :=
  ⟨Rect.unit (s := S2x16x128) (k0_off5 k (BitVec.ofNat 32 h.val)) S1x1x128.size (k0_off5_inb k h),
    shapeCast S1x1x128 (mrow (gath (words arg4 X4 k h) (words arg5 X5 k h) (part (score
      (arg1.view.readAt (Elt F) (Rect.unit (s := S2048x128) (k0_off4 k (BitVec.ofNat 32 h.val)) S128x64.size (k0_off4_inb k h)).toLoadRect X1)
      (arg2.view.readAt (Elt F) (Rect.unit (s := S2048x128) ![0, 64] S2048x64.size inb_S2048x128_S2048x64_0_64).toLoadRect X2))))) shapeCasts_S128_S1x1x128⟩

set_option maxRecDepth 400000 in
set_option maxHeartbeats 4000000 in
/-- The rows one trip stores, newest first. -/
theorem trip_rows (k : Fin k0_t1_loop.trips) (f7 : BufTy.Contents (Elt F) arg7.view.ty) (f8 : BufTy.Contents (Elt F) arg8.view.ty) :
    (tripL_k0_t1 (F := F) 𝒱 c bd i arg1 harg1 arg2 harg2 arg3 harg3 arg4 harg4 arg5 harg5 arg6 harg6 arg7 harg7 arg8 harg8 arg9 harg9 X1 X2 X4 X5 k f7 f8).2
      = ([7, 6, 5, 4, 3, 2, 1, 0] : List (Fin 8)).flatMap fun h => [row1 arg1 arg2 arg4 arg5 X1 X2 X4 X5 k h, row0 arg1 arg2 arg4 arg5 X1 X2 X4 X5 k h] := by
  simp only [List.flatMap_cons, List.flatMap_nil, List.cons_append, List.nil_append]
  unfold trip_k0_t1
  dsimp only
  iterate 16 refine congrArg₂ List.cons (congrArg (Sigma.mk _) (cov_piece arg7.view _ _ _ _ _ _ _)) ?_
  rfl

end Loop

end Cert.KernelIdeal.Hand
-- ==== Proof.IOut.lean ====
/- What the body leaves in the result block, as the list of the pieces it stored. -/
module

public import proofs.«01_k».proof.Proof.IRows
public import proofs.«01_k».proof.Proof.IRun
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- Twenty-four rows put one under the other. -/
def stack (f : Fin 24 → FVec F S1x64 .f32) : FVec F S24x64 .f32 :=
  concatenate S24x64 0 (List.ofFn fun t => (⟨S1x64, f t⟩ : (s : Shape) × (s.Idx → F .f32))) (by exact concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S24x64_d0)

/-- The scaled scores of twenty-four queries. -/
def scores (q : FVec F S24x64 .f32) (k : FVec F S2048x64 .f32) : FVec F S24x2048 .f32 :=
  mulf (matmul dot_S24x64_S2048x64_S24x2048_1_1_0_0_n_n (some .fp32) q k (constant S24x2048 .f32 0x00000000#32))
    (broadcast S24x2048 (Scalar.ofBits .f32 0x3E000000#32))

/-- The attention of twenty-four queries. -/
def att (q : FVec F S24x64 .f32) (k v : FVec F S2048x64 .f32) : FVec F S24x64 .f32 := k0_pay471 v (scores q k)

theorem slice_row (t : Fin 24) : S24x64.Slices ![t.val, 0] S1x64 := by revert t; decide

theorem inb_word (s : Fin 2) (t : Fin 24) (a) : (![s.val, t.val] : Fin 2 → ℕ) a + S1x1.size a ≤ S2x24.size a := by revert s t a; decide
theorem inb_slab (s : Fin 2) (a) : (![s.val, 0, 0] : Fin 3 → ℕ) a + S1x16x128.size a ≤ S2x16x128.size a := by revert s a; decide
theorem inb_head (s : Fin 2) (a) : (![0, 64 * s.val] : Fin 2 → ℕ) a + S2048x64.size a ≤ S2048x128.size a := by revert s a; decide
theorem inb_full (s : Fin 2) (a) : (![s.val, 0, 0] : Fin 3 → ℕ) a + S1x2048x64.size a ≤ S2x2048x64.size a := by revert s a; decide

section
variable (𝒱 : Variants) (c : Dev nD) (bd : Option 𝒱.V) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)

variable (X1 : BufTy.Contents (Elt F) arg1.view.ty) (X2 : BufTy.Contents (Elt F) arg2.view.ty) (X3 : BufTy.Contents (Elt F) arg3.view.ty)
  (W : Fin 2 → Fin 24 → BitVec 32) (hW : ∀ s t, (W s t).toNat < 2048)

/-- One head's columns of a block. -/
def head (a : Memref sig .tc .vmem S2048x128 .f32) (X : BufTy.Contents (Elt F) a.view.ty) (s : Fin 2) : FVec F S2048x64 .f32 :=
  shapeCast S2048x64 (a.view.readAt (Elt F) (Rect.unit (s := S2048x128) ![0, 64 * s.val] S2048x64.size (inb_head s)).toLoadRect X) shapeCasts_S2048x64_S2048x64

/-- The picked query number `t` of head `s`. -/
def qrow (s : Fin 2) (t : Fin 24) : FVec F S1x64 .f32 :=
  shapeCast S1x64 (arg1.view.readAt (Elt F) (Rect.unit (s := S2048x128) ![(Scalar.indexCast (W s t)).toNat, 64 * s.val] S1x64.size
    (in_q (W s t) (64 * s.val) (by have := s.isLt; omega) (hW s t))).toLoadRect X1) shapeCasts_S1x64_S1x64

/-- The attention of a head's picked queries. -/
def heads (s : Fin 2) : FVec F S24x64 .f32 := att (stack (qrow arg1 X1 W hW s)) (head arg2 X2 s) (head arg3 X3 s)

/-- The row stored for the picked query number `t` of head `s`. -/
def rowPiece (s : Fin 2) (t : Fin 24) : View.Piece (Elt F) S2x2048x64 .f32 :=
  ⟨Rect.unit (s := S2x2048x64) ![s.val, (Scalar.indexCast (W s t)).toNat, 0] S1x1x64.size (in_o (W s t) s.val (by have := s.isLt; omega) (hW s t)),
    shapeCast S1x1x64 (extractStridedSlice S1x64 ![t.val, 0] (heads arg1 arg2 arg3 X1 X2 X3 W hW s) (slice_row t)) shapeCasts_S1x64_S1x1x64⟩

/-- The mean row stored everywhere first. -/
def meanPiece (s : Fin 2) : View.Piece (Elt F) S2x2048x64 .f32 :=
  ⟨Rect.unit (s := S2x2048x64) ![s.val, 0, 0] S1x2048x64.size (inb_full s), k0_pay472 (head arg3 X3 s)⟩

/-- All the pieces, newest first. -/
def outL : List (View.Piece (Elt F) S2x2048x64 .f32) :=
  ([1, 0] : List (Fin 2)).flatMap fun s =>
    ((List.ofFn fun t : Fin 24 => rowPiece arg1 arg2 arg3 X1 X2 X3 W hW s t).reverse ++ [meanPiece arg3 X3 s])

variable (X4 : BufTy.Contents (Elt F) arg4.view.ty) (X5 : BufTy.Contents (Elt F) arg5.view.ty)
  (G7 : BufTy.Contents (Elt F) arg7.view.ty) (G8 : BufTy.Contents (Elt F) arg8.view.ty) (G9 : BufTy.Contents (Elt F) arg9.view.ty)

/-- The measures of head `s` as the measuring loop leaves them. -/
def slab (s : Fin 2) : FVec F S16x128 .f32 :=
  shapeCast S16x128 (arg8.view.readAt (Elt F) (Rect.unit (s := S2x16x128) ![s.val, 0, 0] S1x16x128.size (inb_slab s)).toLoadRect
    (arg8.view.writes (Elt F) G8 (pb_k0_t1 (F := F) 𝒱 c bd i arg1 harg1 arg2 harg2 arg3 harg3 arg4 harg4 arg5 harg5 arg6 harg6 arg7 harg7 arg8 harg8 arg9 harg9 X1 X2 X4 X5 G7 G8 k0_t1_loop.trips).2)) shapeCasts_S1x16x128_S16x128

/-- The word picked for place `t` of head `s`. -/
def word (s : Fin 2) (t : Fin 24) : BitVec 32 :=
  arg9.view.readAt (Elt F) (Rect.unit (s := S2x24) ![s.val, t.val] S1x1.size (inb_word s t)).toLoadRect
    (arg9.view.writes (Elt F) G9 (st_k0_t2 (F := F) 𝒱 c bd i arg1 harg1 arg2 harg2 arg3 harg3 arg4 harg4 arg5 harg5 arg6 harg6 arg7 harg7 arg8 harg8 arg9 harg9 (slab 𝒱 c bd i arg1 harg1 arg2 harg2 arg3 harg3 arg4 harg4 arg5 harg5 arg6 harg6 arg7 harg7 arg8 harg8 arg9 harg9 X1 X2 X4 X5 G7 G8 0, slab 𝒱 c bd i arg1 harg1 arg2 harg2 arg3 harg3 arg4 harg4 arg5 harg5 arg6 harg6 arg7 harg7 arg8 harg8 arg9 harg9 X1 X2 X4 X5 G7 G8 1) k0_t2_loop.trips).2)
    (Shape.Idx.first (numel1_S1x1.symm ▸ Nat.one_pos))

theorem word_lt' (s : Fin 2) (t : Fin 24) : (word 𝒱 c bd i arg1 harg1 arg2 harg2 arg3 harg3 arg4 harg4 arg5 harg5 arg6 harg6 arg7 harg7 arg8 harg8 arg9 harg9 X1 X2 X4 X5 G7 G8 G9 s t).toNat < 2048 := word_lt ..

/-- It is what the selection says of the measures. -/
theorem word_eq (s : Fin 2) (t : Fin 24) : word 𝒱 c bd i arg1 harg1 arg2 harg2 arg3 harg3 arg4 harg4 arg5 harg5 arg6 harg6 arg7 harg7 arg8 harg8 arg9 harg9 X1 X2 X4 X5 G7 G8 G9 s t = pick (meas (slab 𝒱 c bd i arg1 harg1 arg2 harg2 arg3 harg3 arg4 harg4 arg5 harg5 arg6 harg6 arg7 harg7 arg8 harg8 arg9 harg9 X1 X2 X4 X5 G7 G8 s) t.val) := by
  unfold word
  rw [View.readAt_apply, st_read_all]
  fin_cases s <;> rfl

end

end Cert.KernelIdeal.Hand
-- ==== Proof.Sel.lean ====
/- A stable sort by a strict comparison is the sort by that comparison and then the position. -/
module

public import Idealize.ShloMosaic.Lib.SortFacts
public import Idealize.ShloMosaic.Lib.SortPrefix

@[expose] public section

namespace Cert.Proof

open Idealize.ShloMosaic

/-- Two comparisons that agree on every pair in list order sort the list alike. -/
theorem stableSort_congr_ordered {ι : Type} (R R' : ι → ι → Bool) (l : List ι) (h : l.Pairwise fun a b => R b a = R' b a) :
    stableSort R l = stableSort R' l := by
  induction l with
  | nil => rfl
  | cons a l ih =>
    rw [List.pairwise_cons] at h
    show insertBefore R a (stableSort R l) = insertBefore R' a (stableSort R' l)
    rw [ih h.2]
    exact insertBefore_congr R R' a _ fun b hb => h.1 b ((perm_stableSort R' l).mem_iff.mp hb)

/-- Sorting the positions by `gt` alone puts equal elements in the order of their positions. -/
theorem sortedFrom_tie {n : ℕ} (gt : Fin n → Fin n → Bool) (eq : Fin n → Fin n → Bool) :
    sortedFrom gt = sortedFrom fun a b => gt a b || (eq a b && decide (a < b)) := by
  have : sortPositions n gt = sortPositions n fun a b => gt a b || (eq a b && decide (a < b)) := by
    refine stableSort_congr_ordered _ _ _ ?_
    refine (List.pairwise_lt_finRange n).imp fun {a b} hab => ?_
    simp [not_lt.mpr hab.le]
  funext k
  exact List.get_of_eq this _

end Cert.Proof
-- ==== Proof.Spec.lean ====
/- The two programs' common answer for one batch entry and one head, over the extended reals: which rows are picked, and
   what stands in every row. -/
module

public import proofs.«01_k».proof.Proof.Sel
public import Idealize.ShloMosaic.PureOps.Ideal

@[expose] public section

noncomputable section

namespace Cert.Proof

open Idealize.ShloMosaic

/-- Row `a` is picked before row `b`: a greater measure, or the same measure and a lower position. -/
def before (x : Fin 2048 → EReal) (a b : Fin 2048) : Bool := decide (x b < x a) || (decide (x a = x b) && decide (a < b))

theorem before_total (x : Fin 2048 → EReal) : StrictTotalBefore (before x) :=
  StrictTotalBefore.of_key_then_position (fun u v : EReal => decide (v < u)) x (by simp) (by simp only [decide_eq_true_eq]; exact fun a b c h1 h2 => h2.trans h1)
    (by simp only [decide_eq_true_eq]; exact fun a b => (lt_trichotomy a b).elim (fun h => .inr (.inr h)) fun h => h.elim (fun h => .inr (.inl h)) .inl)

/-- The row picked at place `t`. -/
def order (x : Fin 2048 → EReal) (t : Fin 24) : Fin 2048 := sortedFrom (before x) (t.castLE (by decide))

/-- Rows picked one after another, each the first in order among those left, are the sort's first. -/
theorem order_eq (x : Fin 2048 → EReal) (σ : ℕ → Fin 2048) (hne : ∀ t < 24, ∀ j < t, σ j ≠ σ t)
    (hmax : ∀ t < 24, ∀ p, (∀ j < t, σ j ≠ p) → x p < x (σ t) ∨ (x p = x (σ t) ∧ σ t ≤ p)) (t : Fin 24) : order x t = σ t := by
  have key : ∀ t < 24, ∀ p, (∀ j < t, σ j ≠ p) → before x p (σ t) = false := fun t ht p hp => by
    unfold before
    rcases hmax t ht p hp with h | ⟨h, h'⟩
    · simp [h.not_gt, h.ne]
    · simp [h, h']
  refine (before_total x).sortedFrom_eq_of_prefix (k := 24) (by decide) (fun t => σ t.val) ?_ ?_ ?_ t
  · intro a b hab
    rcases lt_trichotomy a b with h | h | h
    · exact absurd hab (hne b b.isLt a h)
    · exact h
    · exact absurd hab.symm (hne a a.isLt b h)
  · exact fun i j hij => key i i.isLt _ fun k hk => hne j j.isLt k (hk.trans hij)
  · exact fun i p hp => key i i.isLt p fun k hk => hp ⟨k, hk.trans i.isLt⟩

section
variable (Q K V : Fin 2048 → Fin 64 → EReal) (I : Fin 2048 → Fin 24 → Fin 2048)

/-- The score of a query against a key. -/
def sc (l l' : Fin 2048) : EReal := ∑ e, Q l e * K l' e

/-- The measure of a query: its greatest sampled score less the sampled scores' sum over the number of keys. -/
def ms (l : Fin 2048) : EReal :=
  (Finset.univ.fold max ⊥ fun j => sc Q K l (I l j)) - Ideal.div (∑ j, sc Q K l (I l j)) (Ideal.ofBits .f32 0x45000000#32)

/-- The softmax of a row of scaled scores, times the values. -/
def soft (s : Fin 2048 → EReal) (V : Fin 2048 → Fin 64 → EReal) (e : Fin 64) : EReal :=
  ∑ l', Ideal.div (Ideal.exp (s l' - Finset.univ.fold max ⊥ s)) (∑ l'', Ideal.exp (s l'' - Finset.univ.fold max ⊥ s)) * V l' e

/-- The attention of a query. -/
def at_ (l : Fin 2048) (e : Fin 64) : EReal := soft (fun l' => sc Q K l l' * Ideal.ofBits .f32 0x3E000000#32) V e

/-- The mean of the values. -/
def mean (e : Fin 64) : EReal := Ideal.div (∑ l, V l e) (Ideal.ofBits .f32 0x45000000#32)

open Classical in
/-- The answer: a picked query's attention, the mean of the values elsewhere. -/
def ans (l : Fin 2048) (e : Fin 64) : EReal := if ∃ t, order (ms Q K I) t = l then at_ Q K V l e else mean V e

end

end Cert.Proof
-- ==== Proof.IPicks.lean ====
/- The kernel's picks, over the extended reals, are the first places of the order of the measures. -/
module

public import proofs.«01_k».proof.Proof.IPick
public import proofs.«01_k».proof.Proof.Spec
public import Idealize.ShloMosaic.PureOps.Ideal.Laws
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Proof

/-- The flat position as a row. -/
def flat (i : S16x128.Idx) : Fin 2048 := ⟨(k0_pay445 i).toNat, flat_lt i⟩

theorem flat_surj (p : Fin 2048) : ∃ i, flat i = p :=
  ⟨ValueIdx.ix2 ⟨p.val / 128, by have := p.isLt; omega⟩ ⟨p.val % 128, Nat.mod_lt _ (by decide)⟩, Fin.ext ((flat_toNat _).trans (by
    show p.val / 128 * 128 + p.val % 128 = p.val
    omega))⟩

/-- A maximum over all the places is at least each and one of them. -/
theorem fold_max_spec' {ι : Type*} (f : ι → EReal) (S : Finset ι) (hS : S.Nonempty) :
    (∀ i ∈ S, f i ≤ S.fold max ⊥ f) ∧ ∃ i ∈ S, S.fold max ⊥ f = f i := by
  classical
  have h : S.fold max ⊥ f = S.sup f := rfl
  rw [h]
  exact ⟨fun i hi => Finset.le_sup hi, Finset.exists_mem_eq_sup S hS f⟩

/-- The maximum the pick compares with. -/
def top (m : FVec Ideal S16x128 .f32) : EReal := extractAt ![0, 0, 0] (shapeCast S1x1x1 (multiReduction .maximumf [1, 2] S1
    (shapeCast S1x16x128 m shapeCasts_S16x128_S1x16x128) 0xFF800000#32 reduces_S1x16x128_S1 (.inl rfl) rfl)
    shapeCasts_S1_S1x1x1) inpos_S1x1x1_p0_0_0

theorem ofBits_neg_inf : Ideal.ofBits .f32 0xFF800000#32 = ⊥ := by simp [Ideal.ofBits, Ideal.ieee]

theorem top_eq (m : FVec Ideal S16x128 .f32) : top m = (Finset.univ.filter fun i => reduces_S1x16x128_S1.drop i =
      (Shape.reshapeEquiv shapeCasts_S1_S1x1x1 (fun a => ⟨(![0, 0, 0] : Fin 3 → ℕ) a, inpos_S1x1x1_p0_0_0 a⟩))).fold max ⊥
    (shapeCast S1x16x128 m shapeCasts_S16x128_S1x16x128) :=
  (multiReduction_maximumf_eq_fold (F := Ideal) (φ := .f32) (shapeCast S1x16x128 m shapeCasts_S16x128_S1x16x128) _ reduces_S1x16x128_S1 (.inl rfl) rfl _).trans
    (congrArg (fun z => Finset.fold max z _ _) ofBits_neg_inf)

theorem top_spec (m : FVec Ideal S16x128 .f32) : (∀ i, m i ≤ top m) ∧ ∃ i, top m = m i := by
  rw [top_eq]
  have h := fold_max_spec' (shapeCast S1x16x128 m shapeCasts_S16x128_S1x16x128)
    (Finset.univ.filter fun i => reduces_S1x16x128_S1.drop i = (Shape.reshapeEquiv shapeCasts_S1_S1x1x1 (fun a => ⟨(![0, 0, 0] : Fin 3 → ℕ) a, inpos_S1x1x1_p0_0_0 a⟩)))
    ⟨ValueIdx.ix3 0 0 0, by simp only [Finset.mem_filter, Finset.mem_univ, true_and]; exact S1_idx _ _⟩
  refine ⟨fun i => ?_, ?_⟩
  · refine le_of_eq_of_le ?_ (h.1 (Shape.reshapeEquiv (Eq.symm shapeCasts_S16x128_S1x16x128) i) (by simp only [Finset.mem_filter, Finset.mem_univ, true_and]; exact S1_idx _ _))
    exact congrArg m ((Shape.reshapeEquiv_reshapeEquiv _ _ _).trans (Shape.reshapeEquiv_self _ _)).symm
  · obtain ⟨i, -, hi⟩ := h.2
    exact ⟨_, hi⟩

theorem cand_apply (m : FVec Ideal S16x128 .f32) (i : S16x128.Idx) : cand m i = if m i = top m then k0_pay445 i else 2047#32 := by
  have e : cand m = select (cmpf .oeq m (broadcast S16x128 (top m))) k0_pay445 (broadcast S16x128 2047#32) := rfl
  rw [e]
  clear e
  generalize top m = M
  generalize k0_pay445 = w
  rw [ValueIdx.select_apply, ValueIdx.cmpf_apply]
  show Scalar.select (Ideal.cmp .oeq (m i) M) (w i) 2047#32 = _
  unfold Scalar.select Ideal.cmp
  by_cases h : m i = M <;> simp [h]

theorem next_eq {F : FTy → Type} [FloatOps F] [Named F] (m : FVec F S16x128 .f32) :
    next m = select (cmpi .eq k0_pay445 (broadcast S16x128 (pick m))) (broadcast S16x128 (Named.named κ "neg" 0xFF61B1E6#32)) m := rfl

attribute [local irreducible] top pick flat k0_pay445

theorem neg_eq : Named.named (F := Ideal) (φ := .f32) κ "neg" 0xFF61B1E6#32 = (⊥ : EReal) := rfl

theorem next_apply (m : FVec Ideal S16x128 .f32) (i : S16x128.Idx) : next m i = if (flat i).val = (pick m).toNat then ⊥ else m i := by
  have e' : next m i = Scalar.select (BitVec.ofBool (k0_pay445 i == pick m)) (⊥ : EReal) (m i) := by
    rw [next_eq, neg_eq]
    generalize pick m = P
    generalize k0_pay445 = w
    rfl
  rw [e']
  unfold Scalar.select
  have : (k0_pay445 i == pick m) = decide ((flat i).val = (pick m).toNat) := by
    rw [Bool.eq_iff_iff]; simp only [beq_iff_eq, decide_eq_true_eq]; unfold flat; exact BitVec.toNat_inj.symm
  rw [this]
  by_cases h : (flat i).val = (pick m).toNat <;> simp [h]

/-- The pick is the first place where the maximum stands. -/
theorem pick_top (m : FVec Ideal S16x128 .f32) :
    (∃ i, m i = top m ∧ (pick m).toNat = (flat i).val) ∧ ∀ i, m i = top m → (pick m).toNat ≤ (flat i).val := by
  obtain ⟨h1, j, h2⟩ := pick_spec m
  obtain ⟨-, i, hi⟩ := top_spec m
  have hle : ∀ i, m i = top m → (pick m).toNat ≤ (flat i).val := fun i hi => by
    have := h1 i
    rw [cand_apply, if_pos hi] at this
    unfold flat; exact this
  refine ⟨?_, hle⟩
  rw [cand_apply] at h2
  split at h2
  · rename_i hj
    exact ⟨j, hj, by rw [h2]; unfold flat; rfl⟩
  · have h3 := hle i hi.symm
    have h4 := (flat i).isLt
    have h5 : (pick m).toNat = 2047 := by rw [h2]; rfl
    exact ⟨i, hi.symm, by omega⟩

/-- The picks are the order's first places. -/
theorem pick_order (m : FVec Ideal S16x128 .f32) (x : Fin 2048 → EReal) (hm : ∀ i, m i = x (flat i)) (hx : ∀ l, x l ≠ ⊥) (t : Fin 24) :
    order x t = (⟨(pick (meas m t)).toNat, pick_lt _⟩ : Fin 2048) := by
  let σ : ℕ → Fin 2048 := fun t => ⟨(pick (meas m t)).toNat, pick_lt _⟩
  have hmeas : ∀ t i, ((∀ j < t, σ j ≠ flat i) → meas m t i = x (flat i)) ∧ ((∃ j < t, σ j = flat i) → meas m t i = ⊥) := by
    intro t
    induction t with
    | zero => exact fun i => ⟨fun _ => hm i, fun ⟨j, hj, _⟩ => absurd hj (Nat.not_lt_zero j)⟩
    | succ t ih =>
      intro i
      have e : meas m (t + 1) = next (meas m t) := Function.iterate_succ_apply' _ _ _
      rw [e, next_apply]
      refine ⟨fun h => ?_, fun ⟨j, hj, h⟩ => ?_⟩
      · rw [if_neg fun h' => h t (Nat.lt_succ_self t) (Fin.ext h'.symm)]
        exact (ih i).1 fun j hj => h j (hj.trans (Nat.lt_succ_self t))
      · split
        · rfl
        · rename_i hne
          have : j ≠ t := fun e => hne (by rw [← h, e])
          exact (ih i).2 ⟨j, by omega, h⟩
  have main : ∀ t < 24, (∀ j < t, σ j ≠ σ t) ∧ ∀ p, (∀ j < t, σ j ≠ p) → x p < x (σ t) ∨ (x p = x (σ t) ∧ σ t ≤ p) := by
    intro t ht
    obtain ⟨⟨i, hi, hpi⟩, hle⟩ := pick_top (meas m t)
    have hσ : σ t = flat i := Fin.ext hpi
    obtain ⟨p, hp⟩ : ∃ p, ∀ j < t, σ j ≠ p := by
      by_contra hcon
      push Not at hcon
      have : (Finset.univ : Finset (Fin 2048)) ⊆ (Finset.range t).image σ := fun p _ => by
        obtain ⟨j, hj, h⟩ := hcon p
        exact Finset.mem_image.2 ⟨j, Finset.mem_range.2 hj, h⟩
      have h1 := Finset.card_le_card this
      have h2 := Finset.card_image_le (s := Finset.range t) (f := σ)
      simp at h1 h2
      omega
    obtain ⟨i₀, hi₀⟩ := flat_surj p
    have htop := top_spec (meas m t)
    have hnb : top (meas m t) ≠ ⊥ := fun h => by
      have h1 := htop.1 i₀
      rw [(hmeas t i₀).1 (by rw [hi₀]; exact hp), h, le_bot_iff] at h1
      exact hx _ h1
    have hfresh : ∀ j < t, σ j ≠ flat i := fun j hj h => hnb (hi.symm.trans ((hmeas t i).2 ⟨j, hj, h⟩))
    have hval : top (meas m t) = x (flat i) := hi.symm.trans ((hmeas t i).1 hfresh)
    refine ⟨fun j hj => by rw [hσ]; exact hfresh j hj, fun p hp => ?_⟩
    obtain ⟨k, rfl⟩ := flat_surj p
    have hk := (hmeas t k).1 hp
    have h1 := htop.1 k
    rw [hk, hval, ← hσ] at h1
    rcases h1.lt_or_eq with h | h
    · exact .inl h
    · refine .inr ⟨h, hle k ?_⟩
      rw [hk, h, hval, hσ]
  exact order_eq x σ (fun t ht => (main t ht).1) (fun t ht => (main t ht).2) t

end Cert.KernelIdeal.Hand
-- ==== Proof.IMath.lean ====
/- The measuring loop's rows, over the extended reals: what is stored for a query is its measure. -/
module

public import proofs.«01_k».proof.Proof.IOut
public import proofs.«01_k».proof.Proof.IPicks
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Proof ValueIdx

/-- A score is the sum of the products over the head's entries. -/
theorem score_apply (q : Vec Ideal S128x64 .f32) (k : Vec Ideal S2048x64 .f32) (r : Fin 128) (l : Fin 2048) :
    score q k (ix2 r l) = ∑ e : Fin 64, (q (ix2 r e) : EReal) * k (ix2 l e) := by
  unfold score
  rw [shapeCast_self, shapeCast_self]
  refine (Ideal.matmul_constant_zero_apply _ _ _ _ _).trans ?_
  refine (Equiv.sum_comp (contrEquiv1 dot_S128x64_S2048x64_S128x2048_1_1_0_0_n_n 64 rfl rfl).symm _).symm.trans ?_
  refine Finset.sum_congr rfl fun e _ => congrArg₂ (· * ·) (congrArg q ?_) (congrArg k ?_)
  · funext a; fin_cases a <;> exact Fin.ext rfl
  · funext a; fin_cases a <;> exact Fin.ext rfl

/-- The scaled scores of twenty-four queries likewise. -/
theorem scores_apply (q : FVec Ideal S24x64 .f32) (k : FVec Ideal S2048x64 .f32) (r : Fin 24) (l : Fin 2048) :
    scores q k (ix2 r l) = (∑ e : Fin 64, (q (ix2 r e) : EReal) * k (ix2 l e)) * Ideal.ofBits .f32 0x3E000000#32 := by
  unfold scores
  refine congrArg (· * Ideal.ofBits .f32 0x3E000000#32) ?_
  refine (Ideal.matmul_constant_zero_apply _ _ _ _ _).trans ?_
  refine (Equiv.sum_comp (contrEquiv1 dot_S24x64_S2048x64_S24x2048_1_1_0_0_n_n 64 rfl rfl).symm _).symm.trans ?_
  refine Finset.sum_congr rfl fun e _ => congrArg₂ (· * ·) (congrArg q ?_) (congrArg k ?_)
  · funext a; fin_cases a <;> exact Fin.ext rfl
  · funext a; fin_cases a <;> exact Fin.ext rfl

/-- The sixteen runs added pairwise are their sum. -/
theorem gath_sum (lo hi : IVec S128x128 32) (w : Fin 16 → FVec Ideal S128x128 .f32) (x : S128x128.Idx) :
    gath lo hi w x = ∑ t : Fin 16, (term lo hi (BitVec.ofNat 32 t.val) (w t) x : EReal) := by
  have h : ∀ f : Fin 16 → EReal, (((f 0 + f 1) + (f 2 + f 3)) + ((f 4 + f 5) + (f 6 + f 7))) + (((f 8 + f 9) + (f 10 + f 11)) + ((f 12 + f 13) + (f 14 + f 15)))
      = ∑ t, f t := fun f => by simp only [Fin.sum_univ_succ, Fin.sum_univ_zero, add_zero, add_assoc]; rfl
  exact h fun t => term lo hi (BitVec.ofNat 32 t.val) (w t) x

theorem term_apply (lo hi : IVec S128x128 32) (t : BitVec 32) (w : FVec Ideal S128x128 .f32) (r j : Fin 128) (n : Fin 128)
    (hlo : lo (ix2 r j) = BitVec.ofNat 32 n.val) : term lo hi t w (ix2 r j) = if hi (ix2 r j) = t then w (ix2 r n) else (0 : EReal) := by
  have hl : lane lo (ix2 r j) = BitVec.ofNat 32 n.val := by
    unfold lane
    rw [shapeCast_shapeCast, select_apply]
    show Scalar.select (BitVec.ofBool ((lo (ix2 r j)).slt 0#32)) _ (lo (ix2 r j)) = _
    rw [hlo]
    have h : ∀ n : Fin 128, (BitVec.ofNat 32 n.val).slt 0#32 = false := by decide
    rw [h n]; rfl
  unfold term
  rw [select_apply]
  show Scalar.select (BitVec.ofBool (hi (ix2 r j) == t)) (dynamicGather 1 w (lane lo) (ix2 r j)) (Ideal.ofBits .f32 0x00000000#32) = _
  have hg : dynamicGather 1 w (lane lo) (ix2 r j) = w (ix2 r n) := by
    unfold dynamicGather
    refine congrArg w (funext fun a => ?_)
    fin_cases a
    · rfl
    · refine Fin.ext ?_
      show (lane lo (ix2 r j)).toNat % 128 = n.val
      rw [hl]
      have := n.isLt
      simp only [BitVec.toNat_ofNat]
      omega
  rw [hg, Ideal.ofBits_zero_f32]
  unfold Scalar.select
  by_cases h : hi (ix2 r j) = t
  · simp [h]
  · rw [if_neg h, beq_false_of_ne h]; rfl

/-- What the index tables hold for 128 queries: the sampled keys' places below column 24, nothing from there on. -/
structure Tables (lo hi : IVec S128x128 32) (I : Fin 128 → Fin 24 → Fin 2048) : Prop where
  low : ∀ r (j : Fin 24), lo (ix2 r (j.castLE (by decide))) = BitVec.ofNat 32 ((I r j).val % 128)
  high : ∀ r (j : Fin 24), hi (ix2 r (j.castLE (by decide))) = BitVec.ofNat 32 ((I r j).val / 128)
  low0 : ∀ r (j : Fin 128), 24 ≤ j.val → lo (ix2 r j) = 0#32
  high0 : ∀ r (j : Fin 128), 24 ≤ j.val → hi (ix2 r j) = 0xFFFFFFFF#32

theorem gath_apply (lo hi : IVec S128x128 32) (I : Fin 128 → Fin 24 → Fin 2048) (h : Tables lo hi I) (s : FVec Ideal S128x2048 .f32) (r : Fin 128) :
    (∀ j : Fin 24, gath lo hi (part s) (ix2 r (j.castLE (by decide))) = s (ix2 r (I r j)))
      ∧ ∀ j : Fin 128, 24 ≤ j.val → gath lo hi (part s) (ix2 r j) = (0 : EReal) := by
  refine ⟨fun j => ?_, fun j hj => ?_⟩
  · rw [gath_sum, Finset.sum_eq_single_of_mem (⟨(I r j).val / 128, by have := (I r j).isLt; omega⟩ : Fin 16) (Finset.mem_univ _)]
    · rw [term_apply lo hi _ _ r _ ⟨(I r j).val % 128, Nat.mod_lt _ (by decide)⟩ (h.low r j), if_pos (h.high r j)]
      exact congrArg s (congrArg (ix2 r) (Fin.ext (by show 128 * ((I r j).val / 128) + (I r j).val % 128 = _; omega)))
    · intro t _ ht
      rw [term_apply lo hi _ _ r _ ⟨(I r j).val % 128, Nat.mod_lt _ (by decide)⟩ (h.low r j), if_neg]
      rw [h.high r j]
      intro he
      have h1 := congrArg BitVec.toNat he
      have h2 := t.isLt
      have h3 := (I r j).isLt
      simp only [BitVec.toNat_ofNat] at h1
      exact ht (Fin.ext (by show t.val = (I r j).val / 128; omega))
  · rw [gath_sum]
    refine Finset.sum_eq_zero fun t _ => ?_
    rw [term_apply lo hi _ _ r j 0 (h.low0 r j hj), if_neg]
    rw [h.high0 r j hj]
    revert t; decide

/-- A sum over the lanes that is zero from lane 24 on. -/
theorem sum_lanes (f : Fin 128 → EReal) (h : ∀ j : Fin 128, 24 ≤ j.val → f j = 0) : ∑ j, f j = ∑ j : Fin 24, f (j.castLE (by decide)) := by
  refine (Fin.sum_univ_add (a := 24) (b := 104) f).trans ?_
  rw [Finset.sum_eq_zero (f := fun i : Fin 104 => f (Fin.natAdd 24 i)) fun i _ => h _ (by simp), add_zero]
  rfl

theorem fold_lanes (f : Fin 128 → EReal) (h : ∀ j : Fin 128, 24 ≤ j.val → f j = ⊥) :
    Finset.univ.fold max ⊥ f = Finset.univ.fold max ⊥ fun j : Fin 24 => f (j.castLE (by decide)) := by
  refine le_antisymm ?_ ?_
  · refine Finset.sup_le fun j _ => ?_
    by_cases hj : 24 ≤ j.val
    · exact (h j hj).trans_le bot_le
    · exact Finset.le_sup (f := fun j : Fin 24 => f (j.castLE (by decide))) (Finset.mem_univ (⟨j.val, by omega⟩ : Fin 24))
  · exact Finset.sup_le fun j _ => Finset.le_sup (f := f) (Finset.mem_univ _)

/-- The stored row: the greatest sampled score less the mean. -/
theorem mrow_apply (lo hi : IVec S128x128 32) (I : Fin 128 → Fin 24 → Fin 2048) (h : Tables lo hi I) (s : FVec Ideal S128x2048 .f32) (r : Fin 128) :
    mrow (gath lo hi (part s)) (ix1 r)
      = (Finset.univ.fold max ⊥ fun j => (s (ix2 r (I r j)) : EReal)) - Ideal.div (∑ j, s (ix2 r (I r j))) (Ideal.ofBits .f32 0x45000000#32) := by
  obtain ⟨hg, hg0⟩ := gath_apply lo hi I h s r
  generalize gath lo hi (part s) = g at hg hg0
  have hlift : ∀ j : Fin 128, (reduces_S128x128_S128 : S128x128.Reduces [1] S128).lift (ix1 r) j = ix2 r j := fun j => by
    funext a; fin_cases a <;> exact Fin.ext rfl
  unfold mrow
  refine congrArg₂ (fun a b : EReal => a - Ideal.div b (Ideal.ofBits .f32 0x45000000#32)) ?_ ?_
  · refine (Ideal.multiReduction_maximumf_single _ _ reduces_S128x128_S128 (.inl rfl) rfl (ix1 r)).trans ?_
    have hm : ∀ j : Fin 128, select k0_pay444 g (broadcast S128x128 (Named.named κ "neg" 0xFF61B1E6#32)) (ix2 r j) = if j.val < 24 then g (ix2 r j) else (⊥ : EReal) := fun j => by
      rw [select_apply]
      have : k0_pay444 (ix2 r j) = BitVec.ofBool (decide (j.val < 24)) := by
        show BitVec.ofBool ((BitVec.ofNat 32 (0 * 128 + j.val)).slt 24#32) = _
        rw [Nat.zero_mul, Nat.zero_add]
        revert j; decide
      rw [this]
      unfold Scalar.select
      by_cases hj : j.val < 24 <;> simp [hj] <;> rfl
    refine (congrArg (fun z : EReal => Finset.fold max z _ _) ofBits_neg_inf).trans ?_
    refine (Finset.fold_congr (g := fun j : Fin 128 => if j.val < 24 then g (ix2 r j) else (⊥ : EReal)) fun j _ => ?_).trans ?_
    · exact (congrArg _ (hlift j)).trans (hm j)
    · refine (fold_lanes (fun j : Fin 128 => if j.val < 24 then g (ix2 r j) else (⊥ : EReal)) fun j hj => if_neg (by omega)).trans ?_
      exact Finset.fold_congr fun j _ => (if_pos j.isLt).trans (hg j)
  · refine (Ideal.multiReduction_add_single _ _ reduces_S128x128_S128 (.inl rfl) rfl (ix1 r)).trans ?_
    refine (Finset.sum_congr rfl fun j _ => congrArg g (hlift j)).trans ?_
    refine (sum_lanes (fun j => g (ix2 r j)) hg0).trans ?_
    exact Finset.sum_congr rfl fun j _ => hg j

end Cert.KernelIdeal.Hand
-- ==== Proof.IMeas.lean ====
/- The measuring loop leaves every query's measure, over the extended reals. -/
module

public import proofs.«01_k».proof.Proof.IMath
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Proof ValueIdx

section
variable {κ : Kind} {sp : Space} {s : Shape} {e : EltTy} {Val : EltTy → Type} (v : View sig κ sp s e) (f : v.ty.Contents Val)

/-- An element none of the newest pieces covers keeps what the older ones left. -/
theorem read_miss (y : s.Idx) (L2 : List (View.Piece Val s e)) : ∀ L1 : List (View.Piece Val s e), (∀ p ∈ L1, y ∉ p.1.set) →
    v.read Val (v.writes Val f (L1 ++ L2)) y = v.read Val (v.writes Val f L2) y
  | [], _ => rfl
  | p :: L1, h => by
    have hy' : y ∉ Finset.univ.map p.1.emb := by rw [Rect.map_emb_univ]; exact h p List.mem_cons_self
    rw [List.cons_append, View.writes_cons, View.read_slice_write_of_not_mem p.1 _ _ _ hy']
    exact read_miss y L2 L1 fun q hq => h q (List.mem_cons_of_mem _ hq)

/-- An element one of the newest pieces covers, each that covers it putting the same value there, holds that value. -/
theorem read_hit (y : s.Idx) (M : Val e) (L2 : List (View.Piece Val s e)) : ∀ L1 : List (View.Piece Val s e),
    (∀ p ∈ L1, ∀ x, p.1.emb x = y → p.2 x = M) → (∃ p ∈ L1, y ∈ p.1.set) → v.read Val (v.writes Val f (L1 ++ L2)) y = M
  | [], _, h => by obtain ⟨_, hm, _⟩ := h; exact absurd hm List.not_mem_nil
  | p :: L1, hM, h => by
    rw [List.cons_append]
    by_cases hy : y ∈ p.1.set
    · obtain ⟨x, rfl⟩ : ∃ x, p.1.emb x = y := p.1.exists_idx_of_mem hy
      rw [View.read_writes_cons_emb]
      exact hM p List.mem_cons_self x rfl
    · have hy' : y ∉ Finset.univ.map p.1.emb := by rwa [Rect.map_emb_univ]
      rw [View.writes_cons, View.read_slice_write_of_not_mem p.1 _ _ _ hy']
      refine read_hit y M L2 L1 (fun q hq => hM q (List.mem_cons_of_mem _ hq)) ?_
      obtain ⟨q, hq, hyq⟩ := h
      rcases List.mem_cons.mp hq with rfl | hq'
      · exact absurd hyq hy
      · exact ⟨q, hq', hyq⟩

/-- The same of all the pieces. -/
theorem read_hit' (y : s.Idx) (M : Val e) (L : List (View.Piece Val s e)) (hM : ∀ p ∈ L, ∀ x, p.1.emb x = y → p.2 x = M) (h : ∃ p ∈ L, y ∈ p.1.set) :
    v.read Val (v.writes Val f L) y = M := by
  have := read_hit v f y M [] L hM h
  rwa [List.append_nil] at this

end

/-- One head's half of a block's columns. -/
def half (A : S2048x128.Idx → EReal) (s : Fin 2) (l : Fin 2048) (e : Fin 64) : EReal :=
  A (ix2 l ⟨64 * s.val + e.val, by have := s.isLt; have := e.isLt; omega⟩)

/-- What the two index tables hold. -/
structure Table (lo hi : S2048x128.Idx → BitVec 32) (I : Fin 2048 → Fin 24 → Fin 2048) : Prop where
  low : ∀ r (j : Fin 24), lo (ix2 r (j.castLE (by decide))) = BitVec.ofNat 32 ((I r j).val % 128)
  high : ∀ r (j : Fin 24), hi (ix2 r (j.castLE (by decide))) = BitVec.ofNat 32 ((I r j).val / 128)
  low0 : ∀ r (j : Fin 128), 24 ≤ j.val → lo (ix2 r j) = 0#32
  high0 : ∀ r (j : Fin 128), 24 ≤ j.val → hi (ix2 r j) = 0xFFFFFFFF#32

theorem trips_eq : k0_t1_loop.trips = 2 := by decide +kernel
theorem off1_eq (k : Fin k0_t1_loop.trips) (h : Fin 8) : k0_off1 k (BitVec.ofNat 32 h.val) = ![(8 * k.val + h.val) * 128, 0] := by revert k h; decide +kernel
theorem off2_eq (k : Fin k0_t1_loop.trips) (h : Fin 8) : k0_off2 k (BitVec.ofNat 32 h.val) = ![(8 * k.val + h.val) * 128, 0] := by revert k h; decide +kernel
theorem off3_eq (k : Fin k0_t1_loop.trips) (h : Fin 8) : k0_off3 k (BitVec.ofNat 32 h.val) = ![0, 8 * k.val + h.val, 0] := by revert k h; decide +kernel
theorem off4_eq (k : Fin k0_t1_loop.trips) (h : Fin 8) : k0_off4 k (BitVec.ofNat 32 h.val) = ![(8 * k.val + h.val) * 128, 64] := by revert k h; decide +kernel
theorem off5_eq (k : Fin k0_t1_loop.trips) (h : Fin 8) : k0_off5 k (BitVec.ofNat 32 h.val) = ![1, 8 * k.val + h.val, 0] := by revert k h; decide +kernel

/-- Query number `r` of the 128 that `k` and `h` name. -/
def rowOf (k : Fin k0_t1_loop.trips) (h : Fin 8) (r : Fin 128) : Fin 2048 :=
  ⟨(8 * k.val + h.val) * 128 + r.val, by have := Nat.lt_of_lt_of_eq k.isLt trips_eq; have := h.isLt; have := r.isLt; omega⟩

/-- A rectangle of a block at given offsets, read at an index. -/
theorem rect_read {e : EltTy} {Val : EltTy → Type} (v : View sig .tc .vmem S2048x128 e) (X : v.ty.Contents Val) (off off' size : Fin 2 → ℕ) (inb) (heq : off = off')
    (x : (Rect.unit (s := S2048x128) off size inb).shape.Idx) (y : S2048x128.Idx) (h0 : (y 0).val = off' 0 + (x 0).val) (h1 : (y 1).val = off' 1 + (x 1).val) :
    v.readAt Val (Rect.unit (s := S2048x128) off size inb).toLoadRect X x = v.read Val X y := by
  subst heq
  rw [View.readAt_apply]
  refine congrArg (v.read Val X) (funext fun a => Fin.ext ?_)
  fin_cases a
  · exact (congrArg (off 0 + ·) (Nat.one_mul _)).trans h0.symm
  · exact (congrArg (off 1 + ·) (Nat.one_mul _)).trans h1.symm

/-- Where a stored row of measures lies. -/
theorem emb_row (s a : ℕ) (off : Fin 3 → ℕ) (inb) (heq : off = ![s, a, 0]) (z) (y : S2x16x128.Idx) (hz : (Rect.unit (s := S2x16x128) off S1x1x128.size inb).emb z = y) :
    (y 0).val = s ∧ (y 1).val = a ∧ (y 2).val = (z 2).val := by
  subst heq; subst hz
  have h0 : (z 0).val < 1 := (z 0).isLt
  have h1 : (z 1).val < 1 := (z 1).isLt
  refine ⟨?_, ?_, ?_⟩
  · exact (by omega : s + 1 * (z 0).val = s)
  · exact (by omega : a + 1 * (z 1).val = a)
  · exact (by omega : 0 + 1 * (z 2).val = (z 2).val)

section
variable (𝒱 : Variants) (c : Dev nD) (bd : Option 𝒱.V) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (X1 : BufTy.Contents (Elt Ideal) arg1.view.ty) (X2 : BufTy.Contents (Elt Ideal) arg2.view.ty)
  (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (I : Fin 2048 → Fin 24 → Fin 2048)
  (hT : Table (arg4.view.read (Elt Ideal) X4) (arg5.view.read (Elt Ideal) X5) I)

/-- The measures of head `s`. -/
def msOf (s : Fin 2) : Fin 2048 → EReal := ms (half (arg1.view.read (Elt Ideal) X1) s) (half (arg2.view.read (Elt Ideal) X2) s) I

theorem words_apply (a : Memref sig .tc .vmem S2048x128 .i32) (X : BufTy.Contents (Elt Ideal) a.view.ty) (k : Fin k0_t1_loop.trips) (h : Fin 8) (r j : Fin 128) :
    words (F := Ideal) a X k h (ix2 r j) = a.view.read (Elt Ideal) X (ix2 (rowOf k h r) j) := by
  unfold words
  refine (shapeCast_apply (s := S128x128) (t := S128x128) _ _ (ix2 r j) (ix2 r j) rfl).trans ?_
  exact rect_read a.view X _ _ _ _ (off1_eq k h) _ _ rfl (Nat.zero_add _).symm

include hT in
theorem words_table (k : Fin k0_t1_loop.trips) (h : Fin 8) : Tables (words (F := Ideal) arg4 X4 k h) (words (F := Ideal) arg5 X5 k h) fun r => I (rowOf k h r) where
  low r j := (words_apply ..).trans (hT.low _ j)
  high r j := (words_apply ..).trans (hT.high _ j)
  low0 r j hj := (words_apply ..).trans (hT.low0 _ j hj)
  high0 r j hj := (words_apply ..).trans (hT.high0 _ j hj)

include hT in
theorem row_val (s : Fin 2) (k : Fin k0_t1_loop.trips) (h : Fin 8) (q : Vec Ideal S128x64 .f32) (kk : Vec Ideal S2048x64 .f32)
    (hq : ∀ r e, q (ix2 r e) = half (arg1.view.read (Elt Ideal) X1) s (rowOf k h r) e) (hk : ∀ l e, kk (ix2 l e) = half (arg2.view.read (Elt Ideal) X2) s l e)
    (x : S1x1x128.Idx) :
    shapeCast S1x1x128 (mrow (gath (words (F := Ideal) arg4 X4 k h) (words (F := Ideal) arg5 X5 k h) (part (score q kk)))) shapeCasts_S128_S1x1x128 x
      = msOf arg1 arg2 X1 X2 I s (rowOf k h (x 2)) := by
  have hx0 : (x 0).val = 0 := by have h : (x 0).val < 1 := (x 0).isLt; omega
  have hx1 : (x 1).val = 0 := by have h : (x 1).val < 1 := (x 1).isLt; omega
  refine (shapeCast_apply (s := S128) (t := S1x1x128) _ _ x (ix1 (x 2)) ?_).trans ?_
  · rw [Shape.rowMajor_val_three, Shape.rowMajor_val_one, hx0, hx1]
    exact (by simp : (x 2).val = (0 * 1 + 0) * 128 + (x 2).val)
  have hs : ∀ l, (score q kk (ix2 (x 2) l) : EReal) = sc (half (arg1.view.read (Elt Ideal) X1) s) (half (arg2.view.read (Elt Ideal) X2) s) (rowOf k h (x 2)) l := fun l =>
    (score_apply q kk (x 2) l).trans (Finset.sum_congr rfl fun e _ => congrArg₂ (· * ·) (hq _ e) (hk l e))
  refine (mrow_apply _ _ _ (words_table arg4 arg5 X4 X5 I hT k h) (score q kk) (x 2)).trans ?_
  unfold msOf ms
  simp only [hs]

theorem flatMap_two {α β : Type*} (f : α → List β) (a b : α) : [a, b].flatMap f = f a ++ (f b ++ []) := rfl

theorem rows_eq : (pb_k0_t1 (F := Ideal) 𝒱 c bd i arg1 harg1 arg2 harg2 arg3 harg3 arg4 harg4 arg5 harg5 arg6 harg6 arg7 harg7 arg8 harg8 arg9 harg9 X1 X2 X4 X5 G7 G8 k0_t1_loop.trips).2
    = ([⟨1, by decide +kernel⟩, ⟨0, by decide +kernel⟩] : List (Fin k0_t1_loop.trips)).flatMap fun k => ([7, 6, 5, 4, 3, 2, 1, 0] : List (Fin 8)).flatMap fun h => [row1 arg1 arg2 arg4 arg5 X1 X2 X4 X5 k h, row0 arg1 arg2 arg4 arg5 X1 X2 X4 X5 k h] := by
  have h1 := pb_k0_t1_succ (F := Ideal) 𝒱 c bd i arg1 harg1 arg2 harg2 arg3 harg3 arg4 harg4 arg5 harg5 arg6 harg6 arg7 harg7 arg8 harg8 arg9 harg9 X1 X2 X4 X5 G7 G8 ⟨1, by decide +kernel⟩
  have h0 := pb_k0_t1_succ (F := Ideal) 𝒱 c bd i arg1 harg1 arg2 harg2 arg3 harg3 arg4 harg4 arg5 harg5 arg6 harg6 arg7 harg7 arg8 harg8 arg9 harg9 X1 X2 X4 X5 G7 G8 ⟨0, by decide +kernel⟩
  have e1 := (congrArg Prod.snd h1).trans (congrArg (· ++ _) (trip_rows (F := Ideal) 𝒱 c bd i arg1 harg1 arg2 harg2 arg3 harg3 arg4 harg4 arg5 harg5 arg6 harg6 arg7 harg7 arg8 harg8 arg9 harg9 X1 X2 X4 X5 ⟨1, by decide +kernel⟩ _ _))
  have e0 := (congrArg Prod.snd h0).trans (congrArg (· ++ _) (trip_rows (F := Ideal) 𝒱 c bd i arg1 harg1 arg2 harg2 arg3 harg3 arg4 harg4 arg5 harg5 arg6 harg6 arg7 harg7 arg8 harg8 arg9 harg9 X1 X2 X4 X5 ⟨0, by decide +kernel⟩ _ _))
  rw [flatMap_two]
  have ht : k0_t1_loop.trips = 1 + 1 := trips_eq
  refine (congrArg (fun n => (pb_k0_t1 (F := Ideal) 𝒱 c bd i arg1 harg1 arg2 harg2 arg3 harg3 arg4 harg4 arg5 harg5 arg6 harg6 arg7 harg7 arg8 harg8 arg9 harg9 X1 X2 X4 X5 G7 G8 n).2) ht).trans ?_
  exact e1.trans (congrArg₂ (· ++ ·) rfl e0)

include hT in
/-- The place of head `s` and query `flat x` after the stored rows. -/
theorem rows_read (s : Fin 2) (x : S16x128.Idx) (y : S2x16x128.Idx) (hy0 : (y 0).val = s.val) (hy1 : (y 1).val = (x 0).val) (hy2 : (y 2).val = (x 1).val) :
    arg8.view.read (Elt Ideal) (arg8.view.writes (Elt Ideal) G8 (([⟨1, by decide +kernel⟩, ⟨0, by decide +kernel⟩] : List (Fin k0_t1_loop.trips)).flatMap fun k => ([7, 6, 5, 4, 3, 2, 1, 0] : List (Fin 8)).flatMap fun h => [row1 arg1 arg2 arg4 arg5 X1 X2 X4 X5 k h, row0 arg1 arg2 arg4 arg5 X1 X2 X4 X5 k h])) y
      = msOf arg1 arg2 X1 X2 I s (flat x) := by
  have hx0 : (x 0).val < 16 := (x 0).isLt
  have hx1 : (x 1).val < 128 := (x 1).isLt
  have hrow : ∀ (k : Fin k0_t1_loop.trips) (h : Fin 8) (r : Fin 128), (x 0).val = 8 * k.val + h.val → (x 1).val = r.val → rowOf k h r = flat x := fun k h r e0 e1 =>
    Fin.ext ((by rw [e0, e1] : (8 * k.val + h.val) * 128 + r.val = (x 0).val * 128 + (x 1).val).trans (flat_toNat x).symm)
  refine read_hit' arg8.view _ y _ _ ?_ ?_
  · intro p hp z hz
    simp only [List.mem_flatMap, List.mem_cons, List.not_mem_nil, or_false] at hp
    obtain ⟨k, -, h, -, rfl | rfl⟩ := hp
    · obtain ⟨e0, e1, e2⟩ := emb_row 1 _ _ (k0_off5_inb k h) (off5_eq k h) z y hz
      have hs : s = 1 := Fin.ext (hy0.symm.trans e0)
      subst hs
      refine (row_val arg1 arg2 arg4 arg5 X1 X2 X4 X5 I hT 1 k h _ _ ?_ ?_ z).trans (congrArg (msOf arg1 arg2 X1 X2 I 1) (hrow k h (z 2) (hy1.symm.trans e1) (hy2.symm.trans e2)))
      · exact fun r e => rect_read arg1.view X1 _ _ _ _ (off4_eq k h) _ _ rfl rfl
      · exact fun l e => rect_read arg2.view X2 _ _ _ _ rfl _ _ (Nat.zero_add _).symm rfl
    · obtain ⟨e0, e1, e2⟩ := emb_row 0 _ _ (k0_off3_inb k h) (off3_eq k h) z y hz
      have hs : s = 0 := Fin.ext (hy0.symm.trans e0)
      subst hs
      refine (row_val arg1 arg2 arg4 arg5 X1 X2 X4 X5 I hT 0 k h _ _ ?_ ?_ z).trans (congrArg (msOf arg1 arg2 X1 X2 I 0) (hrow k h (z 2) (hy1.symm.trans e1) (hy2.symm.trans e2)))
      · exact fun r e => rect_read arg1.view X1 _ _ _ _ (off2_eq k h) _ _ rfl rfl
      · exact fun l e => rect_read arg2.view X2 _ _ _ _ rfl _ _ (Nat.zero_add _).symm rfl
  · have ht := trips_eq
    let k : Fin k0_t1_loop.trips := ⟨(x 0).val / 8, by omega⟩
    let h : Fin 8 := ⟨(x 0).val % 8, by omega⟩
    have hk : k ∈ ([⟨1, by decide +kernel⟩, ⟨0, by decide +kernel⟩] : List (Fin k0_t1_loop.trips)) := by
      have : k.val = 0 ∨ k.val = 1 := by have : k.val = (x 0).val / 8 := rfl; omega
      rcases this with e | e
      · exact List.mem_cons_of_mem _ (List.mem_cons.2 (.inl (Fin.ext e)))
      · exact List.mem_cons.2 (.inl (Fin.ext e))
    have hh : ∀ h : Fin 8, h ∈ ([7, 6, 5, 4, 3, 2, 1, 0] : List (Fin 8)) := by decide
    have e1 : 8 * k.val + h.val = (x 0).val := (by omega : 8 * ((x 0).val / 8) + (x 0).val % 8 = (x 0).val)
    have mem : ∀ (off : Fin 3 → ℕ) (inb), off = ![s.val, 8 * k.val + h.val, 0] → y ∈ (Rect.unit (s := S2x16x128) off S1x1x128.size inb).set := fun off inb heq => by
      subst heq
      rw [Rect.mem_set_unit]
      intro a
      fin_cases a
      · exact (by omega : s.val ≤ (y 0).val ∧ (y 0).val < s.val + 1)
      · exact (by omega : 8 * k.val + h.val ≤ (y 1).val ∧ (y 1).val < 8 * k.val + h.val + 1)
      · exact (by omega : 0 ≤ (y 2).val ∧ (y 2).val < 0 + 128)
    have hs : s = 0 ∨ s = 1 := (by decide : ∀ s : Fin 2, s = 0 ∨ s = 1) s
    rcases hs with rfl | rfl
    · exact ⟨row0 arg1 arg2 arg4 arg5 X1 X2 X4 X5 k h, List.mem_flatMap.2 ⟨k, hk, List.mem_flatMap.2 ⟨h, hh h, by simp⟩⟩, mem _ (k0_off3_inb k h) (off3_eq k h)⟩
    · exact ⟨row1 arg1 arg2 arg4 arg5 X1 X2 X4 X5 k h, List.mem_flatMap.2 ⟨k, hk, List.mem_flatMap.2 ⟨h, hh h, by simp⟩⟩, mem _ (k0_off5_inb k h) (off5_eq k h)⟩

include hT in
/-- What the measuring loop leaves at a place is that query's measure. -/
theorem slab_apply (s : Fin 2) (x : S16x128.Idx) :
    slab (F := Ideal) 𝒱 c bd i arg1 harg1 arg2 harg2 arg3 harg3 arg4 harg4 arg5 harg5 arg6 harg6 arg7 harg7 arg8 harg8 arg9 harg9 X1 X2 X4 X5 G7 G8 s x
      = msOf arg1 arg2 X1 X2 I s (flat x) := by
  unfold slab
  refine (shapeCast_apply (s := S1x16x128) (t := S16x128) _ _ x (ix3 0 (x 0) (x 1)) ?_).trans ?_
  · rw [Shape.rowMajor_val_three, Shape.rowMajor_val_two]
    exact (by simp : (0 * 16 + (x 0).val) * 128 + (x 1).val = (x 0).val * 128 + (x 1).val)
  rw [View.readAt_apply, rows_eq]
  exact rows_read arg1 arg2 arg4 arg5 arg8 X1 X2 X4 X5 G8 I hT s x _ (by omega : s.val + 1 * 0 = s.val) (by omega : 0 + 1 * (x 0).val = (x 0).val) (by omega : 0 + 1 * (x 1).val = (x 1).val)

end

end Cert.KernelIdeal.Hand
-- ==== Proof.IAtt.lean ====
/- What the body leaves in the result block, over the extended reals: the answer for each of its two heads. -/
module

public import proofs.«01_k».proof.Proof.IMeas
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Proof ValueIdx

theorem stack_apply (f : Fin 24 → FVec Ideal S1x64 .f32) (t : Fin 24) (e : Fin 64) : stack f (ix2 t e) = f t (ix2 0 e) := by
  unfold stack
  refine concatenate_ofFn_unit_apply (s₁ := S1x64) (t := S24x64) 0 f _ rfl rfl (ix2 t e) t rfl (ix2 0 e) fun b hb => ?_
  fin_cases b
  · exact absurd rfl hb
  · rfl

/-- A column spread over the keys. -/
theorem spread_apply (m : FVec Ideal S24 .f32) (t : Fin 24) (l : Fin 2048) :
    broadcastTo S24x2048 (shapeCast S24x1 m shapeCasts_S24_S24x1) broadcasts_S24x1_S24x2048 (ix2 t l) = m (ix1 t) := by
  refine (broadcastTo_apply (s := S24x1) (t := S24x2048) _ _ _ (ix2 t 0) fun a => ?_).trans ?_
  · fin_cases a <;> rfl
  · refine (shapeCast_apply (s := S24) (t := S24x1) _ _ _ (ix1 t) ?_)
    rw [Shape.rowMajor_val_two, Shape.rowMajor_val_one]
    exact (by simp : t.val = t.val * 1 + 0)

/-- The attention of a picked query. -/
theorem att_apply (v : FVec Ideal S2048x64 .f32) (s : FVec Ideal S24x2048 .f32) (t : Fin 24) (e : Fin 64) :
    k0_pay471 v s (ix2 t e) = soft (fun l => s (ix2 t l)) (fun l e => v (ix2 l e)) e := by
  have hlift : ∀ l : Fin 2048, (reduces_S24x2048_S24 : S24x2048.Reduces [1] S24).lift (ix1 t) l = ix2 t l := fun l => by
    funext a; fin_cases a <;> exact Fin.ext rfl
  have hm : multiReduction .maximumf [1] S24 s 0xFF800000#32 reduces_S24x2048_S24 (.inl rfl) rfl (ix1 t) = Finset.univ.fold max ⊥ fun l => (s (ix2 t l) : EReal) := by
    refine (Ideal.multiReduction_maximumf_single _ _ reduces_S24x2048_S24 (.inl rfl) rfl (ix1 t)).trans ?_
    refine (congrArg (fun z : EReal => Finset.fold max z _ _) ofBits_neg_inf).trans ?_
    exact Finset.fold_congr fun j _ => congrArg s (hlift j)
  unfold k0_pay471
  dsimp only
  generalize hM : multiReduction .maximumf [1] S24 s 0xFF800000#32 reduces_S24x2048_S24 (.inl rfl) rfl = M at hm
  have hp : ∀ l, exp (subf s (broadcastTo S24x2048 (shapeCast S24x1 M shapeCasts_S24_S24x1) broadcasts_S24x1_S24x2048)) (ix2 t l)
      = Ideal.exp (s (ix2 t l) - Finset.univ.fold max ⊥ fun l => (s (ix2 t l) : EReal)) := fun l =>
    congrArg (fun z : EReal => Ideal.exp (s (ix2 t l) - z)) ((spread_apply M t l).trans hm)
  generalize exp (subf s (broadcastTo S24x2048 (shapeCast S24x1 M shapeCasts_S24_S24x1) broadcasts_S24x1_S24x2048)) = P at hp
  have hS : multiReduction .add [1] S24 P 0x00000000#32 reduces_S24x2048_S24 (.inl rfl) rfl (ix1 t) = ∑ l, (P (ix2 t l) : EReal) :=
    (Ideal.multiReduction_add_single _ _ reduces_S24x2048_S24 (.inl rfl) rfl (ix1 t)).trans (Finset.sum_congr rfl fun j _ => congrArg P (hlift j))
  generalize multiReduction .add [1] S24 P 0x00000000#32 reduces_S24x2048_S24 (.inl rfl) rfl = S at hS
  refine (Ideal.matmul_constant_zero_apply _ _ _ _ _).trans ?_
  refine (Equiv.sum_comp (contrEquiv1 dot_S24x2048_S2048x64_S24x64_1_0_0_1_n_n 2048 rfl rfl).symm _).symm.trans ?_
  unfold soft
  refine Finset.sum_congr rfl fun l _ => congrArg₂ (· * ·) ?_ (congrArg v ?_)
  · refine (congrArg (divf P _) (?_ : _ = ix2 t l)).trans ?_
    · funext a; fin_cases a <;> exact Fin.ext rfl
    · refine congrArg₂ Ideal.div (hp l) ((spread_apply S t l).trans (hS.trans (Finset.sum_congr rfl fun l _ => hp l)))
  · funext a; fin_cases a <;> exact Fin.ext rfl

theorem rm (z : S1x1x64.Idx) (hz0 : (z 0).val = 0) (hz1 : (z 1).val = 0) : (S1x64.rowMajor (ix2 0 (z 2))).val = (S1x1x64.rowMajor z).val := by
  rw [Shape.rowMajor_val_three, Shape.rowMajor_val_two, hz0, hz1]
  exact (by simp : 0 * 64 + (z 2).val = (0 * 1 + 0) * 64 + (z 2).val)

/-- The mean row. -/
theorem mean_apply (v : FVec Ideal S2048x64 .f32) (y : S1x2048x64.Idx) : k0_pay472 v y = mean (fun l e => v (ix2 l e)) (y 2) := by
  have h0 : (y 0).val = 0 := by have h : (y 0).val < 1 := (y 0).isLt; omega
  have hlift : ∀ l : Fin 2048, (reduces_S2048x64_S64 : S2048x64.Reduces [0] S64).lift (ix1 (y 2)) l = ix2 l (y 2) := fun l => by
    funext a; fin_cases a <;> exact Fin.ext rfl
  unfold k0_pay472
  dsimp only
  refine (shapeCast_apply (s := S2048x64) (t := S1x2048x64) _ _ y (ix2 (y 1) (y 2)) ?_).trans ?_
  · rw [Shape.rowMajor_val_three, Shape.rowMajor_val_two, h0]
    exact (by simp : (y 1).val * 64 + (y 2).val = (0 * 2048 + (y 1).val) * 64 + (y 2).val)
  refine (broadcastTo_apply (s := S1x64) (t := S2048x64) _ _ _ (ix2 0 (y 2)) fun a => ?_).trans ?_
  · fin_cases a <;> rfl
  rw [shapeCast_self]
  refine congrArg (fun z : EReal => Ideal.div z (Ideal.ofBits .f32 0x45000000#32)) ?_
  refine (shapeCast_apply (s := S64) (t := S1x64) _ _ _ (ix1 (y 2)) ?_).trans ?_
  · rw [Shape.rowMajor_val_two, Shape.rowMajor_val_one]
    exact (by simp : (y 2).val = 0 * 64 + (y 2).val)
  exact (Ideal.multiReduction_add_single _ _ reduces_S2048x64_S64 (.inl rfl) rfl (ix1 (y 2))).trans (Finset.sum_congr rfl fun j _ => congrArg v (hlift j))

section
variable (𝒱 : Variants) (c : Dev nD) (bd : Option 𝒱.V) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (X1 : BufTy.Contents (Elt Ideal) arg1.view.ty) (X2 : BufTy.Contents (Elt Ideal) arg2.view.ty) (X3 : BufTy.Contents (Elt Ideal) arg3.view.ty)
  (W : Fin 2 → Fin 24 → BitVec 32) (hW : ∀ s t, (W s t).toNat < 2048)

theorem head_apply (a : Memref sig .tc .vmem S2048x128 .f32) (X : BufTy.Contents (Elt Ideal) a.view.ty) (s : Fin 2) (l : Fin 2048) (e : Fin 64) :
    head (F := Ideal) a X s (ix2 l e) = half (a.view.read (Elt Ideal) X) s l e := by
  unfold head
  refine (shapeCast_apply (s := S2048x64) (t := S2048x64) _ _ (ix2 l e) (ix2 l e) rfl).trans ?_
  exact rect_read a.view X _ _ _ _ rfl _ _ (Nat.zero_add _).symm rfl

theorem qrow_apply (s : Fin 2) (t : Fin 24) (e : Fin 64) :
    qrow (F := Ideal) arg1 X1 W hW s t (ix2 0 e) = half (arg1.view.read (Elt Ideal) X1) s ⟨(W s t).toNat, hW s t⟩ e := by
  unfold qrow
  refine (shapeCast_apply (s := S1x64) (t := S1x64) _ _ (ix2 0 e) (ix2 0 e) rfl).trans ?_
  exact rect_read arg1.view X1 _ _ _ _ rfl _ _ rfl rfl

theorem heads_apply (s : Fin 2) (t : Fin 24) (e : Fin 64) :
    heads (F := Ideal) arg1 arg2 arg3 X1 X2 X3 W hW s (ix2 t e)
      = at_ (half (arg1.view.read (Elt Ideal) X1) s) (half (arg2.view.read (Elt Ideal) X2) s) (half (arg3.view.read (Elt Ideal) X3) s) ⟨(W s t).toNat, hW s t⟩ e := by
  unfold heads att
  rw [att_apply]
  unfold at_ sc
  refine congrArg₂ (fun a b => soft a b e) (funext fun l => ?_) (funext fun l => funext fun e => head_apply arg3 X3 s l e)
  rw [scores_apply]
  refine congrArg (· * Ideal.ofBits .f32 0x3E000000#32) (Finset.sum_congr rfl fun e _ => congrArg₂ (· * ·) ?_ (head_apply arg2 X2 s l e))
  exact (stack_apply _ t e).trans (qrow_apply arg1 X1 W hW s t e)

open Classical in
/-- The block at an index: a picked query's attention, the mean elsewhere. -/
theorem block_apply (G6 : BufTy.Contents (Elt Ideal) arg6.view.ty) (y : S2x2048x64.Idx) :
    arg6.view.read (Elt Ideal) (arg6.view.writes (Elt Ideal) G6 (outL (F := Ideal) arg1 arg2 arg3 X1 X2 X3 W hW)) y
      = if ∃ t, (⟨(W (y 0) t).toNat, hW (y 0) t⟩ : Fin 2048) = y 1
        then at_ (half (arg1.view.read (Elt Ideal) X1) (y 0)) (half (arg2.view.read (Elt Ideal) X2) (y 0)) (half (arg3.view.read (Elt Ideal) X3) (y 0)) (y 1) (y 2)
        else mean (half (arg3.view.read (Elt Ideal) X3) (y 0)) (y 2) := by
  -- one head's pieces
  have hit : ∀ (s : Fin 2) (L2 : List (View.Piece (Elt Ideal) S2x2048x64 .f32)), y 0 = s →
      arg6.view.read (Elt Ideal) (arg6.view.writes (Elt Ideal) G6 (((List.ofFn fun t : Fin 24 => rowPiece (F := Ideal) arg1 arg2 arg3 X1 X2 X3 W hW s t).reverse ++ [meanPiece arg3 X3 s]) ++ L2)) y
      = if ∃ t, (⟨(W (y 0) t).toNat, hW (y 0) t⟩ : Fin 2048) = y 1
        then at_ (half (arg1.view.read (Elt Ideal) X1) (y 0)) (half (arg2.view.read (Elt Ideal) X2) (y 0)) (half (arg3.view.read (Elt Ideal) X3) (y 0)) (y 1) (y 2)
        else mean (half (arg3.view.read (Elt Ideal) X3) (y 0)) (y 2) := by
    intro s L2 hs
    subst hs
    have h2 : (y 2).val < 64 := (y 2).isLt
    have h1 : (y 1).val < 2048 := (y 1).isLt
    have hmem : ∀ t, y ∈ (rowPiece (F := Ideal) arg1 arg2 arg3 X1 X2 X3 W hW (y 0) t).1.set ↔ (⟨(W (y 0) t).toNat, hW (y 0) t⟩ : Fin 2048) = y 1 := fun t => by
      unfold rowPiece
      rw [Rect.mem_set_unit]
      constructor
      · intro h
        have := h 1
        have h' : (W (y 0) t).toNat ≤ (y 1).val ∧ (y 1).val < (W (y 0) t).toNat + 1 := this
        exact Fin.ext (by show (W (y 0) t).toNat = (y 1).val; omega)
      · intro h a
        have h' : (W (y 0) t).toNat = (y 1).val := congrArg Fin.val h
        fin_cases a
        · exact (by omega : (y 0).val ≤ (y 0).val ∧ (y 0).val < (y 0).val + 1)
        · exact (by omega : (W (y 0) t).toNat ≤ (y 1).val ∧ (y 1).val < (W (y 0) t).toNat + 1)
        · exact (by omega : 0 ≤ (y 2).val ∧ (y 2).val < 0 + 64)
    rw [List.append_assoc]
    split
    · rename_i hex
      refine read_hit arg6.view _ y _ _ _ ?_ ?_
      · intro p hp z hz
        rw [List.mem_reverse, List.mem_ofFn] at hp
        obtain ⟨t, rfl⟩ := hp
        have ht := (hmem t).1 (by rw [← Rect.map_emb_univ]; exact Finset.mem_map.2 ⟨z, Finset.mem_univ _, hz⟩)
        have hz0 : (z 0).val = 0 := by have h : (z 0).val < 1 := (z 0).isLt; omega
        have hz1 : (z 1).val = 0 := by have h : (z 1).val < 1 := (z 1).isLt; omega
        have hz2 : (z 2) = (y 2) := Fin.ext (by
          rw [← hz]
          exact ((Nat.zero_add _).trans (Nat.one_mul _)).symm)
        rw [← ht, ← hz2]
        refine Eq.trans ?_ (heads_apply arg1 arg2 arg3 X1 X2 X3 W hW (y 0) t (z 2))
        have e : (rowPiece (F := Ideal) arg1 arg2 arg3 X1 X2 X3 W hW (y 0) t).2 z = shapeCast S1x1x64 (extractStridedSlice S1x64 ![t.val, 0] (heads (F := Ideal) arg1 arg2 arg3 X1 X2 X3 W hW (y 0)) (slice_row t)) shapeCasts_S1x64_S1x1x64 z := rfl
        rw [e]
        refine (shapeCast_apply (s := S1x64) (t := S1x1x64) _ _ z (ix2 0 (z 2)) ?_).trans ?_
        · exact rm z hz0 hz1
        refine extractStridedSlice_apply _ _ _ _ (ix2 t (z 2)) fun a => ?_
        fin_cases a
        · rfl
        · exact (Nat.zero_add _).symm
      · obtain ⟨t, ht⟩ := hex
        exact ⟨_, List.mem_reverse.2 (List.mem_ofFn.2 ⟨t, rfl⟩), (hmem t).2 ht⟩
    · rename_i hex
      refine (read_miss arg6.view _ y _ _ ?_).trans ?_
      · intro p hp hy
        rw [List.mem_reverse, List.mem_ofFn] at hp
        obtain ⟨t, rfl⟩ := hp
        exact hex ⟨t, (hmem t).1 hy⟩
      · refine read_hit arg6.view _ y _ _ _ ?_ ?_
        · intro p hp z hz
          rw [List.mem_singleton] at hp
          subst hp
          have hz2 : (z 2) = (y 2) := Fin.ext (by
            rw [← hz]
            exact ((Nat.zero_add _).trans (Nat.one_mul _)).symm)
          rw [← hz2]
          refine (mean_apply _ z).trans (congrArg (fun f => mean f (z 2)) (funext fun l => funext fun e => head_apply arg3 X3 (y 0) l e))
        · refine ⟨_, List.mem_singleton.2 rfl, ?_⟩
          unfold meanPiece
          rw [Rect.mem_set_unit]
          intro a
          fin_cases a
          · exact (by omega : (y 0).val ≤ (y 0).val ∧ (y 0).val < (y 0).val + 1)
          · exact (by omega : 0 ≤ (y 1).val ∧ (y 1).val < 0 + 2048)
          · exact (by omega : 0 ≤ (y 2).val ∧ (y 2).val < 0 + 64)
  have hs : y 0 = (0 : Fin 2) ∨ y 0 = (1 : Fin 2) := (by decide : ∀ s : Fin 2, s = 0 ∨ s = 1) (y 0)
  unfold outL
  rw [flatMap_two]
  rcases hs with hs | hs
  · refine (read_miss arg6.view _ y _ _ ?_).trans (hit 0 _ hs)
    have hy0 : (y 0).val = 0 := congrArg Fin.val hs
    intro p hp hy
    rw [List.mem_append, List.mem_reverse, List.mem_ofFn, List.mem_singleton] at hp
    rcases hp with ⟨t, rfl⟩ | rfl
    · unfold rowPiece at hy
      rw [Rect.mem_set_unit] at hy
      have h : 1 ≤ (y 0).val ∧ _ := hy 0
      omega
    · unfold meanPiece at hy
      rw [Rect.mem_set_unit] at hy
      have h : 1 ≤ (y 0).val ∧ _ := hy 0
      omega
  · exact hit 1 _ hs

variable (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (G9 : BufTy.Contents (Elt Ideal) arg9.view.ty)

/-- The block is the answer of its two heads. -/
theorem block_ans (G6 : BufTy.Contents (Elt Ideal) arg6.view.ty) (I : Fin 2048 → Fin 24 → Fin 2048)
    (hT : Table (arg4.view.read (Elt Ideal) X4) (arg5.view.read (Elt Ideal) X5) I) (hfin : ∀ s l, msOf arg1 arg2 X1 X2 I s l ≠ ⊥) (y : S2x2048x64.Idx) :
    arg6.view.read (Elt Ideal) (arg6.view.writes (Elt Ideal) G6 (outL (F := Ideal) arg1 arg2 arg3 X1 X2 X3 (word (F := Ideal) 𝒱 c bd i arg1 harg1 arg2 harg2 arg3 harg3 arg4 harg4 arg5 harg5 arg6 harg6 arg7 harg7 arg8 harg8 arg9 harg9 X1 X2 X4 X5 G7 G8 G9) (word_lt' (F := Ideal) 𝒱 c bd i arg1 harg1 arg2 harg2 arg3 harg3 arg4 harg4 arg5 harg5 arg6 harg6 arg7 harg7 arg8 harg8 arg9 harg9 X1 X2 X4 X5 G7 G8 G9))) y
      = ans (half (arg1.view.read (Elt Ideal) X1) (y 0)) (half (arg2.view.read (Elt Ideal) X2) (y 0)) (half (arg3.view.read (Elt Ideal) X3) (y 0)) I (y 1) (y 2) := by
  rw [block_apply]
  unfold ans
  have key : ∀ t, (⟨(word (F := Ideal) 𝒱 c bd i arg1 harg1 arg2 harg2 arg3 harg3 arg4 harg4 arg5 harg5 arg6 harg6 arg7 harg7 arg8 harg8 arg9 harg9 X1 X2 X4 X5 G7 G8 G9 (y 0) t).toNat, word_lt' (F := Ideal) 𝒱 c bd i arg1 harg1 arg2 harg2 arg3 harg3 arg4 harg4 arg5 harg5 arg6 harg6 arg7 harg7 arg8 harg8 arg9 harg9 X1 X2 X4 X5 G7 G8 G9 (y 0) t⟩ : Fin 2048) = order (msOf arg1 arg2 X1 X2 I (y 0)) t := fun t => by
    rw [pick_order _ _ (slab_apply (𝒱 := 𝒱) (c := c) (bd := bd) (i := i) (harg1 := harg1) (harg2 := harg2) (arg3 := arg3) (harg3 := harg3) (harg4 := harg4) (harg5 := harg5) (arg6 := arg6) (harg6 := harg6) (arg7 := arg7) (harg7 := harg7) (arg8 := arg8) (harg8 := harg8) (arg9 := arg9) (harg9 := harg9) (X1 := X1) (X2 := X2) (G7 := G7) (G8 := G8) (hT := hT) (s := y 0)) (hfin (y 0)) t]
    exact Fin.ext (congrArg BitVec.toNat (word_eq ..))
  by_cases h : ∃ t, order (msOf arg1 arg2 X1 X2 I (y 0)) t = y 1
  · obtain ⟨t, ht⟩ := h
    exact (if_pos ⟨t, (key t).trans ht⟩).trans (if_pos (⟨t, ht⟩ : ∃ t, order (msOf arg1 arg2 X1 X2 I (y 0)) t = y 1)).symm
  · exact (if_neg fun ⟨t, ht⟩ => h ⟨t, (key t).symm.trans ht⟩).trans (if_neg h).symm

end

end Cert.KernelIdeal.Hand
-- ==== Proof.IRunV.lean ====
/- The body's run, with the pieces it leaves in the result block. -/
module

public import proofs.«01_k».proof.Proof.IOut
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxRecDepth 400000 in
set_option maxHeartbeats 8000000 in
/-- The body from its blocks and scratch: it runs to the end, handing the inputs back as they were and the result and
    the scratch at what it left. -/
theorem kernelRunV (𝒱 : Variants) (c : Dev nD) (bd : Option 𝒱.V) (E : Set ℕ) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (G6 : BufTy.Contents (Elt F) arg6.view.ty)
  (G7 : BufTy.Contents (Elt F) arg7.view.ty) (G8 : BufTy.Contents (Elt F) arg8.view.ty) (G9 : BufTy.Contents (Elt F) arg9.view.ty)
  (Q : PUnit → sProp 𝕄) :
    iprop((arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} G6)
      ∗ (arg7.view.loc (c : Thread nD τ) ↦[arg7.view.set]{fullShare} G7) ∗ (arg8.view.loc (c : Thread nD τ) ↦[arg8.view.set]{fullShare} G8)
      ∗ (arg9.view.loc (c : Thread nD τ) ↦[arg9.view.set]{fullShare} G9)
      ∗ (iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5) ∗ (∃ f, ⌜f = arg6.view.writes (Elt F) G6 (outL arg1 arg2 arg3 X1 X2 X3 (word 𝒱 c bd i arg1 harg1 arg2 harg2 arg3 harg3 arg4 harg4 arg5 harg5 arg6 harg6 arg7 harg7 arg8 harg8 arg9 harg9 X1 X2 X4 X5 G7 G8 G9) (word_lt' 𝒱 c bd i arg1 harg1 arg2 harg2 arg3 harg3 arg4 harg4 arg5 harg5 arg6 harg6 arg7 harg7 arg8 harg8 arg9 harg9 X1 X2 X4 X5 G7 G8 G9))⌝ ∗ arg6.view.loc (c : Thread nD τ) ↦[arg6.view.set]{fullShare} f)
        ∗ (∃ f, arg7.view.loc (c : Thread nD τ) ↦[arg7.view.set]{fullShare} f) ∗ (∃ f, arg8.view.loc (c : Thread nD τ) ↦[arg8.view.set]{fullShare} f)
        ∗ (∃ f, arg9.view.loc (c : Thread nD τ) ↦[arg9.view.set]{fullShare} f)) -∗ Q ⟨⟩))
    ⊢ wp frame (wpE (defs₀ (F := F)) 𝒱 (c : Thread nD τ) bd) E (cc0__kernel_body (F := F) i arg1 harg1 arg2 harg2 arg3 harg3 arg4 harg4 arg5 harg5 arg6 harg6 arg7 harg7 arg8 harg8 arg9 harg9) Q := by
  iintro ⟨H1, H2, H3, H4, H5, H6, H7, H8, H9, Hk⟩
  sl_exec (disch := first | exact in_q _ _ (by decide) (word_lt ..) | exact in_o _ _ (by decide) (word_lt ..))
  sl_step
  iapply Hk
  isplitl [H1]; · iexact H1
  isplitl [H2]; · iexact H2
  isplitl [H3]; · iexact H3
  isplitl [H4]; · iexact H4
  isplitl [H5]; · iexact H5
  isplitl [H6]
  · iexists _; isplitr; rotate_left; (· iexact H6)
    ipureintro
    refine congrArg (View.writes _ _ _) ?_
    simp only [outL, List.flatMap_cons, List.flatMap_nil, List.ofFn_succ, List.ofFn_zero, List.reverse_cons, List.reverse_nil, List.nil_append, List.cons_append]
    iterate 50 (refine congrArg₂ List.cons rfl ?_)
    rfl
  isplitl [H7]; · iexists _; iexact H7
  isplitl [H8]; · iexists _; iexact H8
  iexists _; iexact H9

end Cert.KernelIdeal.Hand
-- ==== Proof.IVal.lean ====
/- The launch on the reals, with what it leaves in the result: every block at the specification's answer for its two heads. -/
module

public import proofs.«01_k».proof.Proof.IAtt
public import proofs.«01_k».proof.Proof.IRunV
public import proofs.«01_k».proof.Proof.IFrame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Proof

open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The answer of a block from the blocks of queries, keys and values: the heads one under the other. -/
def answer (A1 A2 A3 : S2048x128.Idx → EReal) (I : Fin 2048 → Fin 24 → Fin 2048) : S2x2048x64.Idx → EReal :=
  fun y => ans (half A1 (y 0)) (half A2 (y 0)) (half A3 (y 0)) I (y 1) (y 2)

/-- The proof data with the result's block named. -/
def datsV (I : Dev nD → Fin 2048 → Fin 24 → Fin 2048) (_ : Fin 1) (c : Dev nD) : Dat τ (Elt Ideal) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => answer (iblk m c 0 t) (iblk m c 1 t) (iblk m c 2 t) (I c)
  Φ _ := Pipeline.ΦA spec0 c
  q _ := fullShare
  owed _ := 0

variable (I : Dev nD → Fin 2048 → Fin 24 → Fin 2048)

theorem A_eqV (c : Dev nD) (w : Fin cfg0.W) : (datsV m I 0 c).A w = V m c (Pipeline.arrRef spec0 w) := by dsimp only [datsV]
theorem afterV0 (c : Dev nD) (t : Fin cfg0.N) : (datsV m I 0 c).after 0 t = iblk m c 0 t := by dsimp only [datsV]
theorem afterV1 (c : Dev nD) (t : Fin cfg0.N) : (datsV m I 0 c).after 1 t = iblk m c 1 t := by dsimp only [datsV]
theorem afterV2 (c : Dev nD) (t : Fin cfg0.N) : (datsV m I 0 c).after 2 t = iblk m c 2 t := by dsimp only [datsV]
theorem afterV3 (c : Dev nD) (t : Fin cfg0.N) : (datsV m I 0 c).after 3 t = iblk m c 3 t := by dsimp only [datsV]
theorem afterV4 (c : Dev nD) (t : Fin cfg0.N) : (datsV m I 0 c).after 4 t = iblk m c 4 t := by dsimp only [datsV]
theorem afterV5 (c : Dev nD) (t : Fin cfg0.N) : (datsV m I 0 c).after 5 t = answer (iblk m c 0 t) (iblk m c 1 t) (iblk m c 2 t) (I c) := by dsimp only [datsV]

set_option maxHeartbeats 1000000 in
/-- The body on any memrefs, in terms of what they hold: the inputs are left as they were and the result is the answer. -/
theorem bodyOwnsV (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .i32) (harg4 : arg4.IsWhole)
  (arg5 : Memref sig .tc .vmem S2048x128 .i32) (harg5 : arg5.IsWhole) (arg6 : Memref sig .tc .vmem S2x2048x64 .f32) (harg6 : arg6.IsWhole)
  (arg7 : Memref sig .tc .vmem S2x8x128x2048 .f32) (harg7 : arg7.IsWhole) (arg8 : Memref sig .tc .vmem S2x16x128 .f32) (harg8 : arg8.IsWhole)
  (arg9 : Memref sig .tc .smem S2x24 .i32) (harg9 : arg9.IsWhole)
  (Y1 Y2 Y3 : S2048x128.Idx → Elt Ideal .f32) (Y4 Y5 : S2048x128.Idx → BitVec 32) (I : Fin 2048 → Fin 24 → Fin 2048) (hT : Table Y4 Y5 I) (hfin : ∀ s l, ms (half Y1 s) (half Y2 s) I l ≠ ⊥) (P R S : sProp 𝕄)
  (hS : S = iprop(((∃ X, owns (c : Thread nD τ) arg7 fullShare X) ∗ (∃ X, owns (c : Thread nD τ) arg8 fullShare X) ∗ (∃ X, owns (c : Thread nD τ) arg9 fullShare X)) ∗ P)) :
    iprop(S ∗ R
      ∗ owns (c : Thread nD τ) arg1 fullShare Y1 ∗ owns (c : Thread nD τ) arg2 fullShare Y2 ∗ owns (c : Thread nD τ) arg3 fullShare Y3
      ∗ owns (c : Thread nD τ) arg4 fullShare Y4 ∗ owns (c : Thread nD τ) arg5 fullShare Y5 ∗ (∃ X, owns (c : Thread nD τ) arg6 fullShare X))
    ⊢ wp Idealize.ShloMosaic.frame (wpE (defs₀ (F := Ideal)) 𝒱₀ (c : Thread nD τ) none) Set.univ
      (cc0__kernel_body (F := Ideal) i arg1 harg1 arg2 harg2 arg3 harg3 arg4 harg4 arg5 harg5 arg6 harg6 arg7 harg7 arg8 harg8 arg9 harg9)
      (fun _ => iprop(S ∗ R
      ∗ owns (c : Thread nD τ) arg1 fullShare Y1 ∗ owns (c : Thread nD τ) arg2 fullShare Y2 ∗ owns (c : Thread nD τ) arg3 fullShare Y3
      ∗ owns (c : Thread nD τ) arg4 fullShare Y4 ∗ owns (c : Thread nD τ) arg5 fullShare Y5 ∗ owns (c : Thread nD τ) arg6 fullShare (answer Y1 Y2 Y3 I))) := by
  subst hS
  unfold owns
  iintro ⟨⟨⟨⟨%X7, %g7, %h7, H7⟩, ⟨%X8, %g8, %h8, H8⟩, ⟨%X9, %g9, %h9, H9⟩⟩, HP⟩, HR, ⟨%f1, %hf1, H1⟩, ⟨%f2, %hf2, H2⟩, ⟨%f3, %hf3, H3⟩, ⟨%f4, %hf4, H4⟩, ⟨%f5, %hf5, H5⟩, ⟨%X6, %f6, %hf6, H6⟩⟩
  iapply (kernelRunV 𝒱₀ c none Set.univ i arg1 harg1 arg2 harg2 arg3 harg3 arg4 harg4 arg5 harg5 arg6 harg6 arg7 harg7 arg8 harg8 arg9 harg9 f1 f2 f3 f4 f5 f6 g7 g8 g9)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, ⟨%e6, %he6, H6⟩, ⟨%e7, H7⟩, ⟨%e8, H8⟩, ⟨%e9, H9⟩⟩
  isplitl [H7 H8 H9 HP]
  · isplitr [HP]
    · isplitl [H7]; · iexists _; iexists e7; isplitr; (· ipureintro; rfl); iexact H7
      isplitl [H8]; · iexists _; iexists e8; isplitr; (· ipureintro; rfl); iexact H8
      iexists _; iexists e9; isplitr; (· ipureintro; rfl); iexact H9
    · iexact HP
  isplitl [HR]; · iexact HR
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  iexists e6; isplitr; rotate_left; (· iexact H6)
  ipureintro
  subst hf1 hf2 hf3 hf4 hf5 he6
  exact funext fun y => block_ans 𝒱₀ c none i arg1 harg1 arg2 harg2 arg3 harg3 arg4 harg4 arg5 harg5 arg6 harg6 arg7 harg7 arg8 harg8 arg9 harg9 f1 f2 f3 f4 f5 g7 g8 g9 f6 I hT hfin y

set_option maxHeartbeats 1000000 in
theorem body_obligationV (hT : ∀ c t, Table (iblk m c 3 t) (iblk m c 4 t) (I c)) (hfin : ∀ c t s l, ms (half (iblk m c 0 t) s) (half (iblk m c 1 t) s) (I c) l ≠ ⊥) (c : Dev nD) : BodyObligationLoose (datsV m I 0 c) (defs₀ (F := Ideal)) 𝒱₀ () Set.univ := fun t => by
  rw [bigSep_W0, bigSep_W0, defs₀_row]
  simp only [show ∀ w, cfg0.idle w (cfg0.grid.coords t) = false from fun _ => rfl, show ∀ w, cfg0.loose w = false from fun _ => rfl]
  have step := bodyOwnsV c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (I c) (hT c t) (hfin c t) (iprop(∃ r, prngReg c r)) ((datsV m I 0 c).owesAt () t.castSucc) _ (scratch_eq c)
  have h0 : ∀ d, (datsV m I 0 c).before 0 t d = iblk m c 0 t := before0_0_of m (datsV m I 0 c) (A_eqV m I c 0) (afterV0 m I c) t
  have h1 : ∀ d, (datsV m I 0 c).before 1 t d = iblk m c 1 t := before0_1_of m (datsV m I 0 c) (A_eqV m I c 1) (afterV1 m I c) t
  have h2 : ∀ d, (datsV m I 0 c).before 2 t d = iblk m c 2 t := before0_2_of m (datsV m I 0 c) (A_eqV m I c 2) (afterV2 m I c) t
  have h3 : ∀ d, (datsV m I 0 c).before 3 t d = iblk m c 3 t := before0_3_of m (datsV m I 0 c) (A_eqV m I c 3) (afterV3 m I c) t
  have h4 : ∀ d, (datsV m I 0 c).before 4 t d = iblk m c 4 t := before0_4_of m (datsV m I 0 c) (A_eqV m I c 4) (afterV4 m I c) t
  have hO : (datsV m I 0 c).owesAt () t.succ = (datsV m I 0 c).owesAt () t.castSucc := by unfold Dat.owesAt Pipeline.owesWithin; rfl
  rw [afterV0, afterV1, afterV2, afterV3, afterV4, afterV5, hO]
  refine BIBase.Entails.trans ?_ step
  refine BIClass.sep_mono .rfl (BIClass.sep_mono .rfl ?_)
  refine BIClass.sep_mono (owns_any h0) ?_
  refine BIClass.sep_mono (owns_any h1) ?_
  refine BIClass.sep_mono (owns_any h2) ?_
  refine BIClass.sep_mono (owns_any h3) ?_
  refine BIClass.sep_mono (owns_any h4) ?_
  iintro ⟨%d, H⟩
  iexists _
  iexact H

set_option backward.isDefEq.respectTransparency.types false in
/-- The run, from what the region finds: every array at what its blocks leave, every other buffer at what the tail leaves. -/
theorem run_value (hT : ∀ c t, Table (iblk m c 3 t) (iblk m c 4 t) (I c)) (hfin : ∀ c t s l, ms (half (iblk m c 0 t) s) (half (iblk m c 1 t) s) (I c) l ≠ ⊥) :
    θ_run defs (onTc (τ := τ) (main (F := Ideal))) (s₀ m ρ) (Pipeline.FramePost cfgs (datsV m I) 0 (Pipeline.afterTail₀ cfgs (datsV m I) 0 (V0 m) [hostOps1])) :=
  Pipeline.θ_run_frame_around cfgs (datsV m I) 0 launch0 defs₀ 𝒱₀ m ρ main
    (fun c => body_obligationV m I hT hfin c) (fun c => (datsV m I 0 c).share_full fun _ => rfl) (fun _ _ => rfl)
    (V0 m) [hostOps1] sfx_sub sfx_fresh sfx_keeps
    (hmain m 𝒱₀) (fun c w => A_eqV m I c w) (fun _ _ => rfl) _ (fun _ h => h.1)

end Cert.KernelIdeal.Hand
-- ==== Proof.IGood.lean ====
/- The kernel's host operations are in single-assignment order, and its draw of the sampled keys is the reference's, operation for operation. -/
module

public import proofs.«01_k».proof.Proof.RGood
public import proofs.«01_k».proof.Proof.Gen.KernelIdeal.Launch

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

open Cert.Ssa

set_option maxHeartbeats 40000000 in
theorem hostOps_good : Good 4 (hostOps0 (F := F)) := by
  repeat
    apply Good.cons
    focus
      first
        | with_reducible refine OpAt.binary ?_ ?_
        | with_reducible refine OpAt.unary ?_
        | with_reducible exact OpAt.nullary
        | with_reducible refine OpAt.reshape ?_
        | with_reducible refine OpAt.ternary ?_ ?_ ?_
        | with_reducible refine OpAt.nary ?_
      all_goals decide
    focus decide
  exact Good.nil _

end Cert.KernelIdeal.Hand
-- ==== Proof.Tref.lean ====
/- What a line's results say of an operation between typed references. -/
module

public import proofs.«01_k».proof.Proof.Ssa

@[expose] public section

noncomputable section

namespace Cert.Ssa

open Idealize.ShloMosaic Idealize.ShloMosaic.TcCoe Idealize.ShloMosaic.StableHlo

variable {τ : Topo} {sig : RefSig} {Val : EltTy → Type} {W : Valuation τ sig Val} {Ta Tb Tc Ty : BufTy}

/-- The contents of a typed reference's buffer, at its type. -/
abbrev got (W : Valuation τ sig Val) {T : BufTy} (x : TRef sig T) : T.Contents Val := x.ofBuf (W (Proc.devRef .tc x.ref))

theorem got_eq {T : BufTy} {x : TRef sig T} {v : T.Contents Val} (h : W (Proc.devRef .tc x.ref) = x.toBuf v) : got W x = v := by
  unfold got
  rw [h]
  exact (cast_cast _ _ _).trans (cast_eq _ _)

theorem got_nullary {y : TRef sig Ty} {v : Ty.Contents Val} (h : Reads W (TRef.nullary y v)) : got W y = v := got_eq (rd_nullary h)

theorem got_unary {a : TRef sig Ta} {y : TRef sig Ty} {f : Ta.Contents Val → Ty.Contents Val} (h : Reads W (TRef.unary a y f))
    (h₁ : num a.ref < num y.ref) : got W y = f (got W a) := got_eq (rd_unary h h₁)

theorem got_binary {a : TRef sig Ta} {b : TRef sig Tb} {y : TRef sig Ty} {f : Ta.Contents Val → Tb.Contents Val → Ty.Contents Val}
    (h : Reads W (TRef.binary a b y f)) (h₁ : num a.ref < num y.ref) (h₂ : num b.ref < num y.ref) : got W y = f (got W a) (got W b) :=
  got_eq (rd_binary h h₁ h₂)

theorem got_ternary {c : TRef sig Tc} {a : TRef sig Ta} {b : TRef sig Tb} {y : TRef sig Ty}
    {f : Tc.Contents Val → Ta.Contents Val → Tb.Contents Val → Ty.Contents Val} (h : Reads W (TRef.ternary c a b y f))
    (h₀ : num c.ref < num y.ref) (h₁ : num a.ref < num y.ref) (h₂ : num b.ref < num y.ref) : got W y = f (got W c) (got W a) (got W b) :=
  got_eq (rd_ternary h h₀ h₁ h₂)

theorem got_reshape {a : TRef sig Ta} {y : TRef sig Ty} {he hn} (h : Reads W (TRef.reshape a y he hn)) (h₁ : num a.ref < num y.ref) :
    got W y = fun i => he ▸ shapeCast Ty.shape (got W a) hn i := by
  obtain ⟨ra, ta, da, ua⟩ := a
  obtain ⟨ry, ty, dy, uy⟩ := y
  subst ta
  subst ty
  exact rd_reshape h h₁

end Cert.Ssa
-- ==== Proof.IIdx.lean ====
/- The sampled keys are in range, and the kernel's two index tables hold their places. -/
module

public import proofs.«01_k».proof.Proof.IGood
public import proofs.«01_k».proof.Proof.Tref
public import proofs.«01_k».proof.Proof.IMeas
public import Idealize.ShloMosaic.Lib.WordArith
public import Idealize.ShloMosaic.Lib.Routing.Words

@[expose] public section

set_option maxRecDepth 16384

noncomputable section

namespace Cert.KernelIdeal.Hand

open Idealize.ShloMosaic Idealize.ShloMosaic.TcCoe Idealize.ShloMosaic.Tactic
open Cert.KernelIdeal.Gen
open Cert.Proof Cert.Ssa ValueIdx

/-- What the kernel's host operations leave before the launch. -/
def H (V : Valuation τ sig (Elt Ideal)) : Valuation τ sig (Elt Ideal) := StableHlo.after (hostOps0 (F := Ideal)) V

/-- The operation at a place of the line reads the line's result. -/
theorem op (V : Valuation τ sig (Elt Ideal)) (n : ℕ) {x : HloOp τ sig (Elt Ideal)} (hx : (hostOps0 (F := Ideal))[n]? = some x) :
    Reads (H V) x :=
  (List.forall_iff_forall_mem.mp ((hostOps_good (F := Ideal)).reads V)) x (List.mem_of_getElem? hx)

theorem keptH (V : Valuation τ sig (Elt Ideal)) (b : DevRef τ sig) (hb : b.idx.val < 4) : H V b = V b :=
  (hostOps_good (F := Ideal)).kept V b hb

theorem H_eq (V : Valuation τ sig (Elt Ideal)) : H V = StableHlo.after (hostOps0 (F := Ideal)) V := rfl

attribute [irreducible] H

variable (V : Valuation τ sig (Elt Ideal))

/-- The sampled keys, as drawn. -/
abbrev drawn : IVec S2048x24 32 := got (H V) (.of main_call0_v7 : StableHlo.TRef sig ⟨S2048x24, .i32⟩)

theorem v0_eq : (got (H V) (.of main_call0_call0_v0 : StableHlo.TRef sig ⟨S_, .i32⟩) : IVec S_ 32) = fun _ => 0x7FFFFFFF#32 := by
  rw [got_binary (op V 16 rfl) (by decide) (by decide),
    got_binary (op V 15 rfl) (by decide) (by decide),
    got_nullary (op V 14 rfl),
    got_nullary (op V 13 rfl),
    got_nullary (op V 12 rfl)]
  exact funext fun _ => (by decide : IntOp.minsi 2147483647#32 (IntOp.maxsi 2147483648#32 2147483647#32) = 0x7FFFFFFF#32)

theorem v1_eq : (got (H V) (.of main_call0_call0_v1 : StableHlo.TRef sig ⟨S_, .i1⟩) : IVec S_ 1) = fun _ => 0#1 := by
  rw [got_binary (op V 17 rfl) (by decide) (by decide),
    got_nullary (op V 11 rfl)]
  rw [v0_eq]
  rfl

theorem v6_eq : (got (H V) (.of main_call0_call0_v6 : StableHlo.TRef sig ⟨S1x1, .i32⟩) : IVec S1x1 32) = fun _ => 0#32 := by
  rw [got_unary (op V 28 rfl) (by decide),
    got_unary (op V 22 rfl) (by decide),
    got_binary (op V 21 rfl) (by decide) (by decide),
    got_binary (op V 20 rfl) (by decide) (by decide),
    got_nullary (op V 19 rfl),
    got_nullary (op V 18 rfl),
    got_nullary (op V 10 rfl)]
  rfl

theorem v7_eq : (got (H V) (.of main_call0_call0_v7 : StableHlo.TRef sig ⟨S1x1, .i32⟩) : IVec S1x1 32) = fun _ => 2048#32 := by
  rw [got_unary (op V 29 rfl) (by decide),
    got_unary (op V 27 rfl) (by decide),
    got_binary (op V 26 rfl) (by decide) (by decide),
    got_binary (op V 25 rfl) (by decide) (by decide),
    got_nullary (op V 24 rfl),
    got_nullary (op V 23 rfl),
    got_nullary (op V 11 rfl)]
  rfl

theorem v51_eq : (got (H V) (.of main_call0_call0_v51 : StableHlo.TRef sig ⟨S1x1, .i32⟩) : IVec S1x1 32) = fun _ => 2048#32 := by
  rw [got_ternary (op V 759 rfl) (by decide) (by decide) (by decide),
    got_unary (op V 758 rfl) (by decide),
    got_nullary (op V 757 rfl),
    got_binary (op V 756 rfl) (by decide) (by decide),
    got_unary (op V 755 rfl) (by decide),
    got_binary (op V 754 rfl) (by decide) (by decide)]
  rw [v6_eq, v7_eq]
  exact funext fun _ => (by decide : Scalar.select (IntOp.cmpi .sle 2048#32 0#32) 1#32 (IntOp.subi 2048#32 0#32) = 2048#32)

theorem v57_eq : (got (H V) (.of main_call0_call0_v57 : StableHlo.TRef sig ⟨S1x1, .i32⟩) : IVec S1x1 32) = fun _ => 2048#32 := by
  rw [got_ternary (op V 766 rfl) (by decide) (by decide) (by decide),
    got_binary (op V 765 rfl) (by decide) (by decide),
    got_unary (op V 764 rfl) (by decide),
    got_nullary (op V 763 rfl),
    got_binary (op V 762 rfl) (by decide) (by decide),
    got_unary (op V 761 rfl) (by decide),
    got_binary (op V 760 rfl) (by decide) (by decide)]
  rw [v1_eq, v6_eq, v7_eq, v51_eq]
  exact funext fun _ => (by decide : Scalar.select (IntOp.andi 0#1 (IntOp.cmpi .sgt 2048#32 0#32)) (IntOp.addi 2048#32 1#32) 2048#32 = 2048#32)

/-- The draw is a remainder by the number of keys. -/
theorem drawn_lt (i : S2048x24.Idx) : (drawn V i).toNat < 2048 := by
  have h : drawn V = addi (fun _ => 0#32) (Host.remui (got (H V) (.of main_call0_call0_v68 : StableHlo.TRef sig ⟨S2048x24, .i32⟩)) fun _ => 2048#32) := by
    unfold drawn
    rw [got_binary (op V 783 rfl) (by decide) (by decide),
    got_unary (op V 782 rfl) (by decide),
    got_unary (op V 781 rfl) (by decide),
    got_binary (op V 780 rfl) (by decide) (by decide),
    got_unary (op V 779 rfl) (by decide)]
    rw [v6_eq, v57_eq]
    rfl
  rw [h]
  show (0#32 + IntOp.remui .host (got (H V) (.of main_call0_call0_v68 : StableHlo.TRef sig ⟨S2048x24, .i32⟩) i) 2048#32).toNat < 2048
  generalize (got (H V) (.of main_call0_call0_v68 : StableHlo.TRef sig ⟨S2048x24, .i32⟩) i : BitVec 32) = w
  rw [BitVec.zero_add]
  unfold IntOp.remui
  rw [if_neg (by decide), BitVec.toNat_umod]
  exact Nat.mod_lt _ (by decide)

/-- The remainder by 128 of a word, rounded towards the lower. -/
def lowW (w : BitVec 32) : BitVec 32 :=
  let r := IntOp.remsi .host w 128#32
  Scalar.select (Scalar.andi (IntOp.cmpi .ne (IntOp.cmpi .slt r 0#32) (IntOp.cmpi .slt 128#32 0#32)) (IntOp.cmpi .ne r 0#32)) (r + 128#32) r

/-- The sign of a word, as a word. -/
def signW (w : BitVec 32) : BitVec 32 := if w = 0 then 0 else if w.msb then -1 else 1

/-- The quotient by 128 of a word, rounded towards the lower. -/
def highW (w : BitVec 32) : BitVec 32 :=
  let q := IntOp.divsi .host w 128#32
  Scalar.select (Scalar.andi (IntOp.cmpi .ne (signW w) (signW 128#32)) (IntOp.cmpi .ne (IntOp.remsi .host w 128#32) 0#32)) (q - 1#32) q

theorem lowW_eq : ∀ k : Fin 2048, lowW (BitVec.ofNat 32 k.val) = BitVec.ofNat 32 (k.val % 128) := by decide +kernel
theorem highW_eq : ∀ k : Fin 2048, highW (BitVec.ofNat 32 k.val) = BitVec.ofNat 32 (k.val / 128) := by decide +kernel

/-- The place within a group of 128. -/
theorem low_eq : (got (H V) (.of main_call0_v8 : StableHlo.TRef sig ⟨S2048x24, .i32⟩) : IVec S2048x24 32) = fun i => lowW (drawn V i) := by
  unfold drawn
  rw [got_ternary (op V 805 rfl) (by decide) (by decide) (by decide),
    got_binary (op V 804 rfl) (by decide) (by decide),
    got_unary (op V 803 rfl) (by decide),
    got_binary (op V 802 rfl) (by decide) (by decide),
    got_binary (op V 801 rfl) (by decide) (by decide),
    got_unary (op V 800 rfl) (by decide),
    got_binary (op V 799 rfl) (by decide) (by decide),
    got_nullary (op V 798 rfl),
    got_binary (op V 797 rfl) (by decide) (by decide),
    got_unary (op V 796 rfl) (by decide),
    got_nullary (op V 795 rfl),
    got_binary (op V 794 rfl) (by decide) (by decide),
    got_unary (op V 793 rfl) (by decide),
    got_nullary (op V 792 rfl),
    got_binary (op V 791 rfl) (by decide) (by decide),
    got_unary (op V 790 rfl) (by decide),
    got_ternary (op V 789 rfl) (by decide) (by decide) (by decide),
    got_nullary (op V 788 rfl),
    got_binary (op V 787 rfl) (by decide) (by decide),
    got_nullary (op V 786 rfl),
    got_unary (op V 785 rfl) (by decide),
    got_nullary (op V 784 rfl)]
  rfl

/-- The group of 128. -/
theorem high_eq : (got (H V) (.of main_call0_v11 : StableHlo.TRef sig ⟨S2048x24, .i32⟩) : IVec S2048x24 32) = fun i => highW (drawn V i) := by
  unfold drawn
  rw [got_ternary (op V 826 rfl) (by decide) (by decide) (by decide),
    got_binary (op V 825 rfl) (by decide) (by decide),
    got_unary (op V 824 rfl) (by decide),
    got_nullary (op V 823 rfl),
    got_binary (op V 822 rfl) (by decide) (by decide),
    got_binary (op V 821 rfl) (by decide) (by decide),
    got_unary (op V 820 rfl) (by decide),
    got_nullary (op V 819 rfl),
    got_binary (op V 818 rfl) (by decide) (by decide),
    got_unary (op V 817 rfl) (by decide),
    got_binary (op V 816 rfl) (by decide) (by decide),
    got_unary (op V 815 rfl) (by decide),
    got_unary (op V 814 rfl) (by decide),
    got_unary (op V 813 rfl) (by decide),
    got_binary (op V 812 rfl) (by decide) (by decide),
    got_unary (op V 811 rfl) (by decide),
    got_unary (op V 810 rfl) (by decide),
    got_nullary (op V 809 rfl)]
  rfl

/-- The sampled keys' positions. -/
def sampledK (l : Fin 2048) (j : Fin 24) : Fin 2048 := ⟨(drawn V (ix2 l j)).toNat, drawn_lt V _⟩

theorem drawn_eq (l : Fin 2048) (j : Fin 24) : drawn V (ix2 l j) = BitVec.ofNat 32 (sampledK V l j).val :=
  (BitVec.eq_of_toNat_eq (by rw [BitVec.toNat_ofNat]; exact Nat.mod_eq_of_lt (drawn V (ix2 l j)).isLt)).symm

theorem lows : (got (H V) (.of main_call0_v10 : StableHlo.TRef sig ⟨S2048x128, .i32⟩) : IVec S2048x128 32) = concatenate S2048x128 1 [⟨S2048x24, fun i => lowW (drawn V i)⟩, ⟨S2048x104, fun _ => 0#32⟩] concatenates_S2048x24_S2048x104_S2048x128_d1 := by
  rw [got_binary (op V 808 rfl) (by decide) (by decide),
    got_unary (op V 807 rfl) (by decide),
    got_nullary (op V 806 rfl)]
  rw [low_eq]
  rfl

theorem highs : (got (H V) (.of main_call0_v13 : StableHlo.TRef sig ⟨S2048x128, .i32⟩) : IVec S2048x128 32) = concatenate S2048x128 1 [⟨S2048x24, fun i => highW (drawn V i)⟩, ⟨S2048x104, fun _ => 0xFFFFFFFF#32⟩] concatenates_S2048x24_S2048x104_S2048x128_d1 := by
  rw [got_binary (op V 829 rfl) (by decide) (by decide),
    got_unary (op V 828 rfl) (by decide),
    got_nullary (op V 827 rfl)]
  rw [high_eq]
  rfl

theorem beside_left (x : IVec S2048x24 32) (y : IVec S2048x104 32) (r : Fin 2048) (j : Fin 24) :
    concatenate S2048x128 1 [⟨S2048x24, x⟩, ⟨S2048x104, y⟩] concatenates_S2048x24_S2048x104_S2048x128_d1 (ix2 r (j.castLE (by decide))) = x (ix2 r j) :=
  concatenate_pair_apply_left 1 x y concatenates_S2048x24_S2048x104_S2048x128_d1 _ rfl (ix2 r j) fun a => by fin_cases a <;> rfl

theorem beside_right (x : IVec S2048x24 32) (v : BitVec 32) (r : Fin 2048) (j : Fin 128) (hj : 24 ≤ j.val) :
    concatenate S2048x128 1 [⟨S2048x24, x⟩, ⟨S2048x104, fun _ => v⟩] concatenates_S2048x24_S2048x104_S2048x128_d1 (ix2 r j) = v :=
  concatenate_pair_apply_right 1 x (fun _ => v) concatenates_S2048x24_S2048x104_S2048x128_d1 _ rfl rfl
    (ix2 r ⟨j.val - 24, by omega⟩) (fun a ha => by fin_cases a <;> first | rfl | exact absurd rfl ha) (by show j.val - 24 + 24 = j.val; omega)

/-- The two index tables hold the sampled keys' places. -/
theorem table : Table (got (H V) (.of main_call0_v10 : StableHlo.TRef sig ⟨S2048x128, .i32⟩) : IVec S2048x128 32) (got (H V) (.of main_call0_v13 : StableHlo.TRef sig ⟨S2048x128, .i32⟩) : IVec S2048x128 32) (sampledK V) where
  low r j := by rw [lows, beside_left, drawn_eq, lowW_eq]
  high r j := by rw [highs, beside_left, drawn_eq, highW_eq]
  low0 r j hj := by rw [lows, beside_right _ _ _ _ hj]
  high0 r j hj := by rw [highs, beside_right _ _ _ _ hj]

end Cert.KernelIdeal.Hand
-- ==== Proof.RMath.lean ====
/- The reference's indexed operations, each read at an index over the extended reals. -/
module

public import proofs.«01_k».proof.Proof.RGood
public import proofs.«01_k».proof.Proof.Spec
public import Idealize.ShloMosaic.Lib.Pipeline.Value
public import Idealize.ShloMosaic.Lib.ValueIdx
public import Idealize.ShloMosaic.Lib.ValueIdxRank6
public import proofs.«01_k».proof.Proof.Sel
public import Idealize.ShloMosaic.Lib.KernelVsHost
public import Idealize.ShloMosaic.Lib.IdealHost
public import Idealize.ShloMosaic.Lib.Routing.OpsSet

@[expose] public section

set_option maxRecDepth 16384

noncomputable section

namespace Cert.ReferenceIdeal.Hand

open Idealize.ShloMosaic Idealize.ShloMosaic.TcCoe Idealize.ShloMosaic.Tactic
open Cert.ReferenceIdeal.Gen
open Cert.Proof ValueIdx

/-- A place, as a signed word, is itself. -/
theorem place_toInt (k : ℕ) (hk : k < 2048) : (BitVec.ofNat 32 k).toInt = k := by
  rw [BitVec.toInt_eq_toNat_of_lt] <;> simp only [BitVec.toNat_ofNat] <;> omega

theorem sample_apply (x : S2x12x2048x2x64.Idx → EReal) (i : IVec S2048x24x1 32) (b : Fin 2) (h : Fin 12) (l : Fin 2048) (s : Fin 24) (d : Fin 2) (e : Fin 64)
    (k : Fin 2048) (hk : i (ix3 l s 0) = BitVec.ofNat 32 k.val) :
    Host.gather gather_S2x12x2048x2x64_S2048x24x1_S2x12x2048x24x2x64_0145_2_n_n_2_2_2121264 x i (ix6 b h l s d e) = x (ix5 b h k d e) := by
  unfold Host.gather
  refine congrArg x (funext fun a => Fin.ext ?_)
  fin_cases a
  · exact Nat.zero_add _
  · exact Nat.zero_add _
  · have hi : GatherDims.siIdx gather_S2x12x2048x2x64_S2048x24x1_S2x12x2048x24x2x64_0145_2_n_n_2_2_2121264 (ix6 b h l s d e) ⟨0, by decide⟩ = ix3 l s 0 := by
      funext a; fin_cases a <;> exact Fin.ext rfl
    have hv : (i (GatherDims.siIdx gather_S2x12x2048x2x64_S2048x24x1_S2x12x2048x24x2x64_0145_2_n_n_2_2_2121264 (ix6 b h l s d e) ⟨0, by decide⟩)).toInt.toNat = k.val := by
      rw [hi, hk, place_toInt _ k.isLt]; rfl
    show min (i (GatherDims.siIdx gather_S2x12x2048x2x64_S2048x24x1_S2x12x2048x24x2x64_0145_2_n_n_2_2_2121264 (ix6 b h l s d e) ⟨0, _⟩)).toInt.toNat 2047 + 0 + 0 = k.val
    rw [hv]
    have := k.isLt
    omega
  · exact Nat.zero_add _
  · exact Nat.zero_add _

theorem take_apply (x : S2x12x2048x2x64.Idx → EReal) (i : IVec S2x12x24x2x64x1 32) (b : Fin 2) (h : Fin 12) (t : Fin 24) (d : Fin 2) (e : Fin 64)
    (k : Fin 2048) (hk : i (ix6 b h t d e 0) = BitVec.ofNat 32 k.val) :
    Host.gather gather_S2x12x2048x2x64_S2x12x24x2x64x1_S2x12x24x2x64_n_2_0134_0134_2_5_11111 x i (ix5 b h t d e) = x (ix5 b h k d e) := by
  unfold Host.gather
  refine congrArg x (funext fun a => Fin.ext ?_)
  fin_cases a
  · exact Nat.zero_add _
  · exact Nat.zero_add _
  · have hi : GatherDims.siIdx gather_S2x12x2048x2x64_S2x12x24x2x64x1_S2x12x24x2x64_n_2_0134_0134_2_5_11111 (ix5 b h t d e) ⟨0, by decide⟩ = ix6 b h t d e 0 := by
      funext a; fin_cases a <;> exact Fin.ext rfl
    have hv : (i (GatherDims.siIdx gather_S2x12x2048x2x64_S2x12x24x2x64x1_S2x12x24x2x64_n_2_0134_0134_2_5_11111 (ix5 b h t d e) ⟨0, by decide⟩)).toInt.toNat = k.val := by
      rw [hi, hk, place_toInt _ k.isLt]; rfl
    show min (i (GatherDims.siIdx gather_S2x12x2048x2x64_S2x12x24x2x64x1_S2x12x24x2x64_n_2_0134_0134_2_5_11111 (ix5 b h t d e) ⟨0, _⟩)).toInt.toNat 2047 + 0 + 0 = k.val
    rw [hv]
    have := k.isLt
    omega
  · exact Nat.zero_add _
  · exact Nat.zero_add _

/-- A query against its sampled keys. -/
theorem sampled_apply (q : FVec Ideal S2x12x2048x2x64 .f32) (k : FVec Ideal S2x12x2048x24x2x64 .f32) (b : Fin 2) (h : Fin 12) (l : Fin 2048) (d : Fin 2) (j : Fin 24) :
    Host.dotGeneral (F := Ideal) dot_S2x12x2048x2x64_S2x12x2048x24x2x64_S2x12x2048x2x24_4_5_n_3_0123_0124 none q k (ix5 b h l d j)
      = ∑ e : Fin 64, (q (ix5 b h l d e) : EReal) * k (ix6 b h l j d e) := by
  refine (Ideal.dotGeneral_apply _ _ _ _ _ _).trans ?_
  refine (Equiv.sum_comp (contrEquiv1 dot_S2x12x2048x2x64_S2x12x2048x24x2x64_S2x12x2048x2x24_4_5_n_3_0123_0124 64 rfl rfl).symm _).symm.trans ?_
  refine Finset.sum_congr rfl fun e _ => congrArg₂ (· * ·) (congrArg q ?_) (congrArg k ?_)
  · funext a; fin_cases a <;> exact Fin.ext rfl
  · funext a; fin_cases a <;> exact Fin.ext rfl

/-- A picked query against every key. -/
theorem scored_apply (q : FVec Ideal S2x12x2x24x64 .f32) (k : FVec Ideal S2x12x2x2048x64 .f32) (b : Fin 2) (h : Fin 12) (d : Fin 2) (t : Fin 24) (l : Fin 2048) :
    Host.dotGeneral (F := Ideal) dot_S2x12x2x24x64_S2x12x2x2048x64_S2x12x2x24x2048_4_4_3_3_012_012 none q k (ix5 b h d t l)
      = ∑ e : Fin 64, (q (ix5 b h d t e) : EReal) * k (ix5 b h d l e) := by
  refine (Ideal.dotGeneral_apply _ _ _ _ _ _).trans ?_
  refine (Equiv.sum_comp (contrEquiv1 dot_S2x12x2x24x64_S2x12x2x2048x64_S2x12x2x24x2048_4_4_3_3_012_012 64 rfl rfl).symm _).symm.trans ?_
  refine Finset.sum_congr rfl fun e _ => congrArg₂ (· * ·) (congrArg q ?_) (congrArg k ?_)
  · funext a; fin_cases a <;> exact Fin.ext rfl
  · funext a; fin_cases a <;> exact Fin.ext rfl

/-- The weights times the values. -/
theorem weighed_apply (p : FVec Ideal S2x12x2x24x2048 .f32) (v : FVec Ideal S2x12x2x2048x64 .f32) (b : Fin 2) (h : Fin 12) (d : Fin 2) (t : Fin 24) (e : Fin 64) :
    Host.dotGeneral (F := Ideal) dot_S2x12x2x24x2048_S2x12x2x2048x64_S2x12x2x24x64_4_3_3_4_012_012 none p v (ix5 b h d t e)
      = ∑ l : Fin 2048, (p (ix5 b h d t l) : EReal) * v (ix5 b h d l e) := by
  refine (Ideal.dotGeneral_apply _ _ _ _ _ _).trans ?_
  refine (Equiv.sum_comp (contrEquiv1 dot_S2x12x2x24x2048_S2x12x2x2048x64_S2x12x2x24x64_4_3_3_4_012_012 2048 rfl rfl).symm _).symm.trans ?_
  refine Finset.sum_congr rfl fun e _ => congrArg₂ (· * ·) (congrArg p ?_) (congrArg v ?_)
  · funext a; fin_cases a <;> exact Fin.ext rfl
  · funext a; fin_cases a <;> exact Fin.ext rfl

theorem ofBits_neg_inf' : Ideal.ofBits .f32 0xFF800000#32 = (⊥ : EReal) := by simp [Ideal.ofBits, Ideal.ieee]

/-- The host's greatest along one axis, from −∞. -/
theorem greatest_apply {s t : Shape} {a : Fin s.rank} (x : FVec Ideal s .f32) (h : s.ReducesTo [a] t) (h' : s.Reduces [a] t) (j : t.Idx) :
    Host.reduce (FloatOps.maximumf (F := Ideal) (φ := .f32)) x (constant S_ .f32 0xFF800000#32) h h_S_ j = Finset.univ.fold max ⊥ fun k => (x (h'.lift j k) : EReal) := by
  rw [hostReduce_maximumf_eq_multiReduction x 0xFF800000#32 h h_S_ h' (.inl rfl) rfl]
  refine (Ideal.multiReduction_maximumf_single _ _ h' (.inl rfl) rfl j).trans ?_
  exact congrArg (fun z : EReal => Finset.fold max z (fun k => (x (h'.lift j k) : EReal)) _) ofBits_neg_inf'

/-- The host's sum along one axis, from zero. -/
theorem total_apply {s t : Shape} {a : Fin s.rank} (x : FVec Ideal s .f32) (h : s.ReducesTo [a] t) (h' : s.Reduces [a] t) (j : t.Idx) :
    Host.reduceAdd x (constant S_ .f32 0x00000000#32) h h_S_ j = ∑ k, (x (h'.lift j k) : EReal) := by
  refine (Ideal.hostReduceAdd_single h h' x _ j).trans ?_
  refine (congrArg (· + _) ?_).trans (zero_add _)
  exact Ideal.ofBits_zero_f32

theorem liftS (b : Fin 2) (h : Fin 12) (l : Fin 2048) (d : Fin 2) (j : Fin 24) :
    (by decide : S2x12x2048x2x24.Reduces [4] S2x12x2048x2).lift (ix4 b h l d) j = ix5 b h l d j := by
  funext a; fin_cases a <;> exact Fin.ext rfl

theorem liftA (b : Fin 2) (h : Fin 12) (d : Fin 2) (t : Fin 24) (l : Fin 2048) :
    (by decide : S2x12x2x24x2048.Reduces [4] S2x12x2x24).lift (ix4 b h d t) l = ix5 b h d t l := by
  funext a; fin_cases a <;> exact Fin.ext rfl

theorem liftV (b : Fin 2) (h : Fin 12) (d : Fin 2) (e : Fin 64) (l : Fin 2048) :
    (by decide : S2x12x2048x2x64.Reduces [2] S2x12x2x64).lift (ix4 b h d e) l = ix5 b h l d e := by
  funext a; fin_cases a <;> exact Fin.ext rfl

/-- The rows the reference picks are those of the specification's order. -/
theorem topK_apply (x : FVec Ideal S2x12x2x2048 .f32) (b : Fin 2) (h : Fin 12) (d : Fin 2) (t : Fin 24) :
    (Host.topK S2x12x2x24 3 (FloatOps.cmpfTotal (F := Ideal) (φ := .f32) .gt) x sliceFits_S2x12x2x2048_S2x12x2x24).2 (ix4 b h d t)
      = BitVec.ofNat 32 (order (fun l => (x (ix4 b h d l) : EReal)) t).val := by
  have al : ∀ k : Fin 2048, Shape.Idx.along (s := S2x12x2x2048) (ix4 b h d (t.castLE (by decide))) 3 k = ix4 b h d k := fun k => by
    unfold Shape.Idx.along
    funext a
    fin_cases a
    · exact Function.update_of_ne (by decide) _ _
    · exact Function.update_of_ne (by decide) _ _
    · exact Function.update_of_ne (by decide) _ _
    · exact Function.update_self ..
  have key : sortedFrom (fun k k' : Fin 2048 => FloatOps.cmpfTotal (F := Ideal) (φ := .f32) .gt (x (ix4 b h d k)) (x (ix4 b h d k')) == 1#1) = sortedFrom (before fun l => (x (ix4 b h d l) : EReal)) := by
    rw [sortedFrom_tie _ fun k k' => decide ((x (ix4 b h d k) : EReal) = x (ix4 b h d k'))]
    refine congrArg sortedFrom (funext fun k => funext fun k' => ?_)
    unfold before
    refine congrArg (· || _) ?_
    show (BitVec.ofBool (decide ((x (ix4 b h d k') : EReal) < x (ix4 b h d k))) == 1#1) = _
    cases decide ((x (ix4 b h d k') : EReal) < x (ix4 b h d k)) <;> rfl
  have hs : (sortedFrom (fun k k' : Fin 2048 => FloatOps.cmpfTotal (F := Ideal) (φ := .f32) .gt
      (x (Shape.Idx.along (s := S2x12x2x2048) (ix4 b h d (t.castLE (by decide))) 3 k))
      (x (Shape.Idx.along (s := S2x12x2x2048) (ix4 b h d (t.castLE (by decide))) 3 k')) == 1#1) (t.castLE (by decide)))
      = order (fun l => (x (ix4 b h d l) : EReal)) t := by
    simp only [al]
    exact congrFun key _
  unfold Host.topK
  dsimp only
  refine (extractStridedSlice_apply (s := S2x12x2x2048) (t := S2x12x2x24) _ _ _ (ix4 b h d t) (ix4 b h d (t.castLE (by decide))) fun a => ?_).trans ?_
  · fin_cases a <;> exact (Nat.zero_add _).symm
  · rw [← hs]
    unfold Host.sort2
    rw [dif_pos (by decide)]
    dsimp only
    rw [dif_pos (by decide)]
    exact congrArg (fun z : Fin 2048 => BitVec.ofNat 32 z.val) (Function.update_self ..)

/-- Where an update of the reference's writes lands. -/
theorem lands (idx : IVec S2x12x2x24x4 32) (b : Fin 2) (h : Fin 12) (d : Fin 2) (t : Fin 24) (e : Fin 64) (k : Fin 2048)
    (h0 : idx (ix5 b h d t 0) = BitVec.ofNat 32 b.val) (h1 : idx (ix5 b h d t 1) = BitVec.ofNat 32 h.val)
    (h2 : idx (ix5 b h d t 2) = BitVec.ofNat 32 d.val) (h3 : idx (ix5 b h d t 3) = BitVec.ofNat 32 k.val) :
    scatter_S2x12x2x2048x64_S2x12x2x24x4_S2x12x2x24x64_4_0123_0123_4.resultIdx? (ix5 b h d t e) idx = some (ix5 b h d k e) := by
  have hi : ∀ c : Fin 4, ScatterDims.siIdx scatter_S2x12x2x2048x64_S2x12x2x24x4_S2x12x2x24x64_4_0123_0123_4 (ix5 b h d t e) c = ix5 b h d t c := fun c => by
    funext a; fin_cases a <;> exact Fin.ext rfl
  have hst : ∀ a, ScatterDims.start scatter_S2x12x2x2048x64_S2x12x2x24x4_S2x12x2x24x64_4_0123_0123_4 (ix5 b h d t e) idx a
      + ScatterDims.window scatter_S2x12x2x2048x64_S2x12x2x24x4_S2x12x2x24x64_4_0123_0123_4 (ix5 b h d t e) a = ((ix5 b h d k e : S2x12x2x2048x64.Idx) a).val := by
    intro a
    fin_cases a
    · show (idx (ScatterDims.siIdx scatter_S2x12x2x2048x64_S2x12x2x24x4_S2x12x2x24x64_4_0123_0123_4 (ix5 b h d t e) (0 : Fin 4))).toInt + 0 = (b.val : Int)
      rw [hi, h0, place_toInt _ (by omega), add_zero]
    · show (idx (ScatterDims.siIdx scatter_S2x12x2x2048x64_S2x12x2x24x4_S2x12x2x24x64_4_0123_0123_4 (ix5 b h d t e) (1 : Fin 4))).toInt + 0 = (h.val : Int)
      rw [hi, h1, place_toInt _ (by omega), add_zero]
    · show (idx (ScatterDims.siIdx scatter_S2x12x2x2048x64_S2x12x2x24x4_S2x12x2x24x64_4_0123_0123_4 (ix5 b h d t e) (2 : Fin 4))).toInt + 0 = (d.val : Int)
      rw [hi, h2, place_toInt _ (by omega), add_zero]
    · show (idx (ScatterDims.siIdx scatter_S2x12x2x2048x64_S2x12x2x24x4_S2x12x2x24x64_4_0123_0123_4 (ix5 b h d t e) (3 : Fin 4))).toInt + 0 = (k.val : Int)
      rw [hi, h3, place_toInt _ (by omega), add_zero]
    · exact zero_add _
  unfold ScatterDims.resultIdx?
  rw [dif_pos fun a => by rw [hst a]; exact ⟨Int.natCast_nonneg _, Int.ofNat_lt.mpr (Fin.isLt _)⟩]
  refine congrArg some (funext fun a => Fin.ext ?_)
  show (_ : Int).toNat = _
  rw [hst a]; rfl

end Cert.ReferenceIdeal.Hand
-- ==== Proof.RStage.lean ====
/- The reference's results stage by stage: the measures, the picks, the attention, the mean and the writes. -/
module

public import proofs.«01_k».proof.Proof.RMath
public import Idealize.ShloMosaic.Lib.ReduceAll
public import Idealize.ShloMosaic.Lib.SortFacts

@[expose] public section

set_option maxRecDepth 16384

noncomputable section

namespace Cert.ReferenceIdeal.Hand

open Idealize.ShloMosaic Idealize.ShloMosaic.TcCoe Idealize.ShloMosaic.Tactic
open Cert.ReferenceIdeal.Gen
open Cert.Proof ValueIdx

/-- One head's rows of an argument. -/
def head (a : S2x2048x2x12x64.Idx → EReal) (b : Fin 2) (d : Fin 2) (h : Fin 12) (l : Fin 2048) (e : Fin 64) : EReal := a (ix5 b l d h e)

/-! ### Axes moved -/

section
variable {α : Type}

theorem tr_heads (x : S2x2048x2x12x64.Idx → α) (hx) (b : Fin 2) (h : Fin 12) (l : Fin 2048) (d : Fin 2) (e : Fin 64) :
    transpose S2x12x2048x2x64 [0, 3, 1, 2, 4] x hx (ix5 b h l d e) = x (ix5 b l d h e) :=
  transpose_apply _ _ _ _ _ fun a => by fin_cases a <;> rfl

theorem tr_meas (x : S2x12x2048x2.Idx → α) (hx) (b : Fin 2) (h : Fin 12) (l : Fin 2048) (d : Fin 2) :
    transpose S2x12x2x2048 [0, 1, 3, 2] x hx (ix4 b h d l) = x (ix4 b h l d) :=
  transpose_apply _ _ _ _ _ fun a => by fin_cases a <;> rfl

theorem tr_pick (x : S2x12x2x24.Idx → α) (hx) (b : Fin 2) (h : Fin 12) (t : Fin 24) (d : Fin 2) :
    transpose S2x12x24x2 [0, 1, 3, 2] x hx (ix4 b h t d) = x (ix4 b h d t) :=
  transpose_apply _ _ _ _ _ fun a => by fin_cases a <;> rfl

theorem tr_pick' (x : S2x12x24x2.Idx → α) (hx) (b : Fin 2) (h : Fin 12) (t : Fin 24) (d : Fin 2) :
    transpose S2x12x2x24 [0, 1, 3, 2] x hx (ix4 b h d t) = x (ix4 b h t d) :=
  transpose_apply _ _ _ _ _ fun a => by fin_cases a <;> rfl

theorem tr_taken (x : S2x12x24x2x64.Idx → α) (hx) (b : Fin 2) (h : Fin 12) (t : Fin 24) (d : Fin 2) (e : Fin 64) :
    transpose S2x12x2x24x64 [0, 1, 3, 2, 4] x hx (ix5 b h d t e) = x (ix5 b h t d e) :=
  transpose_apply _ _ _ _ _ fun a => by fin_cases a <;> rfl

theorem tr_rows (x : S2x12x2048x2x64.Idx → α) (hx) (b : Fin 2) (h : Fin 12) (l : Fin 2048) (d : Fin 2) (e : Fin 64) :
    transpose S2x12x2x2048x64 [0, 1, 3, 2, 4] x hx (ix5 b h d l e) = x (ix5 b h l d e) :=
  transpose_apply _ _ _ _ _ fun a => by fin_cases a <;> rfl

theorem tr_result (x : S2x12x2x2048x64.Idx → α) (hx) (b : Fin 2) (h : Fin 12) (l : Fin 2048) (d : Fin 2) (e : Fin 64) :
    transpose S2x2x12x2048x64 [0, 2, 1, 3, 4] x hx (ix5 b d h l e) = x (ix5 b h d l e) :=
  transpose_apply _ _ _ _ _ fun a => by fin_cases a <;> rfl

/-! ### Axes spread -/

theorem bc_sample (x : S2048x24.Idx → α) (hx) (l : Fin 2048) (j : Fin 24) :
    broadcastInDim S2048x24x1 ![0, 1] hx x (ix3 l j 0) = x (ix2 l j) :=
  broadcastInDim_apply _ _ _ _ _ fun a => by fin_cases a <;> rfl

theorem bc_pick (x : S2x12x24x2.Idx → α) (hx) (hy) (b : Fin 2) (h : Fin 12) (t : Fin 24) (d : Fin 2) (e : Fin 64) :
    broadcastInDim S2x12x24x2x64 ![0, 1, 2, 3, 4] hy (broadcastInDim S2x12x24x2x1 ![0, 1, 2, 3] hx x) (ix5 b h t d e) = x (ix4 b h t d) :=
  (broadcastInDim_apply _ _ _ _ (ix5 b h t d 0) fun a => by fin_cases a <;> rfl).trans
    (broadcastInDim_apply _ _ _ _ _ fun a => by fin_cases a <;> rfl)

theorem bc_row (x : S2x12x2x24.Idx → α) (hx) (hy) (b : Fin 2) (h : Fin 12) (d : Fin 2) (t : Fin 24) (l : Fin 2048) :
    broadcastInDim S2x12x2x24x2048 ![0, 1, 2, 3, 4] hy (broadcastInDim S2x12x2x24x1 ![0, 1, 2, 3] hx x) (ix5 b h d t l) = x (ix4 b h d t) :=
  (broadcastInDim_apply _ _ _ _ (ix5 b h d t 0) fun a => by fin_cases a <;> rfl).trans
    (broadcastInDim_apply _ _ _ _ _ fun a => by fin_cases a <;> rfl)

theorem bc_unit (x : S2x12x2x24.Idx → α) (hx) (b : Fin 2) (h : Fin 12) (d : Fin 2) (t : Fin 24) :
    broadcastInDim S2x12x2x24x1 ![0, 1, 2, 3] hx x (ix5 b h d t 0) = x (ix4 b h d t) :=
  broadcastInDim_apply _ _ _ _ _ fun a => by fin_cases a <;> rfl

theorem bc_mean (x : S2x12x2x64.Idx → α) (hx) (hy) (b : Fin 2) (h : Fin 12) (l : Fin 2048) (d : Fin 2) (e : Fin 64) :
    broadcastInDim S2x12x2048x2x64 ![0, 1, 2, 3, 4] hy (broadcastInDim S2x12x1x2x64 ![0, 1, 3, 4] hx x) (ix5 b h l d e) = x (ix4 b h d e) :=
  (broadcastInDim_apply _ _ _ _ (ix5 b h 0 d e) fun a => by fin_cases a <;> rfl).trans
    (broadcastInDim_apply _ _ _ _ _ fun a => by fin_cases a <;> rfl)

theorem bc_axis0 (x : S2x1x1x1.Idx → α) (hx) (b : Fin 2) (h : Fin 12) (d : Fin 2) (t : Fin 24) :
    broadcastInDim S2x12x2x24 ![0, 1, 2, 3] hx x (ix4 b h d t) = x (ix4 b 0 0 0) :=
  broadcastInDim_apply _ _ _ _ _ fun a => by fin_cases a <;> rfl

theorem bc_axis1 (x : S1x12x1x1.Idx → α) (hx) (b : Fin 2) (h : Fin 12) (d : Fin 2) (t : Fin 24) :
    broadcastInDim S2x12x2x24 ![0, 1, 2, 3] hx x (ix4 b h d t) = x (ix4 0 h 0 0) :=
  broadcastInDim_apply _ _ _ _ _ fun a => by fin_cases a <;> rfl

theorem bc_axis2 (x : S1x1x2x1.Idx → α) (hx) (b : Fin 2) (h : Fin 12) (d : Fin 2) (t : Fin 24) :
    broadcastInDim S2x12x2x24 ![0, 1, 2, 3] hx x (ix4 b h d t) = x (ix4 0 0 d 0) :=
  broadcastInDim_apply _ _ _ _ _ fun a => by fin_cases a <;> rfl

end

/-- A negative place counts from the end: a place in range stays. -/
theorem wrapped {s : Shape} (x : IVec s 32) (n : BitVec 32) (hb : S_.BroadcastsInDim s ![]) (j : s.Idx) (k : ℕ) (hk : k < 2048)
    (hx : x j = BitVec.ofNat 32 k) :
    select (cmpi .slt x (broadcastInDim s ![] hb (constantI S_ 32 0#32))) (addi x (broadcastInDim s ![] hb (constantI S_ 32 n))) x j
      = BitVec.ofNat 32 k := by
  show Scalar.select (IntOp.cmpi .slt (x j) 0#32) (x j + n) (x j) = _
  rw [hx]
  have h : IntOp.cmpi .slt (BitVec.ofNat 32 k) 0#32 = 0#1 := by
    have := place_toInt k hk
    have h0 : ¬ (k : Int) < 0 := by omega
    simp [IntOp.cmpi, BitVec.slt, this, h0]
  rw [h]; rfl

/-! ### The measures and the picks -/

theorem measure_stage (a0 a1 : FVec Ideal S2x2048x2x12x64 .f32) (i : IVec S2048x24 32) (I : Fin 2048 → Fin 24 → Fin 2048)
    (hI : ∀ l j, i (ix2 l j) = BitVec.ofNat 32 (I l j).val)
    {v0 v1 : FVec Ideal S2x12x2048x2x64 .f32} {c4 c5 : IVec S_ 32} {v11 v13 v14 v15 : IVec S2048x24 32} {v12 : IVec S2048x24 1} {v16 : IVec S2048x24x1 32}
    {v17 : FVec Ideal S2x12x2048x24x2x64 .f32} {v18 : FVec Ideal S2x12x2048x2x24 .f32} {cst cst6 cst7 : FVec Ideal S_ .f32}
    {v19 v20 v21 v22 v23 : FVec Ideal S2x12x2048x2 .f32} {v24 : FVec Ideal S2x12x2x2048 .f32}
    (h0 : v0 = transpose S2x12x2048x2x64 [0, 3, 1, 2, 4] a0 transposes_S2x2048x2x12x64_S2x12x2048x2x64_0_3_1_2_4)
    (h1 : v1 = transpose S2x12x2048x2x64 [0, 3, 1, 2, 4] a1 transposes_S2x2048x2x12x64_S2x12x2048x2x64_0_3_1_2_4)
    (hc4 : c4 = constantI S_ 32 0#32) (h11 : v11 = broadcastInDim S2048x24 ![] bcast_S_S2048x24 c4) (h12 : v12 = cmpi .slt i v11)
    (hc5 : c5 = constantI S_ 32 2048#32) (h13 : v13 = broadcastInDim S2048x24 ![] bcast_S_S2048x24 c5) (h14 : v14 = addi i v13)
    (h15 : v15 = select v12 v14 i) (h16 : v16 = broadcastInDim S2048x24x1 ![0, 1] bcast_S2048x24_S2048x24x1_0_1 v15)
    (h17 : v17 = Host.gather gather_S2x12x2048x2x64_S2048x24x1_S2x12x2048x24x2x64_0145_2_n_n_2_2_2121264 v1 v16)
    (h18 : v18 = Host.dotGeneral dot_S2x12x2048x2x64_S2x12x2048x24x2x64_S2x12x2048x2x24_4_5_n_3_0123_0124 none v0 v17)
    (hcst : cst = constant S_ .f32 0xFF800000#32) (h19 : v19 = Host.reduce FloatOps.maximumf v18 cst reducesTo_S2x12x2048x2x24_S2x12x2048x2_d4 h_S_)
    (hcst6 : cst6 = constant S_ .f32 0x00000000#32) (h20 : v20 = Host.reduceAdd v18 cst6 reducesTo_S2x12x2048x2x24_S2x12x2048x2_d4 h_S_)
    (hcst7 : cst7 = constant S_ .f32 0x45000000#32) (h21 : v21 = broadcastInDim S2x12x2048x2 ![] bcast_S_S2x12x2048x2 cst7)
    (h22 : v22 = Host.divf v20 v21) (h23 : v23 = subf v19 v22)
    (h24 : v24 = transpose S2x12x2x2048 [0, 1, 3, 2] v23 transposes_S2x12x2048x2_S2x12x2x2048_0_1_3_2)
    (b : Fin 2) (h : Fin 12) (d : Fin 2) (l : Fin 2048) : v24 (ix4 b h d l) = ms (head a0 b d h) (head a1 b d h) I l := by
  have s18 : ∀ j, v18 (ix5 b h l d j) = sc (head a0 b d h) (head a1 b d h) l (I l j) := fun j => by
    rw [h18, sampled_apply]
    refine Finset.sum_congr rfl fun e _ => congrArg₂ (· * ·) ?_ ?_
    · rw [h0, tr_heads]; rfl
    · rw [h17, sample_apply v1 v16 b h l j d e (I l j), h1, tr_heads]; · rfl
      rw [h16, bc_sample, h15, h12, h14, h11, h13, hc4, hc5]
      exact wrapped i _ _ _ _ (I l j).isLt (hI l j)
  rw [h24, tr_meas, h23]
  show v19 (ix4 b h l d) - v22 (ix4 b h l d) = _
  refine congrArg₂ (fun x y : EReal => x - y) ?_ ?_
  · rw [h19, hcst, greatest_apply v18 _ (by decide)]
    exact Finset.fold_congr fun j _ => (congrArg v18 (liftS b h l d j)).trans (s18 j)
  · rw [h22, h20, hcst6, h21, hcst7]
    refine congrArg₂ Ideal.div ?_ rfl
    rw [total_apply v18 _ (by decide)]
    exact Finset.sum_congr rfl fun j _ => (congrArg v18 (liftS b h l d j)).trans (s18 j)

/-! ### The picked queries -/

theorem take_stage (v0 : FVec Ideal S2x12x2048x2x64 .f32) (v27 : IVec S2x12x24x2x64 32) (k : Fin 2 → Fin 12 → Fin 24 → Fin 2 → Fin 2048)
    (h27 : ∀ b h t d e, v27 (ix5 b h t d e) = BitVec.ofNat 32 (k b h t d).val)
    {c c0 c2 : IVec S_ 32} {w0 w2 w3 w4 : IVec S2x12x24x2x64 32} {w1 w12 : IVec S2x12x24x2x64 1} {w5 w6 w9 : IVec S2x12x24x2x64x1 32} {c1 : IVec S1 32}
    {w7 w10 w11 : IVec S2x12x24x2x64x1 1} {w8 : IVec S1x1x1x1x1x1 32} {c3 : IVec S_ 1} {w13 w14 w15 : FVec Ideal S2x12x24x2x64 .f32}
    (hc : c = constantI S_ 32 0#32) (hw0 : w0 = broadcastInDim S2x12x24x2x64 ![] bcast_S_S2x12x24x2x64 c) (hw1 : w1 = cmpi .slt v27 w0)
    (hc0 : c0 = constantI S_ 32 2048#32) (hw2 : w2 = broadcastInDim S2x12x24x2x64 ![] bcast_S_S2x12x24x2x64 c0) (hw3 : w3 = addi v27 w2)
    (hw4 : w4 = select w1 w3 v27) (hw5 : w5 = shapeCast S2x12x24x2x64x1 w4 shapeCasts_S2x12x24x2x64_S2x12x24x2x64x1)
    (hc1 : c1 = constantI S1 32 2047#32) (hc2 : c2 = constantI S_ 32 0#32)
    (hw6 : w6 = broadcastInDim S2x12x24x2x64x1 ![] bcast_S_S2x12x24x2x64x1 c2) (hw7 : w7 = cmpi .sge w5 w6)
    (hw8 : w8 = broadcastInDim S1x1x1x1x1x1 ![5] bcast_S1_S1x1x1x1x1x1_5 c1)
    (hw9 : w9 = broadcastInDim S2x12x24x2x64x1 ![0, 1, 2, 3, 4, 5] bcast_S1x1x1x1x1x1_S2x12x24x2x64x1_0_1_2_3_4_5 w8)
    (hw10 : w10 = cmpi .sle w5 w9) (hw11 : w11 = andi w7 w10) (hc3 : c3 = constantI S_ 1 1#1)
    (hw12 : w12 = Host.reduce IntOp.andi w11 c3 reducesTo_S2x12x24x2x64x1_S2x12x24x2x64_d5 h_S_)
    (hw13 : w13 = Host.gather gather_S2x12x2048x2x64_S2x12x24x2x64x1_S2x12x24x2x64_n_2_0134_0134_2_5_11111 v0 w5)
    (hw15 : w15 = select w12 w13 w14)
    (b : Fin 2) (h : Fin 12) (t : Fin 24) (d : Fin 2) (e : Fin 64) : w15 (ix5 b h t d e) = v0 (ix5 b h (k b h t d) d e) := by
  have s5 : ∀ (b : Fin 2) (h : Fin 12) (t : Fin 24) (d : Fin 2) (e : Fin 64), w5 (ix6 b h t d e 0) = BitVec.ofNat 32 (k b h t d).val := fun b h t d e => by
    rw [hw5]
    refine (shapeCast_apply (s := S2x12x24x2x64) (t := S2x12x24x2x64x1) _ _ _ (ix5 b h t d e) ?_).trans ?_
    · refine (Shape.rowMajor_val_five (d := ![2, 12, 24, 2, 64]) (ix5 b h t d e)).trans ?_
      refine Eq.trans ?_ (Shape.rowMajor_val_six (d := ![2, 12, 24, 2, 64, 1]) (ix6 b h t d e 0)).symm
      exact (Nat.mul_one _).symm
    · rw [hw4, hw1, hw3, hw0, hw2, hc, hc0]
      exact wrapped v27 _ _ _ _ (k b h t d).isLt (h27 b h t d e)
  have s12 : w12 (ix5 b h t d e) = 1#1 := by
    rw [hw12, hc3]
    refine Host.reduce_andi_one _ _ _ _ _ rfl fun i => ?_
    obtain ⟨p0, p1, p2, p3, p4, rfl⟩ : ∃ (p0 : Fin 2) (p1 : Fin 12) (p2 : Fin 24) (p3 : Fin 2) (p4 : Fin 64), i = ix6 p0 p1 p2 p3 p4 0 :=
      ⟨i 0, i 1, i 2, i 3, i 4, by
        funext a
        fin_cases a <;> try rfl
        exact Fin.ext (Nat.lt_one_iff.mp (i 5).isLt)⟩
    rw [hw11, hw7, hw10, hw6, hc2, hw9, hw8, hc1]
    show IntOp.andi (IntOp.cmpi .sge (w5 _) 0#32) (IntOp.cmpi .sle (w5 _) 2047#32) = 1#1
    rw [s5 p0 p1 p2 p3 p4]
    generalize k p0 p1 p2 p3 = p
    have hp := place_toInt p.val p.isLt
    have hb := p.isLt
    have e1 : IntOp.cmpi .sge (BitVec.ofNat 32 p.val) 0#32 = 1#1 := by simp [IntOp.cmpi, BitVec.sle, hp]
    have e2 : IntOp.cmpi .sle (BitVec.ofNat 32 p.val) 2047#32 = 1#1 := by
      have : (p.val : Int) ≤ 2047 := by omega
      simp [IntOp.cmpi, BitVec.sle, hp, this]
    rw [e1, e2]; rfl
  rw [hw15]
  show Scalar.select (w12 (ix5 b h t d e)) (w13 (ix5 b h t d e)) (w14 (ix5 b h t d e)) = _
  rw [s12, hw13]
  exact take_apply v0 w5 b h t d e (k b h t d) (s5 b h t d e)

/-! ### The attention of the picked queries -/

theorem attend_stage (Q K V : Fin 2 → Fin 2 → Fin 12 → Fin 2048 → Fin 64 → EReal) (k : Fin 2 → Fin 12 → Fin 24 → Fin 2 → Fin 2048)
    {v1 v2 : FVec Ideal S2x12x2048x2x64 .f32} {v28 : FVec Ideal S2x12x24x2x64 .f32}
    (h1 : ∀ b h l d e, v1 (ix5 b h l d e) = K b d h l e) (h2 : ∀ b h l d e, v2 (ix5 b h l d e) = V b d h l e)
    (h28 : ∀ b h t d e, v28 (ix5 b h t d e) = Q b d h (k b h t d) e)
    {v29 v53 : FVec Ideal S2x12x2x24x64 .f32} {v30 v40 : FVec Ideal S2x12x2x2048x64 .f32} {v31 v32 v33 v46 v47 v48 v51 v52 : FVec Ideal S2x12x2x24x2048 .f32}
    {c8 c11 c12 c13 : FVec Ideal S_ .f32} {v42 v43 v44 v49 : FVec Ideal S2x12x2x24 .f32} {v45 v50 : FVec Ideal S2x12x2x24x1 .f32}
    (h29 : v29 = transpose S2x12x2x24x64 [0, 1, 3, 2, 4] v28 transposes_S2x12x24x2x64_S2x12x2x24x64_0_1_3_2_4)
    (h30 : v30 = transpose S2x12x2x2048x64 [0, 1, 3, 2, 4] v1 transposes_S2x12x2048x2x64_S2x12x2x2048x64_0_1_3_2_4)
    (h31 : v31 = Host.dotGeneral dot_S2x12x2x24x64_S2x12x2x2048x64_S2x12x2x24x2048_4_4_3_3_012_012 none v29 v30)
    (hc8 : c8 = constant S_ .f32 0x3E000000#32) (h32 : v32 = broadcastInDim S2x12x2x24x2048 ![] bcast_S_S2x12x2x24x2048 c8) (h33 : v33 = mulf v31 v32)
    (h40 : v40 = transpose S2x12x2x2048x64 [0, 1, 3, 2, 4] v2 transposes_S2x12x2048x2x64_S2x12x2x2048x64_0_1_3_2_4)
    (hc11 : c11 = constant S_ .f32 0xFF800000#32) (h42 : v42 = Host.reduce FloatOps.maximumf v33 c11 reducesTo_S2x12x2x24x2048_S2x12x2x24_d4 h_S_)
    (hc12 : c12 = constant S_ .f32 0xFF800000#32) (h43 : v43 = broadcastInDim S2x12x2x24 ![] bcast_S_S2x12x2x24 c12) (h44 : v44 = maximumf v43 v42)
    (h45 : v45 = broadcastInDim S2x12x2x24x1 ![0, 1, 2, 3] bcast_S2x12x2x24_S2x12x2x24x1_0_1_2_3 v44)
    (h46 : v46 = broadcastInDim S2x12x2x24x2048 ![0, 1, 2, 3, 4] bcast_S2x12x2x24x1_S2x12x2x24x2048_0_1_2_3_4 v45)
    (h47 : v47 = subf v33 v46) (h48 : v48 = Host.exp v47)
    (hc13 : c13 = constant S_ .f32 0x00000000#32) (h49 : v49 = Host.reduceAdd v48 c13 reducesTo_S2x12x2x24x2048_S2x12x2x24_d4 h_S_)
    (h50 : v50 = broadcastInDim S2x12x2x24x1 ![0, 1, 2, 3] bcast_S2x12x2x24_S2x12x2x24x1_0_1_2_3 v49)
    (h51 : v51 = broadcastInDim S2x12x2x24x2048 ![0, 1, 2, 3, 4] bcast_S2x12x2x24x1_S2x12x2x24x2048_0_1_2_3_4 v50)
    (h52 : v52 = Host.divf v48 v51)
    (h53 : v53 = Host.dotGeneral dot_S2x12x2x24x2048_S2x12x2x2048x64_S2x12x2x24x64_4_3_3_4_012_012 none v52 v40)
    (b : Fin 2) (h : Fin 12) (d : Fin 2) (t : Fin 24) (e : Fin 64) :
    v53 (ix5 b h d t e) = at_ (Q b d h) (K b d h) (V b d h) (k b h t d) e := by
  have s33 : ∀ l, v33 (ix5 b h d t l) = sc (Q b d h) (K b d h) (k b h t d) l * Ideal.ofBits .f32 0x3E000000#32 := fun l => by
    rw [h33, h32, hc8]
    show v31 (ix5 b h d t l) * Ideal.ofBits .f32 0x3E000000#32 = _
    refine congrArg (fun z : EReal => z * _) ?_
    rw [h31, scored_apply]
    refine Finset.sum_congr rfl fun e _ => congrArg₂ (· * ·) ?_ ?_
    · rw [h29, tr_taken, h28]
    · rw [h30, tr_rows, h1]
  have s44 : v44 (ix4 b h d t) = Finset.univ.fold max ⊥ fun l => sc (Q b d h) (K b d h) (k b h t d) l * Ideal.ofBits .f32 0x3E000000#32 := by
    rw [h44, h43, hc12]
    show max (Ideal.ofBits .f32 0xFF800000#32) (v42 (ix4 b h d t)) = _
    rw [ofBits_neg_inf', h42, hc11, greatest_apply v33 _ (by decide)]
    refine (max_eq_right bot_le).trans ?_
    exact Finset.fold_congr fun l _ => (congrArg v33 (liftA b h d t l)).trans (s33 l)
  have s48 : ∀ l, v48 (ix5 b h d t l) = Ideal.exp (sc (Q b d h) (K b d h) (k b h t d) l * Ideal.ofBits .f32 0x3E000000#32
      - Finset.univ.fold max ⊥ fun l => sc (Q b d h) (K b d h) (k b h t d) l * Ideal.ofBits .f32 0x3E000000#32) := fun l => by
    rw [h48, h47]
    refine congrArg Ideal.exp (congrArg₂ (fun x y : EReal => x - y) (s33 l) ?_)
    rw [h46, h45, bc_row, s44]
  rw [h53, weighed_apply]
  unfold at_ soft
  refine Finset.sum_congr rfl fun l _ => congrArg₂ (fun x y : EReal => x * y) ?_ ?_
  · rw [h52]
    refine congrArg₂ Ideal.div (s48 l) ?_
    rw [h51, h50, bc_row, h49, hc13, total_apply v48 _ (by decide)]
    exact Finset.sum_congr rfl fun l _ => (congrArg v48 (liftA b h d t l)).trans (s48 l)
  · rw [h40, tr_rows, h2]

theorem mean_stage (V : Fin 2 → Fin 2 → Fin 12 → Fin 2048 → Fin 64 → EReal) {v2 : FVec Ideal S2x12x2048x2x64 .f32}
    (h2 : ∀ b h l d e, v2 (ix5 b h l d e) = V b d h l e) {c9 c10 : FVec Ideal S_ .f32} {v34 v35 v36 : FVec Ideal S2x12x2x64 .f32}
    {v37 : FVec Ideal S2x12x1x2x64 .f32} {v38 : FVec Ideal S2x12x2048x2x64 .f32} {v39 : FVec Ideal S2x12x2x2048x64 .f32}
    (hc9 : c9 = constant S_ .f32 0x00000000#32) (h34 : v34 = Host.reduceAdd v2 c9 reducesTo_S2x12x2048x2x64_S2x12x2x64_d2 h_S_)
    (hc10 : c10 = constant S_ .f32 0x45000000#32) (h35 : v35 = broadcastInDim S2x12x2x64 ![] bcast_S_S2x12x2x64 c10) (h36 : v36 = Host.divf v34 v35)
    (h37 : v37 = broadcastInDim S2x12x1x2x64 ![0, 1, 3, 4] bcast_S2x12x2x64_S2x12x1x2x64_0_1_3_4 v36)
    (h38 : v38 = broadcastInDim S2x12x2048x2x64 ![0, 1, 2, 3, 4] bcast_S2x12x1x2x64_S2x12x2048x2x64_0_1_2_3_4 v37)
    (h39 : v39 = transpose S2x12x2x2048x64 [0, 1, 3, 2, 4] v38 transposes_S2x12x2048x2x64_S2x12x2x2048x64_0_1_3_2_4)
    (b : Fin 2) (h : Fin 12) (d : Fin 2) (l : Fin 2048) (e : Fin 64) : v39 (ix5 b h d l e) = mean (V b d h) e := by
  rw [h39, tr_rows, h38, h37, bc_mean, h36, h34, h35, hc9, hc10]
  refine congrArg₂ Ideal.div ?_ rfl
  rw [total_apply v2 _ (by decide)]
  exact Finset.sum_congr rfl fun l _ => (congrArg v2 (liftV b h d e l)).trans (h2 b h l d e)

/-! ### The writes -/

theorem write_stage (Q K V : Fin 2 → Fin 2 → Fin 12 → Fin 2048 → Fin 64 → EReal) (I : Fin 2048 → Fin 24 → Fin 2048)
    {v39 v88 : FVec Ideal S2x12x2x2048x64 .f32} {v87 : IVec S2x12x2x24x4 32} {v53 : FVec Ideal S2x12x2x24x64 .f32} {v89 : FVec Ideal S2x2x12x2048x64 .f32}
    (i0 : ∀ b h d t, v87 (ix5 b h d t 0) = BitVec.ofNat 32 b.val) (i1 : ∀ b h d t, v87 (ix5 b h d t 1) = BitVec.ofNat 32 h.val)
    (i2 : ∀ b h d t, v87 (ix5 b h d t 2) = BitVec.ofNat 32 d.val)
    (i3 : ∀ b h d t, v87 (ix5 b h d t 3) = BitVec.ofNat 32 (order (ms (Q b d h) (K b d h) I) t).val)
    (h39 : ∀ b h d l e, v39 (ix5 b h d l e) = mean (V b d h) e)
    (h53 : ∀ b h d t e, v53 (ix5 b h d t e) = at_ (Q b d h) (K b d h) (V b d h) (order (ms (Q b d h) (K b d h) I) t) e)
    (h88 : v88 = Host.scatter scatter_S2x12x2x2048x64_S2x12x2x24x4_S2x12x2x24x64_4_0123_0123_4 (fun _ b => b) v39 v87 v53)
    (h89 : v89 = transpose S2x2x12x2048x64 [0, 2, 1, 3, 4] v88 transposes_S2x12x2x2048x64_S2x2x12x2048x64_0_2_1_3_4)
    (b : Fin 2) (h : Fin 12) (d : Fin 2) (l : Fin 2048) (e : Fin 64) : v89 (ix5 b d h l e) = ans (Q b d h) (K b d h) (V b d h) I l e := by
  have land : ∀ (b : Fin 2) (h : Fin 12) (d : Fin 2) (t : Fin 24) (e : Fin 64), ScatterDims.resultIdx? scatter_S2x12x2x2048x64_S2x12x2x24x4_S2x12x2x24x64_4_0123_0123_4 (ix5 b h d t e) v87
      = some (ix5 b h d (order (ms (Q b d h) (K b d h) I) t) e) := fun b h d t e =>
    lands v87 b h d t e _ (i0 b h d t) (i1 b h d t) (i2 b h d t) (i3 b h d t)
  rw [h89, tr_result, h88]
  unfold ans
  have at_land : ∀ k : S2x12x2x24x64.Idx, ScatterDims.resultIdx? scatter_S2x12x2x2048x64_S2x12x2x24x4_S2x12x2x24x64_4_0123_0123_4 k v87 = some (ix5 b h d l e) →
      ∃ t, k = ix5 b h d t e ∧ order (ms (Q b d h) (K b d h) I) t = l := by
    intro k hk
    obtain ⟨b', h', d', t', e', rfl⟩ : ∃ b' h' d' t' e', k = ix5 b' h' d' t' e' := ⟨k 0, k 1, k 2, k 3, k 4, by funext a; fin_cases a <;> rfl⟩
    rw [land] at hk
    have hk := Option.some.inj hk
    have q0 : b' = b := congrFun hk 0
    have q1 : h' = h := congrFun hk 1
    have q2 : d' = d := congrFun hk 2
    have q4 : e' = e := congrFun hk 4
    subst q0; subst q1; subst q2; subst q4
    exact ⟨t', rfl, congrFun hk 3⟩
  by_cases hx : ∃ t, order (ms (Q b d h) (K b d h) I) t = l
  · rw [if_pos hx]
    obtain ⟨t, ht⟩ := hx
    refine Idealize.ShloMosaic.Routing.scatter_set_hit _ _ _ _ _ _ (fun k hk => ?_) (ix5 b h d t e) ((land b h d t e).trans (by rw [ht]))
    obtain ⟨t', rfl, ht'⟩ := at_land k hk
    rw [h53, ht']
  · rw [if_neg hx]
    refine (Idealize.ShloMosaic.Routing.scatter_set_miss _ _ _ _ _ fun k hk => ?_).trans (h39 b h d l e)
    obtain ⟨t', -, ht'⟩ := at_land k hk
    exact hx ⟨t', ht'⟩

theorem place_stage (p : IVec S2x12x2x24 32) (k : Fin 2 → Fin 12 → Fin 2 → Fin 24 → Fin 2048)
    (hp : ∀ b h d t, p (ix4 b h d t) = BitVec.ofNat 32 (k b h d t).val)
    {v54 v58 : IVec S2 32} {v56 : IVec S12 32} {v55 v60 v62 v63 v64 : IVec S2x1x1x1 32} {v57 v65 v67 v68 v69 : IVec S1x12x1x1 32}
    {v59 v70 v72 v73 v74 : IVec S1x1x2x1 32} {v61 : IVec S2x1x1x1 1} {v66 : IVec S1x12x1x1 1} {v71 : IVec S1x1x2x1 1}
    {v75 v77 v78 v79 v80 v81 v82 : IVec S2x12x2x24 32} {v76 : IVec S2x12x2x24 1} {v83 v84 v85 v86 : IVec S2x12x2x24x1 32} {v87 : IVec S2x12x2x24x4 32}
    {c14 c15 c16 c17 c18 c19 c20 c21 : IVec S_ 32}
    (h54 : v54 = iotaInDim S2 32 0) (h55 : v55 = broadcastInDim S2x1x1x1 ![0] bcast_S2_S2x1x1x1_0 v54)
    (h56 : v56 = iotaInDim S12 32 0) (h57 : v57 = broadcastInDim S1x12x1x1 ![1] bcast_S12_S1x12x1x1_1 v56)
    (h58 : v58 = iotaInDim S2 32 0) (h59 : v59 = broadcastInDim S1x1x2x1 ![2] bcast_S2_S1x1x2x1_2 v58)
    (hc14 : c14 = constantI S_ 32 0#32) (h60 : v60 = broadcastInDim S2x1x1x1 ![] bcast_S_S2x1x1x1 c14) (h61 : v61 = cmpi .slt v55 v60)
    (hc15 : c15 = constantI S_ 32 2#32) (h62 : v62 = broadcastInDim S2x1x1x1 ![] bcast_S_S2x1x1x1 c15) (h63 : v63 = addi v55 v62) (h64 : v64 = select v61 v63 v55)
    (hc16 : c16 = constantI S_ 32 0#32) (h65 : v65 = broadcastInDim S1x12x1x1 ![] bcast_S_S1x12x1x1 c16) (h66 : v66 = cmpi .slt v57 v65)
    (hc17 : c17 = constantI S_ 32 12#32) (h67 : v67 = broadcastInDim S1x12x1x1 ![] bcast_S_S1x12x1x1 c17) (h68 : v68 = addi v57 v67) (h69 : v69 = select v66 v68 v57)
    (hc18 : c18 = constantI S_ 32 0#32) (h70 : v70 = broadcastInDim S1x1x2x1 ![] bcast_S_S1x1x2x1 c18) (h71 : v71 = cmpi .slt v59 v70)
    (hc19 : c19 = constantI S_ 32 2#32) (h72 : v72 = broadcastInDim S1x1x2x1 ![] bcast_S_S1x1x2x1 c19) (h73 : v73 = addi v59 v72) (h74 : v74 = select v71 v73 v59)
    (hc20 : c20 = constantI S_ 32 0#32) (h75 : v75 = broadcastInDim S2x12x2x24 ![] bcast_S_S2x12x2x24 c20) (h76 : v76 = cmpi .slt p v75)
    (hc21 : c21 = constantI S_ 32 2048#32) (h77 : v77 = broadcastInDim S2x12x2x24 ![] bcast_S_S2x12x2x24 c21) (h78 : v78 = addi p v77) (h79 : v79 = select v76 v78 p)
    (h80 : v80 = broadcastInDim S2x12x2x24 ![0, 1, 2, 3] bcast_S2x1x1x1_S2x12x2x24_0_1_2_3 v64)
    (h81 : v81 = broadcastInDim S2x12x2x24 ![0, 1, 2, 3] bcast_S1x12x1x1_S2x12x2x24_0_1_2_3 v69)
    (h82 : v82 = broadcastInDim S2x12x2x24 ![0, 1, 2, 3] bcast_S1x1x2x1_S2x12x2x24_0_1_2_3 v74)
    (h83 : v83 = broadcastInDim S2x12x2x24x1 ![0, 1, 2, 3] bcast_S2x12x2x24_S2x12x2x24x1_0_1_2_3 v80)
    (h84 : v84 = broadcastInDim S2x12x2x24x1 ![0, 1, 2, 3] bcast_S2x12x2x24_S2x12x2x24x1_0_1_2_3 v81)
    (h85 : v85 = broadcastInDim S2x12x2x24x1 ![0, 1, 2, 3] bcast_S2x12x2x24_S2x12x2x24x1_0_1_2_3 v82)
    (h86 : v86 = broadcastInDim S2x12x2x24x1 ![0, 1, 2, 3] bcast_S2x12x2x24_S2x12x2x24x1_0_1_2_3 v79)
    (h87 : v87 = concatenate S2x12x2x24x4 4 [⟨S2x12x2x24x1, v83⟩, ⟨S2x12x2x24x1, v84⟩, ⟨S2x12x2x24x1, v85⟩, ⟨S2x12x2x24x1, v86⟩]
      concatenates_S2x12x2x24x1_S2x12x2x24x1_S2x12x2x24x1_S2x12x2x24x1_S2x12x2x24x4_d4)
    (b : Fin 2) (h : Fin 12) (d : Fin 2) (t : Fin 24) :
    v87 (ix5 b h d t 0) = BitVec.ofNat 32 b.val ∧ v87 (ix5 b h d t 1) = BitVec.ofNat 32 h.val ∧ v87 (ix5 b h d t 2) = BitVec.ofNat 32 d.val
      ∧ v87 (ix5 b h d t 3) = BitVec.ofNat 32 (k b h d t).val := by
  have joined : ∀ n : Fin 4, v87 (ix5 b h d t n) = (![v83, v84, v85, v86] n : IVec S2x12x2x24x1 32) (ix5 b h d t 0) := fun n => by
    rw [h87]
    exact concatenate_ofFn_unit_apply (t := S2x12x2x24x4) (s₁ := S2x12x2x24x1) 4 ![v83, v84, v85, v86] _ rfl rfl (ix5 b h d t n) n rfl (ix5 b h d t 0)
      fun a ha => by fin_cases a <;> first | rfl | exact absurd rfl ha
  refine ⟨(joined 0).trans ?_, (joined 1).trans ?_, (joined 2).trans ?_, (joined 3).trans ?_⟩
  · show v83 (ix5 b h d t 0) = _
    rw [h83, bc_unit, h80, bc_axis0, h64, h61, h63, h60, h62, hc14, hc15]
    refine wrapped v55 _ _ _ _ (by omega) ?_
    rw [h55, h54]; rfl
  · show v84 (ix5 b h d t 0) = _
    rw [h84, bc_unit, h81, bc_axis1, h69, h66, h68, h65, h67, hc16, hc17]
    refine wrapped v57 _ _ _ _ (by omega) ?_
    rw [h57, h56]; rfl
  · show v85 (ix5 b h d t 0) = _
    rw [h85, bc_unit, h82, bc_axis2, h74, h71, h73, h70, h72, hc18, hc19]
    refine wrapped v59 _ _ _ _ (by omega) ?_
    rw [h59, h58]; rfl
  · show v86 (ix5 b h d t 0) = _
    rw [h86, bc_unit, h79, h76, h78, h75, h77, hc20, hc21]
    exact wrapped p _ _ _ _ (k b h d t).isLt (hp b h d t)

end Cert.ReferenceIdeal.Hand
-- ==== Proof.IRead.lean ====
/- The blocks the launch reads and the array it leaves, in terms of the arguments. -/
module

public import proofs.«01_k».proof.Proof.IVal
public import proofs.«01_k».proof.Proof.IIdx
public import proofs.«01_k».proof.Proof.RStage
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Cert.KernelIdeal.Gen
open Cert.Proof Cert.Ssa ValueIdx

variable (m : (ℓ : Loc nD τ sig) → Buf (Elt Ideal) ℓ) (c : Dev nD)

theorem V0_eq : V0 m c = H fun b => m (c, b) := by
  rw [H_eq]
  unfold V0
  rw [List.flatten_cons, List.flatten_nil, List.append_nil]

/-- The row and the column, in the arguments' flat view, of a place in a block. -/
def spot (t : Fin cfg0.N) (l : Fin 2048) (k : Fin 128) : S4096x1536.Idx :=
  ix2 ⟨t.val / 12 * 2048 + l.val, by have : t.val < 24 := t.isLt; have := l.isLt; omega⟩ ⟨t.val % 12 * 128 + k.val, by have : t.val < 24 := t.isLt; have := k.isLt; omega⟩

theorem idx0 : ∀ t : Fin cfg0.N, (cfg0.win 0).index t = ![t.val / 12, t.val % 12] := by decide +kernel
theorem idx1 : ∀ t : Fin cfg0.N, (cfg0.win 1).index t = ![t.val / 12, t.val % 12] := by decide +kernel
theorem idx2 : ∀ t : Fin cfg0.N, (cfg0.win 2).index t = ![t.val / 12, t.val % 12] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![t.val, 0, 0] := by decide +kernel

theorem read0 (X : S4096x1536.Idx → EReal) (t : Fin cfg0.N) (l : Fin 2048) (k : Fin 128) :
    ((cfg0.win 0).blk t).view.read (Elt Ideal) X (ix2 l k) = X (spot t l k) := by
  refine (View.read_apply ..).trans ?_
  refine congrArg X (funext fun a => Fin.ext ?_)
  have h : ∀ a, (cfg0.win 0).index t a = (![t.val / 12, t.val % 12] : Fin 2 → ℕ) a := fun a => congrFun (idx0 t) a
  fin_cases a
  · show (cfg0.win 0).index t 0 * 2048 + 1 * l.val = t.val / 12 * 2048 + l.val
    rw [h 0, Nat.one_mul]; rfl
  · show (cfg0.win 0).index t 1 * 128 + 1 * k.val = t.val % 12 * 128 + k.val
    rw [h 1, Nat.one_mul]; rfl

theorem read1 (X : S4096x1536.Idx → EReal) (t : Fin cfg0.N) (l : Fin 2048) (k : Fin 128) :
    ((cfg0.win 1).blk t).view.read (Elt Ideal) X (ix2 l k) = X (spot t l k) := by
  refine (View.read_apply ..).trans ?_
  refine congrArg X (funext fun a => Fin.ext ?_)
  have h : ∀ a, (cfg0.win 1).index t a = (![t.val / 12, t.val % 12] : Fin 2 → ℕ) a := fun a => congrFun (idx1 t) a
  fin_cases a
  · show (cfg0.win 1).index t 0 * 2048 + 1 * l.val = t.val / 12 * 2048 + l.val
    rw [h 0, Nat.one_mul]; rfl
  · show (cfg0.win 1).index t 1 * 128 + 1 * k.val = t.val % 12 * 128 + k.val
    rw [h 1, Nat.one_mul]; rfl

theorem read2 (X : S4096x1536.Idx → EReal) (t : Fin cfg0.N) (l : Fin 2048) (k : Fin 128) :
    ((cfg0.win 2).blk t).view.read (Elt Ideal) X (ix2 l k) = X (spot t l k) := by
  refine (View.read_apply ..).trans ?_
  refine congrArg X (funext fun a => Fin.ext ?_)
  have h : ∀ a, (cfg0.win 2).index t a = (![t.val / 12, t.val % 12] : Fin 2 → ℕ) a := fun a => congrFun (idx2 t) a
  fin_cases a
  · show (cfg0.win 2).index t 0 * 2048 + 1 * l.val = t.val / 12 * 2048 + l.val
    rw [h 0, Nat.one_mul]; rfl
  · show (cfg0.win 2).index t 1 * 128 + 1 * k.val = t.val % 12 * 128 + k.val
    rw [h 1, Nat.one_mul]; rfl

theorem read3 (X : S2048x128.Idx → BitVec 32) (t : Fin cfg0.N) : ((cfg0.win 3).blk t).view.read (Elt Ideal) X = X := by
  funext y
  refine (View.read_apply ..).trans ?_
  refine congrArg X (funext fun a => Fin.ext ?_)
  have h : ∀ a, (cfg0.win 3).index t a = (![0, 0] : Fin 2 → ℕ) a := fun a => congrFun (idx3 t) a
  fin_cases a
  · show (cfg0.win 3).index t 0 * 2048 + 1 * (y 0).val = (y 0).val
    rw [h 0, Nat.one_mul]; exact (Nat.zero_add _)
  · show (cfg0.win 3).index t 1 * 128 + 1 * (y 1).val = (y 1).val
    rw [h 1, Nat.one_mul]; exact (Nat.zero_add _)

theorem read4 (X : S2048x128.Idx → BitVec 32) (t : Fin cfg0.N) : ((cfg0.win 4).blk t).view.read (Elt Ideal) X = X := by
  funext y
  refine (View.read_apply ..).trans ?_
  refine congrArg X (funext fun a => Fin.ext ?_)
  have h : ∀ a, (cfg0.win 4).index t a = (![0, 0] : Fin 2 → ℕ) a := fun a => congrFun (idx4 t) a
  fin_cases a
  · show (cfg0.win 4).index t 0 * 2048 + 1 * (y 0).val = (y 0).val
    rw [h 0, Nat.one_mul]; exact (Nat.zero_add _)
  · show (cfg0.win 4).index t 1 * 128 + 1 * (y 1).val = (y 1).val
    rw [h 1, Nat.one_mul]; exact (Nat.zero_add _)

/-- The slab of the result a point writes for one of its two heads. -/
def slab2 (t : Fin cfg0.N) (s : Fin 2) : Fin 48 := ⟨t.val * 2 + s.val, by have : t.val < 24 := t.isLt; have := s.isLt; omega⟩

theorem emb5 (t : Fin cfg0.N) (y : S2x2048x64.Idx) : (((cfg0.win 5).blk t).view.emb y : S48x2048x64.Idx) = ix3 (slab2 t (y 0)) (y 1) (y 2) := by
  refine funext fun a => Fin.ext ?_
  have h : ∀ a, (cfg0.win 5).index t a = (![t.val, 0, 0] : Fin 3 → ℕ) a := fun a => congrFun (idx5 t) a
  fin_cases a
  · show (cfg0.win 5).index t 0 * 2 + 1 * (y 0).val = t.val * 2 + (y 0).val
    rw [h 0, Nat.one_mul]; rfl
  · show (cfg0.win 5).index t 1 * 2048 + 1 * (y 1).val = (y 1).val
    rw [h 1, Nat.one_mul]; exact (Nat.zero_add _)
  · show (cfg0.win 5).index t 2 * 64 + 1 * (y 2).val = (y 2).val
    rw [h 2, Nat.one_mul]; exact (Nat.zero_add _)

/-- A slab's head of an argument. -/
def hd (A : S2x2048x2x12x64.Idx → EReal) (n : Fin 48) (l : Fin 2048) (e : Fin 64) : EReal :=
  A (ix5 ⟨n.val / 24, by omega⟩ l ⟨n.val % 24 / 12, by omega⟩ ⟨n.val % 12, by omega⟩ e)

theorem flat_apply (A : S2x2048x2x12x64.Idx → EReal) (t : Fin cfg0.N) (s : Fin 2) (l : Fin 2048) (e : Fin 64) :
    shapeCast S4096x1536 A shapeCasts_S2x2048x2x12x64_S4096x1536 (spot t l ⟨64 * s.val + e.val, by have := s.isLt; have := e.isLt; omega⟩) = hd A (slab2 t s) l e := by
  refine (shapeCast_apply (s := S2x2048x2x12x64) (t := S4096x1536) A _ _ _ ?_)
  rw [Shape.rowMajor_val_five, Shape.rowMajor_val_two]
  have ht : t.val < 24 := t.isLt
  have hs := s.isLt
  have he := e.isLt
  show ((((t.val * 2 + s.val) / 24 * 2048 + l.val) * 2 + (t.val * 2 + s.val) % 24 / 12) * 12 + (t.val * 2 + s.val) % 12) * 64 + e.val
    = (t.val / 12 * 2048 + l.val) * 1536 + (t.val % 12 * 128 + (64 * s.val + e.val))
  omega

theorem keys0 (V : Valuation τ sig (Elt Ideal)) : (got (H V) (.of main_call0_v14 : StableHlo.TRef sig ⟨S4096x1536, .f32⟩) : S4096x1536.Idx → EReal)
    = shapeCast S4096x1536 (V (Proc.devRef .tc main_arg0) : S2x2048x2x12x64.Idx → EReal) shapeCasts_S2x2048x2x12x64_S4096x1536 := by
  rw [got_reshape (op V 830 rfl) (by decide), ← keptH V (Proc.devRef .tc main_arg0) (by decide)]
  rfl
theorem keys1 (V : Valuation τ sig (Elt Ideal)) : (got (H V) (.of main_call0_v15 : StableHlo.TRef sig ⟨S4096x1536, .f32⟩) : S4096x1536.Idx → EReal)
    = shapeCast S4096x1536 (V (Proc.devRef .tc main_arg1) : S2x2048x2x12x64.Idx → EReal) shapeCasts_S2x2048x2x12x64_S4096x1536 := by
  rw [got_reshape (op V 831 rfl) (by decide), ← keptH V (Proc.devRef .tc main_arg1) (by decide)]
  rfl
theorem keys2 (V : Valuation τ sig (Elt Ideal)) : (got (H V) (.of main_call0_v16 : StableHlo.TRef sig ⟨S4096x1536, .f32⟩) : S4096x1536.Idx → EReal)
    = shapeCast S4096x1536 (V (Proc.devRef .tc main_arg2) : S2x2048x2x12x64.Idx → EReal) shapeCasts_S2x2048x2x12x64_S4096x1536 := by
  rw [got_reshape (op V 832 rfl) (by decide), ← keptH V (Proc.devRef .tc main_arg2) (by decide)]
  rfl

/-- The contents a device starts from. -/
abbrev start : Valuation τ sig (Elt Ideal) := fun b => m (c, b)

theorem half0 (t : Fin cfg0.N) (s : Fin 2) : half (iblk m c 0 t) s = hd (m ((c : Thread nD τ).loc main_arg0)) (slab2 t s) := by
  funext l e
  unfold half iblk V
  rw [V0_eq]
  exact (read0 _ t l _).trans ((congrFun (keys0 (start m c)) _).trans (flat_apply _ t s l e))
theorem half1 (t : Fin cfg0.N) (s : Fin 2) : half (iblk m c 1 t) s = hd (m ((c : Thread nD τ).loc main_arg1)) (slab2 t s) := by
  funext l e
  unfold half iblk V
  rw [V0_eq]
  exact (read1 _ t l _).trans ((congrFun (keys1 (start m c)) _).trans (flat_apply _ t s l e))
theorem half2 (t : Fin cfg0.N) (s : Fin 2) : half (iblk m c 2 t) s = hd (m ((c : Thread nD τ).loc main_arg2)) (slab2 t s) := by
  funext l e
  unfold half iblk V
  rw [V0_eq]
  exact (read2 _ t l _).trans ((congrFun (keys2 (start m c)) _).trans (flat_apply _ t s l e))

theorem tables (t : Fin cfg0.N) : Table (iblk m c 3 t) (iblk m c 4 t) (sampledK (start m c)) := by
  have h3 : iblk m c 3 t = (got (H (start m c)) (.of main_call0_v10 : StableHlo.TRef sig ⟨S2048x128, .i32⟩) : IVec S2048x128 32) := by
    unfold iblk V
    rw [V0_eq]
    exact read3 _ t
  have h4 : iblk m c 4 t = (got (H (start m c)) (.of main_call0_v13 : StableHlo.TRef sig ⟨S2048x128, .i32⟩) : IVec S2048x128 32) := by
    unfold iblk V
    rw [V0_eq]
    exact read4 _ t
  rw [h3, h4]
  exact table (start m c)

end Cert.KernelIdeal.Hand
-- ==== Proof.IEnd.lean ====
/- What the kernel's run leaves in its result. -/
module

public import proofs.«01_k».proof.Proof.IRead

@[expose] public section

set_option maxRecDepth 16384

noncomputable section

namespace Cert.KernelIdeal.Hand

open Idealize.ShloMosaic Idealize.ShloMosaic.TcCoe Idealize.ShloMosaic.Tactic
open Cert.KernelIdeal.Gen
open Cert.Proof Cert.Ssa ValueIdx

variable (m : (ℓ : Loc nD τ sig) → Buf (Elt Ideal) ℓ) (c : Dev nD)

/-- The sampled keys of a device's draw. -/
abbrev picksK (c : Dev nD) : Fin 2048 → Fin 24 → Fin 2048 := sampledK (start m c)

/-- The answer of a slab. -/
def slabAns (n : Fin 48) (l : Fin 2048) (e : Fin 64) : EReal :=
  ans (hd (m ((c : Thread nD τ).loc main_arg0)) n) (hd (m ((c : Thread nD τ).loc main_arg1)) n) (hd (m ((c : Thread nD τ).loc main_arg2)) n) (picksK m c) l e

theorem covered : (cfg0.win 5).Covers := by decide +kernel

/-- One half of a step answers one slab. -/
theorem slab_one (t : Fin cfg0.N) (s : Fin 2) (l : Fin 2048) (e : Fin 64) :
    ans (half (iblk m c 0 t) s) (half (iblk m c 1 t) s) (half (iblk m c 2 t) s) (picksK m c) l e = slabAns m c (slab2 t s) l e := by
  unfold slabAns
  rw [half0, half1, half2]

/-- One block of the answer, entry by entry. -/
theorem slab_entry (t : Fin cfg0.N) (y : S2x2048x64.Idx) (k : S48x2048x64.Idx) (hk : k = ix3 (slab2 t (y 0)) (y 1) (y 2)) :
    answer (iblk m c 0 t) (iblk m c 1 t) (iblk m c 2 t) (picksK m c) y = slabAns m c (k 0) (k 1) (k 2) := by
  subst hk
  exact slab_one m c t (y 0) (y 1) (y 2)

/-- The launch's result, as one array. -/
def slabArr : S48x2048x64.Idx → EReal := fun i => slabAns m c (i 0) (i 1) (i 2)

theorem slab_emb (t : Fin cfg0.N) (y : S2x2048x64.Idx) :
    answer (iblk m c 0 t) (iblk m c 1 t) (iblk m c 2 t) (picksK m c) y = slabArr m c (((cfg0.win 5).blk t).view.emb y : S48x2048x64.Idx) :=
  slab_entry m c t y _ (emb5 t y)

attribute [local irreducible] slabArr answer

/-- The launch leaves every slab's answer. -/
theorem slabs : (datsV m (picksK m) 0 c).arrAt 5 cfg0.N = slabArr m c := by
  refine (datsV m (picksK m) 0 c).arrAt_eq_of_covers 5 _ covered fun t _ y => ?_
  rw [afterV5]
  exact slab_emb m c t y

theorem host1_good : Good (num main_v0) (hostOps1 (F := Ideal)) := by
  apply Good.cons
  · with_reducible refine OpAt.reshape ?_
    decide
  · exact le_refl _
  · exact Good.nil _

theorem last_eq (X : Valuation τ sig (Elt Ideal)) : (StableHlo.after (hostOps1 (F := Ideal)) X (Proc.devRef .tc main_v0) : S2x2x12x2048x64.Idx → EReal)
    = shapeCast S2x2x12x2048x64 (X (Proc.devRef .tc main_call0_v17) : S48x2048x64.Idx → EReal) shapeCasts_S48x2048x64_S2x2x12x2048x64 := by
  have h := rd_reshape ((List.forall_iff_forall_mem.mp (host1_good.reads X)) _ (List.mem_cons_self ..)) (by decide)
  have h' := host1_good.kept X (Proc.devRef .tc main_call0_v17) (by decide)
  refine h.trans ?_
  rw [h']
  rfl

/-- The result at an index. -/
def resK : S2x2x12x2048x64.Idx → EReal :=
  shapeCast S2x2x12x2048x64 (slabArr m c) shapeCasts_S48x2048x64_S2x2x12x2048x64

theorem resK_apply (b d : Fin 2) (h : Fin 12) (l : Fin 2048) (e : Fin 64) :
    resK m c (ix5 b d h l e) = slabAns m c ⟨(b.val * 2 + d.val) * 12 + h.val, by have := b.isLt; have := d.isLt; have := h.isLt; omega⟩ l e := by
  unfold resK
  refine (shapeCast_apply (s := S48x2048x64) (t := S2x2x12x2048x64) _ _ _ (ix3 ⟨(b.val * 2 + d.val) * 12 + h.val, by have := b.isLt; have := d.isLt; have := h.isLt; omega⟩ l e) ?_).trans (by unfold slabArr; rfl)
  rw [Shape.rowMajor_val_five, Shape.rowMajor_val_three]
  rfl

theorem tail_eq : (Pipeline.afterTail₀ cfgs (datsV m (picksK m)) 0 (V0 m) [hostOps1] c main_v0 : S2x2x12x2048x64.Idx → EReal) = resK m c := by
  unfold Pipeline.afterTail₀
  rw [List.flatten_cons, List.flatten_nil, List.append_nil]
  refine (last_eq _).trans ?_
  unfold resK
  refine congrArg (fun X : S48x2048x64.Idx → EReal => shapeCast S2x2x12x2048x64 X shapeCasts_S48x2048x64_S2x2x12x2048x64) ?_
  exact (Pipeline.withArrays_arr spec0 (by decide) c (V0 m c) (fun w => (datsV m (picksK m) 0 c).arrAt w cfg0.N) 5).trans (slabs m c)

end Cert.KernelIdeal.Hand
-- ==== Proof.RVal.lean ====
/- The reference's result, read off its operations. -/
module

public import proofs.«01_k».proof.Proof.RStage
public import proofs.«01_k».proof.Proof.Tref

@[expose] public section

set_option maxRecDepth 16384

noncomputable section

namespace Cert.ReferenceIdeal.Hand

open Idealize.ShloMosaic Idealize.ShloMosaic.TcCoe Idealize.ShloMosaic.Tactic
open Cert.ReferenceIdeal.Gen
open Cert.Proof Cert.Ssa ValueIdx

/-- What the reference's operations leave. -/
def W (d : Dev nD) (V : Valuation τ sig (Elt Ideal)) : Valuation τ sig (Elt Ideal) := StableHlo.after (mainOps (F := Ideal) d).1 V

/-- The operation at a place of the line reads the line's result. -/
theorem op (d : Dev nD) (V : Valuation τ sig (Elt Ideal)) (n : ℕ) {x : HloOp τ sig (Elt Ideal)} (hx : (mainOps (F := Ideal) d).1[n]? = some x) :
    Reads (W d V) x :=
  (List.forall_iff_forall_mem.mp ((mainOps_good (F := Ideal) d).reads V)) x (List.mem_of_getElem? hx)

theorem kept (d : Dev nD) (V : Valuation τ sig (Elt Ideal)) (b : DevRef τ sig) (hb : b.idx.val < 4) : W d V b = V b :=
  (mainOps_good (F := Ideal) d).kept V b hb

theorem W_eq (d : Dev nD) (V : Valuation τ sig (Elt Ideal)) : W d V = StableHlo.after (mainOps (F := Ideal) d).1 V := rfl

attribute [irreducible] W

variable (d : Dev nD) (V : Valuation τ sig (Elt Ideal)) (I : Fin 2048 → Fin 24 → Fin 2048)

/-- The queries, the keys and the values of one head. -/
def qh (b d' : Fin 2) (h : Fin 12) := head (V (Proc.devRef .tc main_arg0)) b d' h
def kh (b d' : Fin 2) (h : Fin 12) := head (V (Proc.devRef .tc main_arg1)) b d' h
def vh (b d' : Fin 2) (h : Fin 12) := head (V (Proc.devRef .tc main_arg2)) b d' h

theorem heads0 (b : Fin 2) (h : Fin 12) (l : Fin 2048) (d' : Fin 2) (e : Fin 64) :
    (W d V (Proc.devRef .tc main_v0) : FVec Ideal S2x12x2048x2x64 .f32) (ix5 b h l d' e) = qh V b d' h l e := by
  have h0 := rd_unary (op d V (num main_v0 - 4) rfl) (by decide)
  have a0 : W d V (Proc.devRef .tc main_arg0) = V (Proc.devRef .tc main_arg0) := kept d V _ (by decide)
  rw [a0] at h0
  exact (congrFun h0 _).trans (tr_heads _ _ b h l d' e)

theorem heads1 (b : Fin 2) (h : Fin 12) (l : Fin 2048) (d' : Fin 2) (e : Fin 64) :
    (W d V (Proc.devRef .tc main_v1) : FVec Ideal S2x12x2048x2x64 .f32) (ix5 b h l d' e) = kh V b d' h l e := by
  have h0 := rd_unary (op d V (num main_v1 - 4) rfl) (by decide)
  have a1 : W d V (Proc.devRef .tc main_arg1) = V (Proc.devRef .tc main_arg1) := kept d V _ (by decide)
  rw [a1] at h0
  exact (congrFun h0 _).trans (tr_heads _ _ b h l d' e)

theorem heads2 (b : Fin 2) (h : Fin 12) (l : Fin 2048) (d' : Fin 2) (e : Fin 64) :
    (W d V (Proc.devRef .tc main_v2) : FVec Ideal S2x12x2048x2x64 .f32) (ix5 b h l d' e) = vh V b d' h l e := by
  have h0 := rd_unary (op d V (num main_v2 - 4) rfl) (by decide)
  have a2 : W d V (Proc.devRef .tc main_arg2) = V (Proc.devRef .tc main_arg2) := kept d V _ (by decide)
  rw [a2] at h0
  exact (congrFun h0 _).trans (tr_heads _ _ b h l d' e)

variable (hI : ∀ l j, (W d V (Proc.devRef .tc main_v10) : IVec S2048x24 32) (ix2 l j) = BitVec.ofNat 32 (I l j).val)
include hI

theorem measured (b : Fin 2) (h : Fin 12) (d' : Fin 2) (l : Fin 2048) :
    (W d V (Proc.devRef .tc main_v24) : FVec Ideal S2x12x2x2048 .f32) (ix4 b h d' l) = ms (qh V b d' h) (kh V b d' h) I l := by
  have h_v0 := rd_unary (op d V (num main_v0 - 4) rfl) (by decide)
  have h_v1 := rd_unary (op d V (num main_v1 - 4) rfl) (by decide)
  have h_c_4 := rd_nullary (op d V (num main_c_4 - 4) rfl)
  have h_v11 := rd_unary (op d V (num main_v11 - 4) rfl) (by decide)
  have h_v12 := rd_binary (op d V (num main_v12 - 4) rfl) (by decide) (by decide)
  have h_c_5 := rd_nullary (op d V (num main_c_5 - 4) rfl)
  have h_v13 := rd_unary (op d V (num main_v13 - 4) rfl) (by decide)
  have h_v14 := rd_binary (op d V (num main_v14 - 4) rfl) (by decide) (by decide)
  have h_v15 := rd_ternary (op d V (num main_v15 - 4) rfl) (by decide) (by decide) (by decide)
  have h_v16 := rd_unary (op d V (num main_v16 - 4) rfl) (by decide)
  have h_v17 := rd_binary (op d V (num main_v17 - 4) rfl) (by decide) (by decide)
  have h_v18 := rd_binary (op d V (num main_v18 - 4) rfl) (by decide) (by decide)
  have h_cst := rd_nullary (op d V (num main_cst - 4) rfl)
  have h_v19 := rd_binary (op d V (num main_v19 - 4) rfl) (by decide) (by decide)
  have h_cst_6 := rd_nullary (op d V (num main_cst_6 - 4) rfl)
  have h_v20 := rd_binary (op d V (num main_v20 - 4) rfl) (by decide) (by decide)
  have h_cst_7 := rd_nullary (op d V (num main_cst_7 - 4) rfl)
  have h_v21 := rd_unary (op d V (num main_v21 - 4) rfl) (by decide)
  have h_v22 := rd_binary (op d V (num main_v22 - 4) rfl) (by decide) (by decide)
  have h_v23 := rd_binary (op d V (num main_v23 - 4) rfl) (by decide) (by decide)
  have h_v24 := rd_unary (op d V (num main_v24 - 4) rfl) (by decide)
  have a0 : W d V (Proc.devRef .tc main_arg0) = V (Proc.devRef .tc main_arg0) := kept d V _ (by decide)
  have a1 : W d V (Proc.devRef .tc main_arg1) = V (Proc.devRef .tc main_arg1) := kept d V _ (by decide)
  rw [a0] at h_v0
  rw [a1] at h_v1
  exact measure_stage _ _ _ I hI h_v0 h_v1 h_c_4 h_v11 h_v12 h_c_5 h_v13 h_v14 h_v15 h_v16 h_v17 h_v18 h_cst h_v19 h_cst_6 h_v20 h_cst_7 h_v21 h_v22 h_v23 h_v24 b h d' l

/-- The picked rows, by query order. -/
def row (b : Fin 2) (h : Fin 12) (t : Fin 24) (d' : Fin 2) : Fin 2048 := order (ms (qh V b d' h) (kh V b d' h) I) t

theorem picked (b : Fin 2) (h : Fin 12) (d' : Fin 2) (t : Fin 24) :
    (W d V (Proc.devRef .tc main_indices) : IVec S2x12x2x24 32) (ix4 b h d' t) = BitVec.ofNat 32 (row V I b h t d').val := by
  have h1 := rd_unary (op d V (num main_indices - 4) rfl) (by decide)
  refine (congrFun h1 _).trans ((topK_apply _ b h d' t).trans ?_)
  unfold row
  exact congrArg (fun f => BitVec.ofNat 32 (order f t).val) (funext fun l => measured d V I hI b h d' l)

theorem picked' (b : Fin 2) (h : Fin 12) (d' : Fin 2) (t : Fin 24) :
    (W d V (Proc.devRef .tc main_v25) : IVec S2x12x24x2 32) (ix4 b h t d') = BitVec.ofNat 32 (row V I b h t d').val := by
  have h1 := rd_unary (op d V (num main_v25 - 4) rfl) (by decide)
  exact (congrFun h1 _).trans ((tr_pick _ _ b h t d').trans (picked d V I hI b h d' t))

theorem picked27 (b : Fin 2) (h : Fin 12) (t : Fin 24) (d' : Fin 2) (e : Fin 64) :
    (W d V (Proc.devRef .tc main_v27) : IVec S2x12x24x2x64 32) (ix5 b h t d' e) = BitVec.ofNat 32 (row V I b h t d').val := by
  have h1 := rd_unary (op d V (num main_v26 - 4) rfl) (by decide)
  have h2 := rd_unary (op d V (num main_v27 - 4) rfl) (by decide)
  rw [h1] at h2
  exact (congrFun h2 _).trans ((bc_pick _ _ _ b h t d' e).trans (picked' d V I hI b h d' t))

theorem picked41 (b : Fin 2) (h : Fin 12) (d' : Fin 2) (t : Fin 24) :
    (W d V (Proc.devRef .tc main_v41) : IVec S2x12x2x24 32) (ix4 b h d' t) = BitVec.ofNat 32 (row V I b h t d').val := by
  have h1 := rd_unary (op d V (num main_v41 - 4) rfl) (by decide)
  exact (congrFun h1 _).trans ((tr_pick' _ _ b h t d').trans (picked' d V I hI b h d' t))

theorem taken (b : Fin 2) (h : Fin 12) (t : Fin 24) (d' : Fin 2) (e : Fin 64) :
    (W d V (Proc.devRef .tc main_v28) : FVec Ideal S2x12x24x2x64 .f32) (ix5 b h t d' e) = qh V b d' h (row V I b h t d') e := by
  have h_call1_c := got_nullary (op d V (num main_call1_c - 4) rfl)
  have h_call1_v0 := got_unary (op d V (num main_call1_v0 - 4) rfl) (by decide)
  have h_call1_v1 := got_binary (op d V (num main_call1_v1 - 4) rfl) (by decide) (by decide)
  have h_call1_c_0 := got_nullary (op d V (num main_call1_c_0 - 4) rfl)
  have h_call1_v2 := got_unary (op d V (num main_call1_v2 - 4) rfl) (by decide)
  have h_call1_v3 := got_binary (op d V (num main_call1_v3 - 4) rfl) (by decide) (by decide)
  have h_call1_v4 := got_ternary (op d V (num main_call1_v4 - 4) rfl) (by decide) (by decide) (by decide)
  have h_call1_v5 := got_reshape (op d V (num main_call1_v5 - 4) rfl) (by decide)
  have h_call1_c_1 := got_nullary (op d V (num main_call1_c_1 - 4) rfl)
  have h_call1_c_2 := got_nullary (op d V (num main_call1_c_2 - 4) rfl)
  have h_call1_v6 := got_unary (op d V (num main_call1_v6 - 4) rfl) (by decide)
  have h_call1_v7 := got_binary (op d V (num main_call1_v7 - 4) rfl) (by decide) (by decide)
  have h_call1_v8 := got_unary (op d V (num main_call1_v8 - 4) rfl) (by decide)
  have h_call1_v9 := got_unary (op d V (num main_call1_v9 - 4) rfl) (by decide)
  have h_call1_v10 := got_binary (op d V (num main_call1_v10 - 4) rfl) (by decide) (by decide)
  have h_call1_v11 := got_binary (op d V (num main_call1_v11 - 4) rfl) (by decide) (by decide)
  have h_call1_c_3 := got_nullary (op d V (num main_call1_c_3 - 4) rfl)
  have h_call1_v12 := got_binary (op d V (num main_call1_v12 - 4) rfl) (by decide) (by decide)
  have h_call1_v13 := got_binary (op d V (num main_call1_v13 - 4) rfl) (by decide) (by decide)
  have h_v28 := got_ternary (op d V (num main_v28 - 4) rfl) (by decide) (by decide) (by decide)
  have hs := take_stage (W d V (Proc.devRef .tc main_v0)) (W d V (Proc.devRef .tc main_v27)) (row V I) (picked27 d V I hI) h_call1_c h_call1_v0 h_call1_v1 h_call1_c_0 h_call1_v2 h_call1_v3 h_call1_v4 h_call1_v5 h_call1_c_1 h_call1_c_2 h_call1_v6 h_call1_v7 h_call1_v8 h_call1_v9 h_call1_v10 h_call1_v11 h_call1_c_3 h_call1_v12 h_call1_v13 h_v28 b h t d' e
  exact hs.trans (heads0 d V b h (row V I b h t d') d' e)

theorem attended (b : Fin 2) (h : Fin 12) (d' : Fin 2) (t : Fin 24) (e : Fin 64) :
    (W d V (Proc.devRef .tc main_v53) : FVec Ideal S2x12x2x24x64 .f32) (ix5 b h d' t e) = at_ (qh V b d' h) (kh V b d' h) (vh V b d' h) (row V I b h t d') e := by
  have h_v29 := rd_unary (op d V (num main_v29 - 4) rfl) (by decide)
  have h_v30 := rd_unary (op d V (num main_v30 - 4) rfl) (by decide)
  have h_v31 := rd_binary (op d V (num main_v31 - 4) rfl) (by decide) (by decide)
  have h_cst_8 := rd_nullary (op d V (num main_cst_8 - 4) rfl)
  have h_v32 := rd_unary (op d V (num main_v32 - 4) rfl) (by decide)
  have h_v33 := rd_binary (op d V (num main_v33 - 4) rfl) (by decide) (by decide)
  have h_v40 := rd_unary (op d V (num main_v40 - 4) rfl) (by decide)
  have h_cst_11 := rd_nullary (op d V (num main_cst_11 - 4) rfl)
  have h_v42 := rd_binary (op d V (num main_v42 - 4) rfl) (by decide) (by decide)
  have h_cst_12 := rd_nullary (op d V (num main_cst_12 - 4) rfl)
  have h_v43 := rd_unary (op d V (num main_v43 - 4) rfl) (by decide)
  have h_v44 := rd_binary (op d V (num main_v44 - 4) rfl) (by decide) (by decide)
  have h_v45 := rd_unary (op d V (num main_v45 - 4) rfl) (by decide)
  have h_v46 := rd_unary (op d V (num main_v46 - 4) rfl) (by decide)
  have h_v47 := rd_binary (op d V (num main_v47 - 4) rfl) (by decide) (by decide)
  have h_v48 := rd_unary (op d V (num main_v48 - 4) rfl) (by decide)
  have h_cst_13 := rd_nullary (op d V (num main_cst_13 - 4) rfl)
  have h_v49 := rd_binary (op d V (num main_v49 - 4) rfl) (by decide) (by decide)
  have h_v50 := rd_unary (op d V (num main_v50 - 4) rfl) (by decide)
  have h_v51 := rd_unary (op d V (num main_v51 - 4) rfl) (by decide)
  have h_v52 := rd_binary (op d V (num main_v52 - 4) rfl) (by decide) (by decide)
  have h_v53 := rd_binary (op d V (num main_v53 - 4) rfl) (by decide) (by decide)
  exact attend_stage (qh V) (kh V) (vh V) (row V I) (heads1 d V) (heads2 d V) (taken d V I hI) h_v29 h_v30 h_v31 h_cst_8 h_v32 h_v33 h_v40 h_cst_11 h_v42 h_cst_12 h_v43 h_v44 h_v45 h_v46 h_v47 h_v48 h_cst_13 h_v49 h_v50 h_v51 h_v52 h_v53 b h d' t e

omit hI in
theorem averaged (b : Fin 2) (h : Fin 12) (d' : Fin 2) (l : Fin 2048) (e : Fin 64) :
    (W d V (Proc.devRef .tc main_v39) : FVec Ideal S2x12x2x2048x64 .f32) (ix5 b h d' l e) = mean (vh V b d' h) e := by
  have h_cst_9 := rd_nullary (op d V (num main_cst_9 - 4) rfl)
  have h_v34 := rd_binary (op d V (num main_v34 - 4) rfl) (by decide) (by decide)
  have h_cst_10 := rd_nullary (op d V (num main_cst_10 - 4) rfl)
  have h_v35 := rd_unary (op d V (num main_v35 - 4) rfl) (by decide)
  have h_v36 := rd_binary (op d V (num main_v36 - 4) rfl) (by decide) (by decide)
  have h_v37 := rd_unary (op d V (num main_v37 - 4) rfl) (by decide)
  have h_v38 := rd_unary (op d V (num main_v38 - 4) rfl) (by decide)
  have h_v39 := rd_unary (op d V (num main_v39 - 4) rfl) (by decide)
  exact mean_stage (vh V) (heads2 d V) h_cst_9 h_v34 h_cst_10 h_v35 h_v36 h_v37 h_v38 h_v39 b h d' l e

theorem placed (b : Fin 2) (h : Fin 12) (d' : Fin 2) (t : Fin 24) :
    (W d V (Proc.devRef .tc main_v87) : IVec S2x12x2x24x4 32) (ix5 b h d' t 0) = BitVec.ofNat 32 b.val
      ∧ (W d V (Proc.devRef .tc main_v87) : IVec S2x12x2x24x4 32) (ix5 b h d' t 1) = BitVec.ofNat 32 h.val
      ∧ (W d V (Proc.devRef .tc main_v87) : IVec S2x12x2x24x4 32) (ix5 b h d' t 2) = BitVec.ofNat 32 d'.val
      ∧ (W d V (Proc.devRef .tc main_v87) : IVec S2x12x2x24x4 32) (ix5 b h d' t 3) = BitVec.ofNat 32 (row V I b h t d').val := by
  have h_v54 := rd_nullary (op d V (num main_v54 - 4) rfl)
  have h_v55 := rd_unary (op d V (num main_v55 - 4) rfl) (by decide)
  have h_v56 := rd_nullary (op d V (num main_v56 - 4) rfl)
  have h_v57 := rd_unary (op d V (num main_v57 - 4) rfl) (by decide)
  have h_v58 := rd_nullary (op d V (num main_v58 - 4) rfl)
  have h_v59 := rd_unary (op d V (num main_v59 - 4) rfl) (by decide)
  have h_c_14 := rd_nullary (op d V (num main_c_14 - 4) rfl)
  have h_v60 := rd_unary (op d V (num main_v60 - 4) rfl) (by decide)
  have h_v61 := rd_binary (op d V (num main_v61 - 4) rfl) (by decide) (by decide)
  have h_c_15 := rd_nullary (op d V (num main_c_15 - 4) rfl)
  have h_v62 := rd_unary (op d V (num main_v62 - 4) rfl) (by decide)
  have h_v63 := rd_binary (op d V (num main_v63 - 4) rfl) (by decide) (by decide)
  have h_v64 := rd_ternary (op d V (num main_v64 - 4) rfl) (by decide) (by decide) (by decide)
  have h_c_16 := rd_nullary (op d V (num main_c_16 - 4) rfl)
  have h_v65 := rd_unary (op d V (num main_v65 - 4) rfl) (by decide)
  have h_v66 := rd_binary (op d V (num main_v66 - 4) rfl) (by decide) (by decide)
  have h_c_17 := rd_nullary (op d V (num main_c_17 - 4) rfl)
  have h_v67 := rd_unary (op d V (num main_v67 - 4) rfl) (by decide)
  have h_v68 := rd_binary (op d V (num main_v68 - 4) rfl) (by decide) (by decide)
  have h_v69 := rd_ternary (op d V (num main_v69 - 4) rfl) (by decide) (by decide) (by decide)
  have h_c_18 := rd_nullary (op d V (num main_c_18 - 4) rfl)
  have h_v70 := rd_unary (op d V (num main_v70 - 4) rfl) (by decide)
  have h_v71 := rd_binary (op d V (num main_v71 - 4) rfl) (by decide) (by decide)
  have h_c_19 := rd_nullary (op d V (num main_c_19 - 4) rfl)
  have h_v72 := rd_unary (op d V (num main_v72 - 4) rfl) (by decide)
  have h_v73 := rd_binary (op d V (num main_v73 - 4) rfl) (by decide) (by decide)
  have h_v74 := rd_ternary (op d V (num main_v74 - 4) rfl) (by decide) (by decide) (by decide)
  have h_c_20 := rd_nullary (op d V (num main_c_20 - 4) rfl)
  have h_v75 := rd_unary (op d V (num main_v75 - 4) rfl) (by decide)
  have h_v76 := rd_binary (op d V (num main_v76 - 4) rfl) (by decide) (by decide)
  have h_c_21 := rd_nullary (op d V (num main_c_21 - 4) rfl)
  have h_v77 := rd_unary (op d V (num main_v77 - 4) rfl) (by decide)
  have h_v78 := rd_binary (op d V (num main_v78 - 4) rfl) (by decide) (by decide)
  have h_v79 := rd_ternary (op d V (num main_v79 - 4) rfl) (by decide) (by decide) (by decide)
  have h_v80 := rd_unary (op d V (num main_v80 - 4) rfl) (by decide)
  have h_v81 := rd_unary (op d V (num main_v81 - 4) rfl) (by decide)
  have h_v82 := rd_unary (op d V (num main_v82 - 4) rfl) (by decide)
  have h_v83 := rd_unary (op d V (num main_v83 - 4) rfl) (by decide)
  have h_v84 := rd_unary (op d V (num main_v84 - 4) rfl) (by decide)
  have h_v85 := rd_unary (op d V (num main_v85 - 4) rfl) (by decide)
  have h_v86 := rd_unary (op d V (num main_v86 - 4) rfl) (by decide)
  have h_v87 := rd_nary (op d V (num main_v87 - 4) rfl) (by decide)
  exact place_stage _ (fun b h d' t => row V I b h t d') (picked41 d V I hI) h_v54 h_v55 h_v56 h_v57 h_v58 h_v59 h_c_14 h_v60 h_v61 h_c_15 h_v62 h_v63 h_v64 h_c_16 h_v65 h_v66 h_c_17 h_v67 h_v68 h_v69 h_c_18 h_v70 h_v71 h_c_19 h_v72 h_v73 h_v74 h_c_20 h_v75 h_v76 h_c_21 h_v77 h_v78 h_v79 h_v80 h_v81 h_v82 h_v83 h_v84 h_v85 h_v86 h_v87 b h d' t

/-- The reference's result at an index. -/
theorem result (b d' : Fin 2) (h : Fin 12) (l : Fin 2048) (e : Fin 64) :
    (W d V (Proc.devRef .tc main_v89) : FVec Ideal S2x2x12x2048x64 .f32) (ix5 b d' h l e) = ans (qh V b d' h) (kh V b d' h) (vh V b d' h) I l e := by
  have h88 := rd_ternary (op d V (num main_v88 - 4) rfl) (by decide) (by decide) (by decide)
  have h89 := rd_unary (op d V (num main_v89 - 4) rfl) (by decide)
  exact write_stage (qh V) (kh V) (vh V) I (fun b h d' t => (placed d V I hI b h d' t).1) (fun b h d' t => (placed d V I hI b h d' t).2.1)
    (fun b h d' t => (placed d V I hI b h d' t).2.2.1) (fun b h d' t => (placed d V I hI b h d' t).2.2.2) (averaged d V) (attended d V I hI) h88 h89 b h d' l e

end Cert.ReferenceIdeal.Hand
-- ==== Proof.RSim.lean ====
/- The kernel's draw of the sampled keys is the reference's, operation for operation. -/
module

public import proofs.«01_k».proof.Proof.IGood

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

open Cert.Ssa Idealize.ShloMosaic.StableHlo

section
variable {τ : Topo} {sig sig' : RefSig} {Val : EltTy → Type} {off lo : ℕ}
  {Ta Ta' Tb Tb' Tc Tc' Ty Ty' : BufTy}

theorem heq_shapeCast {A A' B B' : BufTy} (hA : A = A') (hB : B = B') {he : A.elt = B.elt} {he' : A'.elt = B'.elt}
    {hs : A.shape.ShapeCasts B.shape} {hs' : A'.shape.ShapeCasts B'.shape} {u : A.Contents Val} {u' : A'.Contents Val} (h : HEq u u') :
    HEq (fun i => he ▸ shapeCast B.shape u hs i : B.Contents Val) (fun i => he' ▸ shapeCast B'.shape u' hs' i : B'.Contents Val) := by
  subst hA; subst hB; cases h; rfl

theorem heq_of {T : BufTy} {x : TRef sig T} {x' : TRef sig' T} {u : x.ref.ty.Contents Val} {u' : x'.ref.ty.Contents Val} (h : HEq u u') :
    x.ofBuf u = x'.ofBuf u' := eq_of_heq ((cast_heq _ _).trans (h.trans (cast_heq _ _).symm))

theorem heq_to {T : BufTy} {x : TRef sig T} {x' : TRef sig' T} {v v' : T.Contents Val} (h : v = v') : HEq (x.toBuf v) (x'.toBuf v') := by
  subst h; exact (cast_heq _ _).trans (cast_heq _ _).symm

theorem draw_nullary {y : TRef sig Ty} {y' : TRef sig' Ty'} {f : Ty.Contents Val} {f' : Ty'.Contents Val}
    (hs : y.ref.space = .hbm) (hs' : y'.ref.space = .hbm) (ho : num y'.ref = num y.ref + off) (hy : Ty = Ty') (hf : HEq f f') :
    Pair (τ := τ) off lo (num y.ref) (TRef.nullary y f) (TRef.nullary y' f') := by
  subst hy; cases hf
  exact Pair.nullary hs hs' ho (heq_to rfl)

theorem draw_unary {a : TRef sig Ta} {a' : TRef sig' Ta'} {y : TRef sig Ty} {y' : TRef sig' Ty'} {f : Ta.Contents Val → Ty.Contents Val}
    {f' : Ta'.Contents Val → Ty'.Contents Val}
    (hs : y.ref.space = .hbm) (hs' : y'.ref.space = .hbm) (ho : num y'.ref = num y.ref + off) (ha : Match off lo (num y.ref) a.ref a'.ref)
    (ta : Ta = Ta') (hy : Ty = Ty') (hf : HEq f f') :
    Pair (τ := τ) off lo (num y.ref) (TRef.unary a y f) (TRef.unary a' y' f') := by
  subst hy; subst ta; cases hf
  exact Pair.unary hs hs' ho ha fun u u' h => heq_to (congrArg f (heq_of h))

theorem draw_reshape {a : TRef sig Ta} {a' : TRef sig' Ta'} {y : TRef sig Ty} {y' : TRef sig' Ty'} {he he' hn hn'}
    (hs : y.ref.space = .hbm) (hs' : y'.ref.space = .hbm) (ho : num y'.ref = num y.ref + off) (ha : Match off lo (num y.ref) a.ref a'.ref)
    (ta : Ta = Ta') (hy : Ty = Ty') :
    Pair (τ := τ) (Val := Val) off lo (num y.ref) (TRef.reshape a y he hn) (TRef.reshape a' y' he' hn') := by
  subst hy; subst ta
  exact Pair.reshape hs hs' ho ha fun u u' h => heq_shapeCast (a.ty_eq.trans a'.ty_eq.symm) (y.ty_eq.trans y'.ty_eq.symm) h

theorem draw_binary {a : TRef sig Ta} {a' : TRef sig' Ta'} {b : TRef sig Tb} {b' : TRef sig' Tb'} {y : TRef sig Ty} {y' : TRef sig' Ty'}
    {f : Ta.Contents Val → Tb.Contents Val → Ty.Contents Val} {f' : Ta'.Contents Val → Tb'.Contents Val → Ty'.Contents Val}
    (hs : y.ref.space = .hbm) (hs' : y'.ref.space = .hbm) (ho : num y'.ref = num y.ref + off) (ha : Match off lo (num y.ref) a.ref a'.ref)
    (hb : Match off lo (num y.ref) b.ref b'.ref) (ta : Ta = Ta') (tb : Tb = Tb') (hy : Ty = Ty') (hf : HEq f f') :
    Pair (τ := τ) off lo (num y.ref) (TRef.binary a b y f) (TRef.binary a' b' y' f') := by
  subst hy; subst ta; subst tb; cases hf
  exact Pair.binary hs hs' ho ha hb fun u u' w w' h h' => heq_to (congrArg₂ f (heq_of h) (heq_of h'))

theorem draw_ternary {c : TRef sig Tc} {c' : TRef sig' Tc'} {a : TRef sig Ta} {a' : TRef sig' Ta'} {b : TRef sig Tb} {b' : TRef sig' Tb'}
    {y : TRef sig Ty} {y' : TRef sig' Ty'} {f : Tc.Contents Val → Ta.Contents Val → Tb.Contents Val → Ty.Contents Val}
    {f' : Tc'.Contents Val → Ta'.Contents Val → Tb'.Contents Val → Ty'.Contents Val}
    (hs : y.ref.space = .hbm) (hs' : y'.ref.space = .hbm) (ho : num y'.ref = num y.ref + off) (hc : Match off lo (num y.ref) c.ref c'.ref)
    (ha : Match off lo (num y.ref) a.ref a'.ref)
    (hb : Match off lo (num y.ref) b.ref b'.ref) (tc : Tc = Tc') (ta : Ta = Ta') (tb : Tb = Tb') (hy : Ty = Ty') (hf : HEq f f') :
    Pair (τ := τ) off lo (num y.ref) (TRef.ternary c a b y f) (TRef.ternary c' a' b' y' f') := by
  subst hy; subst ta; subst tb; subst tc; cases hf
  exact Pair.ternary hs hs' ho hc ha hb fun t t' u u' w w' h h' h'' => heq_to (by rw [heq_of h, heq_of h', heq_of h''])

end

set_option maxHeartbeats 40000000 in
/-- What the draw leaves is the same on either side, at the positions that correspond. -/
theorem draw_sim (d : Dev nD) : Sim 3 4 4 788 (hostOps0 (F := F)) (Cert.ReferenceIdeal.Hand.mainOps (F := F) d).1 := by
  apply Sim.skip
  apply Sim.skip
  apply Sim.skip
  iterate 784
    apply Sim.cons
    focus
      first
        | (with_reducible refine draw_binary ?_ ?_ ?_ ?_ ?_ ?_ ?_ ?_ ?_
           all_goals first | with_reducible rfl | decide | (unfold Match; decide) | rfl | exact HEq.rfl)
        | (with_reducible refine draw_unary ?_ ?_ ?_ ?_ ?_ ?_ ?_
           all_goals first | with_reducible rfl | decide | (unfold Match; decide) | rfl | exact HEq.rfl)
        | (with_reducible refine draw_nullary ?_ ?_ ?_ ?_ ?_
           all_goals first | with_reducible rfl | decide | rfl | exact HEq.rfl)
        | (with_reducible refine draw_reshape ?_ ?_ ?_ ?_ ?_ ?_
           all_goals first | with_reducible rfl | decide | (unfold Match; decide) | rfl)
        | (with_reducible refine draw_ternary ?_ ?_ ?_ ?_ ?_ ?_ ?_ ?_ ?_ ?_ ?_
           all_goals first | with_reducible rfl | decide | (unfold Match; decide) | rfl | exact HEq.rfl)
        | (with_reducible refine Pair.binary ?_ ?_ ?_ ?_ ?_ ?_
           iterate 3 focus decide
           iterate 2 focus (unfold Match; decide)
           intro u u' w w' h h'; obtain rfl := eq_of_heq h; obtain rfl := eq_of_heq h'; exact HEq.rfl)
        | (with_reducible refine Pair.unary ?_ ?_ ?_ ?_ ?_
           iterate 3 focus decide
           focus (unfold Match; decide)
           intro u u' h; obtain rfl := eq_of_heq h; exact HEq.rfl)
        | (with_reducible refine Pair.nullary ?_ ?_ ?_ ?_
           iterate 3 focus decide
           exact HEq.rfl)
    focus decide
  apply Sim.done
  all_goals
    repeat
      apply Good.cons
      focus
        first
          | with_reducible refine OpAt.binary ?_ ?_
          | with_reducible refine OpAt.unary ?_
          | with_reducible exact OpAt.nullary
          | with_reducible refine OpAt.reshape ?_
          | with_reducible refine OpAt.ternary ?_ ?_ ?_
          | with_reducible refine OpAt.nary ?_
        all_goals decide
      focus decide
    exact Good.nil _

set_option maxHeartbeats 1000000 in
/-- The two draws are the same array. -/
theorem draw_eq (d : Dev nD) (V : Valuation τ sig (Elt F)) (V' : Valuation Cert.ReferenceIdeal.τ Cert.ReferenceIdeal.sig (Elt F)) :
    (StableHlo.after hostOps0 V (Proc.devRef .tc main_call0_v7) : IVec S2048x24 32) =
      StableHlo.after (Cert.ReferenceIdeal.Hand.mainOps (F := F) d).1 V' (Proc.devRef .tc Cert.ReferenceIdeal.main_v10) :=
  eq_of_heq (draw_sim d V V' (fun _ _ _ _ h₁ h₂ _ => absurd h₂ (by omega)) main_call0_v7 Cert.ReferenceIdeal.main_v10 (by decide) (by decide) (by decide) (by decide) (by decide))

end Cert.KernelIdeal.Hand
-- ==== Proof.Fin.lean ====
/- Finite inputs have finite scores, and a row of finite scores has a measure above −∞. -/
module

public import proofs.«01_k».proof.Pre_finite
public import proofs.«01_k».proof.Proof.Spec
public import Idealize.ShloMosaic.Lib.ReduceAll

@[expose] public section

set_option maxRecDepth 16384

noncomputable section

namespace Cert.Proof

open Idealize.ShloMosaic

/-- A number of the reals, neither infinity. -/
def IsReal (x : EReal) : Prop := ∃ r : ℝ, x = (r : EReal)

theorem ofBits_inf : Ideal.ofBits .f32 0x7F800000#32 = (⊤ : EReal) := by simp [Ideal.ofBits, Ideal.ieee]

theorem ofBits_2048 : Ideal.ofBits .f32 0x45000000#32 = ((2048 : ℝ) : EReal) := by
  simp [Ideal.ofBits, Ideal.ieee]
  rw [← EReal.coe_mul]
  norm_num

/-- What lies below +∞ on both sides is a number of the reals. -/
theorem real_of_abs {x : EReal} (h : Ideal.cmp .olt (max x (-x)) ⊤ = 1#1) : IsReal x := by
  have h' : max x (-x) < ⊤ := by
    by_contra hn
    simp [Ideal.cmp, hn] at h
  have h1 : x ≠ ⊤ := fun e => by simp [e] at h'
  have h2 : x ≠ ⊥ := fun e => by simp [e] at h'
  exact ⟨x.toReal, (EReal.coe_toReal h1 h2).symm⟩

theorem IsReal.mul {x y : EReal} : IsReal x → IsReal y → IsReal (x * y) := fun ⟨a, ha⟩ ⟨b, hb⟩ => ⟨a * b, by rw [ha, hb, EReal.coe_mul]⟩

theorem IsReal.add {x y : EReal} : IsReal x → IsReal y → IsReal (x + y) := fun ⟨a, ha⟩ ⟨b, hb⟩ => ⟨a + b, by rw [ha, hb, EReal.coe_add]⟩

theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

theorem real_sc (Q K : Fin 2048 → Fin 64 → EReal) (hQ : ∀ l e, IsReal (Q l e)) (hK : ∀ l e, IsReal (K l e)) (l l' : Fin 2048) : IsReal (sc Q K l l') :=
  IsReal.sum _ _ fun e => (hQ l e).mul (hK l' e)

/-- A row's measure is above −∞. -/
theorem ms_ne_bot (Q K : Fin 2048 → Fin 64 → EReal) (I : Fin 2048 → Fin 24 → Fin 2048) (l : Fin 2048)
    (hQ : ∀ l e, IsReal (Q l e)) (hK : ∀ l e, IsReal (K l e)) : ms Q K I l ≠ ⊥ := by
  unfold ms
  rw [sub_eq_add_neg, Ne, EReal.add_eq_bot_iff, not_or]
  constructor
  · obtain ⟨r, hr⟩ := real_sc Q K hQ hK l (I l 0)
    have h : sc Q K l (I l 0) ≤ Finset.univ.fold max ⊥ fun j => sc Q K l (I l j) :=
      (Finset.le_fold_max _).2 (.inr ⟨0, Finset.mem_univ _, le_refl _⟩)
    intro e
    rw [e, hr] at h
    exact EReal.coe_ne_bot r (le_bot_iff.1 h)
  · obtain ⟨r, hr⟩ := IsReal.sum Finset.univ (fun j => sc Q K l (I l j)) fun j => real_sc Q K hQ hK l (I l j)
    rw [hr, ofBits_2048, Ideal.div_coe (by norm_num), ← EReal.coe_mul, ← EReal.coe_neg]
    exact EReal.coe_ne_bot _

instance : Subsingleton Cert.Pre_finite.S_.Idx := ⟨fun _ _ => funext fun k => k.elim0⟩

/-- The precondition's own shape relations. -/
theorem pre_facts : Cert.Pre_finite.Facts where
  bcast_S_S2x2048x2x12x64 := by decide
  reducesTo_S2x2048x2x12x64_S_d0_1_2_3_4 := by decide
  h_S_ := by decide

theorem of_and {a b : BitVec 1} (h : a &&& b = 1#1) : a = 1#1 ∧ b = 1#1 := by
  revert h; revert a b; decide

/-- Where the precondition holds, queries and keys are numbers of the reals. -/
theorem real_of_pre [Cert.Pre_finite.Facts] (a0 a1 a2 : FVec Ideal Cert.Pre_finite.S2x2048x2x12x64 .f32) (a3 : IVec Cert.Pre_finite.S1 1)
    (h : Cert.Pre_finite.fn (F := Ideal) a0 a1 a2 a3 = fun _ => 1#1) : (∀ i, IsReal (a0 i)) ∧ ∀ i, IsReal (a1 i) := by
  have h0 := congrFun h (fun k => k.elim0)
  have h1 := of_and h0
  refine ⟨fun i => real_of_abs ?_, fun i => real_of_abs ?_⟩
  · exact (congrArg (Ideal.cmp .olt _) ofBits_inf.symm).trans (Host.reduce_andi_all _ _ _ _ _ h1.1 i)
  · exact (congrArg (Ideal.cmp .olt _) ofBits_inf.symm).trans (Host.reduce_andi_all _ _ _ _ _ h1.2 i)

end Cert.Proof
-- ==== Proof.Join.lean ====
/- The kernel's result and the reference's, at the reals, are one array. -/
module

public import proofs.«01_k».proof.Proof.IEnd
public import proofs.«01_k».proof.Proof.RVal
public import proofs.«01_k».proof.Proof.RSim
public import proofs.«01_k».proof.Proof.RGood
public import proofs.«01_k».proof.Proof.Fin

@[expose] public section

set_option maxRecDepth 16384

noncomputable section

namespace Cert.KernelIdeal.Hand

open Idealize.ShloMosaic Idealize.ShloMosaic.TcCoe Idealize.ShloMosaic.Tactic
open Idealize.SL.Sem
open Cert.KernelIdeal.Gen
open Cert.Proof Cert.Ssa ValueIdx

/-- A slab's number names its batch, dimension and head. -/
theorem hd_head (A : S2x2048x2x12x64.Idx → EReal) (b d : Fin 2) (h : Fin 12) (hn) :
    hd A ⟨(b.val * 2 + d.val) * 12 + h.val, hn⟩ = Cert.ReferenceIdeal.Hand.head A b d h := by
  have hb := b.isLt
  have hd' := d.isLt
  have hh := h.isLt
  funext l e
  unfold hd Cert.ReferenceIdeal.Hand.head
  have e1 : ((b.val * 2 + d.val) * 12 + h.val) / 24 = b.val := by omega
  have e2 : ((b.val * 2 + d.val) * 12 + h.val) % 24 / 12 = d.val := by omega
  have e3 : ((b.val * 2 + d.val) * 12 + h.val) % 12 = h.val := by omega
  simp only [e1, e2, e3, Fin.eta]

theorem hd_real (A : S2x2048x2x12x64.Idx → EReal) (hA : ∀ i, IsReal (A i)) (n : Fin 48) (l : Fin 2048) (e : Fin 64) : IsReal (hd A n l e) := hA _

variable (m : (ℓ : Loc nD τ sig) → Buf (Elt Ideal) ℓ) (ρ : Dev nD → PrngReg)

/-- On finite queries and keys the kernel ends with its result holding `resK` and its arguments kept. -/
theorem run_result (hq : ∀ (c : Dev nD) i, IsReal ((m ((c : Thread nD τ).loc main_arg0) : S2x2048x2x12x64.Idx → EReal) i))
    (hk : ∀ (c : Dev nD) i, IsReal ((m ((c : Thread nD τ).loc main_arg1) : S2x2048x2x12x64.Idx → EReal) i)) :
    θ_run defs (onTc (τ := τ) (main (F := Ideal))) ⟨m, fun _ => 0, ρ⟩ (fun r => ∀ c : Dev nD,
      r.2.mem ((c.tc : Thread nD τ).loc main_v0) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hfin : ∀ (c : Dev nD) t s l, ms (half (iblk m c 0 t) s) (half (iblk m c 1 t) s) (picksK m c) l ≠ ⊥ := fun c t s l => by
    rw [half0, half1]
    exact ms_ne_bot _ _ _ l (hd_real _ (hq c) _) (hd_real _ (hk c) _)
  refine (θ_run defs _ _).mono (fun _ h c => ⟨?_, ?_, ?_, ?_, ?_⟩) (run_value m ρ (picksK m) (fun c t => tables m c t) hfin)
  · exact ((h c).2 main_v0 (Pipeline.mem_restRefs_of main_v0 (by decide) (by decide))).trans (tail_eq m c)
  · exact ((h c).2 main_arg0 (Pipeline.mem_restRefs_of main_arg0 (by decide) (by decide))).trans (W_main_arg0 m _ c)
  · exact ((h c).2 main_arg1 (Pipeline.mem_restRefs_of main_arg1 (by decide) (by decide))).trans (W_main_arg1 m _ c)
  · exact ((h c).2 main_arg2 (Pipeline.mem_restRefs_of main_arg2 (by decide) (by decide))).trans (W_main_arg2 m _ c)
  · exact ((h c).2 main_arg3 (Pipeline.mem_restRefs_of main_arg3 (by decide) (by decide))).trans (W_main_arg3 m _ c)

/-- Both programs draw the same keys. -/
theorem draw_same (c : Dev nD) (V : Valuation Cert.ReferenceIdeal.τ Cert.ReferenceIdeal.sig (Elt Ideal)) (l : Fin 2048) (j : Fin 24) :
    (Cert.ReferenceIdeal.Hand.W c V (Proc.devRef .tc Cert.ReferenceIdeal.main_v10) : IVec S2048x24 32) (ix2 l j) = BitVec.ofNat 32 (picksK m c l j).val := by
  have h1 := drawn_eq (start m c) l j
  have h2 := congrFun (draw_eq (F := Ideal) c (start m c) V) (ix2 l j)
  rw [← H_eq, ← Cert.ReferenceIdeal.Hand.W_eq] at h2
  exact h2.symm.trans h1

/-- The reference's result is the kernel's. -/
theorem result_same (c : Dev nD) (V : Valuation Cert.ReferenceIdeal.τ Cert.ReferenceIdeal.sig (Elt Ideal))
    (h0 : (V (Proc.devRef .tc Cert.ReferenceIdeal.main_arg0) : S2x2048x2x12x64.Idx → EReal) = m ((c : Thread nD τ).loc main_arg0))
    (h1 : (V (Proc.devRef .tc Cert.ReferenceIdeal.main_arg1) : S2x2048x2x12x64.Idx → EReal) = m ((c : Thread nD τ).loc main_arg1))
    (h2 : (V (Proc.devRef .tc Cert.ReferenceIdeal.main_arg2) : S2x2048x2x12x64.Idx → EReal) = m ((c : Thread nD τ).loc main_arg2)) :
    (Cert.ReferenceIdeal.Hand.W c V (Proc.devRef .tc Cert.ReferenceIdeal.main_v89) : S2x2x12x2048x64.Idx → EReal) = resK m c := by
  funext i
  obtain ⟨b, d, h, l, e, rfl⟩ : ∃ (b d : Fin 2) (h : Fin 12) (l : Fin 2048) (e : Fin 64), i = ix5 b d h l e :=
    ⟨i 0, i 1, i 2, i 3, i 4, by funext k; fin_cases k <;> rfl⟩
  refine (Cert.ReferenceIdeal.Hand.result c V (picksK m c) (draw_same m c V) b d h l e).trans ?_
  rw [resK_apply]
  unfold slabAns
  rw [hd_head, hd_head, hd_head, ← h0, ← h1, ← h2]
  rfl

end Cert.KernelIdeal.Hand
-- ==== Proof.lean ====
/- The claims of `proof/Defs.lean`, assembled. -/
module

public import proofs.«01_k».proof.Defs
public import proofs.«01_k».proof.Proof.KFrame
public import proofs.«01_k».proof.Proof.IFrame
public import proofs.«01_k».proof.Proof.RGood
public import proofs.«01_k».proof.Proof.Join

@[expose] public section

noncomputable section

namespace Cert.Proof

open Idealize.ShloMosaic Idealize.SL.Sem

/-- Over the reals, on finite queries and keys, the kernel's result is the reference's. -/
theorem algebraic : @Cert.algebraic_KernelIdeal_ReferenceIdeal_pre_finite Cert.KernelIdeal.Gen.facts Cert.ReferenceIdeal.Gen.facts pre_facts := by
  intro m g m' g' hpre hargs
  have hreal := fun c => @real_of_pre pre_facts _ _ _ _ (hpre c)
  refine ⟨fun c => Cert.KernelIdeal.Hand.resK m c,
    Cert.KernelIdeal.Hand.run_result m g (fun c => (hreal c).1) (fun c => (hreal c).2), ?_⟩
  refine (θ_run _ _ _).mono (fun r h c => ⟨(h.1 c Cert.ReferenceIdeal.main_v89).trans ?_,
    (h.1 c _).trans ((Cert.ReferenceIdeal.Hand.mainOps_good c).kept _ _ (by decide)), (h.1 c _).trans ((Cert.ReferenceIdeal.Hand.mainOps_good c).kept _ _ (by decide)),
    (h.1 c _).trans ((Cert.ReferenceIdeal.Hand.mainOps_good c).kept _ _ (by decide)), (h.1 c _).trans ((Cert.ReferenceIdeal.Hand.mainOps_good c).kept _ _ (by decide))⟩)
    (Cert.ReferenceIdeal.Hand.run (F := Ideal) m' g')
  have hs := Cert.KernelIdeal.Hand.result_same m c (StableHlo.launchContents m' c) (hargs c).1 (hargs c).2.1 (hargs c).2.2.1
  rw [Cert.ReferenceIdeal.Hand.W_eq] at hs
  exact hs

theorem claim : Cert.Claim := ⟨Cert.Kernel.Gen.facts, Cert.KernelIdeal.Gen.facts, Cert.ReferenceIdeal.Gen.facts, pre_facts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  IdealRules.named_const.statement Cert.KernelIdeal.κ "neg" .f32 0xFF61B1E6#32 ⊥ rfl,
  algebraic⟩

end Cert.Proof

end
